-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_ReferenceIdeal_finite_online [hPre_finite_online : Cert.Pre_finite_online.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_online.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Qk (m : (ℓ : Loc Cert.Qk.nD Cert.Qk.τ Cert.Qk.sig) → Buf (Elt Bits) ℓ) : Prop :=
  True

def Pre_QkIdeal (m : (ℓ : Loc Cert.QkIdeal.nD Cert.QkIdeal.τ Cert.QkIdeal.sig) → Buf (Elt Ideal) ℓ) : Prop :=
  True

def Pre_QkRefIdeal (m : (ℓ : Loc Cert.QkRefIdeal.nD Cert.QkRefIdeal.τ Cert.QkRefIdeal.sig) → Buf (Elt Ideal) ℓ) : Prop :=
  True

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesRefIdeal (m : (ℓ : Loc Cert.GatesRefIdeal.nD Cert.GatesRefIdeal.τ Cert.GatesRefIdeal.sig) → Buf (Elt Ideal) ℓ) : Prop :=
  True

def Pre_Values (m : (ℓ : Loc Cert.Values.nD Cert.Values.τ Cert.Values.sig) → Buf (Elt Bits) ℓ) : Prop :=
  True

def Pre_ValuesIdeal (m : (ℓ : Loc Cert.ValuesIdeal.nD Cert.ValuesIdeal.τ Cert.ValuesIdeal.sig) → Buf (Elt Ideal) ℓ) : Prop :=
  True

def Pre_ValuesRefIdeal (m : (ℓ : Loc Cert.ValuesRefIdeal.nD Cert.ValuesRefIdeal.τ Cert.ValuesRefIdeal.sig) → Buf (Elt Ideal) ℓ) : Prop :=
  True

def Pre_Channels (m : (ℓ : Loc Cert.Channels.nD Cert.Channels.τ Cert.Channels.sig) → Buf (Elt Bits) ℓ) : Prop :=
  True

def Pre_ChannelsIdeal (m : (ℓ : Loc Cert.ChannelsIdeal.nD Cert.ChannelsIdeal.τ Cert.ChannelsIdeal.sig) → Buf (Elt Ideal) ℓ) : Prop :=
  True

def Pre_ChannelsRefIdeal (m : (ℓ : Loc Cert.ChannelsRefIdeal.nD Cert.ChannelsRefIdeal.τ Cert.ChannelsRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Online (m : (ℓ : Loc Cert.Online.nD Cert.Online.τ Cert.Online.sig) → Buf (Elt Bits) ℓ) : Prop :=
  True

def Pre_OnlineIdeal (m : (ℓ : Loc Cert.OnlineIdeal.nD Cert.OnlineIdeal.τ Cert.OnlineIdeal.sig) → Buf (Elt Ideal) ℓ) : Prop :=
  True

def Pre_OnlineIdeal_finite_online [hPre_finite_online : Cert.Pre_finite_online.Facts] (m : (ℓ : Loc Cert.OnlineIdeal.nD Cert.OnlineIdeal.τ Cert.OnlineIdeal.sig) → Buf (Elt Ideal) ℓ) : Prop :=
  ∀ c : Dev Cert.OnlineIdeal.nD,
    (Cert.Pre_finite_online.fn (F := Ideal) (m ((c.tc : Thread Cert.OnlineIdeal.nD Cert.OnlineIdeal.τ).loc Cert.OnlineIdeal.main_arg0)) (m ((c.tc : Thread Cert.OnlineIdeal.nD Cert.OnlineIdeal.τ).loc Cert.OnlineIdeal.main_arg1)) (m ((c.tc : Thread Cert.OnlineIdeal.nD Cert.OnlineIdeal.τ).loc Cert.OnlineIdeal.main_arg2)) (m ((c.tc : Thread Cert.OnlineIdeal.nD Cert.OnlineIdeal.τ).loc Cert.OnlineIdeal.main_arg3)) (m ((c.tc : Thread Cert.OnlineIdeal.nD Cert.OnlineIdeal.τ).loc Cert.OnlineIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_online [hReferenceIdeal : Cert.ReferenceIdeal.Facts] [hPre_finite_online : Cert.Pre_finite_online.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_online m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Qk [hQk : Cert.Qk.Facts] : Prop :=
  ∀ (m : (ℓ : Loc Cert.Qk.nD Cert.Qk.τ Cert.Qk.sig) → Buf (Elt Bits) ℓ) (g : Dev Cert.Qk.nD → PrngReg), Pre_Qk m →
    θ_run (Cert.Qk.defs (F := Bits)) (onTc (τ := Cert.Qk.τ) (Cert.Qk.main (F := Bits))) ⟨m, fun _ => 0, g⟩ (fun r => (∀ c : Dev Cert.Qk.nD,
      r.2.mem ((c.tc : Thread Cert.Qk.nD Cert.Qk.τ).loc Cert.Qk.main_arg0) = m ((c.tc : Thread Cert.Qk.nD Cert.Qk.τ).loc Cert.Qk.main_arg0)
      ∧ r.2.mem ((c.tc : Thread Cert.Qk.nD Cert.Qk.τ).loc Cert.Qk.main_arg1) = m ((c.tc : Thread Cert.Qk.nD Cert.Qk.τ).loc Cert.Qk.main_arg1)
      ∧ r.2.mem ((c.tc : Thread Cert.Qk.nD Cert.Qk.τ).loc Cert.Qk.main_arg2) = m ((c.tc : Thread Cert.Qk.nD Cert.Qk.τ).loc Cert.Qk.main_arg2))
      ∧ r.2.sem = fun _ => 0)

def quiescent_QkIdeal [hQkIdeal : Cert.QkIdeal.Facts] : Prop :=
  ∀ (m : (ℓ : Loc Cert.QkIdeal.nD Cert.QkIdeal.τ Cert.QkIdeal.sig) → Buf (Elt Ideal) ℓ) (g : Dev Cert.QkIdeal.nD → PrngReg), Pre_QkIdeal m →
    θ_run (Cert.QkIdeal.defs (F := Ideal)) (onTc (τ := Cert.QkIdeal.τ) (Cert.QkIdeal.main (F := Ideal))) ⟨m, fun _ => 0, g⟩ (fun r => (∀ c : Dev Cert.QkIdeal.nD,
      r.2.mem ((c.tc : Thread Cert.QkIdeal.nD Cert.QkIdeal.τ).loc Cert.QkIdeal.main_arg0) = m ((c.tc : Thread Cert.QkIdeal.nD Cert.QkIdeal.τ).loc Cert.QkIdeal.main_arg0)
      ∧ r.2.mem ((c.tc : Thread Cert.QkIdeal.nD Cert.QkIdeal.τ).loc Cert.QkIdeal.main_arg1) = m ((c.tc : Thread Cert.QkIdeal.nD Cert.QkIdeal.τ).loc Cert.QkIdeal.main_arg1)
      ∧ r.2.mem ((c.tc : Thread Cert.QkIdeal.nD Cert.QkIdeal.τ).loc Cert.QkIdeal.main_arg2) = m ((c.tc : Thread Cert.QkIdeal.nD Cert.QkIdeal.τ).loc Cert.QkIdeal.main_arg2))
      ∧ r.2.sem = fun _ => 0)

def quiescent_QkRefIdeal [hQkRefIdeal : Cert.QkRefIdeal.Facts] : Prop :=
  ∀ (m : (ℓ : Loc Cert.QkRefIdeal.nD Cert.QkRefIdeal.τ Cert.QkRefIdeal.sig) → Buf (Elt Ideal) ℓ) (g : Dev Cert.QkRefIdeal.nD → PrngReg), Pre_QkRefIdeal m →
    θ_run (Cert.QkRefIdeal.defs (F := Ideal)) (onTc (τ := Cert.QkRefIdeal.τ) (Cert.QkRefIdeal.main (F := Ideal))) ⟨m, fun _ => 0, g⟩ (fun r => (∀ c : Dev Cert.QkRefIdeal.nD,
      r.2.mem ((c.tc : Thread Cert.QkRefIdeal.nD Cert.QkRefIdeal.τ).loc Cert.QkRefIdeal.main_arg0) = m ((c.tc : Thread Cert.QkRefIdeal.nD Cert.QkRefIdeal.τ).loc Cert.QkRefIdeal.main_arg0)
      ∧ r.2.mem ((c.tc : Thread Cert.QkRefIdeal.nD Cert.QkRefIdeal.τ).loc Cert.QkRefIdeal.main_arg1) = m ((c.tc : Thread Cert.QkRefIdeal.nD Cert.QkRefIdeal.τ).loc Cert.QkRefIdeal.main_arg1)
      ∧ r.2.mem ((c.tc : Thread Cert.QkRefIdeal.nD Cert.QkRefIdeal.τ).loc Cert.QkRefIdeal.main_arg2) = m ((c.tc : Thread Cert.QkRefIdeal.nD Cert.QkRefIdeal.τ).loc Cert.QkRefIdeal.main_arg2))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
      ∧ r.2.sem = fun _ => 0)

def quiescent_GatesRefIdeal [hGatesRefIdeal : Cert.GatesRefIdeal.Facts] : Prop :=
  ∀ (m : (ℓ : Loc Cert.GatesRefIdeal.nD Cert.GatesRefIdeal.τ Cert.GatesRefIdeal.sig) → Buf (Elt Ideal) ℓ) (g : Dev Cert.GatesRefIdeal.nD → PrngReg), Pre_GatesRefIdeal m →
    θ_run (Cert.GatesRefIdeal.defs (F := Ideal)) (onTc (τ := Cert.GatesRefIdeal.τ) (Cert.GatesRefIdeal.main (F := Ideal))) ⟨m, fun _ => 0, g⟩ (fun r => (∀ c : Dev Cert.GatesRefIdeal.nD,
      r.2.mem ((c.tc : Thread Cert.GatesRefIdeal.nD Cert.GatesRefIdeal.τ).loc Cert.GatesRefIdeal.main_arg0) = m ((c.tc : Thread Cert.GatesRefIdeal.nD Cert.GatesRefIdeal.τ).loc Cert.GatesRefIdeal.main_arg0)
      ∧ r.2.mem ((c.tc : Thread Cert.GatesRefIdeal.nD Cert.GatesRefIdeal.τ).loc Cert.GatesRefIdeal.main_arg1) = m ((c.tc : Thread Cert.GatesRefIdeal.nD Cert.GatesRefIdeal.τ).loc Cert.GatesRefIdeal.main_arg1))
      ∧ r.2.sem = fun _ => 0)

def quiescent_Values [hValues : Cert.Values.Facts] : Prop :=
  ∀ (m : (ℓ : Loc Cert.Values.nD Cert.Values.τ Cert.Values.sig) → Buf (Elt Bits) ℓ) (g : Dev Cert.Values.nD → PrngReg), Pre_Values m →
    θ_run (Cert.Values.defs (F := Bits)) (onTc (τ := Cert.Values.τ) (Cert.Values.main (F := Bits))) ⟨m, fun _ => 0, g⟩ (fun r => (∀ c : Dev Cert.Values.nD,
      r.2.mem ((c.tc : Thread Cert.Values.nD Cert.Values.τ).loc Cert.Values.main_arg0) = m ((c.tc : Thread Cert.Values.nD Cert.Values.τ).loc Cert.Values.main_arg0)
      ∧ r.2.mem ((c.tc : Thread Cert.Values.nD Cert.Values.τ).loc Cert.Values.main_arg1) = m ((c.tc : Thread Cert.Values.nD Cert.Values.τ).loc Cert.Values.main_arg1))
      ∧ r.2.sem = fun _ => 0)

def quiescent_ValuesIdeal [hValuesIdeal : Cert.ValuesIdeal.Facts] : Prop :=
  ∀ (m : (ℓ : Loc Cert.ValuesIdeal.nD Cert.ValuesIdeal.τ Cert.ValuesIdeal.sig) → Buf (Elt Ideal) ℓ) (g : Dev Cert.ValuesIdeal.nD → PrngReg), Pre_ValuesIdeal m →
    θ_run (Cert.ValuesIdeal.defs (F := Ideal)) (onTc (τ := Cert.ValuesIdeal.τ) (Cert.ValuesIdeal.main (F := Ideal))) ⟨m, fun _ => 0, g⟩ (fun r => (∀ c : Dev Cert.ValuesIdeal.nD,
      r.2.mem ((c.tc : Thread Cert.ValuesIdeal.nD Cert.ValuesIdeal.τ).loc Cert.ValuesIdeal.main_arg0) = m ((c.tc : Thread Cert.ValuesIdeal.nD Cert.ValuesIdeal.τ).loc Cert.ValuesIdeal.main_arg0)
      ∧ r.2.mem ((c.tc : Thread Cert.ValuesIdeal.nD Cert.ValuesIdeal.τ).loc Cert.ValuesIdeal.main_arg1) = m ((c.tc : Thread Cert.ValuesIdeal.nD Cert.ValuesIdeal.τ).loc Cert.ValuesIdeal.main_arg1))
      ∧ r.2.sem = fun _ => 0)

def quiescent_ValuesRefIdeal [hValuesRefIdeal : Cert.ValuesRefIdeal.Facts] : Prop :=
  ∀ (m : (ℓ : Loc Cert.ValuesRefIdeal.nD Cert.ValuesRefIdeal.τ Cert.ValuesRefIdeal.sig) → Buf (Elt Ideal) ℓ) (g : Dev Cert.ValuesRefIdeal.nD → PrngReg), Pre_ValuesRefIdeal m →
    θ_run (Cert.ValuesRefIdeal.defs (F := Ideal)) (onTc (τ := Cert.ValuesRefIdeal.τ) (Cert.ValuesRefIdeal.main (F := Ideal))) ⟨m, fun _ => 0, g⟩ (fun r => (∀ c : Dev Cert.ValuesRefIdeal.nD,
      r.2.mem ((c.tc : Thread Cert.ValuesRefIdeal.nD Cert.ValuesRefIdeal.τ).loc Cert.ValuesRefIdeal.main_arg0) = m ((c.tc : Thread Cert.ValuesRefIdeal.nD Cert.ValuesRefIdeal.τ).loc Cert.ValuesRefIdeal.main_arg0)
      ∧ r.2.mem ((c.tc : Thread Cert.ValuesRefIdeal.nD Cert.ValuesRefIdeal.τ).loc Cert.ValuesRefIdeal.main_arg1) = m ((c.tc : Thread Cert.ValuesRefIdeal.nD Cert.ValuesRefIdeal.τ).loc Cert.ValuesRefIdeal.main_arg1))
      ∧ r.2.sem = fun _ => 0)

def quiescent_Channels [hChannels : Cert.Channels.Facts] : Prop :=
  ∀ (m : (ℓ : Loc Cert.Channels.nD Cert.Channels.τ Cert.Channels.sig) → Buf (Elt Bits) ℓ) (g : Dev Cert.Channels.nD → PrngReg), Pre_Channels m →
    θ_run (Cert.Channels.defs (F := Bits)) (onTc (τ := Cert.Channels.τ) (Cert.Channels.main (F := Bits))) ⟨m, fun _ => 0, g⟩ (fun r => (∀ c : Dev Cert.Channels.nD,
      r.2.mem ((c.tc : Thread Cert.Channels.nD Cert.Channels.τ).loc Cert.Channels.main_arg0) = m ((c.tc : Thread Cert.Channels.nD Cert.Channels.τ).loc Cert.Channels.main_arg0)
      ∧ r.2.mem ((c.tc : Thread Cert.Channels.nD Cert.Channels.τ).loc Cert.Channels.main_arg1) = m ((c.tc : Thread Cert.Channels.nD Cert.Channels.τ).loc Cert.Channels.main_arg1))
      ∧ r.2.sem = fun _ => 0)

def quiescent_ChannelsIdeal [hChannelsIdeal : Cert.ChannelsIdeal.Facts] : Prop :=
  ∀ (m : (ℓ : Loc Cert.ChannelsIdeal.nD Cert.ChannelsIdeal.τ Cert.ChannelsIdeal.sig) → Buf (Elt Ideal) ℓ) (g : Dev Cert.ChannelsIdeal.nD → PrngReg), Pre_ChannelsIdeal m →
    θ_run (Cert.ChannelsIdeal.defs (F := Ideal)) (onTc (τ := Cert.ChannelsIdeal.τ) (Cert.ChannelsIdeal.main (F := Ideal))) ⟨m, fun _ => 0, g⟩ (fun r => (∀ c : Dev Cert.ChannelsIdeal.nD,
      r.2.mem ((c.tc : Thread Cert.ChannelsIdeal.nD Cert.ChannelsIdeal.τ).loc Cert.ChannelsIdeal.main_arg0) = m ((c.tc : Thread Cert.ChannelsIdeal.nD Cert.ChannelsIdeal.τ).loc Cert.ChannelsIdeal.main_arg0)
      ∧ r.2.mem ((c.tc : Thread Cert.ChannelsIdeal.nD Cert.ChannelsIdeal.τ).loc Cert.ChannelsIdeal.main_arg1) = m ((c.tc : Thread Cert.ChannelsIdeal.nD Cert.ChannelsIdeal.τ).loc Cert.ChannelsIdeal.main_arg1))
      ∧ r.2.sem = fun _ => 0)

def quiescent_ChannelsRefIdeal [hChannelsRefIdeal : Cert.ChannelsRefIdeal.Facts] : Prop :=
  ∀ (m : (ℓ : Loc Cert.ChannelsRefIdeal.nD Cert.ChannelsRefIdeal.τ Cert.ChannelsRefIdeal.sig) → Buf (Elt Ideal) ℓ) (g : Dev Cert.ChannelsRefIdeal.nD → PrngReg), Pre_ChannelsRefIdeal m →
    θ_run (Cert.ChannelsRefIdeal.defs (F := Ideal)) (onTc (τ := Cert.ChannelsRefIdeal.τ) (Cert.ChannelsRefIdeal.main (F := Ideal))) ⟨m, fun _ => 0, g⟩ (fun r => (∀ c : Dev Cert.ChannelsRefIdeal.nD,
      r.2.mem ((c.tc : Thread Cert.ChannelsRefIdeal.nD Cert.ChannelsRefIdeal.τ).loc Cert.ChannelsRefIdeal.main_arg0) = m ((c.tc : Thread Cert.ChannelsRefIdeal.nD Cert.ChannelsRefIdeal.τ).loc Cert.ChannelsRefIdeal.main_arg0)
      ∧ r.2.mem ((c.tc : Thread Cert.ChannelsRefIdeal.nD Cert.ChannelsRefIdeal.τ).loc Cert.ChannelsRefIdeal.main_arg1) = m ((c.tc : Thread Cert.ChannelsRefIdeal.nD Cert.ChannelsRefIdeal.τ).loc Cert.ChannelsRefIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_Online [hOnline : Cert.Online.Facts] : Prop :=
  ∀ (m : (ℓ : Loc Cert.Online.nD Cert.Online.τ Cert.Online.sig) → Buf (Elt Bits) ℓ) (g : Dev Cert.Online.nD → PrngReg), Pre_Online m →
    θ_run (Cert.Online.defs (F := Bits)) (onTc (τ := Cert.Online.τ) (Cert.Online.main (F := Bits))) ⟨m, fun _ => 0, g⟩ (fun r => (∀ c : Dev Cert.Online.nD,
      r.2.mem ((c.tc : Thread Cert.Online.nD Cert.Online.τ).loc Cert.Online.main_arg0) = m ((c.tc : Thread Cert.Online.nD Cert.Online.τ).loc Cert.Online.main_arg0)
      ∧ r.2.mem ((c.tc : Thread Cert.Online.nD Cert.Online.τ).loc Cert.Online.main_arg1) = m ((c.tc : Thread Cert.Online.nD Cert.Online.τ).loc Cert.Online.main_arg1)
      ∧ r.2.mem ((c.tc : Thread Cert.Online.nD Cert.Online.τ).loc Cert.Online.main_arg2) = m ((c.tc : Thread Cert.Online.nD Cert.Online.τ).loc Cert.Online.main_arg2)
      ∧ r.2.mem ((c.tc : Thread Cert.Online.nD Cert.Online.τ).loc Cert.Online.main_arg3) = m ((c.tc : Thread Cert.Online.nD Cert.Online.τ).loc Cert.Online.main_arg3)
      ∧ r.2.mem ((c.tc : Thread Cert.Online.nD Cert.Online.τ).loc Cert.Online.main_arg4) = m ((c.tc : Thread Cert.Online.nD Cert.Online.τ).loc Cert.Online.main_arg4))
      ∧ r.2.sem = fun _ => 0)

def quiescent_OnlineIdeal [hOnlineIdeal : Cert.OnlineIdeal.Facts] : Prop :=
  ∀ (m : (ℓ : Loc Cert.OnlineIdeal.nD Cert.OnlineIdeal.τ Cert.OnlineIdeal.sig) → Buf (Elt Ideal) ℓ) (g : Dev Cert.OnlineIdeal.nD → PrngReg), Pre_OnlineIdeal m →
    θ_run (Cert.OnlineIdeal.defs (F := Ideal)) (onTc (τ := Cert.OnlineIdeal.τ) (Cert.OnlineIdeal.main (F := Ideal))) ⟨m, fun _ => 0, g⟩ (fun r => (∀ c : Dev Cert.OnlineIdeal.nD,
      r.2.mem ((c.tc : Thread Cert.OnlineIdeal.nD Cert.OnlineIdeal.τ).loc Cert.OnlineIdeal.main_arg0) = m ((c.tc : Thread Cert.OnlineIdeal.nD Cert.OnlineIdeal.τ).loc Cert.OnlineIdeal.main_arg0)
      ∧ r.2.mem ((c.tc : Thread Cert.OnlineIdeal.nD Cert.OnlineIdeal.τ).loc Cert.OnlineIdeal.main_arg1) = m ((c.tc : Thread Cert.OnlineIdeal.nD Cert.OnlineIdeal.τ).loc Cert.OnlineIdeal.main_arg1)
      ∧ r.2.mem ((c.tc : Thread Cert.OnlineIdeal.nD Cert.OnlineIdeal.τ).loc Cert.OnlineIdeal.main_arg2) = m ((c.tc : Thread Cert.OnlineIdeal.nD Cert.OnlineIdeal.τ).loc Cert.OnlineIdeal.main_arg2)
      ∧ r.2.mem ((c.tc : Thread Cert.OnlineIdeal.nD Cert.OnlineIdeal.τ).loc Cert.OnlineIdeal.main_arg3) = m ((c.tc : Thread Cert.OnlineIdeal.nD Cert.OnlineIdeal.τ).loc Cert.OnlineIdeal.main_arg3)
      ∧ r.2.mem ((c.tc : Thread Cert.OnlineIdeal.nD Cert.OnlineIdeal.τ).loc Cert.OnlineIdeal.main_arg4) = m ((c.tc : Thread Cert.OnlineIdeal.nD Cert.OnlineIdeal.τ).loc Cert.OnlineIdeal.main_arg4))
      ∧ r.2.sem = fun _ => 0)

def quiescent_OnlineIdeal_pre_finite_online [hOnlineIdeal : Cert.OnlineIdeal.Facts] [hPre_finite_online : Cert.Pre_finite_online.Facts] : Prop :=
  ∀ (m : (ℓ : Loc Cert.OnlineIdeal.nD Cert.OnlineIdeal.τ Cert.OnlineIdeal.sig) → Buf (Elt Ideal) ℓ) (g : Dev Cert.OnlineIdeal.nD → PrngReg), Pre_OnlineIdeal_finite_online m →
    θ_run (Cert.OnlineIdeal.defs (F := Ideal)) (onTc (τ := Cert.OnlineIdeal.τ) (Cert.OnlineIdeal.main (F := Ideal))) ⟨m, fun _ => 0, g⟩ (fun r => (∀ c : Dev Cert.OnlineIdeal.nD,
      r.2.mem ((c.tc : Thread Cert.OnlineIdeal.nD Cert.OnlineIdeal.τ).loc Cert.OnlineIdeal.main_arg0) = m ((c.tc : Thread Cert.OnlineIdeal.nD Cert.OnlineIdeal.τ).loc Cert.OnlineIdeal.main_arg0)
      ∧ r.2.mem ((c.tc : Thread Cert.OnlineIdeal.nD Cert.OnlineIdeal.τ).loc Cert.OnlineIdeal.main_arg1) = m ((c.tc : Thread Cert.OnlineIdeal.nD Cert.OnlineIdeal.τ).loc Cert.OnlineIdeal.main_arg1)
      ∧ r.2.mem ((c.tc : Thread Cert.OnlineIdeal.nD Cert.OnlineIdeal.τ).loc Cert.OnlineIdeal.main_arg2) = m ((c.tc : Thread Cert.OnlineIdeal.nD Cert.OnlineIdeal.τ).loc Cert.OnlineIdeal.main_arg2)
      ∧ r.2.mem ((c.tc : Thread Cert.OnlineIdeal.nD Cert.OnlineIdeal.τ).loc Cert.OnlineIdeal.main_arg3) = m ((c.tc : Thread Cert.OnlineIdeal.nD Cert.OnlineIdeal.τ).loc Cert.OnlineIdeal.main_arg3)
      ∧ r.2.mem ((c.tc : Thread Cert.OnlineIdeal.nD Cert.OnlineIdeal.τ).loc Cert.OnlineIdeal.main_arg4) = m ((c.tc : Thread Cert.OnlineIdeal.nD Cert.OnlineIdeal.τ).loc Cert.OnlineIdeal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Qk_QkIdeal : Prop :=
  True

def algebraic_QkIdeal_QkRefIdeal [hQkIdeal : Cert.QkIdeal.Facts] [hQkRefIdeal : Cert.QkRefIdeal.Facts] : Prop :=
  ∀ (m : (ℓ : Loc Cert.QkIdeal.nD Cert.QkIdeal.τ Cert.QkIdeal.sig) → Buf (Elt Ideal) ℓ) (g : Dev Cert.QkIdeal.nD → PrngReg)
    (m' : (ℓ : Loc Cert.QkRefIdeal.nD Cert.QkRefIdeal.τ Cert.QkRefIdeal.sig) → Buf (Elt Ideal) ℓ) (g' : Dev Cert.QkRefIdeal.nD → PrngReg), Pre_QkIdeal m →
    (∀ c : Dev Cert.QkIdeal.nD,
      m' ((c.tc : Thread Cert.QkRefIdeal.nD Cert.QkRefIdeal.τ).loc Cert.QkRefIdeal.main_arg0) = m ((c.tc : Thread Cert.QkIdeal.nD Cert.QkIdeal.τ).loc Cert.QkIdeal.main_arg0)
      ∧ m' ((c.tc : Thread Cert.QkRefIdeal.nD Cert.QkRefIdeal.τ).loc Cert.QkRefIdeal.main_arg1) = m ((c.tc : Thread Cert.QkIdeal.nD Cert.QkIdeal.τ).loc Cert.QkIdeal.main_arg1)
      ∧ m' ((c.tc : Thread Cert.QkRefIdeal.nD Cert.QkRefIdeal.τ).loc Cert.QkRefIdeal.main_arg2) = m ((c.tc : Thread Cert.QkIdeal.nD Cert.QkIdeal.τ).loc Cert.QkIdeal.main_arg2)) →
    ∃ (v0 : (c : Dev Cert.QkIdeal.nD) → Buf (Elt Ideal) ((c.tc : Thread Cert.QkIdeal.nD Cert.QkIdeal.τ).loc Cert.QkIdeal.main_v0)),
      θ_run (Cert.QkIdeal.defs (F := Ideal)) (onTc (τ := Cert.QkIdeal.τ) (Cert.QkIdeal.main (F := Ideal))) ⟨m, fun _ => 0, g⟩ (fun r => ∀ c : Dev Cert.QkIdeal.nD,
          r.2.mem ((c.tc : Thread Cert.QkIdeal.nD Cert.QkIdeal.τ).loc Cert.QkIdeal.main_v0) = v0 c
          ∧ r.2.mem ((c.tc : Thread Cert.QkIdeal.nD Cert.QkIdeal.τ).loc Cert.QkIdeal.main_arg0) = m ((c.tc : Thread Cert.QkIdeal.nD Cert.QkIdeal.τ).loc Cert.QkIdeal.main_arg0)
          ∧ r.2.mem ((c.tc : Thread Cert.QkIdeal.nD Cert.QkIdeal.τ).loc Cert.QkIdeal.main_arg1) = m ((c.tc : Thread Cert.QkIdeal.nD Cert.QkIdeal.τ).loc Cert.QkIdeal.main_arg1)
          ∧ r.2.mem ((c.tc : Thread Cert.QkIdeal.nD Cert.QkIdeal.τ).loc Cert.QkIdeal.main_arg2) = m ((c.tc : Thread Cert.QkIdeal.nD Cert.QkIdeal.τ).loc Cert.QkIdeal.main_arg2))
      ∧ θ_run (Cert.QkRefIdeal.defs (F := Ideal)) (onTc (τ := Cert.QkRefIdeal.τ) (Cert.QkRefIdeal.main (F := Ideal))) ⟨m', fun _ => 0, g'⟩ (fun r => ∀ c : Dev Cert.QkRefIdeal.nD,
          r.2.mem ((c.tc : Thread Cert.QkRefIdeal.nD Cert.QkRefIdeal.τ).loc Cert.QkRefIdeal.main_v19) = v0 c
          ∧ r.2.mem ((c.tc : Thread Cert.QkRefIdeal.nD Cert.QkRefIdeal.τ).loc Cert.QkRefIdeal.main_arg0) = m' ((c.tc : Thread Cert.QkRefIdeal.nD Cert.QkRefIdeal.τ).loc Cert.QkRefIdeal.main_arg0)
          ∧ r.2.mem ((c.tc : Thread Cert.QkRefIdeal.nD Cert.QkRefIdeal.τ).loc Cert.QkRefIdeal.main_arg1) = m' ((c.tc : Thread Cert.QkRefIdeal.nD Cert.QkRefIdeal.τ).loc Cert.QkRefIdeal.main_arg1)
          ∧ r.2.mem ((c.tc : Thread Cert.QkRefIdeal.nD Cert.QkRefIdeal.τ).loc Cert.QkRefIdeal.main_arg2) = m' ((c.tc : Thread Cert.QkRefIdeal.nD Cert.QkRefIdeal.τ).loc Cert.QkRefIdeal.main_arg2))

def preserves_Gates_GatesIdeal : Prop :=
  True

def algebraic_GatesIdeal_GatesRefIdeal [hGatesIdeal : Cert.GatesIdeal.Facts] [hGatesRefIdeal : Cert.GatesRefIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesRefIdeal.nD Cert.GatesRefIdeal.τ Cert.GatesRefIdeal.sig) → Buf (Elt Ideal) ℓ) (g' : Dev Cert.GatesRefIdeal.nD → PrngReg), Pre_GatesIdeal m →
    (∀ c : Dev Cert.GatesIdeal.nD,
      m' ((c.tc : Thread Cert.GatesRefIdeal.nD Cert.GatesRefIdeal.τ).loc Cert.GatesRefIdeal.main_arg0) = m ((c.tc : Thread Cert.GatesIdeal.nD Cert.GatesIdeal.τ).loc Cert.GatesIdeal.main_arg0)
      ∧ m' ((c.tc : Thread Cert.GatesRefIdeal.nD Cert.GatesRefIdeal.τ).loc Cert.GatesRefIdeal.main_arg1) = m ((c.tc : Thread Cert.GatesIdeal.nD Cert.GatesIdeal.τ).loc Cert.GatesIdeal.main_arg1)) →
    ∃ (v0 : (c : Dev Cert.GatesIdeal.nD) → Buf (Elt Ideal) ((c.tc : Thread Cert.GatesIdeal.nD Cert.GatesIdeal.τ).loc Cert.GatesIdeal.main_v1)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v1) = v0 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
      ∧ θ_run (Cert.GatesRefIdeal.defs (F := Ideal)) (onTc (τ := Cert.GatesRefIdeal.τ) (Cert.GatesRefIdeal.main (F := Ideal))) ⟨m', fun _ => 0, g'⟩ (fun r => ∀ c : Dev Cert.GatesRefIdeal.nD,
          r.2.mem ((c.tc : Thread Cert.GatesRefIdeal.nD Cert.GatesRefIdeal.τ).loc Cert.GatesRefIdeal.main_v9) = v0 c
          ∧ r.2.mem ((c.tc : Thread Cert.GatesRefIdeal.nD Cert.GatesRefIdeal.τ).loc Cert.GatesRefIdeal.main_arg0) = m' ((c.tc : Thread Cert.GatesRefIdeal.nD Cert.GatesRefIdeal.τ).loc Cert.GatesRefIdeal.main_arg0)
          ∧ r.2.mem ((c.tc : Thread Cert.GatesRefIdeal.nD Cert.GatesRefIdeal.τ).loc Cert.GatesRefIdeal.main_arg1) = m' ((c.tc : Thread Cert.GatesRefIdeal.nD Cert.GatesRefIdeal.τ).loc Cert.GatesRefIdeal.main_arg1))

def preserves_Values_ValuesIdeal : Prop :=
  True

def algebraic_ValuesIdeal_ValuesRefIdeal [hValuesIdeal : Cert.ValuesIdeal.Facts] [hValuesRefIdeal : Cert.ValuesRefIdeal.Facts] : Prop :=
  ∀ (m : (ℓ : Loc Cert.ValuesIdeal.nD Cert.ValuesIdeal.τ Cert.ValuesIdeal.sig) → Buf (Elt Ideal) ℓ) (g : Dev Cert.ValuesIdeal.nD → PrngReg)
    (m' : (ℓ : Loc Cert.ValuesRefIdeal.nD Cert.ValuesRefIdeal.τ Cert.ValuesRefIdeal.sig) → Buf (Elt Ideal) ℓ) (g' : Dev Cert.ValuesRefIdeal.nD → PrngReg), Pre_ValuesIdeal m →
    (∀ c : Dev Cert.ValuesIdeal.nD,
      m' ((c.tc : Thread Cert.ValuesRefIdeal.nD Cert.ValuesRefIdeal.τ).loc Cert.ValuesRefIdeal.main_arg0) = m ((c.tc : Thread Cert.ValuesIdeal.nD Cert.ValuesIdeal.τ).loc Cert.ValuesIdeal.main_arg0)
      ∧ m' ((c.tc : Thread Cert.ValuesRefIdeal.nD Cert.ValuesRefIdeal.τ).loc Cert.ValuesRefIdeal.main_arg1) = m ((c.tc : Thread Cert.ValuesIdeal.nD Cert.ValuesIdeal.τ).loc Cert.ValuesIdeal.main_arg1)) →
    ∃ (v0 : (c : Dev Cert.ValuesIdeal.nD) → Buf (Elt Ideal) ((c.tc : Thread Cert.ValuesIdeal.nD Cert.ValuesIdeal.τ).loc Cert.ValuesIdeal.main_v1)),
      θ_run (Cert.ValuesIdeal.defs (F := Ideal)) (onTc (τ := Cert.ValuesIdeal.τ) (Cert.ValuesIdeal.main (F := Ideal))) ⟨m, fun _ => 0, g⟩ (fun r => ∀ c : Dev Cert.ValuesIdeal.nD,
          r.2.mem ((c.tc : Thread Cert.ValuesIdeal.nD Cert.ValuesIdeal.τ).loc Cert.ValuesIdeal.main_v1) = v0 c
          ∧ r.2.mem ((c.tc : Thread Cert.ValuesIdeal.nD Cert.ValuesIdeal.τ).loc Cert.ValuesIdeal.main_arg0) = m ((c.tc : Thread Cert.ValuesIdeal.nD Cert.ValuesIdeal.τ).loc Cert.ValuesIdeal.main_arg0)
          ∧ r.2.mem ((c.tc : Thread Cert.ValuesIdeal.nD Cert.ValuesIdeal.τ).loc Cert.ValuesIdeal.main_arg1) = m ((c.tc : Thread Cert.ValuesIdeal.nD Cert.ValuesIdeal.τ).loc Cert.ValuesIdeal.main_arg1))
      ∧ θ_run (Cert.ValuesRefIdeal.defs (F := Ideal)) (onTc (τ := Cert.ValuesRefIdeal.τ) (Cert.ValuesRefIdeal.main (F := Ideal))) ⟨m', fun _ => 0, g'⟩ (fun r => ∀ c : Dev Cert.ValuesRefIdeal.nD,
          r.2.mem ((c.tc : Thread Cert.ValuesRefIdeal.nD Cert.ValuesRefIdeal.τ).loc Cert.ValuesRefIdeal.main_v3) = v0 c
          ∧ r.2.mem ((c.tc : Thread Cert.ValuesRefIdeal.nD Cert.ValuesRefIdeal.τ).loc Cert.ValuesRefIdeal.main_arg0) = m' ((c.tc : Thread Cert.ValuesRefIdeal.nD Cert.ValuesRefIdeal.τ).loc Cert.ValuesRefIdeal.main_arg0)
          ∧ r.2.mem ((c.tc : Thread Cert.ValuesRefIdeal.nD Cert.ValuesRefIdeal.τ).loc Cert.ValuesRefIdeal.main_arg1) = m' ((c.tc : Thread Cert.ValuesRefIdeal.nD Cert.ValuesRefIdeal.τ).loc Cert.ValuesRefIdeal.main_arg1))

def preserves_Channels_ChannelsIdeal : Prop :=
  True

def algebraic_ChannelsIdeal_ChannelsRefIdeal [hChannelsIdeal : Cert.ChannelsIdeal.Facts] [hChannelsRefIdeal : Cert.ChannelsRefIdeal.Facts] : Prop :=
  ∀ (m : (ℓ : Loc Cert.ChannelsIdeal.nD Cert.ChannelsIdeal.τ Cert.ChannelsIdeal.sig) → Buf (Elt Ideal) ℓ) (g : Dev Cert.ChannelsIdeal.nD → PrngReg)
    (m' : (ℓ : Loc Cert.ChannelsRefIdeal.nD Cert.ChannelsRefIdeal.τ Cert.ChannelsRefIdeal.sig) → Buf (Elt Ideal) ℓ) (g' : Dev Cert.ChannelsRefIdeal.nD → PrngReg), Pre_ChannelsIdeal m →
    (∀ c : Dev Cert.ChannelsIdeal.nD,
      m' ((c.tc : Thread Cert.ChannelsRefIdeal.nD Cert.ChannelsRefIdeal.τ).loc Cert.ChannelsRefIdeal.main_arg0) = m ((c.tc : Thread Cert.ChannelsIdeal.nD Cert.ChannelsIdeal.τ).loc Cert.ChannelsIdeal.main_arg0)
      ∧ m' ((c.tc : Thread Cert.ChannelsRefIdeal.nD Cert.ChannelsRefIdeal.τ).loc Cert.ChannelsRefIdeal.main_arg1) = m ((c.tc : Thread Cert.ChannelsIdeal.nD Cert.ChannelsIdeal.τ).loc Cert.ChannelsIdeal.main_arg1)) →
    ∃ (v0 : (c : Dev Cert.ChannelsIdeal.nD) → Buf (Elt Ideal) ((c.tc : Thread Cert.ChannelsIdeal.nD Cert.ChannelsIdeal.τ).loc Cert.ChannelsIdeal.main_v1)),
      θ_run (Cert.ChannelsIdeal.defs (F := Ideal)) (onTc (τ := Cert.ChannelsIdeal.τ) (Cert.ChannelsIdeal.main (F := Ideal))) ⟨m, fun _ => 0, g⟩ (fun r => ∀ c : Dev Cert.ChannelsIdeal.nD,
          r.2.mem ((c.tc : Thread Cert.ChannelsIdeal.nD Cert.ChannelsIdeal.τ).loc Cert.ChannelsIdeal.main_v1) = v0 c
          ∧ r.2.mem ((c.tc : Thread Cert.ChannelsIdeal.nD Cert.ChannelsIdeal.τ).loc Cert.ChannelsIdeal.main_arg0) = m ((c.tc : Thread Cert.ChannelsIdeal.nD Cert.ChannelsIdeal.τ).loc Cert.ChannelsIdeal.main_arg0)
          ∧ r.2.mem ((c.tc : Thread Cert.ChannelsIdeal.nD Cert.ChannelsIdeal.τ).loc Cert.ChannelsIdeal.main_arg1) = m ((c.tc : Thread Cert.ChannelsIdeal.nD Cert.ChannelsIdeal.τ).loc Cert.ChannelsIdeal.main_arg1))
      ∧ θ_run (Cert.ChannelsRefIdeal.defs (F := Ideal)) (onTc (τ := Cert.ChannelsRefIdeal.τ) (Cert.ChannelsRefIdeal.main (F := Ideal))) ⟨m', fun _ => 0, g'⟩ (fun r => ∀ c : Dev Cert.ChannelsRefIdeal.nD,
          r.2.mem ((c.tc : Thread Cert.ChannelsRefIdeal.nD Cert.ChannelsRefIdeal.τ).loc Cert.ChannelsRefIdeal.main_v2) = v0 c
          ∧ r.2.mem ((c.tc : Thread Cert.ChannelsRefIdeal.nD Cert.ChannelsRefIdeal.τ).loc Cert.ChannelsRefIdeal.main_arg0) = m' ((c.tc : Thread Cert.ChannelsRefIdeal.nD Cert.ChannelsRefIdeal.τ).loc Cert.ChannelsRefIdeal.main_arg0)
          ∧ r.2.mem ((c.tc : Thread Cert.ChannelsRefIdeal.nD Cert.ChannelsRefIdeal.τ).loc Cert.ChannelsRefIdeal.main_arg1) = m' ((c.tc : Thread Cert.ChannelsRefIdeal.nD Cert.ChannelsRefIdeal.τ).loc Cert.ChannelsRefIdeal.main_arg1))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v11) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v1_0)) (v1 : (c : Dev Cert.OutIdeal.nD) → Buf (Elt Ideal) ((c.tc : Thread Cert.OutIdeal.nD Cert.OutIdeal.τ).loc Cert.OutIdeal.main_v1_1)) (v2 : (c : Dev Cert.OutIdeal.nD) → Buf (Elt Ideal) ((c.tc : Thread Cert.OutIdeal.nD Cert.OutIdeal.τ).loc Cert.OutIdeal.main_v1_2)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v1_0) = v0 c
          ∧ r.2.mem ((c.tc : Thread Cert.OutIdeal.nD Cert.OutIdeal.τ).loc Cert.OutIdeal.main_v1_1) = v1 c
          ∧ r.2.mem ((c.tc : Thread Cert.OutIdeal.nD Cert.OutIdeal.τ).loc Cert.OutIdeal.main_v1_2) = v2 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v3) = v0 c
          ∧ r.2.mem ((c.tc : Thread Cert.OutRefIdeal.nD Cert.OutRefIdeal.τ).loc Cert.OutRefIdeal.main_v17) = v1 c
          ∧ r.2.mem ((c.tc : Thread Cert.OutRefIdeal.nD Cert.OutRefIdeal.τ).loc Cert.OutRefIdeal.main_v18) = v2 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v13) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_Online_OnlineIdeal : Prop :=
  True

def algebraic_OnlineIdeal_ReferenceIdeal_pre_finite_online [hOnlineIdeal : Cert.OnlineIdeal.Facts] [hReferenceIdeal : Cert.ReferenceIdeal.Facts] [hPre_finite_online : Cert.Pre_finite_online.Facts] : Prop :=
  ∀ (m : (ℓ : Loc Cert.OnlineIdeal.nD Cert.OnlineIdeal.τ Cert.OnlineIdeal.sig) → Buf (Elt Ideal) ℓ) (g : Dev Cert.OnlineIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_OnlineIdeal_finite_online m →
    (∀ c : Dev Cert.OnlineIdeal.nD,
      m' ((c.tc : Thread Cert.ReferenceIdeal.nD Cert.ReferenceIdeal.τ).loc Cert.ReferenceIdeal.main_arg0) = m ((c.tc : Thread Cert.OnlineIdeal.nD Cert.OnlineIdeal.τ).loc Cert.OnlineIdeal.main_arg0)
      ∧ m' ((c.tc : Thread Cert.ReferenceIdeal.nD Cert.ReferenceIdeal.τ).loc Cert.ReferenceIdeal.main_arg1) = m ((c.tc : Thread Cert.OnlineIdeal.nD Cert.OnlineIdeal.τ).loc Cert.OnlineIdeal.main_arg1)
      ∧ m' ((c.tc : Thread Cert.ReferenceIdeal.nD Cert.ReferenceIdeal.τ).loc Cert.ReferenceIdeal.main_arg2) = m ((c.tc : Thread Cert.OnlineIdeal.nD Cert.OnlineIdeal.τ).loc Cert.OnlineIdeal.main_arg2)
      ∧ m' ((c.tc : Thread Cert.ReferenceIdeal.nD Cert.ReferenceIdeal.τ).loc Cert.ReferenceIdeal.main_arg3) = m ((c.tc : Thread Cert.OnlineIdeal.nD Cert.OnlineIdeal.τ).loc Cert.OnlineIdeal.main_arg3)
      ∧ m' ((c.tc : Thread Cert.ReferenceIdeal.nD Cert.ReferenceIdeal.τ).loc Cert.ReferenceIdeal.main_arg4) = m ((c.tc : Thread Cert.OnlineIdeal.nD Cert.OnlineIdeal.τ).loc Cert.OnlineIdeal.main_arg4)) →
    ∃ (v0 : (c : Dev Cert.OnlineIdeal.nD) → Buf (Elt Ideal) ((c.tc : Thread Cert.OnlineIdeal.nD Cert.OnlineIdeal.τ).loc Cert.OnlineIdeal.main_v70)),
      θ_run (Cert.OnlineIdeal.defs (F := Ideal)) (onTc (τ := Cert.OnlineIdeal.τ) (Cert.OnlineIdeal.main (F := Ideal))) ⟨m, fun _ => 0, g⟩ (fun r => ∀ c : Dev Cert.OnlineIdeal.nD,
          r.2.mem ((c.tc : Thread Cert.OnlineIdeal.nD Cert.OnlineIdeal.τ).loc Cert.OnlineIdeal.main_v70) = v0 c
          ∧ r.2.mem ((c.tc : Thread Cert.OnlineIdeal.nD Cert.OnlineIdeal.τ).loc Cert.OnlineIdeal.main_arg0) = m ((c.tc : Thread Cert.OnlineIdeal.nD Cert.OnlineIdeal.τ).loc Cert.OnlineIdeal.main_arg0)
          ∧ r.2.mem ((c.tc : Thread Cert.OnlineIdeal.nD Cert.OnlineIdeal.τ).loc Cert.OnlineIdeal.main_arg1) = m ((c.tc : Thread Cert.OnlineIdeal.nD Cert.OnlineIdeal.τ).loc Cert.OnlineIdeal.main_arg1)
          ∧ r.2.mem ((c.tc : Thread Cert.OnlineIdeal.nD Cert.OnlineIdeal.τ).loc Cert.OnlineIdeal.main_arg2) = m ((c.tc : Thread Cert.OnlineIdeal.nD Cert.OnlineIdeal.τ).loc Cert.OnlineIdeal.main_arg2)
          ∧ r.2.mem ((c.tc : Thread Cert.OnlineIdeal.nD Cert.OnlineIdeal.τ).loc Cert.OnlineIdeal.main_arg3) = m ((c.tc : Thread Cert.OnlineIdeal.nD Cert.OnlineIdeal.τ).loc Cert.OnlineIdeal.main_arg3)
          ∧ r.2.mem ((c.tc : Thread Cert.OnlineIdeal.nD Cert.OnlineIdeal.τ).loc Cert.OnlineIdeal.main_arg4) = m ((c.tc : Thread Cert.OnlineIdeal.nD Cert.OnlineIdeal.τ).loc Cert.OnlineIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hQk : Cert.Qk.Facts) (hQkIdeal : Cert.QkIdeal.Facts) (hQkRefIdeal : Cert.QkRefIdeal.Facts) (hGates : Cert.Gates.Facts) (hGatesIdeal : Cert.GatesIdeal.Facts) (hGatesRefIdeal : Cert.GatesRefIdeal.Facts) (hValues : Cert.Values.Facts) (hValuesIdeal : Cert.ValuesIdeal.Facts) (hValuesRefIdeal : Cert.ValuesRefIdeal.Facts) (hChannels : Cert.Channels.Facts) (hChannelsIdeal : Cert.ChannelsIdeal.Facts) (hChannelsRefIdeal : Cert.ChannelsRefIdeal.Facts) (hMerge : Cert.Merge.Facts) (hMergeIdeal : Cert.MergeIdeal.Facts) (hMergeRefIdeal : Cert.MergeRefIdeal.Facts) (hOut : Cert.Out.Facts) (hOutIdeal : Cert.OutIdeal.Facts) (hOutRefIdeal : Cert.OutRefIdeal.Facts) (hNorm : Cert.Norm.Facts) (hNormIdeal : Cert.NormIdeal.Facts) (hNormRefIdeal : Cert.NormRefIdeal.Facts) (hOnline : Cert.Online.Facts) (hOnlineIdeal : Cert.OnlineIdeal.Facts) (hPre_finite : Cert.Pre_finite.Facts) (hPre_finite_online : Cert.Pre_finite_online.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_ReferenceIdeal_pre_finite_online (hReferenceIdeal := hReferenceIdeal) (hPre_finite_online := hPre_finite_online)
    ∧ quiescent_Qk (hQk := hQk)
    ∧ quiescent_QkIdeal (hQkIdeal := hQkIdeal)
    ∧ quiescent_QkRefIdeal (hQkRefIdeal := hQkRefIdeal)
    ∧ quiescent_Gates (hGates := hGates)
    ∧ quiescent_GatesIdeal (hGatesIdeal := hGatesIdeal)
    ∧ quiescent_GatesRefIdeal (hGatesRefIdeal := hGatesRefIdeal)
    ∧ quiescent_Values (hValues := hValues)
    ∧ quiescent_ValuesIdeal (hValuesIdeal := hValuesIdeal)
    ∧ quiescent_ValuesRefIdeal (hValuesRefIdeal := hValuesRefIdeal)
    ∧ quiescent_Channels (hChannels := hChannels)
    ∧ quiescent_ChannelsIdeal (hChannelsIdeal := hChannelsIdeal)
    ∧ quiescent_ChannelsRefIdeal (hChannelsRefIdeal := hChannelsRefIdeal)
    ∧ quiescent_Merge (hMerge := hMerge)
    ∧ quiescent_MergeIdeal (hMergeIdeal := hMergeIdeal)
    ∧ quiescent_MergeRefIdeal (hMergeRefIdeal := hMergeRefIdeal)
    ∧ quiescent_Out (hOut := hOut)
    ∧ quiescent_OutIdeal (hOutIdeal := hOutIdeal)
    ∧ quiescent_OutRefIdeal (hOutRefIdeal := hOutRefIdeal)
    ∧ quiescent_Norm (hNorm := hNorm)
    ∧ quiescent_NormIdeal (hNormIdeal := hNormIdeal)
    ∧ quiescent_NormRefIdeal (hNormRefIdeal := hNormRefIdeal)
    ∧ quiescent_Online (hOnline := hOnline)
    ∧ quiescent_OnlineIdeal (hOnlineIdeal := hOnlineIdeal)
    ∧ quiescent_OnlineIdeal_pre_finite_online (hOnlineIdeal := hOnlineIdeal) (hPre_finite_online := hPre_finite_online)
    ∧ preserves_Kernel_KernelIdeal
    ∧ algebraic_KernelIdeal_ReferenceIdeal_pre_finite (hKernelIdeal := hKernelIdeal) (hReferenceIdeal := hReferenceIdeal) (hPre_finite := hPre_finite)
    ∧ preserves_Qk_QkIdeal
    ∧ algebraic_QkIdeal_QkRefIdeal (hQkIdeal := hQkIdeal) (hQkRefIdeal := hQkRefIdeal)
    ∧ preserves_Gates_GatesIdeal
    ∧ algebraic_GatesIdeal_GatesRefIdeal (hGatesIdeal := hGatesIdeal) (hGatesRefIdeal := hGatesRefIdeal)
    ∧ preserves_Values_ValuesIdeal
    ∧ algebraic_ValuesIdeal_ValuesRefIdeal (hValuesIdeal := hValuesIdeal) (hValuesRefIdeal := hValuesRefIdeal)
    ∧ preserves_Channels_ChannelsIdeal
    ∧ algebraic_ChannelsIdeal_ChannelsRefIdeal (hChannelsIdeal := hChannelsIdeal) (hChannelsRefIdeal := hChannelsRefIdeal)
    ∧ preserves_Merge_MergeIdeal
    ∧ algebraic_MergeIdeal_MergeRefIdeal (hMergeIdeal := hMergeIdeal) (hMergeRefIdeal := hMergeRefIdeal)
    ∧ preserves_Out_OutIdeal
    ∧ algebraic_OutIdeal_OutRefIdeal (hOutIdeal := hOutIdeal) (hOutRefIdeal := hOutRefIdeal)
    ∧ preserves_Norm_NormIdeal
    ∧ algebraic_NormIdeal_NormRefIdeal (hNormIdeal := hNormIdeal) (hNormRefIdeal := hNormRefIdeal)
    ∧ preserves_Online_OnlineIdeal
    ∧ algebraic_OnlineIdeal_ReferenceIdeal_pre_finite_online (hOnlineIdeal := hOnlineIdeal) (hReferenceIdeal := hReferenceIdeal) (hPre_finite_online := hPre_finite_online)
-- ==== Pre_finite.lean ====
abbrev S16384x4096 : Shape := ⟨2, ![16384, 4096]⟩
abbrev S16384x2048 : Shape := ⟨2, ![16384, 2048]⟩
abbrev S4x128 : Shape := ⟨2, ![4, 128]⟩
abbrev S256 : Shape := ⟨1, ![256]⟩
abbrev S1 : Shape := ⟨1, ![1]⟩
abbrev S_ : Shape := ⟨0, ![]⟩

class Facts : Prop where
  bitsLt_bf16_f32 : FTy.bits .bf16 < FTy.bits .f32
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S16384x2048 : S_.BroadcastsInDim S16384x2048 (![] : Fin 0 → Fin S16384x2048.rank)
  reducesTo_S16384x2048_S_d0_1 : S16384x2048.ReducesTo [0, 1] S_
  bcast_S_S4x128 : S_.BroadcastsInDim S4x128 (![] : Fin 0 → Fin S4x128.rank)
  reducesTo_S4x128_S_d0_1 : S4x128.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_v15 : IVec S_ 1) (main_v16 : FVec F S1 .f32) (main_cst_4 : FVec F S_ .f32) : IVec S_ 1 :=
  let main_v17 : FVec F S1 .f32 := broadcastInDim S1 ![] bcast_S_S1 main_cst_4
  let main_v18 : IVec S1 1 := cmpf .olt main_v16 main_v17
  let main_c_5 : IVec S_ 1 := constantI S_ 1 1#1
  let main_v19 : IVec S_ 1 := (fun x v => Host.reduce IntOp.andi x v reducesTo_S1_S_d0 h_S_) main_v18 main_c_5
  let main_v20 : IVec S_ 1 := andi main_v15 main_v19
  main_v20

def fn {F : FTy → Type} [FloatOps F] (main_arg0 : FVec F S16384x4096 .bf16) (main_arg1 : FVec F S16384x2048 .bf16) (main_arg2 : FVec F S4x128 .f32) (main_arg3 : FVec F S256 .f32) (main_arg4 : FVec F S1 .f32) : IVec S_ 1 :=
  let main_v0 : FVec F S16384x4096 .f32 := (extf .f32 · bitsLt_bf16_f32) main_arg0
  let main_v1 : FVec F S16384x4096 .f32 := Host.absf main_v0
  let main_cst : FVec F S_ .f32 := constant S_ .f32 0x7F800000#32
  let main_v2 : FVec F S16384x4096 .f32 := broadcastInDim S16384x4096 ![] bcast_S_S16384x4096 main_cst
  let main_v3 : IVec S16384x4096 1 := cmpf .olt main_v1 main_v2
  let main_c : IVec S_ 1 := constantI S_ 1 1#1
  let main_v4 : IVec S_ 1 := (fun x v => Host.reduce IntOp.andi x v reducesTo_S16384x4096_S_d0_1 h_S_) main_v3 main_c
  let main_v5 : FVec F S16384x2048 .f32 := (extf .f32 · bitsLt_bf16_f32) main_arg1
  let main_v6 : FVec F S16384x2048 .f32 := Host.absf main_v5
  let main_cst_0 : FVec F S_ .f32 := constant S_ .f32 0x7F800000#32
  let main_v7 : FVec F S16384x2048 .f32 := broadcastInDim S16384x2048 ![] bcast_S_S16384x2048 main_cst_0
  let main_v8 : IVec S16384x2048 1 := cmpf .olt main_v6 main_v7
  let main_c_1 : IVec S_ 1 := constantI S_ 1 1#1
  let main_v9 : IVec S_ 1 := (fun x v => Host.reduce IntOp.andi x v reducesTo_S16384x2048_S_d0_1 h_S_) main_v8 main_c_1
  let main_v10 : IVec S_ 1 := andi main_v4 main_v9
  let main_v11 : FVec F S4x128 .f32 := Host.absf main_arg2
  let main_cst_2 : FVec F S_ .f32 := constant S_ .f32 0x7F800000#32
  let main_v12 : FVec F S4x128 .f32 := broadcastInDim S4x128 ![] bcast_S_S4x128 main_cst_2
  let main_v13 : IVec S4x128 1 := cmpf .olt main_v11 main_v12
  let main_c_3 : IVec S_ 1 := constantI S_ 1 1#1
  let main_v14 : IVec S_ 1 := (fun x v => Host.reduce IntOp.andi x v reducesTo_S4x128_S_d0_1 h_S_) main_v13 main_c_3
  let main_v15 : IVec S_ 1 := andi main_v10 main_v14
  let main_v16 : FVec F S1 .f32 := Host.absf main_arg4
  let main_cst_4 : FVec F S_ .f32 := constant S_ .f32 0x7F800000#32
  fn_part1 (F := F) main_v15 main_v16 main_cst_4
-- ==== Pre_finite_online.lean ====
abbrev S16384x4096 : Shape := ⟨2, ![16384, 4096]⟩
abbrev S16384x2048 : Shape := ⟨2, ![16384, 2048]⟩
abbrev S4x128 : Shape := ⟨2, ![4, 128]⟩
abbrev S256 : Shape := ⟨1, ![256]⟩
abbrev S1 : Shape := ⟨1, ![1]⟩
abbrev S_ : Shape := ⟨0, ![]⟩

class Facts : Prop where
  bitsLt_bf16_f32 : FTy.bits .bf16 < FTy.bits .f32
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S4x128 : S_.BroadcastsInDim S4x128 (![] : Fin 0 → Fin S4x128.rank)
  reducesTo_S4x128_S_d0_1 : S4x128.ReducesTo [0, 1] S_

variable [Facts]

def fn {F : FTy → Type} [FloatOps F] (main_arg0 : FVec F S16384x4096 .bf16) (main_arg1 : FVec F S16384x2048 .bf16) (main_arg2 : FVec F S4x128 .f32) (main_arg3 : FVec F S256 .f32) (main_arg4 : FVec F S1 .f32) : IVec S_ 1 :=
  let main_v0 : FVec F S16384x2048 .f32 := (extf .f32 · bitsLt_bf16_f32) main_arg1
  let main_v1 : FVec F S16384x2048 .f32 := Host.absf main_v0
  let main_cst : FVec F S_ .f32 := constant S_ .f32 0x7F800000#32
  let main_v2 : FVec F S16384x2048 .f32 := broadcastInDim S16384x2048 ![] bcast_S_S16384x2048 main_cst
  let main_v3 : IVec S16384x2048 1 := cmpf .olt main_v1 main_v2
  let main_c : IVec S_ 1 := constantI S_ 1 1#1
  let main_v4 : IVec S_ 1 := (fun x v => Host.reduce IntOp.andi x v reducesTo_S16384x2048_S_d0_1 h_S_) main_v3 main_c
  let main_v5 : FVec F S4x128 .f32 := Host.absf main_arg2
  let main_cst_0 : FVec F S_ .f32 := constant S_ .f32 0x7F800000#32
  let main_v6 : FVec F S4x128 .f32 := broadcastInDim S4x128 ![] bcast_S_S4x128 main_cst_0
  let main_v7 : IVec S4x128 1 := cmpf .olt main_v5 main_v6
  let main_c_1 : IVec S_ 1 := constantI S_ 1 1#1
  let main_v8 : IVec S_ 1 := (fun x v => Host.reduce IntOp.andi x v reducesTo_S4x128_S_d0_1 h_S_) main_v7 main_c_1
  let main_v9 : IVec S_ 1 := andi main_v4 main_v8
  main_v9
-- ==== Kernel.lean ====
abbrev S16384x4096 : Shape := ⟨2, ![16384, 4096]⟩
abbrev S16384x2048 : Shape := ⟨2, ![16384, 2048]⟩
abbrev S4x128 : Shape := ⟨2, ![4, 128]⟩
abbrev S256 : Shape := ⟨1, ![256]⟩
abbrev S1 : Shape := ⟨1, ![1]⟩
abbrev S8 : Shape := ⟨1, ![8]⟩
abbrev S_ : Shape := ⟨0, ![]⟩
abbrev S1x1024x128 : Shape := ⟨3, ![1, 1024, 128]⟩
abbrev S2x1024x128 : Shape := ⟨3, ![2, 1024, 128]⟩
abbrev S1024x128 : Shape := ⟨2, ![1024, 128]⟩
abbrev S3x1024x128 : Shape := ⟨3, ![3, 1024, 128]⟩
abbrev S1x256 : Shape := ⟨2, ![1, 256]⟩
abbrev S1024x256 : Shape := ⟨2, ![1024, 256]⟩
abbrev S2x1024x256 : Shape := ⟨3, ![2, 1024, 256]⟩
abbrev S1024x1024 : Shape := ⟨2, ![1024, 1024]⟩
abbrev S1x1024x256 : Shape := ⟨3, ![1, 1024, 256]⟩
abbrev S1x128 : Shape := ⟨2, ![1, 128]⟩
abbrev S1x1 : Shape := ⟨2, ![1, 1]⟩
abbrev S1024 : Shape := ⟨1, ![1024]⟩
abbrev S1024x1 : Shape := ⟨2, ![1024, 1]⟩

abbrev nBuf : Space → Nat
  | .hbm => 121
  | .vmem => 16
  | .smem => 2
  | _ => 0

abbrev bufTy : (tb : Table) → Fin (tcTables nBuf tb) → BufTy
  | .hbm, ⟨0, _⟩ => ⟨S16384x4096, .bf16⟩
  | .hbm, ⟨1, _⟩ => ⟨S16384x2048, .bf16⟩
  | .hbm, ⟨2, _⟩ => ⟨S4x128, .f32⟩
  | .hbm, ⟨3, _⟩ => ⟨S256, .f32⟩
  | .hbm, ⟨4, _⟩ => ⟨S1, .f32⟩
  | .hbm, ⟨5, _⟩ => ⟨S8, .f32⟩
  | .hbm, ⟨6, _⟩ => ⟨S_, .f32⟩
  | .hbm, ⟨7, _⟩ => ⟨S1x1024x128, .i32⟩
  | .hbm, ⟨8, _⟩ => ⟨S1x1024x128, .i32⟩
  | .hbm, ⟨9, _⟩ => ⟨S_, .i32⟩
  | .hbm, ⟨10, _⟩ => ⟨S1x1024x128, .i32⟩
  | .hbm, ⟨11, _⟩ => ⟨S1x1024x128, .i1⟩
  | .hbm, ⟨12, _⟩ => ⟨S_, .i32⟩
  | .hbm, ⟨13, _⟩ => ⟨S1x1024x128, .i32⟩
  | .hbm, ⟨14, _⟩ => ⟨S1x1024x128, .i32⟩
  | .hbm, ⟨15, _⟩ => ⟨S1x1024x128, .i32⟩
  | .hbm, ⟨16, _⟩ => ⟨S_, .i32⟩
  | .hbm, ⟨17, _⟩ => ⟨S1x1024x128, .i32⟩
  | .hbm, ⟨18, _⟩ => ⟨S1x1024x128, .i1⟩
  | .hbm, ⟨19, _⟩ => ⟨S_, .i32⟩
  | .hbm, ⟨20, _⟩ => ⟨S1x1024x128, .i32⟩
  | .hbm, ⟨21, _⟩ => ⟨S1x1024x128, .i32⟩
  | .hbm, ⟨22, _⟩ => ⟨S1x1024x128, .i32⟩
  | .hbm, ⟨23, _⟩ => ⟨S_, .i32⟩
  | .hbm, ⟨24, _⟩ => ⟨S1x1024x128, .i32⟩
  | .hbm, ⟨25, _⟩ => ⟨S1x1024x128, .i1⟩
  | .hbm, ⟨26, _⟩ => ⟨S_, .i32⟩
  | .hbm, ⟨27, _⟩ => ⟨S_, .i32⟩
  | .hbm, ⟨28, _⟩ => ⟨S1x1024x128, .i32⟩
  | .hbm, ⟨29, _⟩ => ⟨S1x1024x128, .i32⟩
  | .hbm, ⟨30, _⟩ => ⟨S1x1024x128, .i32⟩
  | .hbm, ⟨31, _⟩ => ⟨S1x1024x128, .i32⟩
  | .hbm, ⟨32, _⟩ => ⟨S1x1024x128, .i32⟩
  | .hbm, ⟨33, _⟩ => ⟨S1x1024x128, .i32⟩
  | .hbm, ⟨34, _⟩ => ⟨S_, .i32⟩
  | .hbm, ⟨35, _⟩ => ⟨S1x1024x128, .i32⟩
  | .hbm, ⟨36, _⟩ => ⟨S1x1024x128, .i1⟩
  | .hbm, ⟨37, _⟩ => ⟨S_, .i32⟩
  | .hbm, ⟨38, _⟩ => ⟨S_, .i32⟩
  | .hbm, ⟨39, _⟩ => ⟨S1x1024x128, .i32⟩
  | .hbm, ⟨40, _⟩ => ⟨S1x1024x128, .i32⟩
  | .hbm, ⟨41, _⟩ => ⟨S1x1024x128, .i32⟩
  | .hbm, ⟨42, _⟩ => ⟨S1x1024x128, .i32⟩
  | .hbm, ⟨43, _⟩ => ⟨S2x1024x128, .i32⟩
  | .hbm, ⟨44, _⟩ => ⟨S1024x128, .i32⟩
  | .hbm, ⟨45, _⟩ => ⟨S1024x128, .i32⟩
  | .hbm, ⟨46, _⟩ => ⟨S_, .i32⟩
  | .hbm, ⟨47, _⟩ => ⟨S1024x128, .i32⟩
  | .hbm, ⟨48, _⟩ => ⟨S1024x128, .i1⟩
  | .hbm, ⟨49, _⟩ => ⟨S_, .i32⟩
  | .hbm, ⟨50, _⟩ => ⟨S1024x128, .i32⟩
  | .hbm, ⟨51, _⟩ => ⟨S1024x128, .i32⟩
  | .hbm, ⟨52, _⟩ => ⟨S_, .i32⟩
  | .hbm, ⟨53, _⟩ => ⟨S1024x128, .i32⟩
  | .hbm, ⟨54, _⟩ => ⟨S1024x128, .i1⟩
  | .hbm, ⟨55, _⟩ => ⟨S_, .i32⟩
  | .hbm, ⟨56, _⟩ => ⟨S1024x128, .i32⟩
  | .hbm, ⟨57, _⟩ => ⟨S1024x128, .i32⟩
  | .hbm, ⟨58, _⟩ => ⟨S_, .i32⟩
  | .hbm, ⟨59, _⟩ => ⟨S1024x128, .i32⟩
  | .hbm, ⟨60, _⟩ => ⟨S1024x128, .i1⟩
  | .hbm, ⟨61, _⟩ => ⟨S_, .i32⟩
  | .hbm, ⟨62, _⟩ => ⟨S_, .i32⟩
  | .hbm, ⟨63, _⟩ => ⟨S1024x128, .i32⟩
  | .hbm, ⟨64, _⟩ => ⟨S1024x128, .i32⟩
  | .hbm, ⟨65, _⟩ => ⟨S1024x128, .i32⟩
  | .hbm, ⟨66, _⟩ => ⟨S1024x128, .i32⟩
  | .hbm, ⟨67, _⟩ => ⟨S1024x128, .i32⟩
  | .hbm, ⟨68, _⟩ => ⟨S1024x128, .i32⟩
  | .hbm, ⟨69, _⟩ => ⟨S2x1024x128, .f32⟩
  | .hbm, ⟨70, _⟩ => ⟨S1024x128, .bf16⟩
  | .hbm, ⟨71, _⟩ => ⟨S_, .bf16⟩
  | .hbm, ⟨72, _⟩ => ⟨S_, .f32⟩
  | .hbm, ⟨73, _⟩ => ⟨S_, .f32⟩
  | .hbm, ⟨74, _⟩ => ⟨S_, .bf16⟩
  | .hbm, ⟨75, _⟩ => ⟨S_, .f32⟩
  | .hbm, ⟨76, _⟩ => ⟨S_, .f32⟩
  | .hbm, ⟨77, _⟩ => ⟨S_, .bf16⟩
  | .hbm, ⟨78, _⟩ => ⟨S_, .f32⟩
  | .hbm, ⟨79, _⟩ => ⟨S_, .f32⟩
  | .hbm, ⟨80, _⟩ => ⟨S1x1024x128, .i32⟩
  | .hbm, ⟨81, _⟩ => ⟨S_, .i32⟩
  | .hbm, ⟨82, _⟩ => ⟨S1x1024x128, .i32⟩
  | .hbm, ⟨83, _⟩ => ⟨S1x1024x128, .i1⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S1x1024x128, .f32⟩
  | .hbm, ⟨88, _⟩ => ⟨S1x1024x128, .f32⟩
  | .hbm, ⟨89, _⟩ => ⟨S1x1024x128, .f32⟩
  | .hbm, ⟨90, _⟩ => ⟨S_, .f32⟩
  | .hbm, ⟨91, _⟩ => ⟨S1x1024x128, .f32⟩
  | .hbm, ⟨92, _⟩ => ⟨S1x1024x128, .f32⟩
  | .hbm, ⟨93, _⟩ => ⟨S_, .i32⟩
  | .hbm, ⟨94, _⟩ => ⟨S1x1024x128, .i32⟩
  | .hbm, ⟨95, _⟩ => ⟨S1x1024x128, .i1⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S1x1024x128, .f32⟩
  | .hbm, ⟨100, _⟩ => ⟨S1x1024x128, .f32⟩
  | .hbm, ⟨101, _⟩ => ⟨S1x1024x128, .f32⟩
  | .hbm, ⟨102, _⟩ => ⟨S1x1024x128, .f32⟩
  | .hbm, ⟨103, _⟩ => ⟨S_, .i32⟩
  | .hbm, ⟨104, _⟩ => ⟨S1x1024x128, .i32⟩
  | .hbm, ⟨105, _⟩ => ⟨S1x1024x128, .i1⟩
  | .hbm, ⟨106, _⟩ => ⟨S_, .f32⟩
  | .hbm, ⟨107, _⟩ => ⟨S_, .f32⟩
  | .hbm, ⟨108, _⟩ => ⟨S_, .f32⟩
  | .hbm, ⟨109, _⟩ => ⟨S1x1024x128, .f32⟩
  | .hbm, ⟨110, _⟩ => ⟨S1x1024x128, .f32⟩
  | .hbm, ⟨111, _⟩ => ⟨S1x1024x128, .f32⟩
  | .hbm, ⟨112, _⟩ => ⟨S1x1024x128, .f32⟩
  | .hbm, ⟨113, _⟩ => ⟨S3x1024x128, .f32⟩
  | .hbm, ⟨114, _⟩ => ⟨S_, .f32⟩
  | .hbm, ⟨115, _⟩ => ⟨S_, .f32⟩
  | .hbm, ⟨116, _⟩ => ⟨S_, .f32⟩
  | .hbm, ⟨117, _⟩ => ⟨S_, .f32⟩
  | .hbm, ⟨118, _⟩ => ⟨S1, .f32⟩
  | .hbm, ⟨119, _⟩ => ⟨S1x256, .f32⟩
  | .hbm, ⟨120, _⟩ => ⟨S16384x2048, .bf16⟩
  | .local _ .vmem, ⟨0, _⟩ => ⟨S4x128, .f32⟩
  | .local _ .vmem, ⟨1, _⟩ => ⟨S1x256, .f32⟩
  | .local _ .vmem, ⟨2, _⟩ => ⟨S3x1024x128, .f32⟩
  | .local _ .vmem, ⟨3, _⟩ => ⟨S1024x128, .bf16⟩
  | .local _ .vmem, ⟨4, _⟩ => ⟨S1024x256, .bf16⟩
  | .local _ .vmem, ⟨5, _⟩ => ⟨S1024x256, .bf16⟩
  | .local _ .vmem, ⟨6, _⟩ => ⟨S1024x256, .bf16⟩
  | .local _ .vmem, ⟨7, _⟩ => ⟨S1024x256, .bf16⟩
  | .local _ .vmem, ⟨8, _⟩ => ⟨S1024x256, .bf16⟩
  | .local _ .vmem, ⟨9, _⟩ => ⟨S1024x256, .bf16⟩
  | .local _ .vmem, ⟨10, _⟩ => ⟨S1024x256, .bf16⟩
  | .local _ .vmem, ⟨11, _⟩ => ⟨S1024x256, .bf16⟩
  | .local _ .vmem, ⟨12, _⟩ => ⟨S2x1024x128, .f32⟩
  | .local _ .vmem, ⟨13, _⟩ => ⟨S2x1024x128, .f32⟩
  | .local _ .vmem, ⟨14, _⟩ => ⟨S2x1024x256, .f32⟩
  | .local _ .vmem, ⟨15, _⟩ => ⟨S1024x1024, .f32⟩
  | .local _ .smem, ⟨0, _⟩ => ⟨S8, .f32⟩
  | .local _ .smem, ⟨1, _⟩ => ⟨S1, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_v8 : Ref sig .tc := ⟨.hbm, 17, rfl⟩
abbrev main_v9 : Ref sig .tc := ⟨.hbm, 18, rfl⟩
abbrev main_c_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_3 : Ref sig .tc := ⟨.hbm, 23, rfl⟩
abbrev main_v13 : Ref sig .tc := ⟨.hbm, 24, rfl⟩
abbrev main_v14 : Ref sig .tc := ⟨.hbm, 25, rfl⟩
abbrev main_c_4 : Ref sig .tc := ⟨.hbm, 26, rfl⟩
abbrev main_c_5 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_call1_v0 : Ref sig .tc := ⟨.hbm, 31, rfl⟩
abbrev main_v16 : Ref sig .tc := ⟨.hbm, 32, rfl⟩
abbrev main_v17 : Ref sig .tc := ⟨.hbm, 33, rfl⟩
abbrev main_c_6 : Ref sig .tc := ⟨.hbm, 34, rfl⟩
abbrev main_v18 : Ref sig .tc := ⟨.hbm, 35, rfl⟩
abbrev main_v19 : Ref sig .tc := ⟨.hbm, 36, rfl⟩
abbrev main_c_7 : Ref sig .tc := ⟨.hbm, 37, rfl⟩
abbrev main_c_8 : Ref sig .tc := ⟨.hbm, 38, rfl⟩
abbrev main_call3_v0 : Ref sig .tc := ⟨.hbm, 39, rfl⟩
abbrev main_call3_v1 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_c_9 : Ref sig .tc := ⟨.hbm, 46, rfl⟩
abbrev main_v25 : Ref sig .tc := ⟨.hbm, 47, rfl⟩
abbrev main_v26 : Ref sig .tc := ⟨.hbm, 48, rfl⟩
abbrev main_c_10 : Ref sig .tc := ⟨.hbm, 49, rfl⟩
abbrev main_v27 : Ref sig .tc := ⟨.hbm, 50, rfl⟩
abbrev main_v28 : Ref sig .tc := ⟨.hbm, 51, rfl⟩
abbrev main_c_11 : Ref sig .tc := ⟨.hbm, 52, rfl⟩
abbrev main_v29 : Ref sig .tc := ⟨.hbm, 53, rfl⟩
abbrev main_v30 : Ref sig .tc := ⟨.hbm, 54, rfl⟩
abbrev main_c_12 : Ref sig .tc := ⟨.hbm, 55, rfl⟩
abbrev main_v31 : Ref sig .tc := ⟨.hbm, 56, rfl⟩
abbrev main_v32 : Ref sig .tc := ⟨.hbm, 57, rfl⟩
abbrev main_c_13 : Ref sig .tc := ⟨.hbm, 58, rfl⟩
abbrev main_v33 : Ref sig .tc := ⟨.hbm, 59, rfl⟩
abbrev main_v34 : Ref sig .tc := ⟨.hbm, 60, rfl⟩
abbrev main_c_14 : Ref sig .tc := ⟨.hbm, 61, rfl⟩
abbrev main_c_15 : Ref sig .tc := ⟨.hbm, 62, rfl⟩
abbrev main_call4_v0 : Ref sig .tc := ⟨.hbm, 63, rfl⟩
abbrev main_call4_v1 : Ref sig .tc := ⟨.hbm, 64, rfl⟩
abbrev main_v35 : Ref sig .tc := ⟨.hbm, 65, rfl⟩
abbrev main_call5_v0 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_c_16 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_17 : Ref sig .tc := ⟨.hbm, 85, rfl⟩
abbrev main_call7_v0 : Ref sig .tc := ⟨.hbm, 86, rfl⟩
abbrev main_call7_v1 : Ref sig .tc := ⟨.hbm, 87, rfl⟩
abbrev main_call7_v2 : Ref sig .tc := ⟨.hbm, 88, rfl⟩
abbrev main_v53 : Ref sig .tc := ⟨.hbm, 89, rfl⟩
abbrev main_cst_18 : Ref sig .tc := ⟨.hbm, 90, rfl⟩
abbrev main_v54 : Ref sig .tc := ⟨.hbm, 91, rfl⟩
abbrev main_v55 : Ref sig .tc := ⟨.hbm, 92, rfl⟩
abbrev main_c_19 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_cst_20 : Ref sig .tc := ⟨.hbm, 97, rfl⟩
abbrev main_call8_v0 : Ref sig .tc := ⟨.hbm, 98, rfl⟩
abbrev main_call8_v1 : Ref sig .tc := ⟨.hbm, 99, rfl⟩
abbrev main_call8_v2 : Ref sig .tc := ⟨.hbm, 100, rfl⟩
abbrev main_v59 : Ref sig .tc := ⟨.hbm, 101, rfl⟩
abbrev main_v60 : Ref sig .tc := ⟨.hbm, 102, rfl⟩
abbrev main_c_21 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_cst_22 : Ref sig .tc := ⟨.hbm, 107, rfl⟩
abbrev main_call9_v0 : Ref sig .tc := ⟨.hbm, 108, rfl⟩
abbrev main_call9_v1 : Ref sig .tc := ⟨.hbm, 109, rfl⟩
abbrev main_call9_v2 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_cst_23 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg5_0 : Ref sig .tc := ⟨.vmem, 3, rfl⟩
abbrev cc0_stg6_0 : Ref sig .tc := ⟨.vmem, 4, rfl⟩
abbrev cc0_stg6_1 : Ref sig .tc := ⟨.vmem, 5, rfl⟩
abbrev cc0_stg7_0 : Ref sig .tc := ⟨.vmem, 6, rfl⟩
abbrev cc0_stg7_1 : Ref sig .tc := ⟨.vmem, 7, rfl⟩
abbrev cc0_stg8_0 : Ref sig .tc := ⟨.vmem, 8, rfl⟩
abbrev cc0_stg8_1 : Ref sig .tc := ⟨.vmem, 9, rfl⟩
abbrev cc0_stg9_0 : Ref sig .tc := ⟨.vmem, 10, rfl⟩
abbrev cc0_stg9_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem6_1 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨4, ![2, 8, 8, 8], ![false, false, false, false]⟩

def k0_off1 (i : grid0.Coords) : Fin 1 → Nat :=
  let arg1 : BitVec 32 := BitVec.ofNat 32 (i 1).val
  let v3 : Index := Scalar.indexCast arg1
  ![v3.toNat]
def k0_cond5 (i : grid0.Coords) : BitVec 1 :=
  let arg3 : BitVec 32 := BitVec.ofNat 32 (i 3).val
  let c7_i32 : BitVec 32 := 7#32
  let v11 : BitVec 1 := Scalar.cmpi .eq arg3 c7_i32
  let v12 : BitVec 32 := Scalar.extui v11
  let c0_i32_3 : BitVec 32 := 0#32
  let v13 : BitVec 1 := Scalar.cmpi .ne v12 c0_i32_3
  v13

def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c8_i32 : BitVec 32 := 8#32
  let v0 : BitVec 32 := Scalar.muli arg0 c8_i32
  let v1 : BitVec 32 := Scalar.addi v0 arg3
  let c8_i32_0 : BitVec 32 := 8#32
  let v2 : BitVec 32 := Scalar.addi c8_i32_0 arg1
  let c0_i32 : BitVec 32 := 0#32
  ![v1.toNat, v2.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c8_i32 : BitVec 32 := 8#32
  let v0 : BitVec 32 := Scalar.muli arg0 c8_i32
  let v1 : BitVec 32 := Scalar.addi v0 arg3
  let c0_i32 : BitVec 32 := 0#32
  ![v1.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false, false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false, false]

abbrev stage0_2 : Fin 1 → Memref sig .tc .vmem S4x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false, false]

abbrev stage0_4 : Fin 1 → Memref sig .tc .vmem S3x1024x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false, false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false, false]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true, false]

abbrev stage0_7 : Fin 2 → Memref sig .tc .vmem S1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false, true]

abbrev stage0_8 : Fin 2 → Memref sig .tc .vmem S1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false, true]

abbrev stage0_9 : Fin 2 → Memref sig .tc .vmem S1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true, false]
-- ==== ReferenceIdeal.lean ====
abbrev S16384x4096 : Shape := ⟨2, ![16384, 4096]⟩
abbrev S16384x2048 : Shape := ⟨2, ![16384, 2048]⟩
abbrev S4x128 : Shape := ⟨2, ![4, 128]⟩
abbrev S256 : Shape := ⟨1, ![256]⟩
abbrev S1 : Shape := ⟨1, ![1]⟩
abbrev S2x8192x8x2x128 : Shape := ⟨5, ![2, 8192, 8, 2, 128]⟩
abbrev S2x8192x8x256 : Shape := ⟨4, ![2, 8192, 8, 256]⟩
abbrev S1x128 : Shape := ⟨2, ![1, 128]⟩
abbrev S128 : Shape := ⟨1, ![128]⟩
abbrev S_ : Shape := ⟨0, ![]⟩
abbrev S8 : Shape := ⟨1, ![8]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S8x1x1 : Shape := ⟨3, ![8, 1, 1]⟩
abbrev S1x8192x8192 : Shape := ⟨3, ![1, 8192, 8192]⟩
abbrev S8x8192x8192 : Shape := ⟨3, ![8, 8192, 8192]⟩
abbrev S2x8x2x8192x8192 : Shape := ⟨5, ![2, 8, 2, 8192, 8192]⟩
abbrev S1x8x1x8192x8192 : Shape := ⟨5, ![1, 8, 1, 8192, 8192]⟩
abbrev S2x8x2x8192 : Shape := ⟨4, ![2, 8, 2, 8192]⟩
abbrev S2x8x2x8192x1 : Shape := ⟨5, ![2, 8, 2, 8192, 1]⟩
abbrev S2x8x1x8192x8192 : Shape := ⟨5, ![2, 8, 1, 8192, 8192]⟩
abbrev S2x8x8192x8192 : Shape := ⟨4, ![2, 8, 8192, 8192]⟩
abbrev S2x8x256x8192 : Shape := ⟨4, ![2, 8, 256, 8192]⟩
abbrev S2x8192x8 : Shape := ⟨3, ![2, 8192, 8]⟩
abbrev S2x8192x8x1 : Shape := ⟨4, ![2, 8192, 8, 1]⟩
abbrev S1x1x1x256 : Shape := ⟨4, ![1, 1, 1, 256]⟩

abbrev nBuf : Space → Nat
  | .hbm => 108
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S16384x2048, .bf16⟩
  | .hbm, ⟨2, _⟩ => ⟨S4x128, .f32⟩
  | .hbm, ⟨3, _⟩ => ⟨S256, .f32⟩
  | .hbm, ⟨4, _⟩ => ⟨S1, .f32⟩
  | .hbm, ⟨5, _⟩ => ⟨S16384x2048, .bf16⟩
  | .hbm, ⟨6, _⟩ => ⟨S16384x2048, .f32⟩
  | .hbm, ⟨7, _⟩ => ⟨S2x8192x8x2x128, .f32⟩
  | .hbm, ⟨8, _⟩ => ⟨S16384x2048, .bf16⟩
  | .hbm, ⟨9, _⟩ => ⟨S16384x2048, .f32⟩
  | .hbm, ⟨10, _⟩ => ⟨S2x8192x8x2x128, .f32⟩
  | .hbm, ⟨11, _⟩ => ⟨S16384x2048, .f32⟩
  | .hbm, ⟨12, _⟩ => ⟨S2x8192x8x256, .f32⟩
  | .hbm, ⟨13, _⟩ => ⟨S1x128, .f32⟩
  | .hbm, ⟨14, _⟩ => ⟨S128, .f32⟩
  | .hbm, ⟨15, _⟩ => ⟨S1x128, .f32⟩
  | .hbm, ⟨16, _⟩ => ⟨S128, .f32⟩
  | .hbm, ⟨17, _⟩ => ⟨S128, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S1x128, .f32⟩
  | .hbm, ⟨22, _⟩ => ⟨S128, .f32⟩
  | .hbm, ⟨23, _⟩ => ⟨S1x128, .f32⟩
  | .hbm, ⟨24, _⟩ => ⟨S128, .f32⟩
  | .hbm, ⟨25, _⟩ => ⟨S128, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S8, .f32⟩
  | .hbm, ⟨33, _⟩ => ⟨S_, .f32⟩
  | .hbm, ⟨34, _⟩ => ⟨S8, .f32⟩
  | .hbm, ⟨35, _⟩ => ⟨S8, .f32⟩
  | .hbm, ⟨36, _⟩ => ⟨S_, .f32⟩
  | .hbm, ⟨37, _⟩ => ⟨S8, .f32⟩
  | .hbm, ⟨38, _⟩ => ⟨S8, .f32⟩
  | .hbm, ⟨39, _⟩ => ⟨S_, .f32⟩
  | .hbm, ⟨40, _⟩ => ⟨S8, .f32⟩
  | .hbm, ⟨41, _⟩ => ⟨S8, .f32⟩
  | .hbm, ⟨42, _⟩ => ⟨S_, .f32⟩
  | .hbm, ⟨43, _⟩ => ⟨S8, .f32⟩
  | .hbm, ⟨44, _⟩ => ⟨S8, .f32⟩
  | .hbm, ⟨45, _⟩ => ⟨S8192, .i32⟩
  | .hbm, ⟨46, _⟩ => ⟨S8192, .i32⟩
  | .hbm, ⟨47, _⟩ => ⟨S8192x1, .i32⟩
  | .hbm, ⟨48, _⟩ => ⟨S1x8192, .i32⟩
  | .hbm, ⟨49, _⟩ => ⟨S8192x8192, .i32⟩
  | .hbm, ⟨50, _⟩ => ⟨S8192x8192, .i32⟩
  | .hbm, ⟨51, _⟩ => ⟨S8192x8192, .i32⟩
  | .hbm, ⟨52, _⟩ => ⟨S8192x8192, .i32⟩
  | .hbm, ⟨53, _⟩ => ⟨S8192x8192, .f32⟩
  | .hbm, ⟨54, _⟩ => ⟨S8x1x1, .f32⟩
  | .hbm, ⟨55, _⟩ => ⟨S8x1x1, .f32⟩
  | .hbm, ⟨56, _⟩ => ⟨S1x8192x8192, .f32⟩
  | .hbm, ⟨57, _⟩ => ⟨S8x8192x8192, .f32⟩
  | .hbm, ⟨58, _⟩ => ⟨S8x8192x8192, .f32⟩
  | .hbm, ⟨59, _⟩ => ⟨S8x8192x8192, .f32⟩
  | .hbm, ⟨60, _⟩ => ⟨S2x8x2x8192x8192, .f32⟩
  | .hbm, ⟨61, _⟩ => ⟨S1x8x1x8192x8192, .f32⟩
  | .hbm, ⟨62, _⟩ => ⟨S2x8x2x8192x8192, .f32⟩
  | .hbm, ⟨63, _⟩ => ⟨S2x8x2x8192x8192, .f32⟩
  | .hbm, ⟨64, _⟩ => ⟨S_, .f32⟩
  | .hbm, ⟨65, _⟩ => ⟨S2x8x2x8192, .f32⟩
  | .hbm, ⟨66, _⟩ => ⟨S_, .f32⟩
  | .hbm, ⟨67, _⟩ => ⟨S2x8x2x8192, .f32⟩
  | .hbm, ⟨68, _⟩ => ⟨S2x8x2x8192, .f32⟩
  | .hbm, ⟨69, _⟩ => ⟨S2x8x2x8192x1, .f32⟩
  | .hbm, ⟨70, _⟩ => ⟨S2x8x2x8192x8192, .f32⟩
  | .hbm, ⟨71, _⟩ => ⟨S2x8x2x8192x8192, .f32⟩
  | .hbm, ⟨72, _⟩ => ⟨S2x8x2x8192x8192, .f32⟩
  | .hbm, ⟨73, _⟩ => ⟨S_, .f32⟩
  | .hbm, ⟨74, _⟩ => ⟨S2x8x2x8192, .f32⟩
  | .hbm, ⟨75, _⟩ => ⟨S2x8x2x8192x1, .f32⟩
  | .hbm, ⟨76, _⟩ => ⟨S2x8x2x8192x8192, .f32⟩
  | .hbm, ⟨77, _⟩ => ⟨S2x8x2x8192x8192, .f32⟩
  | .hbm, ⟨78, _⟩ => ⟨S2x8x1x8192x8192, .f32⟩
  | .hbm, ⟨79, _⟩ => ⟨S2x8x8192x8192, .f32⟩
  | .hbm, ⟨80, _⟩ => ⟨S2x8x1x8192x8192, .f32⟩
  | .hbm, ⟨81, _⟩ => ⟨S2x8x8192x8192, .f32⟩
  | .hbm, ⟨82, _⟩ => ⟨S2x8x8192x8192, .f32⟩
  | .hbm, ⟨83, _⟩ => ⟨S2x8x8192x8192, .f32⟩
  | .hbm, ⟨84, _⟩ => ⟨S2x8x8192x8192, .f32⟩
  | .hbm, ⟨85, _⟩ => ⟨S2x8x256x8192, .f32⟩
  | .hbm, ⟨86, _⟩ => ⟨S2x8192x8x256, .f32⟩
  | .hbm, ⟨87, _⟩ => ⟨S2x8192x8x256, .f32⟩
  | .hbm, ⟨88, _⟩ => ⟨S_, .f32⟩
  | .hbm, ⟨89, _⟩ => ⟨S2x8192x8, .f32⟩
  | .hbm, ⟨90, _⟩ => ⟨S2x8192x8x1, .f32⟩
  | .hbm, ⟨91, _⟩ => ⟨S_, .f32⟩
  | .hbm, ⟨92, _⟩ => ⟨S2x8192x8x1, .f32⟩
  | .hbm, ⟨93, _⟩ => ⟨S2x8192x8x1, .f32⟩
  | .hbm, ⟨94, _⟩ => ⟨S_, .f32⟩
  | .hbm, ⟨95, _⟩ => ⟨S2x8192x8x1, .f32⟩
  | .hbm, ⟨96, _⟩ => ⟨S2x8192x8x1, .f32⟩
  | .hbm, ⟨97, _⟩ => ⟨S2x8192x8x1, .f32⟩
  | .hbm, ⟨98, _⟩ => ⟨S2x8192x8x256, .f32⟩
  | .hbm, ⟨99, _⟩ => ⟨S2x8192x8x256, .f32⟩
  | .hbm, ⟨100, _⟩ => ⟨S1x1x1x256, .f32⟩
  | .hbm, ⟨101, _⟩ => ⟨S2x8192x8x256, .f32⟩
  | .hbm, ⟨102, _⟩ => ⟨S2x8192x8x256, .f32⟩
  | .hbm, ⟨103, _⟩ => ⟨S_, .f32⟩
  | .hbm, ⟨104, _⟩ => ⟨S2x8192x8x256, .f32⟩
  | .hbm, ⟨105, _⟩ => ⟨S2x8192x8x256, .f32⟩
  | .hbm, ⟨106, _⟩ => ⟨S16384x2048, .f32⟩
  | .hbm, ⟨107, _⟩ => ⟨S16384x2048, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_0 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_1 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_cst_6 : Ref sig .tc := ⟨.hbm, 64, rfl⟩
abbrev main_v52 : Ref sig .tc := ⟨.hbm, 65, rfl⟩
abbrev main_cst_7 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_cst_8 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_cst_9 : Ref sig .tc := ⟨.hbm, 88, rfl⟩
abbrev main_v73 : Ref sig .tc := ⟨.hbm, 89, rfl⟩
abbrev main_v74 : Ref sig .tc := ⟨.hbm, 90, rfl⟩
abbrev main_cst_10 : Ref sig .tc := ⟨.hbm, 91, rfl⟩
abbrev main_v75 : Ref sig .tc := ⟨.hbm, 92, rfl⟩
abbrev main_v76 : Ref sig .tc := ⟨.hbm, 93, rfl⟩
abbrev main_cst_11 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_cst_12 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩

abbrev nD : Nat := 1
abbrev τ : Topo := Topo.v7x

variable {F : FTy → Type} [FloatOps F]
-- ==== Qk.lean ====
abbrev S16384x2048 : Shape := ⟨2, ![16384, 2048]⟩
abbrev S2048x11264 : Shape := ⟨2, ![2048, 11264]⟩
abbrev S1x4096 : Shape := ⟨2, ![1, 4096]⟩
abbrev S16384x4096 : Shape := ⟨2, ![16384, 4096]⟩
abbrev S1024x2048 : Shape := ⟨2, ![1024, 2048]⟩
abbrev S2048x1024 : Shape := ⟨2, ![2048, 1024]⟩
abbrev S1x1024 : Shape := ⟨2, ![1, 1024]⟩
abbrev S1024x1024 : Shape := ⟨2, ![1024, 1024]⟩
abbrev S1024x128 : Shape := ⟨2, ![1024, 128]⟩
abbrev S1024 : Shape := ⟨1, ![1024]⟩
abbrev S1024x1 : Shape := ⟨2, ![1024, 1]⟩
abbrev S1x128 : Shape := ⟨2, ![1, 128]⟩

abbrev nBuf : Space → Nat
  | .hbm => 4
  | .vmem => 9
  | .smem => 0
  | _ => 0

abbrev bufTy : (tb : Table) → Fin (tcTables nBuf tb) → BufTy
  | .hbm, ⟨0, _⟩ => ⟨S16384x2048, .bf16⟩
  | .hbm, ⟨1, _⟩ => ⟨S2048x11264, .f32⟩
  | .hbm, ⟨2, _⟩ => ⟨S1x4096, .f32⟩
  | .hbm, ⟨3, _⟩ => ⟨S16384x4096, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .f32⟩
  | .local _ .vmem, ⟨3, _⟩ => ⟨S2048x1024, .f32⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | .local _ .vmem, ⟨8, _⟩ => ⟨S2048x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== QkRefIdeal.lean ====
abbrev S16384x2048 : Shape := ⟨2, ![16384, 2048]⟩
abbrev S2048x11264 : Shape := ⟨2, ![2048, 11264]⟩
abbrev S1x4096 : Shape := ⟨2, ![1, 4096]⟩
abbrev S2048x4096 : Shape := ⟨2, ![2048, 4096]⟩
abbrev S16384x4096 : Shape := ⟨2, ![16384, 4096]⟩
abbrev S16384x32x128 : Shape := ⟨3, ![16384, 32, 128]⟩
abbrev S_ : Shape := ⟨0, ![]⟩
abbrev S16384x32 : Shape := ⟨2, ![16384, 32]⟩
abbrev S16384x32x1 : Shape := ⟨3, ![16384, 32, 1]⟩
abbrev S32x128 : Shape := ⟨2, ![32, 128]⟩
abbrev S1x32x128 : Shape := ⟨3, ![1, 32, 128]⟩

abbrev nBuf : Space → Nat
  | .hbm => 26
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x11264, .f32⟩
  | .hbm, ⟨2, _⟩ => ⟨S1x4096, .f32⟩
  | .hbm, ⟨3, _⟩ => ⟨S16384x2048, .f32⟩
  | .hbm, ⟨4, _⟩ => ⟨S2048x4096, .f32⟩
  | .hbm, ⟨5, _⟩ => ⟨S16384x4096, .f32⟩
  | .hbm, ⟨6, _⟩ => ⟨S16384x32x128, .f32⟩
  | .hbm, ⟨7, _⟩ => ⟨S16384x32x128, .f32⟩
  | .hbm, ⟨8, _⟩ => ⟨S_, .f32⟩
  | .hbm, ⟨9, _⟩ => ⟨S16384x32, .f32⟩
  | .hbm, ⟨10, _⟩ => ⟨S16384x32x1, .f32⟩
  | .hbm, ⟨11, _⟩ => ⟨S_, .f32⟩
  | .hbm, ⟨12, _⟩ => ⟨S16384x32x1, .f32⟩
  | .hbm, ⟨13, _⟩ => ⟨S16384x32x1, .f32⟩
  | .hbm, ⟨14, _⟩ => ⟨S_, .f32⟩
  | .hbm, ⟨15, _⟩ => ⟨S16384x32x1, .f32⟩
  | .hbm, ⟨16, _⟩ => ⟨S16384x32x1, .f32⟩
  | .hbm, ⟨17, _⟩ => ⟨S16384x32x1, .f32⟩
  | .hbm, ⟨18, _⟩ => ⟨S16384x32x128, .f32⟩
  | .hbm, ⟨19, _⟩ => ⟨S16384x32x128, .f32⟩
  | .hbm, ⟨20, _⟩ => ⟨S32x128, .f32⟩
  | .hbm, ⟨21, _⟩ => ⟨S1x32x128, .f32⟩
  | .hbm, ⟨22, _⟩ => ⟨S16384x32x128, .f32⟩
  | .hbm, ⟨23, _⟩ => ⟨S16384x32x128, .f32⟩
  | .hbm, ⟨24, _⟩ => ⟨S16384x4096, .f32⟩
  | .hbm, ⟨25, _⟩ => ⟨S16384x4096, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== Gates.lean ====
abbrev S16384x2048 : Shape := ⟨2, ![16384, 2048]⟩
abbrev S2048x11264 : Shape := ⟨2, ![2048, 11264]⟩
abbrev S_ : Shape := ⟨0, ![]⟩
abbrev S1x4096 : Shape := ⟨2, ![1, 4096]⟩
abbrev S16384x4096 : Shape := ⟨2, ![16384, 4096]⟩
abbrev S1024x2048 : Shape := ⟨2, ![1024, 2048]⟩
abbrev S2048x1024 : Shape := ⟨2, ![2048, 1024]⟩
abbrev S1x1024 : Shape := ⟨2, ![1, 1024]⟩
abbrev S1024x1024 : Shape := ⟨2, ![1024, 1024]⟩

abbrev nBuf : Space → Nat
  | .hbm => 5
  | .vmem => 9
  | .smem => 0
  | _ => 0

abbrev bufTy : (tb : Table) → Fin (tcTables nBuf tb) → BufTy
  | .hbm, ⟨0, _⟩ => ⟨S16384x2048, .bf16⟩
  | .hbm, ⟨1, _⟩ => ⟨S2048x11264, .f32⟩
  | .hbm, ⟨2, _⟩ => ⟨S_, .f32⟩
  | .hbm, ⟨3, _⟩ => ⟨S1x4096, .f32⟩
  | .hbm, ⟨4, _⟩ => ⟨S16384x4096, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .f32⟩
  | .local _ .vmem, ⟨3, _⟩ => ⟨S2048x1024, .f32⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | .local _ .vmem, ⟨8, _⟩ => ⟨S2048x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.addi c7_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GatesRefIdeal.lean ====
abbrev S16384x2048 : Shape := ⟨2, ![16384, 2048]⟩
abbrev S2048x11264 : Shape := ⟨2, ![2048, 11264]⟩
abbrev S2048x4096 : Shape := ⟨2, ![2048, 4096]⟩
abbrev S16384x4096 : Shape := ⟨2, ![16384, 4096]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x11264, .f32⟩
  | .hbm, ⟨2, _⟩ => ⟨S16384x2048, .f32⟩
  | .hbm, ⟨3, _⟩ => ⟨S2048x4096, .f32⟩
  | .hbm, ⟨4, _⟩ => ⟨S16384x4096, .f32⟩
  | .hbm, ⟨5, _⟩ => ⟨S16384x4096, .f32⟩
  | .hbm, ⟨6, _⟩ => ⟨S16384x4096, .f32⟩
  | .hbm, ⟨7, _⟩ => ⟨S_, .f32⟩
  | .hbm, ⟨8, _⟩ => ⟨S16384x4096, .f32⟩
  | .hbm, ⟨9, _⟩ => ⟨S16384x4096, .f32⟩
  | .hbm, ⟨10, _⟩ => ⟨S_, .f32⟩
  | .hbm, ⟨11, _⟩ => ⟨S16384x4096, .f32⟩
  | .hbm, ⟨12, _⟩ => ⟨S16384x4096, .f32⟩
  | .hbm, ⟨13, _⟩ => ⟨S16384x4096, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Values.lean ====
abbrev S16384x2048 : Shape := ⟨2, ![16384, 2048]⟩
abbrev S2048x11264 : Shape := ⟨2, ![2048, 11264]⟩
abbrev S_ : Shape := ⟨0, ![]⟩
abbrev S1x2048 : Shape := ⟨2, ![1, 2048]⟩
abbrev S1024x2048 : Shape := ⟨2, ![1024, 2048]⟩
abbrev S2048x1024 : Shape := ⟨2, ![2048, 1024]⟩
abbrev S1x1024 : Shape := ⟨2, ![1, 1024]⟩
abbrev S1024x1024 : Shape := ⟨2, ![1024, 1024]⟩

abbrev nBuf : Space → Nat
  | .hbm => 5
  | .vmem => 9
  | .smem => 0
  | _ => 0

abbrev bufTy : (tb : Table) → Fin (tcTables nBuf tb) → BufTy
  | .hbm, ⟨0, _⟩ => ⟨S16384x2048, .bf16⟩
  | .hbm, ⟨1, _⟩ => ⟨S2048x11264, .f32⟩
  | .hbm, ⟨2, _⟩ => ⟨S_, .f32⟩
  | .hbm, ⟨3, _⟩ => ⟨S1x2048, .f32⟩
  | .hbm, ⟨4, _⟩ => ⟨S16384x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .f32⟩
  | .local _ .vmem, ⟨3, _⟩ => ⟨S2048x1024, .f32⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | .local _ .vmem, ⟨8, _⟩ => ⟨S2048x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.addi c5_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ValuesRefIdeal.lean ====
abbrev S16384x2048 : Shape := ⟨2, ![16384, 2048]⟩
abbrev S2048x11264 : Shape := ⟨2, ![2048, 11264]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x11264, .f32⟩
  | .hbm, ⟨2, _⟩ => ⟨S16384x2048, .f32⟩
  | .hbm, ⟨3, _⟩ => ⟨S2048x2048, .f32⟩
  | .hbm, ⟨4, _⟩ => ⟨S16384x2048, .f32⟩
  | .hbm, ⟨5, _⟩ => ⟨S16384x2048, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Channels.lean ====
abbrev S16384x2048 : Shape := ⟨2, ![16384, 2048]⟩
abbrev S2048x11264 : Shape := ⟨2, ![2048, 11264]⟩
abbrev S_ : Shape := ⟨0, ![]⟩
abbrev S1x1024 : Shape := ⟨2, ![1, 1024]⟩
abbrev S16384x1024 : Shape := ⟨2, ![16384, 1024]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16384x2048, .bf16⟩
  | .hbm, ⟨1, _⟩ => ⟨S2048x11264, .f32⟩
  | .hbm, ⟨2, _⟩ => ⟨S_, .f32⟩
  | .hbm, ⟨3, _⟩ => ⟨S1x1024, .f32⟩
  | .hbm, ⟨4, _⟩ => ⟨S16384x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .f32⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | .local _ .vmem, ⟨6, _⟩ => ⟨S2048x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ChannelsRefIdeal.lean ====
abbrev S16384x2048 : Shape := ⟨2, ![16384, 2048]⟩
abbrev S2048x11264 : Shape := ⟨2, ![2048, 11264]⟩
abbrev S2048x1024 : Shape := ⟨2, ![2048, 1024]⟩
abbrev S16384x1024 : Shape := ⟨2, ![16384, 1024]⟩

abbrev nBuf : Space → Nat
  | .hbm => 5
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x11264, .f32⟩
  | .hbm, ⟨2, _⟩ => ⟨S16384x2048, .f32⟩
  | .hbm, ⟨3, _⟩ => ⟨S2048x1024, .f32⟩
  | .hbm, ⟨4, _⟩ => ⟨S16384x1024, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Merge.lean ====
abbrev S16384x1024 : Shape := ⟨2, ![16384, 1024]⟩
abbrev S16384x2048 : Shape := ⟨2, ![16384, 2048]⟩
abbrev S16384x4096 : Shape := ⟨2, ![16384, 4096]⟩
abbrev S1024x2048 : Shape := ⟨2, ![1024, 2048]⟩
abbrev S2048x2048 : Shape := ⟨2, ![2048, 2048]⟩
abbrev S512x1024 : Shape := ⟨2, ![512, 1024]⟩
abbrev S512x2048 : Shape := ⟨2, ![512, 2048]⟩

abbrev nBuf : Space → Nat
  | .hbm => 6
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S16384x2048, .bf16⟩
  | .hbm, ⟨2, _⟩ => ⟨S16384x4096, .bf16⟩
  | .hbm, ⟨3, _⟩ => ⟨S1024x2048, .bf16⟩
  | .hbm, ⟨4, _⟩ => ⟨S2048x2048, .bf16⟩
  | .hbm, ⟨5, _⟩ => ⟨S16384x2048, .bf16⟩
  | .local _ .vmem, ⟨0, _⟩ => ⟨S512x1024, .f32⟩
  | .local _ .vmem, ⟨1, _⟩ => ⟨S512x1024, .f32⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S1024x2048, .bf16⟩
  | .local _ .vmem, ⟨9, _⟩ => ⟨S2048x2048, .bf16⟩
  | .local _ .vmem, ⟨10, _⟩ => ⟨S512x2048, .bf16⟩
  | .local _ .vmem, ⟨11, _⟩ => ⟨S512x2048, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MergeRefIdeal.lean ====
abbrev S16384x1024 : Shape := ⟨2, ![16384, 1024]⟩
abbrev S16384x2048 : Shape := ⟨2, ![16384, 2048]⟩
abbrev S16384x4096 : Shape := ⟨2, ![16384, 4096]⟩
abbrev S1024x2048 : Shape := ⟨2, ![1024, 2048]⟩
abbrev S2048x2048 : Shape := ⟨2, ![2048, 2048]⟩

abbrev nBuf : Space → Nat
  | .hbm => 17
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x2048, .bf16⟩
  | .hbm, ⟨2, _⟩ => ⟨S16384x4096, .bf16⟩
  | .hbm, ⟨3, _⟩ => ⟨S1024x2048, .bf16⟩
  | .hbm, ⟨4, _⟩ => ⟨S2048x2048, .bf16⟩
  | .hbm, ⟨5, _⟩ => ⟨S1024x2048, .f32⟩
  | .hbm, ⟨6, _⟩ => ⟨S16384x2048, .f32⟩
  | .hbm, ⟨7, _⟩ => ⟨S16384x2048, .f32⟩
  | .hbm, ⟨8, _⟩ => ⟨S2048x2048, .f32⟩
  | .hbm, ⟨9, _⟩ => ⟨S16384x2048, .f32⟩
  | .hbm, ⟨10, _⟩ => ⟨S16384x4096, .f32⟩
  | .hbm, ⟨11, _⟩ => ⟨S16384x2048, .f32⟩
  | .hbm, ⟨12, _⟩ => ⟨S16384x2048, .f32⟩
  | .hbm, ⟨13, _⟩ => ⟨S16384x2048, .f32⟩
  | .hbm, ⟨14, _⟩ => ⟨S16384x2048, .f32⟩
  | .hbm, ⟨15, _⟩ => ⟨S16384x2048, .f32⟩
  | .hbm, ⟨16, _⟩ => ⟨S16384x2048, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== Out.lean ====
abbrev S16384x2048 : Shape := ⟨2, ![16384, 2048]⟩
abbrev S2048x2048 : Shape := ⟨2, ![2048, 2048]⟩
abbrev S2048 : Shape := ⟨1, ![2048]⟩
abbrev S1x2048 : Shape := ⟨2, ![1, 2048]⟩
abbrev S2048x16384 : Shape := ⟨2, ![2048, 16384]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩

abbrev nBuf : Space → Nat
  | .hbm => 8
  | .vmem => 12
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .f32⟩
  | .hbm, ⟨2, _⟩ => ⟨S2048x2048, .bf16⟩
  | .hbm, ⟨3, _⟩ => ⟨S2048, .f32⟩
  | .hbm, ⟨4, _⟩ => ⟨S1x2048, .f32⟩
  | .hbm, ⟨5, _⟩ => ⟨S16384x2048, .f32⟩
  | .hbm, ⟨6, _⟩ => ⟨S16384x2048, .bf16⟩
  | .hbm, ⟨7, _⟩ => ⟨S2048x16384, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .f32⟩
  | .local _ .vmem, ⟨3, _⟩ => ⟨S512x2048, .f32⟩
  | .local _ .vmem, ⟨4, _⟩ => ⟨S2048x2048, .bf16⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | .local _ .vmem, ⟨10, _⟩ => ⟨S2048x512, .bf16⟩
  | .local _ .vmem, ⟨11, _⟩ => ⟨S2048x512, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OutRefIdeal.lean ====
abbrev S16384x2048 : Shape := ⟨2, ![16384, 2048]⟩
abbrev S2048x2048 : Shape := ⟨2, ![2048, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S2048x16384 : Shape := ⟨2, ![2048, 16384]⟩

abbrev nBuf : Space → Nat
  | .hbm => 26
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .f32⟩
  | .hbm, ⟨2, _⟩ => ⟨S2048x2048, .bf16⟩
  | .hbm, ⟨3, _⟩ => ⟨S2048, .f32⟩
  | .hbm, ⟨4, _⟩ => ⟨S16384x2048, .f32⟩
  | .hbm, ⟨5, _⟩ => ⟨S2048x2048, .f32⟩
  | .hbm, ⟨6, _⟩ => ⟨S16384x2048, .f32⟩
  | .hbm, ⟨7, _⟩ => ⟨S16384x2048, .f32⟩
  | .hbm, ⟨8, _⟩ => ⟨S16384x2048, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x2048, .f32⟩
  | .hbm, ⟨20, _⟩ => ⟨S16384x2048, .f32⟩
  | .hbm, ⟨21, _⟩ => ⟨S1x2048, .f32⟩
  | .hbm, ⟨22, _⟩ => ⟨S16384x2048, .f32⟩
  | .hbm, ⟨23, _⟩ => ⟨S16384x2048, .f32⟩
  | .hbm, ⟨24, _⟩ => ⟨S16384x2048, .bf16⟩
  | .hbm, ⟨25, _⟩ => ⟨S2048x16384, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Norm.lean ====
abbrev S16384x2048 : Shape := ⟨2, ![16384, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S1x2048, .f32⟩
  | .hbm, ⟨3, _⟩ => ⟨S16384x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S16384x2048 : Shape := ⟨2, ![16384, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S16384x2048, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x2048, .f32⟩
  | .hbm, ⟨14, _⟩ => ⟨S16384x2048, .f32⟩
  | .hbm, ⟨15, _⟩ => ⟨S1x2048, .f32⟩
  | .hbm, ⟨16, _⟩ => ⟨S16384x2048, .f32⟩
  | .hbm, ⟨17, _⟩ => ⟨S16384x2048, .f32⟩
  | .hbm, ⟨18, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Online.lean ====
abbrev S16384x4096 : Shape := ⟨2, ![16384, 4096]⟩
abbrev S16384x2048 : Shape := ⟨2, ![16384, 2048]⟩
abbrev S4x128 : Shape := ⟨2, ![4, 128]⟩
abbrev S256 : Shape := ⟨1, ![256]⟩
abbrev S1 : Shape := ⟨1, ![1]⟩
abbrev S8 : Shape := ⟨1, ![8]⟩
abbrev S_ : Shape := ⟨0, ![]⟩
abbrev S1x1024x128 : Shape := ⟨3, ![1, 1024, 128]⟩
abbrev S2x1024x128 : Shape := ⟨3, ![2, 1024, 128]⟩
abbrev S1024x128 : Shape := ⟨2, ![1024, 128]⟩
abbrev S3x1024x128 : Shape := ⟨3, ![3, 1024, 128]⟩
abbrev S1x256 : Shape := ⟨2, ![1, 256]⟩
abbrev S1024x256 : Shape := ⟨2, ![1024, 256]⟩
abbrev S2x1024x256 : Shape := ⟨3, ![2, 1024, 256]⟩
abbrev S1024x1024 : Shape := ⟨2, ![1024, 1024]⟩
abbrev S1024 : Shape := ⟨1, ![1024]⟩
abbrev S1024x1 : Shape := ⟨2, ![1024, 1]⟩
abbrev S1x1024x256 : Shape := ⟨3, ![1, 1024, 256]⟩
abbrev S1x128 : Shape := ⟨2, ![1, 128]⟩
abbrev S1x1 : Shape := ⟨2, ![1, 1]⟩

abbrev nBuf : Space → Nat
  | .hbm => 123
  | .vmem => 16
  | .smem => 2
  | _ => 0

abbrev bufTy : (tb : Table) → Fin (tcTables nBuf tb) → BufTy
  | .hbm, ⟨0, _⟩ => ⟨S16384x4096, .bf16⟩
  | .hbm, ⟨1, _⟩ => ⟨S16384x2048, .bf16⟩
  | .hbm, ⟨2, _⟩ => ⟨S4x128, .f32⟩
  | .hbm, ⟨3, _⟩ => ⟨S256, .f32⟩
  | .hbm, ⟨4, _⟩ => ⟨S1, .f32⟩
  | .hbm, ⟨5, _⟩ => ⟨S8, .f32⟩
  | .hbm, ⟨6, _⟩ => ⟨S_, .f32⟩
  | .hbm, ⟨7, _⟩ => ⟨S1x1024x128, .i32⟩
  | .hbm, ⟨8, _⟩ => ⟨S1x1024x128, .i32⟩
  | .hbm, ⟨9, _⟩ => ⟨S_, .i32⟩
  | .hbm, ⟨10, _⟩ => ⟨S1x1024x128, .i32⟩
  | .hbm, ⟨11, _⟩ => ⟨S1x1024x128, .i1⟩
  | .hbm, ⟨12, _⟩ => ⟨S_, .i32⟩
  | .hbm, ⟨13, _⟩ => ⟨S1x1024x128, .i32⟩
  | .hbm, ⟨14, _⟩ => ⟨S1x1024x128, .i32⟩
  | .hbm, ⟨15, _⟩ => ⟨S1x1024x128, .i32⟩
  | .hbm, ⟨16, _⟩ => ⟨S_, .i32⟩
  | .hbm, ⟨17, _⟩ => ⟨S1x1024x128, .i32⟩
  | .hbm, ⟨18, _⟩ => ⟨S1x1024x128, .i1⟩
  | .hbm, ⟨19, _⟩ => ⟨S_, .i32⟩
  | .hbm, ⟨20, _⟩ => ⟨S1x1024x128, .i32⟩
  | .hbm, ⟨21, _⟩ => ⟨S1x1024x128, .i32⟩
  | .hbm, ⟨22, _⟩ => ⟨S1x1024x128, .i32⟩
  | .hbm, ⟨23, _⟩ => ⟨S_, .i32⟩
  | .hbm, ⟨24, _⟩ => ⟨S1x1024x128, .i32⟩
  | .hbm, ⟨25, _⟩ => ⟨S1x1024x128, .i1⟩
  | .hbm, ⟨26, _⟩ => ⟨S_, .i32⟩
  | .hbm, ⟨27, _⟩ => ⟨S_, .i32⟩
  | .hbm, ⟨28, _⟩ => ⟨S1x1024x128, .i32⟩
  | .hbm, ⟨29, _⟩ => ⟨S1x1024x128, .i32⟩
  | .hbm, ⟨30, _⟩ => ⟨S1x1024x128, .i32⟩
  | .hbm, ⟨31, _⟩ => ⟨S1x1024x128, .i32⟩
  | .hbm, ⟨32, _⟩ => ⟨S1x1024x128, .i32⟩
  | .hbm, ⟨33, _⟩ => ⟨S1x1024x128, .i32⟩
  | .hbm, ⟨34, _⟩ => ⟨S_, .i32⟩
  | .hbm, ⟨35, _⟩ => ⟨S1x1024x128, .i32⟩
  | .hbm, ⟨36, _⟩ => ⟨S1x1024x128, .i1⟩
  | .hbm, ⟨37, _⟩ => ⟨S_, .i32⟩
  | .hbm, ⟨38, _⟩ => ⟨S_, .i32⟩
  | .hbm, ⟨39, _⟩ => ⟨S1x1024x128, .i32⟩
  | .hbm, ⟨40, _⟩ => ⟨S1x1024x128, .i32⟩
  | .hbm, ⟨41, _⟩ => ⟨S1x1024x128, .i32⟩
  | .hbm, ⟨42, _⟩ => ⟨S1x1024x128, .i32⟩
  | .hbm, ⟨43, _⟩ => ⟨S2x1024x128, .i32⟩
  | .hbm, ⟨44, _⟩ => ⟨S1024x128, .i32⟩
  | .hbm, ⟨45, _⟩ => ⟨S1024x128, .i32⟩
  | .hbm, ⟨46, _⟩ => ⟨S_, .i32⟩
  | .hbm, ⟨47, _⟩ => ⟨S1024x128, .i32⟩
  | .hbm, ⟨48, _⟩ => ⟨S1024x128, .i1⟩
  | .hbm, ⟨49, _⟩ => ⟨S_, .i32⟩
  | .hbm, ⟨50, _⟩ => ⟨S1024x128, .i32⟩
  | .hbm, ⟨51, _⟩ => ⟨S1024x128, .i32⟩
  | .hbm, ⟨52, _⟩ => ⟨S_, .i32⟩
  | .hbm, ⟨53, _⟩ => ⟨S1024x128, .i32⟩
  | .hbm, ⟨54, _⟩ => ⟨S1024x128, .i1⟩
  | .hbm, ⟨55, _⟩ => ⟨S_, .i32⟩
  | .hbm, ⟨56, _⟩ => ⟨S1024x128, .i32⟩
  | .hbm, ⟨57, _⟩ => ⟨S1024x128, .i32⟩
  | .hbm, ⟨58, _⟩ => ⟨S_, .i32⟩
  | .hbm, ⟨59, _⟩ => ⟨S1024x128, .i32⟩
  | .hbm, ⟨60, _⟩ => ⟨S1024x128, .i1⟩
  | .hbm, ⟨61, _⟩ => ⟨S_, .i32⟩
  | .hbm, ⟨62, _⟩ => ⟨S_, .i32⟩
  | .hbm, ⟨63, _⟩ => ⟨S1024x128, .i32⟩
  | .hbm, ⟨64, _⟩ => ⟨S1024x128, .i32⟩
  | .hbm, ⟨65, _⟩ => ⟨S1024x128, .i32⟩
  | .hbm, ⟨66, _⟩ => ⟨S1024x128, .i32⟩
  | .hbm, ⟨67, _⟩ => ⟨S1024x128, .i32⟩
  | .hbm, ⟨68, _⟩ => ⟨S1024x128, .i32⟩
  | .hbm, ⟨69, _⟩ => ⟨S2x1024x128, .f32⟩
  | .hbm, ⟨70, _⟩ => ⟨S1024x128, .bf16⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .bf16⟩
  | .hbm, ⟨75, _⟩ => ⟨S_, .f32⟩
  | .hbm, ⟨76, _⟩ => ⟨S_, .f32⟩
  | .hbm, ⟨77, _⟩ => ⟨S_, .bf16⟩
  | .hbm, ⟨78, _⟩ => ⟨S_, .f32⟩
  | .hbm, ⟨79, _⟩ => ⟨S_, .f32⟩
  | .hbm, ⟨80, _⟩ => ⟨S1x1024x128, .i32⟩
  | .hbm, ⟨81, _⟩ => ⟨S_, .i32⟩
  | .hbm, ⟨82, _⟩ => ⟨S1x1024x128, .i32⟩
  | .hbm, ⟨83, _⟩ => ⟨S1x1024x128, .i1⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S1x1024x128, .f32⟩
  | .hbm, ⟨89, _⟩ => ⟨S1x1024x128, .f32⟩
  | .hbm, ⟨90, _⟩ => ⟨S1x1024x128, .f32⟩
  | .hbm, ⟨91, _⟩ => ⟨S_, .f32⟩
  | .hbm, ⟨92, _⟩ => ⟨S1x1024x128, .f32⟩
  | .hbm, ⟨93, _⟩ => ⟨S1x1024x128, .f32⟩
  | .hbm, ⟨94, _⟩ => ⟨S_, .i32⟩
  | .hbm, ⟨95, _⟩ => ⟨S1x1024x128, .i32⟩
  | .hbm, ⟨96, _⟩ => ⟨S1x1024x128, .i1⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S1x1024x128, .f32⟩
  | .hbm, ⟨101, _⟩ => ⟨S1x1024x128, .f32⟩
  | .hbm, ⟨102, _⟩ => ⟨S1x1024x128, .f32⟩
  | .hbm, ⟨103, _⟩ => ⟨S1x1024x128, .f32⟩
  | .hbm, ⟨104, _⟩ => ⟨S_, .i32⟩
  | .hbm, ⟨105, _⟩ => ⟨S1x1024x128, .i32⟩
  | .hbm, ⟨106, _⟩ => ⟨S1x1024x128, .i1⟩
  | .hbm, ⟨107, _⟩ => ⟨S_, .f32⟩
  | .hbm, ⟨108, _⟩ => ⟨S_, .f32⟩
  | .hbm, ⟨109, _⟩ => ⟨S_, .f32⟩
  | .hbm, ⟨110, _⟩ => ⟨S1x1024x128, .f32⟩
  | .hbm, ⟨111, _⟩ => ⟨S1x1024x128, .f32⟩
  | .hbm, ⟨112, _⟩ => ⟨S1x1024x128, .f32⟩
  | .hbm, ⟨113, _⟩ => ⟨S1x1024x128, .f32⟩
  | .hbm, ⟨114, _⟩ => ⟨S3x1024x128, .f32⟩
  | .hbm, ⟨115, _⟩ => ⟨S_, .f32⟩
  | .hbm, ⟨116, _⟩ => ⟨S_, .f32⟩
  | .hbm, ⟨117, _⟩ => ⟨S_, .f32⟩
  | .hbm, ⟨118, _⟩ => ⟨S_, .f32⟩
  | .hbm, ⟨119, _⟩ => ⟨S_, .f32⟩
  | .hbm, ⟨120, _⟩ => ⟨S1, .f32⟩
  | .hbm, ⟨121, _⟩ => ⟨S1x256, .f32⟩
  | .hbm, ⟨122, _⟩ => ⟨S16384x2048, .bf16⟩
  | .local _ .vmem, ⟨0, _⟩ => ⟨S4x128, .f32⟩
  | .local _ .vmem, ⟨1, _⟩ => ⟨S1x256, .f32⟩
  | .local _ .vmem, ⟨2, _⟩ => ⟨S3x1024x128, .f32⟩
  | .local _ .vmem, ⟨3, _⟩ => ⟨S1024x128, .bf16⟩
  | .local _ .vmem, ⟨4, _⟩ => ⟨S1024x256, .bf16⟩
  | .local _ .vmem, ⟨5, _⟩ => ⟨S1024x256, .bf16⟩
  | .local _ .vmem, ⟨6, _⟩ => ⟨S1024x256, .bf16⟩
  | .local _ .vmem, ⟨7, _⟩ => ⟨S1024x256, .bf16⟩
  | .local _ .vmem, ⟨8, _⟩ => ⟨S1024x256, .bf16⟩
  | .local _ .vmem, ⟨9, _⟩ => ⟨S1024x256, .bf16⟩
  | .local _ .vmem, ⟨10, _⟩ => ⟨S1024x256, .bf16⟩
  | .local _ .vmem, ⟨11, _⟩ => ⟨S1024x256, .bf16⟩
  | .local _ .vmem, ⟨12, _⟩ => ⟨S2x1024x128, .f32⟩
  | .local _ .vmem, ⟨13, _⟩ => ⟨S2x1024x128, .f32⟩
  | .local _ .vmem, ⟨14, _⟩ => ⟨S2x1024x256, .f32⟩
  | .local _ .vmem, ⟨15, _⟩ => ⟨S1024x1024, .f32⟩
  | .local _ .smem, ⟨0, _⟩ => ⟨S8, .f32⟩
  | .local _ .smem, ⟨1, _⟩ => ⟨S1, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_v8 : Ref sig .tc := ⟨.hbm, 17, rfl⟩
abbrev main_v9 : Ref sig .tc := ⟨.hbm, 18, rfl⟩
abbrev main_c_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_3 : Ref sig .tc := ⟨.hbm, 23, rfl⟩
abbrev main_v13 : Ref sig .tc := ⟨.hbm, 24, rfl⟩
abbrev main_v14 : Ref sig .tc := ⟨.hbm, 25, rfl⟩
abbrev main_c_4 : Ref sig .tc := ⟨.hbm, 26, rfl⟩
abbrev main_c_5 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_call1_v0 : Ref sig .tc := ⟨.hbm, 31, rfl⟩
abbrev main_v16 : Ref sig .tc := ⟨.hbm, 32, rfl⟩
abbrev main_v17 : Ref sig .tc := ⟨.hbm, 33, rfl⟩
abbrev main_c_6 : Ref sig .tc := ⟨.hbm, 34, rfl⟩
abbrev main_v18 : Ref sig .tc := ⟨.hbm, 35, rfl⟩
abbrev main_v19 : Ref sig .tc := ⟨.hbm, 36, rfl⟩
abbrev main_c_7 : Ref sig .tc := ⟨.hbm, 37, rfl⟩
abbrev main_c_8 : Ref sig .tc := ⟨.hbm, 38, rfl⟩
abbrev main_call3_v0 : Ref sig .tc := ⟨.hbm, 39, rfl⟩
abbrev main_call3_v1 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_c_9 : Ref sig .tc := ⟨.hbm, 46, rfl⟩
abbrev main_v25 : Ref sig .tc := ⟨.hbm, 47, rfl⟩
abbrev main_v26 : Ref sig .tc := ⟨.hbm, 48, rfl⟩
abbrev main_c_10 : Ref sig .tc := ⟨.hbm, 49, rfl⟩
abbrev main_v27 : Ref sig .tc := ⟨.hbm, 50, rfl⟩
abbrev main_v28 : Ref sig .tc := ⟨.hbm, 51, rfl⟩
abbrev main_c_11 : Ref sig .tc := ⟨.hbm, 52, rfl⟩
abbrev main_v29 : Ref sig .tc := ⟨.hbm, 53, rfl⟩
abbrev main_v30 : Ref sig .tc := ⟨.hbm, 54, rfl⟩
abbrev main_c_12 : Ref sig .tc := ⟨.hbm, 55, rfl⟩
abbrev main_v31 : Ref sig .tc := ⟨.hbm, 56, rfl⟩
abbrev main_v32 : Ref sig .tc := ⟨.hbm, 57, rfl⟩
abbrev main_c_13 : Ref sig .tc := ⟨.hbm, 58, rfl⟩
abbrev main_v33 : Ref sig .tc := ⟨.hbm, 59, rfl⟩
abbrev main_v34 : Ref sig .tc := ⟨.hbm, 60, rfl⟩
abbrev main_c_14 : Ref sig .tc := ⟨.hbm, 61, rfl⟩
abbrev main_c_15 : Ref sig .tc := ⟨.hbm, 62, rfl⟩
abbrev main_call4_v0 : Ref sig .tc := ⟨.hbm, 63, rfl⟩
abbrev main_call4_v1 : Ref sig .tc := ⟨.hbm, 64, rfl⟩
abbrev main_v35 : Ref sig .tc := ⟨.hbm, 65, rfl⟩
abbrev main_call5_v0 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_cst_16 : Ref sig .tc := ⟨.hbm, 71, rfl⟩
abbrev main_cst_17 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_c_18 : Ref sig .tc := ⟨.hbm, 81, rfl⟩
abbrev main_v48 : Ref sig .tc := ⟨.hbm, 82, rfl⟩
abbrev main_v49 : Ref sig .tc := ⟨.hbm, 83, rfl⟩
abbrev main_cst_19 : Ref sig .tc := ⟨.hbm, 84, rfl⟩
abbrev main_v50 : Ref sig .tc := ⟨.hbm, 85, rfl⟩
abbrev main_cst_20 : Ref sig .tc := ⟨.hbm, 86, rfl⟩
abbrev main_call7_v0 : Ref sig .tc := ⟨.hbm, 87, rfl⟩
abbrev main_call7_v1 : Ref sig .tc := ⟨.hbm, 88, rfl⟩
abbrev main_call7_v2 : Ref sig .tc := ⟨.hbm, 89, rfl⟩
abbrev main_v51 : Ref sig .tc := ⟨.hbm, 90, rfl⟩
abbrev main_cst_21 : Ref sig .tc := ⟨.hbm, 91, rfl⟩
abbrev main_v52 : Ref sig .tc := ⟨.hbm, 92, rfl⟩
abbrev main_v53 : Ref sig .tc := ⟨.hbm, 93, rfl⟩
abbrev main_c_22 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_cst_23 : Ref sig .tc := ⟨.hbm, 98, rfl⟩
abbrev main_call8_v0 : Ref sig .tc := ⟨.hbm, 99, rfl⟩
abbrev main_call8_v1 : Ref sig .tc := ⟨.hbm, 100, rfl⟩
abbrev main_call8_v2 : Ref sig .tc := ⟨.hbm, 101, rfl⟩
abbrev main_v57 : Ref sig .tc := ⟨.hbm, 102, rfl⟩
abbrev main_v58 : Ref sig .tc := ⟨.hbm, 103, rfl⟩
abbrev main_c_24 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_cst_25 : Ref sig .tc := ⟨.hbm, 108, rfl⟩
abbrev main_call9_v0 : Ref sig .tc := ⟨.hbm, 109, rfl⟩
abbrev main_call9_v1 : Ref sig .tc := ⟨.hbm, 110, rfl⟩
abbrev main_call9_v2 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_cst_26 : Ref sig .tc := ⟨.hbm, 115, rfl⟩
abbrev main_cst_27 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg5_0 : Ref sig .tc := ⟨.vmem, 3, rfl⟩
abbrev cc0_stg6_0 : Ref sig .tc := ⟨.vmem, 4, rfl⟩
abbrev cc0_stg6_1 : Ref sig .tc := ⟨.vmem, 5, rfl⟩
abbrev cc0_stg7_0 : Ref sig .tc := ⟨.vmem, 6, rfl⟩
abbrev cc0_stg7_1 : Ref sig .tc := ⟨.vmem, 7, rfl⟩
abbrev cc0_stg8_0 : Ref sig .tc := ⟨.vmem, 8, rfl⟩
abbrev cc0_stg8_1 : Ref sig .tc := ⟨.vmem, 9, rfl⟩
abbrev cc0_stg9_0 : Ref sig .tc := ⟨.vmem, 10, rfl⟩
abbrev cc0_stg9_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem6_1 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨4, ![2, 8, 8, 8], ![false, false, false, false]⟩

def k0_off1 (i : grid0.Coords) : Fin 1 → Nat :=
  let arg1 : BitVec 32 := BitVec.ofNat 32 (i 1).val
  let v3 : Index := Scalar.indexCast arg1
  ![v3.toNat]
def k0_cond5 (i : grid0.Coords) : BitVec 1 :=
  let arg3 : BitVec 32 := BitVec.ofNat 32 (i 3).val
  let c7_i32 : BitVec 32 := 7#32
  let v11 : BitVec 1 := Scalar.cmpi .eq arg3 c7_i32
  let v12 : BitVec 32 := Scalar.extui v11
  let c0_i32_3 : BitVec 32 := 0#32
  let v13 : BitVec 1 := Scalar.cmpi .ne v12 c0_i32_3
  v13

def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c8_i32 : BitVec 32 := 8#32
  let v0 : BitVec 32 := Scalar.muli arg0 c8_i32
  let v1 : BitVec 32 := Scalar.addi v0 arg3
  let c8_i32_0 : BitVec 32 := 8#32
  let v2 : BitVec 32 := Scalar.addi c8_i32_0 arg1
  let c0_i32 : BitVec 32 := 0#32
  ![v1.toNat, v2.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c8_i32 : BitVec 32 := 8#32
  let v0 : BitVec 32 := Scalar.muli arg0 c8_i32
  let v1 : BitVec 32 := Scalar.addi v0 arg3
  let c0_i32 : BitVec 32 := 0#32
  ![v1.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false, false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false, false]

abbrev stage0_2 : Fin 1 → Memref sig .tc .vmem S4x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false, false]

abbrev stage0_4 : Fin 1 → Memref sig .tc .vmem S3x1024x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false, false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false, false]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true, false]

abbrev stage0_7 : Fin 2 → Memref sig .tc .vmem S1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false, true]

abbrev stage0_8 : Fin 2 → Memref sig .tc .vmem S1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false, true]

abbrev stage0_9 : Fin 2 → Memref sig .tc .vmem S1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true, false]
-- ==== Proof.Attn.Host.lean ====
module

public import proofs.«01_k».proof.Proof.Gen.KernelIdeal.Frame.Runs
public import Idealize.ShloMosaic.Lib.Pointwise
public import Idealize.ShloMosaic.Lib.StableHlo.Run
public import Idealize.ShloMosaic.Lib.StableHlo.RunRead
public import Idealize.ShloMosaic.Lib.StableHlo.RunHlo
public import Idealize.ShloMosaic.Lib.Tactic
public import Idealize.ShloMosaic.Lib.Claim

@[expose] public section

noncomputable section

namespace Cert.Attn

open Idealize.ShloMosaic Idealize.ShloMosaic.TcCoe Idealize.ShloMosaic.Tactic
open Cert.KernelIdeal Cert.KernelIdeal.Gen

variable (m : (ℓ : Loc nD τ sig) → Buf (Elt Ideal) ℓ)

/-- Whole numbers of one shape, one value everywhere. -/
abbrev splatI (s : Shape) (h : S_.BroadcastsInDim s ![]) (b : BitVec 32) : IVec s 32 := broadcastInDim s ![] h (constantI S_ 32 b)

/-- The key side of the bias lanes. -/
def kaTerm : FVec Ideal S1024x128 .bf16 :=
  sitofp .bf16 (select (cmpi .eq (iotaInDim S1024x128 32 1) (splatI S1024x128 bcast_S_S1024x128 2#32))
    (andi (iotaInDim S1024x128 32 0) (splatI S1024x128 bcast_S_S1024x128 255#32))
    (select (cmpi .eq (iotaInDim S1024x128 32 1) (splatI S1024x128 bcast_S_S1024x128 3#32))
      (andi (iotaInDim S1024x128 32 0) (splatI S1024x128 bcast_S_S1024x128 4294967040#32))
      (select (cmpi .sle (iotaInDim S1024x128 32 1) (splatI S1024x128 bcast_S_S1024x128 6#32))
        (splatI S1024x128 bcast_S_S1024x128 1#32) (splatI S1024x128 bcast_S_S1024x128 0#32))))

/-- The key side of the bias lanes, as the region finds it. -/
theorem V_ka (c : Dev nD) : V m c main_v39 = kaTerm := by
  unfold_abbrev_sides
  after_reads_simp
  rfl

/-- The scores' shift, a number. -/
def shN (c : Dev nD) : FVec Ideal S_ .f32 := shapeCast S_ (m (c, Proc.devRef .tc main_arg4)) shapeCasts_S1_S_

def part1 (x : FVec Ideal S_ .f32) : FVec Ideal S_ .f32 := extf .f32 (truncf .bf16 x bitsLt_bf16_f32) bitsLt_bf16_f32
def part2 (x : FVec Ideal S_ .f32) : FVec Ideal S_ .f32 := part1 (subf x (part1 x))
def part3 (x : FVec Ideal S_ .f32) : FVec Ideal S_ .f32 := part1 (subf (subf x (part1 x)) (part2 x))

/-- The shift the diagonal blocks read: the three parts added up. -/
def shTerm (x : FVec Ideal S_ .f32) : FVec Ideal S1 .f32 :=
  shapeCast S1 (addf (addf (addf (constant S_ .f32 0#32) (part1 x)) (part2 x)) (part3 x)) shapeCasts_S_S1

/-- The shift as the call finds it: the sum of its three parts. -/
theorem V_sh (c : Dev nD) : V m c main_v70 = shTerm (shN m c) := by
  unfold_abbrev_sides
  after_reads_simp
  rfl

/-- The gain as the call finds it: one row. -/
theorem V_g (c : Dev nD) : V m c main_v71 = shapeCast S1x256 (m (c, Proc.devRef .tc main_arg3)) shapeCasts_S256_S1x256 := by
  unfold_abbrev_sides
  after_reads_simp
  rfl

/-- The slopes as the call finds them: eight literals. -/
theorem V_slopes (c : Dev nD) : V m c main_cst = (fun i => FloatOps.ofBits .f32 (lit0 (S8.rowMajor i)) : FVec Ideal S8 .f32) := by
  unfold_abbrev_sides
  after_reads_simp
  rfl

abbrev lane3 : IVec S1x1024x128 32 := iotaInDim S1x1024x128 32 2
abbrev row3 : IVec S1x1024x128 32 := iotaInDim S1x1024x128 32 1
abbrev sp3 (b : BitVec 32) : IVec S1x1024x128 32 := splatI S1x1024x128 bcast_S_S1x1024x128 b

/-- The query side: what the bias lanes hold before the block offset is added, and the offset's own lane. -/
def q01Term : FVec Ideal S2x1024x128 .f32 :=
  sitofp .f32 (concatenate S2x1024x128 0
    [⟨S1x1024x128, select (cmpi .eq lane3 (sp3 0#32)) (negi (andi row3 (sp3 4294967040#32)))
        (select (cmpi .eq lane3 (sp3 1#32)) (negi (andi row3 (sp3 255#32)))
          (select (cmpi .sle lane3 (sp3 3#32)) (sp3 1#32) (sp3 0#32)))⟩,
     ⟨S1x1024x128, select (cmpi .eq lane3 (sp3 0#32)) (sp3 4294967295#32) (sp3 0#32)⟩] concatenates_S1x1024x128_S1x1024x128_S2x1024x128_d0)

/-- The query side: the lanes that hold the shift's parts. -/
def q2Term (x : FVec Ideal S_ .f32) : FVec Ideal S1x1024x128 .f32 :=
  addf (addf (addf (broadcastInDim S1x1024x128 ![] bcast_S_S1x1024x128 (constant S_ .f32 0#32)) (select (cmpi .eq lane3 (sp3 4#32)) (broadcastInDim S1x1024x128 ![] bcast_S_S1x1024x128 (Host.negf (part1 x))) (broadcastInDim S1x1024x128 ![] bcast_S_S1x1024x128 (constant S_ .f32 0#32))))
      (select (cmpi .eq lane3 (sp3 5#32)) (broadcastInDim S1x1024x128 ![] bcast_S_S1x1024x128 (Host.negf (part2 x))) (broadcastInDim S1x1024x128 ![] bcast_S_S1x1024x128 (constant S_ .f32 0#32))))
    (select (cmpi .eq lane3 (sp3 6#32)) (broadcastInDim S1x1024x128 ![] bcast_S_S1x1024x128 (Host.negf (part3 x))) (broadcastInDim S1x1024x128 ![] bcast_S_S1x1024x128 (constant S_ .f32 0#32)))

def qtTerm (x : FVec Ideal S_ .f32) : FVec Ideal S3x1024x128 .f32 :=
  concatenate S3x1024x128 0 [⟨S2x1024x128, q01Term⟩, ⟨S1x1024x128, q2Term x⟩] concatenates_S2x1024x128_S1x1024x128_S3x1024x128_d0

/-- The table of query columns as the call finds it. -/
theorem V_qt (c : Dev nD) : V m c main_v66 = qtTerm (shN m c) := by
  unfold_abbrev_sides
  after_reads_simp
  refine congrArg₂ (fun a b => concatenate S3x1024x128 0 [⟨S2x1024x128, a⟩, ⟨S1x1024x128, b⟩] concatenates_S2x1024x128_S1x1024x128_S3x1024x128_d0) ?_ ?_
  · after_reads_simp
    refine congrArg (sitofp .f32) (congrArg₂ (fun a b => concatenate S2x1024x128 0 [⟨S1x1024x128, a⟩, ⟨S1x1024x128, b⟩] concatenates_S1x1024x128_S1x1024x128_S2x1024x128_d0) ?_ ?_)
    · after_reads_simp
      rfl
    · after_reads_simp
      rfl
  · after_reads_simp
    rfl

end Cert.Attn

end
-- ==== Proof.Attn.Tables.lean ====
module

public import proofs.«01_k».proof.Proof.Attn.Host

@[expose] public section

noncomputable section

namespace Cert.Attn

open Idealize.ShloMosaic Idealize.ShloMosaic.TcCoe Idealize.ShloMosaic.Tactic
open Cert.KernelIdeal Cert.KernelIdeal.Gen

/-- Which lane it is, from words. -/
theorem laneEq : ∀ (l : Fin 128) (k : Fin 8), IntOp.cmpi .eq (BitVec.ofNat 32 l.val) (BitVec.ofNat 32 k.val) = BitVec.ofBool (decide (l.val = k.val)) := by
  decide +kernel
/-- Whether a lane comes before another, from words. -/
theorem laneLe : ∀ (l : Fin 128) (k : Fin 8), IntOp.cmpi .sle (BitVec.ofNat 32 l.val) (BitVec.ofNat 32 k.val) = BitVec.ofBool (decide (l.val ≤ k.val)) := by
  decide +kernel
/-- A row's remainder by 256, from words. -/
theorem rowLow : ∀ r : Fin 1024, (IntOp.andi (BitVec.ofNat 32 r.val) 255#32).toInt = (r.val % 256 : ℕ) := by
  decide +kernel
/-- A row's multiple of 256, from words. -/
theorem rowHigh : ∀ r : Fin 1024, (IntOp.andi (BitVec.ofNat 32 r.val) 4294967040#32).toInt = (r.val / 256 * 256 : ℕ) := by
  decide +kernel
/-- A row's remainder by 256, negated, from words. -/
theorem rowLowNeg : ∀ r : Fin 1024, (-IntOp.andi (BitVec.ofNat 32 r.val) 255#32).toInt = -(r.val % 256 : ℕ) := by
  decide +kernel
/-- A row's multiple of 256, negated, from words. -/
theorem rowHighNeg : ∀ r : Fin 1024, (-IntOp.andi (BitVec.ofNat 32 r.val) 4294967040#32).toInt = -(r.val / 256 * 256 : ℕ) := by
  decide +kernel

/-- A choice by a decided word is a choice by the proposition. -/
theorem sel_ofBool {α : Type} (p : Prop) [Decidable p] (a b : α) : Scalar.select (BitVec.ofBool (decide p)) a b = if p then a else b := by
  by_cases h : p <;> simp [h, Scalar.select]

/-- A comparison of a lane with a small number, chosen upon. -/
theorem selEq {α : Type} (l : Fin 128) (k : ℕ) (hk : k < 8) (w : BitVec 32) (hw : BitVec.ofNat 32 k = w) (a b : α) :
    Scalar.select (IntOp.cmpi .eq (BitVec.ofNat 32 l.val) w) a b = if l.val = k then a else b := by
  subst hw
  rw [laneEq l ⟨k, hk⟩, sel_ofBool]
/-- A choice by a lane's place. -/
theorem selLe {α : Type} (l : Fin 128) (k : ℕ) (hk : k < 8) (w : BitVec 32) (hw : BitVec.ofNat 32 k = w) (a b : α) :
    Scalar.select (IntOp.cmpi .sle (BitVec.ofNat 32 l.val) w) a b = if l.val ≤ k then a else b := by
  subst hw
  rw [laneLe l ⟨k, hk⟩, sel_ofBool]

/-- The key side's bias lanes as real numbers. -/
def kaR (r l : ℕ) : ℝ := if l = 2 then ((r % 256 : ℕ) : ℝ) else if l = 3 then ((r / 256 * 256 : ℕ) : ℝ) else if l ≤ 6 then 1 else 0
/-- The query side's bias lanes before the block offset. -/
def qa0R (r l : ℕ) : ℝ := if l = 0 then -((r / 256 * 256 : ℕ) : ℝ) else if l = 1 then -((r % 256 : ℕ) : ℝ) else if l ≤ 3 then 1 else 0
/-- The lane of the block offset. -/
def qa1R (l : ℕ) : ℝ := if l = 0 then -1 else 0
/-- The lane of the shift (its two lower parts are zero: nothing is rounded). -/
def qa2R (sh : ℝ) (l : ℕ) : ℝ := if l = 4 then -sh else 0

/-- The key columns' entries. -/
theorem ka_apply (r : Fin 1024) (l : Fin 128) : kaTerm (ix2 r l) = ((kaR r.val l.val : ℝ) : EReal) := by
  pointwise [kaTerm]
  rw [selEq l 2 (by decide) 2#32 rfl, selEq l 3 (by decide) 3#32 rfl, selLe l 6 (by decide) 6#32 rfl]
  show (((BitVec.toInt _ : ℤ) : ℝ) : EReal) = _
  unfold kaR
  congr 1
  split_ifs
  · rw [rowLow]; push_cast; rfl
  · rw [rowHigh]; push_cast; rfl
  · norm_num
  · norm_num

/-- The query columns' entries. -/
theorem q0_apply (r : Fin 1024) (l : Fin 128) : q01Term (ix3 0 r l) = ((qa0R r.val l.val : ℝ) : EReal) := by
  pointwise [q01Term]
  rw [selEq l 0 (by decide) 0#32 rfl, selEq l 1 (by decide) 1#32 rfl, selLe l 3 (by decide) 3#32 rfl]
  show (((BitVec.toInt _ : ℤ) : ℝ) : EReal) = _
  unfold qa0R
  congr 1
  split_ifs
  · rw [rowHighNeg]; push_cast; rfl
  · rw [rowLowNeg]; push_cast; rfl
  · norm_num
  · norm_num

/-- The offset columns' entries. -/
theorem q1_apply (r : Fin 1024) (l : Fin 128) : q01Term (ix3 1 r l) = ((qa1R l.val : ℝ) : EReal) := by
  pointwise [q01Term]
  rw [selEq l 0 (by decide) 0#32 rfl]
  show (((BitVec.toInt _ : ℤ) : ℝ) : EReal) = _
  unfold qa1R
  congr 1
  split_ifs
  · rw [show (4294967295#32).toInt = -1 by decide]; norm_num
  · norm_num

/-- The shift columns' entries. -/
theorem q2_apply (x : FVec Ideal S_ .f32) (sh : ℝ) (hx : x ix0 = ((sh : ℝ) : EReal)) (r : Fin 1024) (l : Fin 128) :
    q2Term x (ix3 0 r l) = ((qa2R sh l.val : ℝ) : EReal) := by
  pointwise [q2Term, part1, part2, part3]
  rw [selEq l 4 (by decide) 4#32 rfl, selEq l 5 (by decide) 5#32 rfl, selEq l 6 (by decide) 6#32 rfl, hx]
  unfold qa2R
  simp only [
    ← EReal.coe_sub, sub_self, ← EReal.coe_neg, neg_zero, EReal.coe_zero, ite_self, add_zero]
  split_ifs <;> simp

/-- The three planes the kernel loads. -/
theorem qt_apply0 (x : FVec Ideal S_ .f32) (r : Fin 1024) (l : Fin 128) : qtTerm x (ix3 0 r l) = ((qa0R r.val l.val : ℝ) : EReal) := by
  rw [← q0_apply]
  pointwise [qtTerm]
/-- The whole table's second plane. -/
theorem qt_apply1 (x : FVec Ideal S_ .f32) (r : Fin 1024) (l : Fin 128) : qtTerm x (ix3 1 r l) = ((qa1R l.val : ℝ) : EReal) := by
  rw [← q1_apply r l]
  pointwise [qtTerm]
/-- The whole table's third plane. -/
theorem qt_apply2 (x : FVec Ideal S_ .f32) (sh : ℝ) (hx : x ix0 = ((sh : ℝ) : EReal)) (r : Fin 1024) (l : Fin 128) :
    qtTerm x (ix3 2 r l) = ((qa2R sh l.val : ℝ) : EReal) := by
  rw [← q2_apply x sh hx r l]
  pointwise [qtTerm]

/-- The shift's parts add up to the shift. -/
theorem sh_apply (x : FVec Ideal S_ .f32) (sh : ℝ) (hx : x ix0 = ((sh : ℝ) : EReal)) : shTerm x (ix1 0) = ((sh : ℝ) : EReal) := by
  pointwise [shTerm, part1, part2, part3]
  rw [hx]
  simp only [← EReal.coe_sub, ← EReal.coe_add, sub_self, add_zero]

/-- A sum of 128 terms that vanish from the seventh on. -/
theorem sum_head7 (f : Fin 128 → ℝ) (h : ∀ l : Fin 128, 7 ≤ l.val → f l = 0) :
    ∑ l : Fin 128, f l = f 0 + f 1 + f 2 + f 3 + f 4 + f 5 + f 6 := by
  have e : ∑ l : Fin 128, f l = ∑ l ∈ ({0, 1, 2, 3, 4, 5, 6} : Finset (Fin 128)), f l := by
    refine (Finset.sum_subset (Finset.subset_univ _) fun l _ hl => h l ?_).symm
    by_contra hc
    apply hl
    have : l.val < 7 := by omega
    have : l = 0 ∨ l = 1 ∨ l = 2 ∨ l = 3 ∨ l = 4 ∨ l = 5 ∨ l = 6 := by
      simp only [Fin.ext_iff]
      show l.val = 0 ∨ l.val = 1 ∨ l.val = 2 ∨ l.val = 3 ∨ l.val = 4 ∨ l.val = 5 ∨ l.val = 6
      omega
    simpa using this
  rw [e]
  rw [Finset.sum_insert (by decide), Finset.sum_insert (by decide), Finset.sum_insert (by decide), Finset.sum_insert (by decide), Finset.sum_insert (by decide), Finset.sum_insert (by decide), Finset.sum_singleton]
  ring

/-- The bias lanes' product is the slope times the signed distance, less the shift. -/
theorem lanes_sum (C off sh : ℝ) (r s : ℕ) :
    ∑ l : Fin 128, ((qa0R r l.val + off * qa1R l.val) * C + qa2R sh l.val) * kaR s l.val = C * ((s : ℝ) - (r : ℝ) - off) - sh := by
  rw [sum_head7 _ (fun l hl => by
    have h0 : qa0R r l.val = 0 := by unfold qa0R; rw [if_neg (by omega), if_neg (by omega), if_neg (by omega)]
    have h1 : qa1R l.val = 0 := by unfold qa1R; rw [if_neg (by omega)]
    have h2 : qa2R sh l.val = 0 := by unfold qa2R; rw [if_neg (by omega)]
    rw [h0, h1, h2]; ring)]
  have hs : (s : ℝ) = ((s % 256 : ℕ) : ℝ) + ((s / 256 * 256 : ℕ) : ℝ) := by
    rw [← Nat.cast_add]; congr 1; omega
  have hr : (r : ℝ) = ((r % 256 : ℕ) : ℝ) + ((r / 256 * 256 : ℕ) : ℝ) := by
    rw [← Nat.cast_add]; congr 1; omega
  rw [hs, hr]
  simp only [qa0R, qa1R, qa2R, kaR, show ((0 : Fin 128).val) = 0 from rfl, show ((1 : Fin 128).val) = 1 from rfl, show ((2 : Fin 128).val) = 2 from rfl,
    show ((3 : Fin 128).val) = 3 from rfl, show ((4 : Fin 128).val) = 4 from rfl, show ((5 : Fin 128).val) = 5 from rfl, show ((6 : Fin 128).val) = 6 from rfl]
  norm_num
  ring

end Cert.Attn

end
-- ==== Proof.Attn.Pay.lean ====
module

public import proofs.«01_k».proof.Proof.Attn.Tables

@[expose] public section

set_option maxRecDepth 16384

noncomputable section

namespace Cert.Attn

open Idealize.ShloMosaic Idealize.ShloMosaic.TcCoe Idealize.ShloMosaic.Tactic
open Cert.KernelIdeal Cert.KernelIdeal.Gen

/-! Words as numbers. -/

/-- A position as a word has its value. -/
theorem toInt_row (r : Fin 8192) : (BitVec.ofNat 32 r.val).toInt = (r.val : ℤ) := by
  have hr := r.isLt
  rw [BitVec.toInt_eq_toNat_of_lt (by rw [BitVec.toNat_ofNat]; omega), BitVec.toNat_ofNat, Nat.mod_eq_of_lt (by omega)]

/-- A difference of positions as a word has its value. -/
theorem toInt_sub_row (r s : Fin 8192) : (IntOp.subi (BitVec.ofNat 32 r.val) (BitVec.ofNat 32 s.val)).toInt = (r.val : ℤ) - s.val := by
  have hr := r.isLt
  have hs := s.isLt
  unfold IntOp.subi
  rw [BitVec.toInt_sub, toInt_row, toInt_row, Int.bmod_eq_of_le (by norm_num; omega) (by norm_num; omega)]

/-- A distance of positions as a word has its value. -/
theorem toInt_absi_row (r s : Fin 8192) : (IntOp.absi (IntOp.subi (BitVec.ofNat 32 r.val) (BitVec.ofNat 32 s.val))).toInt = |(r.val : ℤ) - s.val| := by
  have hr := r.isLt
  have hs := s.isLt
  have h := toInt_sub_row r s
  unfold IntOp.absi
  rw [BitVec.msb_eq_toInt, h]
  by_cases hc : (r.val : ℤ) - s.val < 0
  · rw [decide_eq_true hc, if_pos rfl, BitVec.toInt_neg, h, abs_of_neg hc, Int.bmod_eq_of_le (by norm_num; omega) (by norm_num; omega)]
  · rw [decide_eq_false hc, if_neg (by simp), h, abs_of_nonneg (by omega)]

/-- The offset of two blocks as a word has its value. -/
theorem off_toInt : ∀ a b : Fin 8, (Scalar.muli (Scalar.subi (BitVec.ofNat 32 a.val) (BitVec.ofNat 32 b.val)) 1024#32).toInt = ((a.val : ℤ) - b.val) * 1024 := by
  decide +kernel
/-- The offset's comparison with zero is the order of the blocks. -/
theorem off_pos : ∀ a b : Fin 8, Scalar.cmpi .sgt (Scalar.muli (Scalar.subi (BitVec.ofNat 32 a.val) (BitVec.ofNat 32 b.val)) 1024#32) 0#32 = BitVec.ofBool (decide (b.val < a.val)) := by
  decide +kernel

/-! Sums of real numbers among the extended reals. -/

/-- A finite sum of reals, read in the extended reals. -/
theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A product of two real rows. -/
theorem coe_dot {n : ℕ} (a b : Fin n → EReal) (f g : Fin n → ℝ) (ha : ∀ i, a i = ((f i : ℝ) : EReal)) (hb : ∀ i, b i = ((g i : ℝ) : EReal)) :
    (∑ i, a i * b i) = ((∑ i, f i * g i : ℝ) : EReal) := by
  rw [← coe_sum]
  exact Finset.sum_congr rfl fun i _ => by rw [ha, hb, EReal.coe_mul]

/-! The real score. -/

/-- What the exponential is taken of: the product of a query and a key, less the slope times their distance, less the shift. -/
def ex (Q K : ℕ → ℕ → ℝ) (slope sh : ℝ) (c qg kg : ℕ) : ℝ :=
  (∑ d : Fin 128, Q qg (c * 128 + d.val) * K kg (c * 128 + d.val)) + (-slope * |(qg : ℝ) - (kg : ℝ)| - sh)

/-- The sign chosen by the order of two different blocks turns the offset into the distance. -/
theorem slope_dist (slope : ℝ) (qi ki : Fin 8) (hne : qi ≠ ki) (r s : Fin 1024) :
    (if ki.val < qi.val then slope else -slope) * ((s.val : ℝ) - (r.val : ℝ) - ((qi.val : ℝ) - (ki.val : ℝ)) * 1024)
      = -slope * |((qi.val * 1024 + r.val : ℕ) : ℝ) - ((ki.val * 1024 + s.val : ℕ) : ℝ)| := by
  have hne' : qi.val ≠ ki.val := fun h => hne (Fin.ext h)
  have hr := r.isLt
  have hs := s.isLt
  split_ifs with h
  · have : (ki.val * 1024 + s.val : ℕ) ≤ (qi.val * 1024 + r.val : ℕ) := by omega
    have h' : ((ki.val * 1024 + s.val : ℕ) : ℝ) ≤ ((qi.val * 1024 + r.val : ℕ) : ℝ) := by exact_mod_cast this
    rw [abs_of_nonneg (by linarith)]
    push_cast
    ring
  · have : (qi.val * 1024 + r.val : ℕ) ≤ (ki.val * 1024 + s.val : ℕ) := by omega
    have h' : ((qi.val * 1024 + r.val : ℕ) : ℝ) ≤ ((ki.val * 1024 + s.val : ℕ) : ℝ) := by exact_mod_cast this
    rw [abs_of_nonpos (by linarith)]
    push_cast
    ring

section Off

variable (Q K Vv : ℕ → ℕ → ℝ) (slope sh : ℝ) (qi ki : Fin 8)
variable (v4 : EReal) (v19 v22 v29 : S1x1024x128.Idx → EReal) (v33 : S1024x128.Idx → EReal) (v35 v36 v47 : S1024x256.Idx → EReal)
variable (h4 : v4 = ((slope : ℝ) : EReal))
  (h19 : ∀ (r : Fin 1024) (l : Fin 128), v19 (ix3 0 r l) = ((qa0R r.val l.val : ℝ) : EReal))
  (h22 : ∀ (r : Fin 1024) (l : Fin 128), v22 (ix3 0 r l) = ((qa1R l.val : ℝ) : EReal))
  (h29 : ∀ (r : Fin 1024) (l : Fin 128), v29 (ix3 0 r l) = ((qa2R sh l.val : ℝ) : EReal))
  (h33 : ∀ (r : Fin 1024) (l : Fin 128), v33 (ix2 r l) = ((kaR r.val l.val : ℝ) : EReal))
  (h35 : ∀ (r : Fin 1024) (d : Fin 256), v35 (ix2 r d) = ((Q (qi.val * 1024 + r.val) d.val : ℝ) : EReal))
  (h36 : ∀ (r : Fin 1024) (d : Fin 256), v36 (ix2 r d) = ((K (ki.val * 1024 + r.val) d.val : ℝ) : EReal))

include h4 h19 h22 h29 in
/-- The extra query columns off the diagonal, as reals. -/
theorem pay11_real (r : Fin 1024) (l : Fin 128) :
    k0_pay11 (F := Ideal) (BitVec.ofNat 32 qi.val) (BitVec.ofNat 32 ki.val) v4 v19 v22 v29 (ix2 r l)
      = (((qa0R r.val l.val + ((qi.val : ℝ) - (ki.val : ℝ)) * 1024 * qa1R l.val) * (if ki.val < qi.val then slope else -slope) + qa2R sh l.val : ℝ) : EReal) := by
  pointwise [k0_pay11]
  rw [off_toInt, off_pos, sel_ofBool, h19, h22, h29, h4]
  have hz : (0 : EReal) - ((slope : ℝ) : EReal) = ((-slope : ℝ) : EReal) := by rw [← EReal.coe_zero, ← EReal.coe_sub, zero_sub]
  rw [hz]
  have hi : ((if ki.val < qi.val then ((slope : ℝ) : EReal) else ((-slope : ℝ) : EReal))) = (((if ki.val < qi.val then slope else -slope : ℝ)) : EReal) := by
    split_ifs <;> rfl
  rw [hi, ← EReal.coe_mul, ← EReal.coe_add, ← EReal.coe_mul, ← EReal.coe_add]
  push_cast
  rfl

include h4 h19 h22 h29 h33 in
/-- The product over the extra columns is the bias less the shift. -/
theorem lanes_real (hne : qi ≠ ki) (r s : Fin 1024) :
    (∑ x : Fin 128, k0_pay11 (F := Ideal) (BitVec.ofNat 32 qi.val) (BitVec.ofNat 32 ki.val) v4 v19 v22 v29 (ix2 r x) * k0_pay12 (F := Ideal) v33 (ix2 s x))
      = ((-slope * |((qi.val * 1024 + r.val : ℕ) : ℝ) - ((ki.val * 1024 + s.val : ℕ) : ℝ)| - sh : ℝ) : EReal) := by
  rw [coe_dot _ _ _ (fun l => kaR s.val l.val) (fun l => pay11_real slope sh qi ki v4 v19 v22 v29 h4 h19 h22 h29 r l)
    (fun l => (show k0_pay12 (F := Ideal) v33 (ix2 s l) = v33 (ix2 s l) by pointwise [k0_pay12]).trans (h33 s l)), lanes_sum, slope_dist slope qi ki hne]

include h4 h19 h22 h29 h33 h35 h36 in
/-- The second map's scores less the shift, off the diagonal. -/
theorem pay13_real (hne : qi ≠ ki) (r s : Fin 1024) :
    k0_pay13 (F := Ideal) (BitVec.ofNat 32 qi.val) (BitVec.ofNat 32 ki.val) v4 v19 v22 v29 v33 v35 v36 (ix2 r s)
      = ((ex Q K slope sh 1 (qi.val * 1024 + r.val) (ki.val * 1024 + s.val) : ℝ) : EReal) := by
  pointwise [k0_pay13]
  rw [lanes_real slope sh qi ki v4 v19 v22 v29 v33 h4 h19 h22 h29 h33 hne, coe_dot _ _ _ _ (fun l => h35 r _) (fun l => h36 s _), ← EReal.coe_add]
  rfl

include h4 h19 h22 h29 h33 h35 h36 in
/-- The first map's exponentials, off the diagonal. -/
theorem pay14_real (hne : qi ≠ ki) (r s : Fin 1024) :
    k0_pay14 (F := Ideal) (BitVec.ofNat 32 qi.val) (BitVec.ofNat 32 ki.val) v4 v19 v22 v29 v33 v35 v36 (ix2 r s)
      = ((Real.exp (ex Q K slope sh 0 (qi.val * 1024 + r.val) (ki.val * 1024 + s.val)) : ℝ) : EReal) := by
  pointwise [k0_pay14]
  rw [lanes_real slope sh qi ki v4 v19 v22 v29 v33 h4 h19 h22 h29 h33 hne, coe_dot _ _ _ _ (fun l => h35 r _) (fun l => h36 s _), ← EReal.coe_add]
  unfold ex
  simp only [Nat.zero_mul, Nat.zero_add]
  rfl

end Off

/-! The diagonal blocks. -/

/-- The bias of a diagonal block. -/
theorem pay20_real (slope sh : ℝ) (v4 v97 : EReal) (h4 : v4 = ((slope : ℝ) : EReal)) (h97 : v97 = ((sh : ℝ) : EReal)) (r s : Fin 1024) :
    k0_pay20 (F := Ideal) v4 v97 (ix2 r s) = ((-slope * |(r.val : ℝ) - (s.val : ℝ)| - sh : ℝ) : EReal) := by
  pointwise [k0_pay20]
  have e := toInt_absi_row ⟨r.val, by omega⟩ ⟨s.val, by omega⟩
  rw [show (FloatOps.sitofp (F := Ideal) FTy.f32 (IntOp.absi (IntOp.subi (BitVec.ofNat 32 r.val) (BitVec.ofNat 32 s.val)))) = ((((IntOp.absi (IntOp.subi (BitVec.ofNat 32 r.val) (BitVec.ofNat 32 s.val))).toInt : ℝ)) : EReal) from rfl, e, h4, h97,
    ← EReal.coe_zero, ← EReal.coe_sub, ← EReal.coe_mul, ← EReal.coe_sub]
  congr 1
  push_cast
  ring

section Diag

variable (Q K : ℕ → ℕ → ℝ) (slope sh : ℝ) (qi : Fin 8)
variable (v17 : S1024x1024.Idx → EReal) (v18 v19 : S1024x256.Idx → EReal)
variable (h17 : ∀ r s : Fin 1024, v17 (ix2 r s) = ((-slope * |(r.val : ℝ) - (s.val : ℝ)| - sh : ℝ) : EReal))
  (h18 : ∀ (r : Fin 1024) (d : Fin 256), v18 (ix2 r d) = ((Q (qi.val * 1024 + r.val) d.val : ℝ) : EReal))
  (h19 : ∀ (r : Fin 1024) (d : Fin 256), v19 (ix2 r d) = ((K (qi.val * 1024 + r.val) d.val : ℝ) : EReal))

/-- Within one block the distance does not see the block. -/
theorem diag_dist (a r s : ℕ) : |(r : ℝ) - (s : ℝ)| = |((a * 1024 + r : ℕ) : ℝ) - ((a * 1024 + s : ℕ) : ℝ)| := by
  congr 1
  push_cast
  ring

include h17 h18 h19 in
/-- The second map's scores less the shift, on the diagonal. -/
theorem pay21_real (r s : Fin 1024) :
    k0_pay21 (F := Ideal) v17 v18 v19 (ix2 r s) = ((ex Q K slope sh 1 (qi.val * 1024 + r.val) (qi.val * 1024 + s.val) : ℝ) : EReal) := by
  pointwise [k0_pay21]
  rw [h17, coe_dot _ _ _ _ (fun l => h18 r _) (fun l => h19 s _), ← EReal.coe_add, diag_dist qi.val]
  rfl

include h17 h18 h19 in
/-- The first map's exponentials, on the diagonal. -/
theorem pay22_real (r s : Fin 1024) :
    k0_pay22 (F := Ideal) v17 v18 v19 (ix2 r s) = ((Real.exp (ex Q K slope sh 0 (qi.val * 1024 + r.val) (qi.val * 1024 + s.val)) : ℝ) : EReal) := by
  pointwise [k0_pay22]
  rw [h17, coe_dot _ _ _ _ (fun l => h18 r _) (fun l => h19 s _), ← EReal.coe_add, diag_dist qi.val]
  unfold ex
  simp only [Nat.zero_mul, Nat.zero_add]
  rfl

end Diag

/-! The running sums. -/

/-- One block's part of a lane of the running sum of the exponentials. -/
def lpart (E : ℕ → ℕ → ℝ) (q k lane : ℕ) : ℝ := ∑ j ∈ Finset.range 8, Real.exp (E q (k + (j * 128 + lane)))

/-- One block's part of the running sum of the values. -/
def apart (E Vv : ℕ → ℕ → ℝ) (q k e : ℕ) : ℝ := ∑ s ∈ Finset.range 1024, Real.exp (E q (k + s)) * Vv (k + s) e

/-- A lane's partial sum, term by term. -/
theorem lpart_eq (E : ℕ → ℕ → ℝ) (q k lane : ℕ) :
    lpart E q k lane = Real.exp (E q (k + lane)) + Real.exp (E q (k + (128 + lane))) + Real.exp (E q (k + (256 + lane))) + Real.exp (E q (k + (384 + lane)))
      + Real.exp (E q (k + (512 + lane))) + Real.exp (E q (k + (640 + lane))) + Real.exp (E q (k + (768 + lane))) + Real.exp (E q (k + (896 + lane))) := by
  unfold lpart
  simp only [Finset.sum_range_succ, Finset.sum_range_zero, zero_add, Nat.reduceMul, Nat.zero_mul, Nat.zero_add]

section Step

variable (E0 E1 Vv : ℕ → ℕ → ℝ) (q : Fin 1024 → ℕ) (k : ℕ)
variable (p : S1024x1024.Idx → EReal) (e : S1024x1024.Idx → EReal) (w : S1024x256.Idx → EReal)
variable (hp : ∀ r s : Fin 1024, p (ix2 r s) = ((Real.exp (E0 (q r) (k + s.val)) : ℝ) : EReal))
  (he : ∀ r s : Fin 1024, e (ix2 r s) = ((E1 (q r) (k + s.val) : ℝ) : EReal))
  (hw : ∀ (s : Fin 1024) (d : Fin 256), w (ix2 s d) = ((Vv (k + s.val) d.val : ℝ) : EReal))

include hp hw in
/-- The values of one block, weighted and added up. -/
theorem weigh (r : Fin 1024) (d : Fin 256) : (∑ x : Fin 1024, p (ix2 r x) * w (ix2 x d)) = ((apart E0 Vv (q r) k d.val : ℝ) : EReal) := by
  rw [coe_dot _ _ _ _ (fun x => hp r x) (fun x => hw x d)]
  unfold apart
  rw [Finset.sum_range]

include he in
/-- The second map's exponentials, of a block off the diagonal. -/
theorem pay18_real (r s : Fin 1024) : k0_pay18 (F := Ideal) e (ix2 r s) = ((Real.exp (E1 (q r) (k + s.val)) : ℝ) : EReal) := by
  pointwise [k0_pay18]
  rw [he]
  rfl

include he in
/-- The second map's exponentials, of a block on the diagonal. -/
theorem pay7_real (r s : Fin 1024) : k0_pay7 (F := Ideal) e (ix2 r s) = ((Real.exp (E1 (q r) (k + s.val)) : ℝ) : EReal) := by
  pointwise [k0_pay7]
  rw [he]
  rfl

include he in
/-- The second map's partial sums of a block. -/
theorem pay19_real (r : Fin 1024) (l : Fin 128) : k0_pay19 (F := Ideal) e (ix2 r l) = ((lpart E1 (q r) k l.val : ℝ) : EReal) := by
  pointwise [k0_pay19]
  simp only [pay18_real E1 q k e he]
  rw [lpart_eq]
  simp only [EReal.coe_add]

include he in
/-- The second map's sums after a block on the diagonal. -/
theorem pay8_real (v75 : S1x1024x128.Idx → EReal) (r : Fin 1024) (l : Fin 128) :
    k0_pay8 (F := Ideal) e v75 (ix3 0 r l) = v75 (ix3 0 r l) + ((lpart E1 (q r) k l.val : ℝ) : EReal) := by
  pointwise [k0_pay8]
  simp only [pay7_real E1 q k e he]
  rw [lpart_eq]
  simp only [EReal.coe_add]

include he hw in
/-- The second map's products after a block on the diagonal. -/
theorem pay9_real (v81 : S1x1024x256.Idx → EReal) (r : Fin 1024) (d : Fin 256) :
    k0_pay9 (F := Ideal) e w v81 (ix3 0 r d) = v81 (ix3 0 r d) + ((apart E1 Vv (q r) k d.val : ℝ) : EReal) := by
  pointwise [k0_pay9]
  rw [weigh E1 Vv q k _ w (pay7_real E1 q k e he) hw]

include hp in
/-- The first map's sums after a block off the diagonal. -/
theorem pay16_real (v51 : S1024x128.Idx → EReal) (v64 : S1x1024x128.Idx → EReal) (h51 : ∀ (r : Fin 1024) (l : Fin 128), v51 (ix2 r l) = p (ix2 r ⟨l.val, by omega⟩) + p (ix2 r ⟨128 + l.val, by omega⟩))
    (r : Fin 1024) (l : Fin 128) :
    k0_pay16 (F := Ideal) p v51 v64 (ix3 0 r l) = v64 (ix3 0 r l) + ((lpart E0 (q r) k l.val : ℝ) : EReal) := by
  pointwise [k0_pay16]
  rw [h51]
  simp only [hp]
  rw [lpart_eq]
  simp only [EReal.coe_add]

include hp hw in
/-- The first map's products after a block off the diagonal. -/
theorem pay17_real (v70 : S1x1024x256.Idx → EReal) (r : Fin 1024) (d : Fin 256) :
    k0_pay17 (F := Ideal) w p v70 (ix3 0 r d) = v70 (ix3 0 r d) + ((apart E0 Vv (q r) k d.val : ℝ) : EReal) := by
  pointwise [k0_pay17]
  rw [weigh E0 Vv q k p w hp hw]

include hp hw in
/-- The first map's products after a block on the diagonal. -/
theorem pay6_real (v70 : S1x1024x256.Idx → EReal) (r : Fin 1024) (d : Fin 256) :
    k0_pay6 (F := Ideal) w p v70 (ix3 0 r d) = v70 (ix3 0 r d) + ((apart E0 Vv (q r) k d.val : ℝ) : EReal) := by
  pointwise [k0_pay6]
  rw [weigh E0 Vv q k p w hp hw]

include hp hw in
/-- The first map's products after a block, the values read once. -/
theorem pay5_real (v70 : S1x1024x256.Idx → EReal) (r : Fin 1024) (d : Fin 256) :
    k0_pay5 (F := Ideal) w p v70 (ix3 0 r d) = v70 (ix3 0 r d) + ((apart E0 Vv (q r) k d.val : ℝ) : EReal) := by
  pointwise [k0_pay5]
  rw [weigh E0 Vv q k p w hp hw]

include he in
/-- The second map's sums after a block off the diagonal. -/
theorem pay4_real (v94 : S1x1024x128.Idx → EReal) (r : Fin 1024) (l : Fin 128) :
    k0_pay4 (F := Ideal) (k0_pay19 (F := Ideal) e) v94 (ix3 0 r l) = v94 (ix3 0 r l) + ((lpart E1 (q r) k l.val : ℝ) : EReal) := by
  pointwise [k0_pay4]
  rw [pay19_real E1 q k e he]

/-- The first map's sums after a block on the diagonal. -/
theorem pay23_real (v17 : S1024x1024.Idx → EReal) (v18 v19 : S1024x256.Idx → EReal) (v45 : S1x1024x128.Idx → EReal)
    (h22 : ∀ r s : Fin 1024, k0_pay22 (F := Ideal) v17 v18 v19 (ix2 r s) = ((Real.exp (E0 (q r) (k + s.val)) : ℝ) : EReal)) (r : Fin 1024) (l : Fin 128) :
    k0_pay23 (F := Ideal) v17 v18 v19 v45 (ix3 0 r l) = v45 (ix3 0 r l) + ((lpart E0 (q r) k l.val : ℝ) : EReal) := by
  pointwise [k0_pay23]
  simp only [h22]
  rw [lpart_eq]
  simp only [EReal.coe_add]

end Step

end Cert.Attn

end
-- ==== Proof.Attn.Math.lean ====
module

public import proofs.«01_k».proof.Proof.Attn.Pay

@[expose] public section

set_option maxRecDepth 16384

noncomputable section

namespace Cert.Attn

open Idealize.ShloMosaic Idealize.ShloMosaic.TcCoe Idealize.ShloMosaic.Tactic
open Cert.KernelIdeal

/-! What both programs compute, over the real numbers. -/

/-- The entry of the queries and keys at a row and a column, as a real number. -/
def qkR (x : S16384x4096.Idx → EReal) (r c : ℕ) : ℝ := if h : r < 16384 ∧ c < 4096 then (x (ix2 ⟨r, h.1⟩ ⟨c, h.2⟩)).toReal else 0
/-- The entry of the values at a row and a column, as a real number. -/
def vR (x : S16384x2048.Idx → EReal) (r c : ℕ) : ℝ := if h : r < 16384 ∧ c < 2048 then (x (ix2 ⟨r, h.1⟩ ⟨c, h.2⟩)).toReal else 0

/-- Every entry is a real number. -/
def AllReal {s : Shape} (x : s.Idx → EReal) : Prop := ∀ i, ∃ v : ℝ, x i = (v : EReal)

/-- An entry of the queries and keys is its real. -/
theorem qkR_eq {x : S16384x4096.Idx → EReal} (hx : AllReal x) (r c : ℕ) (hr : r < 16384) (hc : c < 4096) :
    x (ix2 ⟨r, hr⟩ ⟨c, hc⟩) = ((qkR x r c : ℝ) : EReal) := by
  obtain ⟨v, hv⟩ := hx (ix2 ⟨r, hr⟩ ⟨c, hc⟩)
  unfold qkR
  rw [dif_pos ⟨hr, hc⟩, hv, EReal.toReal_coe]

/-- An entry of the values is its real. -/
theorem vR_eq {x : S16384x2048.Idx → EReal} (hx : AllReal x) (r c : ℕ) (hr : r < 16384) (hc : c < 2048) :
    x (ix2 ⟨r, hr⟩ ⟨c, hc⟩) = ((vR x r c : ℝ) : EReal) := by
  obtain ⟨v, hv⟩ := hx (ix2 ⟨r, hr⟩ ⟨c, hc⟩)
  unfold vR
  rw [dif_pos ⟨hr, hc⟩, hv, EReal.toReal_coe]

/-- The queries, keys and values of one head of one sequence. -/
def Qf (x : S16384x4096.Idx → EReal) (b h : ℕ) : ℕ → ℕ → ℝ := fun s d => qkR x (b * 8192 + s) (h * 256 + d)
def Kf (x : S16384x4096.Idx → EReal) (b h : ℕ) : ℕ → ℕ → ℝ := fun s d => qkR x (b * 8192 + s) (2048 + h * 256 + d)
def Vf (x : S16384x2048.Idx → EReal) (b h : ℕ) : ℕ → ℕ → ℝ := fun s d => vR x (b * 8192 + s) (h * 256 + d)

/-- The slope of a head. -/
def slopeR (h : ℕ) : ℝ := (2 : ℝ) ^ (-((h : ℝ) + 1))

/-- The weight of the second map. -/
def lamE (x : S4x128.Idx → EReal) : EReal :=
  Ideal.exp (∑ j : Fin 128, x (ix2 0 j) * x (ix2 1 j)) - Ideal.exp (∑ j : Fin 128, x (ix2 2 j) * x (ix2 3 j)) + Ideal.ofBits FTy.f32 1045220557#32

def lamR (x : S4x128.Idx → EReal) : ℝ := (lamE x).toReal

/-- The literal added to lambda, as a rational. -/
theorem lam_lit : Ideal.ofBits FTy.f32 1045220557#32 = ((13421773 / 67108864 : ℝ) : EReal) := by
  simp [Ideal.ofBits, Ideal.ieee, -EReal.coe_mul]
  norm_num

/-- Lambda of real vectors is real. -/
theorem lamE_eq {x : S4x128.Idx → EReal} (hx : AllReal x) : lamE x = ((lamR x : ℝ) : EReal) := by
  choose f hf using hx
  have e : ∃ v : ℝ, lamE x = (v : EReal) := by
    unfold lamE
    rw [coe_dot _ _ _ _ (fun j => hf (ix2 0 j)) (fun j => hf (ix2 1 j)), coe_dot _ _ _ _ (fun j => hf (ix2 2 j)) (fun j => hf (ix2 3 j)), lam_lit]
    refine ⟨Real.exp (∑ j : Fin 128, f (ix2 0 j) * f (ix2 1 j)) - Real.exp (∑ j : Fin 128, f (ix2 2 j) * f (ix2 3 j)) + 13421773 / 67108864, ?_⟩
    rw [EReal.coe_add, EReal.coe_sub]
    rfl
  obtain ⟨v, hv⟩ := e
  unfold lamR
  rw [hv, EReal.toReal_coe]

/-- The sum of the exponentials of a row of scores. -/
def lsum (E : ℕ → ℕ → ℝ) (q : ℕ) : ℝ := ∑ k ∈ Finset.range 8192, Real.exp (E q k)
/-- The values weighted by the exponentials of a row of scores. -/
def asum (E V : ℕ → ℕ → ℝ) (q e : ℕ) : ℝ := ∑ k ∈ Finset.range 8192, Real.exp (E q k) * V k e

/-- A row's sum of exponentials is positive. -/
theorem lsum_pos (E : ℕ → ℕ → ℝ) (q : ℕ) : 0 < lsum E q :=
  Finset.sum_pos (fun _ _ => Real.exp_pos _) ⟨0, by simp⟩

/-- The difference of the two maps, applied to the values. -/
def diffR (E0 E1 V : ℕ → ℕ → ℝ) (lam : ℝ) (q e : ℕ) : ℝ := asum E0 V q e / lsum E0 q - lam * (asum E1 V q e / lsum E1 q)

/-- A shift of a row of scores leaves the quotient as it is. -/
theorem quot_shift (E E' V : ℕ → ℕ → ℝ) (q e : ℕ) (s : ℝ) (h : ∀ k, E' q k = E q k + s) :
    asum E' V q e / lsum E' q = asum E V q e / lsum E q := by
  have h1 : asum E' V q e = Real.exp s * asum E V q e := by
    unfold asum
    rw [Finset.mul_sum]
    exact Finset.sum_congr rfl fun k _ => by rw [h, Real.exp_add]; ring
  have h2 : lsum E' q = Real.exp s * lsum E q := by
    unfold lsum
    rw [Finset.mul_sum]
    exact Finset.sum_congr rfl fun k _ => by rw [h, Real.exp_add]; ring
  rw [h1, h2, mul_div_mul_left _ _ (Real.exp_pos s).ne']

/-- Two constants taken off a row's scores leave the difference of the two quotients. -/
theorem diff_shift (E0 E1 E0' E1' V : ℕ → ℕ → ℝ) (lam : ℝ) (q e : ℕ) (s0 s1 : ℝ) (h0 : ∀ k, E0' q k = E0 q k + s0) (h1 : ∀ k, E1' q k = E1 q k + s1) :
    diffR E0' E1' V lam q e = diffR E0 E1 V lam q e := by
  unfold diffR
  rw [quot_shift E0 E0' V q e s0 h0, quot_shift E1 E1' V q e s1 h1]

/-- The two maps subtracted first, the values weighted after. -/
theorem diff_of_weights (E0 E1 V : ℕ → ℕ → ℝ) (lam : ℝ) (q e : ℕ) :
    (∑ k : Fin 8192, V k.val e * (Real.exp (E0 q k.val) / lsum E0 q - lam * (Real.exp (E1 q k.val) / lsum E1 q))) = diffR E0 E1 V lam q e := by
  rw [← Finset.sum_range (fun k => V k e * (Real.exp (E0 q k) / lsum E0 q - lam * (Real.exp (E1 q k) / lsum E1 q)))]
  unfold diffR asum
  rw [Finset.sum_div, Finset.sum_div, Finset.mul_sum, ← Finset.sum_sub_distrib]
  exact Finset.sum_congr rfl fun k _ => by ring

/-- A row divided by its root mean square, scaled by a gain and by the layer's constant. -/
def outE (o : Fin 256 → ℝ) (g : EReal) (e : Fin 256) : EReal :=
  ((o e : ℝ) : EReal) * Ideal.rsqrt (Ideal.div (∑ x, ((o x : ℝ) : EReal) * ((o x : ℝ) : EReal)) (Ideal.ofBits FTy.f32 1132462080#32) + Ideal.ofBits FTy.f32 897988541#32)
    * g * Ideal.ofBits FTy.f32 1061997773#32

/-- The layer's result: row `R` of all sequences, column `C` of all heads. -/
def resE (x0 : S16384x4096.Idx → EReal) (x1 : S16384x2048.Idx → EReal) (x2 : S4x128.Idx → EReal) (x3 : Fin 256 → EReal) (sh : ℝ) (R : Fin 16384) (C : Fin 2048) : EReal :=
  outE (fun e => diffR (ex (Qf x0 (R.val / 8192) (C.val / 256)) (Kf x0 (R.val / 8192) (C.val / 256)) (slopeR (C.val / 256)) sh 0)
      (ex (Qf x0 (R.val / 8192) (C.val / 256)) (Kf x0 (R.val / 8192) (C.val / 256)) (slopeR (C.val / 256)) sh 1)
      (Vf x1 (R.val / 8192) (C.val / 256)) (lamR x2) (R.val % 8192) e.val)
    (x3 ⟨C.val % 256, Nat.mod_lt _ (by norm_num)⟩) ⟨C.val % 256, Nat.mod_lt _ (by norm_num)⟩

/-- The score less the shift. -/
theorem ex_shift (Q K : ℕ → ℕ → ℝ) (slope sh : ℝ) (c q k : ℕ) : ex Q K slope sh c q k = ex Q K slope 0 c q k + (-sh) := by
  unfold ex
  ring

/-- The result does not depend on the shift. -/
theorem resE_shift (x0 : S16384x4096.Idx → EReal) (x1 : S16384x2048.Idx → EReal) (x2 : S4x128.Idx → EReal) (x3 : Fin 256 → EReal) (sh : ℝ) (R : Fin 16384) (C : Fin 2048) :
    resE x0 x1 x2 x3 sh R C = resE x0 x1 x2 x3 0 R C := by
  unfold resE
  congr 1
  funext e
  exact diff_shift _ _ _ _ _ _ _ _ (-sh) (-sh) (fun k => ex_shift _ _ _ _ _ _ _) (fun k => ex_shift _ _ _ _ _ _ _)

/-- A quotient of real numbers by a positive one. -/
theorem div_real (a b : ℝ) (hb : 0 < b) : Ideal.div ((a : ℝ) : EReal) ((b : ℝ) : EReal) = ((a / b : ℝ) : EReal) := by
  rw [Ideal.div_coe hb.ne', ← EReal.coe_mul]
  congr 1
  ring

/-! Blocks of a sum. -/

/-- A sum block by block is the sum over all. -/
theorem sum_blocks (f : ℕ → ℝ) (m n : ℕ) : (∑ i ∈ Finset.range n, ∑ j ∈ Finset.range m, f (i * m + j)) = ∑ k ∈ Finset.range (n * m), f k := by
  induction n with
  | zero => simp
  | succ n ih => rw [Finset.sum_range_succ, ih, Nat.succ_mul, Finset.sum_range_add]

end Cert.Attn

end
-- ==== Proof.Attn.Halves.lean ====
module

public import proofs.«01_k».proof.Proof.Attn.Math
public import proofs.«01_k».proof.Proof.Gen.KernelIdeal.Frame
public import proofs.«01_k».proof.Proof.Gen.KernelIdeal.Value
public import Idealize.ShloMosaic.Lib.Pipeline.Value
public import Idealize.ShloMosaic.Lib.Pipeline.ValueKit.Tiles

@[expose] public section

set_option maxRecDepth 16384

noncomputable section

namespace Cert.Attn

open Idealize.ShloMosaic Idealize.ShloMosaic.TcCoe Idealize.ShloMosaic.Tactic Idealize.SL.Sem
open Cert.KernelIdeal Cert.KernelIdeal.Gen

variable (m : (ℓ : Loc nD τ sig) → Buf (Elt Ideal) ℓ)

/-! Reading and writing one half of the two running sums. -/

/-- The first half of the sums of weights. -/
def ld0L (X : Vec Ideal S2x1024x128 .f32) : Vec Ideal S1x1024x128 .f32 :=
  View.ld X (Rect.unit (s := S2x1024x128) ![0, 0, 0] ![1, 1024, 128] inb_S2x1024x128_S1x1024x128_0_0_0)
/-- The second half of the sums of weights. -/
def ld1L (X : Vec Ideal S2x1024x128 .f32) : Vec Ideal S1x1024x128 .f32 :=
  View.ld X (Rect.unit (s := S2x1024x128) ![1, 0, 0] ![1, 1024, 128] inb_S2x1024x128_S1x1024x128_1_0_0)
/-- The first half of the weighted sums of values. -/
def ld0A (X : Vec Ideal S2x1024x256 .f32) : Vec Ideal S1x1024x256 .f32 :=
  View.ld X (Rect.unit (s := S2x1024x256) ![0, 0, 0] ![1, 1024, 256] inb_S2x1024x256_S1x1024x256_0_0_0)
/-- The second half of the weighted sums of values. -/
def ld1A (X : Vec Ideal S2x1024x256 .f32) : Vec Ideal S1x1024x256 .f32 :=
  View.ld X (Rect.unit (s := S2x1024x256) ![1, 0, 0] ![1, 1024, 256] inb_S2x1024x256_S1x1024x256_1_0_0)
/-- The sums of weights after both halves are written. -/
def canonL (w1 w0 : Vec Ideal S1x1024x128 .f32) : Vec Ideal S2x1024x128 .f32 :=
  View.canon (Val := Elt Ideal) (s := S2x1024x128) (e := .f32) [⟨Rect.unit (s := S2x1024x128) ![1, 0, 0] ![1, 1024, 128] inb_S2x1024x128_S1x1024x128_1_0_0, w1⟩,
    ⟨Rect.unit (s := S2x1024x128) ![0, 0, 0] ![1, 1024, 128] inb_S2x1024x128_S1x1024x128_0_0_0, w0⟩]
/-- The weighted sums of values after both halves are written. -/
def canonA (w1 w0 : Vec Ideal S1x1024x256 .f32) : Vec Ideal S2x1024x256 .f32 :=
  View.canon (Val := Elt Ideal) (s := S2x1024x256) (e := .f32) [⟨Rect.unit (s := S2x1024x256) ![1, 0, 0] ![1, 1024, 256] inb_S2x1024x256_S1x1024x256_1_0_0, w1⟩,
    ⟨Rect.unit (s := S2x1024x256) ![0, 0, 0] ![1, 1024, 256] inb_S2x1024x256_S1x1024x256_0_0_0, w0⟩]

/-- Where the first half's entries lie. -/
theorem emb0L (r : Fin 1024) (l : Fin 128) : (Rect.unit (s := S2x1024x128) ![0, 0, 0] ![1, 1024, 128] inb_S2x1024x128_S1x1024x128_0_0_0).emb (ix3 0 r l) = (ix3 0 r l : S2x1024x128.Idx) := by
  funext a; apply Fin.ext
  match a with
  | ⟨0, _⟩ => rfl
  | ⟨1, _⟩ => show 0 + 1 * r.val = r.val; omega
  | ⟨2, _⟩ => show 0 + 1 * l.val = l.val; omega
/-- Where the second half's entries lie. -/
theorem emb1L (r : Fin 1024) (l : Fin 128) : (Rect.unit (s := S2x1024x128) ![1, 0, 0] ![1, 1024, 128] inb_S2x1024x128_S1x1024x128_1_0_0).emb (ix3 0 r l) = (ix3 1 r l : S2x1024x128.Idx) := by
  funext a; apply Fin.ext
  match a with
  | ⟨0, _⟩ => rfl
  | ⟨1, _⟩ => show 0 + 1 * r.val = r.val; omega
  | ⟨2, _⟩ => show 0 + 1 * l.val = l.val; omega
/-- The first half is not in the second. -/
theorem not_memL (r : Fin 1024) (l : Fin 128) : (ix3 0 r l : S2x1024x128.Idx) ∉ (Rect.unit (s := S2x1024x128) ![1, 0, 0] ![1, 1024, 128] inb_S2x1024x128_S1x1024x128_1_0_0).set := by
  rw [Rect.mem_set_unit]
  intro h
  exact absurd (show (1 : ℕ) ≤ 0 from (h 0).1) (by omega)
/-- The first half read. -/
theorem ld0L_at (X : Vec Ideal S2x1024x128 .f32) (r : Fin 1024) (l : Fin 128) : ld0L X (ix3 0 r l) = X (ix3 0 r l) :=
  congrArg X (emb0L r l)
/-- The second half read. -/
theorem ld1L_at (X : Vec Ideal S2x1024x128 .f32) (r : Fin 1024) (l : Fin 128) : ld1L X (ix3 0 r l) = X (ix3 1 r l) :=
  congrArg X (emb1L r l)
/-- What the second half holds after writing, whatever was written before. -/
theorem canon1L (w1 : Vec Ideal S1x1024x128 .f32) (T : List (View.Piece (Elt Ideal) S2x1024x128 .f32)) (r : Fin 1024) (l : Fin 128) :
    View.canon (Val := Elt Ideal) (s := S2x1024x128) (e := .f32) (⟨(Rect.unit (s := S2x1024x128) ![1, 0, 0] ![1, 1024, 128] inb_S2x1024x128_S1x1024x128_1_0_0), w1⟩ :: T) (ix3 1 r l) = w1 (ix3 0 r l) := by
  rw [← emb1L r l]
  exact View.canon_cons_emb (Rect.unit (s := S2x1024x128) ![1, 0, 0] ![1, 1024, 128] inb_S2x1024x128_S1x1024x128_1_0_0) w1 T (ix3 0 r l)
/-- What the first half holds after writing both, whatever was written before. -/
theorem canon0L (w1 w0 : Vec Ideal S1x1024x128 .f32) (T : List (View.Piece (Elt Ideal) S2x1024x128 .f32)) (r : Fin 1024) (l : Fin 128) :
    View.canon (Val := Elt Ideal) (s := S2x1024x128) (e := .f32) (⟨(Rect.unit (s := S2x1024x128) ![1, 0, 0] ![1, 1024, 128] inb_S2x1024x128_S1x1024x128_1_0_0), w1⟩ :: ⟨(Rect.unit (s := S2x1024x128) ![0, 0, 0] ![1, 1024, 128] inb_S2x1024x128_S1x1024x128_0_0_0), w0⟩ :: T) (ix3 0 r l) = w0 (ix3 0 r l) := by
  refine (View.canon_cons_of_not_mem (Val := Elt Ideal) (s := S2x1024x128) (e := .f32) ⟨(Rect.unit (s := S2x1024x128) ![1, 0, 0] ![1, 1024, 128] inb_S2x1024x128_S1x1024x128_1_0_0), w1⟩ (⟨(Rect.unit (s := S2x1024x128) ![0, 0, 0] ![1, 1024, 128] inb_S2x1024x128_S1x1024x128_0_0_0), w0⟩ :: T) (y := ix3 0 r l) (not_memL r l)).trans ?_
  rw [← emb0L r l]
  exact View.canon_cons_emb (Rect.unit (s := S2x1024x128) ![0, 0, 0] ![1, 1024, 128] inb_S2x1024x128_S1x1024x128_0_0_0) w0 T (ix3 0 r l)
/-- A half after both were written. -/
theorem canonL_at0 (w1 w0 : Vec Ideal S1x1024x128 .f32) (r : Fin 1024) (l : Fin 128) : canonL w1 w0 (ix3 0 r l) = w0 (ix3 0 r l) := by
  unfold canonL; exact canon0L w1 w0 [] r l
/-- A half after both were written. -/
theorem canonL_at1 (w1 w0 : Vec Ideal S1x1024x128 .f32) (r : Fin 1024) (l : Fin 128) : canonL w1 w0 (ix3 1 r l) = w1 (ix3 0 r l) := by
  unfold canonL; exact canon1L w1 _ r l
/-- Once both halves are written, nothing older is left. -/
theorem canon_tailL (w1 w0 : Vec Ideal S1x1024x128 .f32) (T : List (View.Piece (Elt Ideal) S2x1024x128 .f32)) :
    View.canon (Val := Elt Ideal) (s := S2x1024x128) (e := .f32) (⟨(Rect.unit (s := S2x1024x128) ![1, 0, 0] ![1, 1024, 128] inb_S2x1024x128_S1x1024x128_1_0_0), w1⟩ :: ⟨(Rect.unit (s := S2x1024x128) ![0, 0, 0] ![1, 1024, 128] inb_S2x1024x128_S1x1024x128_0_0_0), w0⟩ :: T) = canonL w1 w0 := by
  funext j
  idx_vars j
  fin_cases j0
  · exact (canon0L w1 w0 T j1 j2).trans (canonL_at0 w1 w0 j1 j2).symm
  · exact (canon1L w1 _ j1 j2).trans (canonL_at1 w1 w0 j1 j2).symm
/-- Offsets at the origin are no offsets. -/
theorem hz3L : (![0, 0, 0] : Fin 3 → Nat) = fun _ => 0 := funext fun a => by fin_cases a <;> rfl
/-- The first half read back after the whole was written. -/
theorem rc0L {sg : RefSig} {κ : Kind} {sp : Space} (v : View sg κ sp S2x1024x128 .f32) (Z : Vec Ideal S2x1024x128 .f32) :
    v.readCov (Val := Elt Ideal) [⟨(Rect.unit (s := S2x1024x128) ![0, 0, 0] ![2, 1024, 128] inb_S2x1024x128_S2x1024x128_0_0_0), Z⟩] (Rect.unit (s := S2x1024x128) ![0, 0, 0] ![1, 1024, 128] inb_S2x1024x128_S1x1024x128_0_0_0).toLoadRect = ld0L Z := by
  rw [View.readCov_eq_canon', View.canon_cons_unit_zero (S := S2x1024x128) hz3L]
  rfl
/-- The second half read back after the whole and then the first half were written. -/
theorem rc1L {sg : RefSig} {κ : Kind} {sp : Space} (v : View sg κ sp S2x1024x128 .f32) (w : Vec Ideal S1x1024x128 .f32) (Z : Vec Ideal S2x1024x128 .f32) :
    v.readCov (Val := Elt Ideal) [⟨(Rect.unit (s := S2x1024x128) ![0, 0, 0] ![1, 1024, 128] inb_S2x1024x128_S1x1024x128_0_0_0), w⟩, ⟨(Rect.unit (s := S2x1024x128) ![0, 0, 0] ![2, 1024, 128] inb_S2x1024x128_S2x1024x128_0_0_0), Z⟩] (Rect.unit (s := S2x1024x128) ![1, 0, 0] ![1, 1024, 128] inb_S2x1024x128_S1x1024x128_1_0_0).toLoadRect = ld1L Z := by
  rw [View.readCov_eq_canon']
  funext j
  idx_vars j
  obtain rfl : j0 = 0 := Subsingleton.elim _ _
  show View.canon _ ((Rect.unit (s := S2x1024x128) ![1, 0, 0] ![1, 1024, 128] inb_S2x1024x128_S1x1024x128_1_0_0).emb (ix3 0 j1 j2)) = _
  rw [ld1L_at, emb1L, View.canon_cons_of_not_mem, View.canon_cons_unit_zero (S := S2x1024x128) hz3L]
  rw [Rect.mem_set_unit]
  intro h
  have := (h 0).2
  revert this
  show ¬ (1 < 0 + 1)
  omega
/-- The halves read back after both were written. -/
theorem rb0L {sg : RefSig} {κ : Kind} {sp : Space} (v : View sg κ sp S2x1024x128 .f32) (w1 w0 : Vec Ideal S1x1024x128 .f32) :
    v.readCov (Val := Elt Ideal) [⟨(Rect.unit (s := S2x1024x128) ![1, 0, 0] ![1, 1024, 128] inb_S2x1024x128_S1x1024x128_1_0_0), w1⟩, ⟨(Rect.unit (s := S2x1024x128) ![0, 0, 0] ![1, 1024, 128] inb_S2x1024x128_S1x1024x128_0_0_0), w0⟩] (Rect.unit (s := S2x1024x128) ![0, 0, 0] ![1, 1024, 128] inb_S2x1024x128_S1x1024x128_0_0_0).toLoadRect = ld0L (canonL w1 w0) := by
  rw [View.readCov_eq_canon']; unfold ld0L canonL; rfl
/-- The second half of the sums reads back what was written to it last. -/
theorem rb1L {sg : RefSig} {κ : Kind} {sp : Space} (v : View sg κ sp S2x1024x128 .f32) (w1 w0 : Vec Ideal S1x1024x128 .f32) :
    v.readCov (Val := Elt Ideal) [⟨(Rect.unit (s := S2x1024x128) ![1, 0, 0] ![1, 1024, 128] inb_S2x1024x128_S1x1024x128_1_0_0), w1⟩, ⟨(Rect.unit (s := S2x1024x128) ![0, 0, 0] ![1, 1024, 128] inb_S2x1024x128_S1x1024x128_0_0_0), w0⟩] (Rect.unit (s := S2x1024x128) ![1, 0, 0] ![1, 1024, 128] inb_S2x1024x128_S1x1024x128_1_0_0).toLoadRect = ld1L (canonL w1 w0) := by
  rw [View.readCov_eq_canon']; unfold ld1L canonL; rfl
/-- Where the first half's entries lie. -/
theorem emb0A (r : Fin 1024) (l : Fin 256) : (Rect.unit (s := S2x1024x256) ![0, 0, 0] ![1, 1024, 256] inb_S2x1024x256_S1x1024x256_0_0_0).emb (ix3 0 r l) = (ix3 0 r l : S2x1024x256.Idx) := by
  funext a; apply Fin.ext
  match a with
  | ⟨0, _⟩ => rfl
  | ⟨1, _⟩ => show 0 + 1 * r.val = r.val; omega
  | ⟨2, _⟩ => show 0 + 1 * l.val = l.val; omega
/-- Where the second half's entries lie. -/
theorem emb1A (r : Fin 1024) (l : Fin 256) : (Rect.unit (s := S2x1024x256) ![1, 0, 0] ![1, 1024, 256] inb_S2x1024x256_S1x1024x256_1_0_0).emb (ix3 0 r l) = (ix3 1 r l : S2x1024x256.Idx) := by
  funext a; apply Fin.ext
  match a with
  | ⟨0, _⟩ => rfl
  | ⟨1, _⟩ => show 0 + 1 * r.val = r.val; omega
  | ⟨2, _⟩ => show 0 + 1 * l.val = l.val; omega
/-- The first half is not in the second. -/
theorem not_memA (r : Fin 1024) (l : Fin 256) : (ix3 0 r l : S2x1024x256.Idx) ∉ (Rect.unit (s := S2x1024x256) ![1, 0, 0] ![1, 1024, 256] inb_S2x1024x256_S1x1024x256_1_0_0).set := by
  rw [Rect.mem_set_unit]
  intro h
  exact absurd (show (1 : ℕ) ≤ 0 from (h 0).1) (by omega)
/-- The first half read. -/
theorem ld0A_at (X : Vec Ideal S2x1024x256 .f32) (r : Fin 1024) (l : Fin 256) : ld0A X (ix3 0 r l) = X (ix3 0 r l) :=
  congrArg X (emb0A r l)
/-- The second half read. -/
theorem ld1A_at (X : Vec Ideal S2x1024x256 .f32) (r : Fin 1024) (l : Fin 256) : ld1A X (ix3 0 r l) = X (ix3 1 r l) :=
  congrArg X (emb1A r l)
/-- What the second half holds after writing, whatever was written before. -/
theorem canon1A (w1 : Vec Ideal S1x1024x256 .f32) (T : List (View.Piece (Elt Ideal) S2x1024x256 .f32)) (r : Fin 1024) (l : Fin 256) :
    View.canon (Val := Elt Ideal) (s := S2x1024x256) (e := .f32) (⟨(Rect.unit (s := S2x1024x256) ![1, 0, 0] ![1, 1024, 256] inb_S2x1024x256_S1x1024x256_1_0_0), w1⟩ :: T) (ix3 1 r l) = w1 (ix3 0 r l) := by
  rw [← emb1A r l]
  exact View.canon_cons_emb (Rect.unit (s := S2x1024x256) ![1, 0, 0] ![1, 1024, 256] inb_S2x1024x256_S1x1024x256_1_0_0) w1 T (ix3 0 r l)
/-- What the first half holds after writing both, whatever was written before. -/
theorem canon0A (w1 w0 : Vec Ideal S1x1024x256 .f32) (T : List (View.Piece (Elt Ideal) S2x1024x256 .f32)) (r : Fin 1024) (l : Fin 256) :
    View.canon (Val := Elt Ideal) (s := S2x1024x256) (e := .f32) (⟨(Rect.unit (s := S2x1024x256) ![1, 0, 0] ![1, 1024, 256] inb_S2x1024x256_S1x1024x256_1_0_0), w1⟩ :: ⟨(Rect.unit (s := S2x1024x256) ![0, 0, 0] ![1, 1024, 256] inb_S2x1024x256_S1x1024x256_0_0_0), w0⟩ :: T) (ix3 0 r l) = w0 (ix3 0 r l) := by
  refine (View.canon_cons_of_not_mem (Val := Elt Ideal) (s := S2x1024x256) (e := .f32) ⟨(Rect.unit (s := S2x1024x256) ![1, 0, 0] ![1, 1024, 256] inb_S2x1024x256_S1x1024x256_1_0_0), w1⟩ (⟨(Rect.unit (s := S2x1024x256) ![0, 0, 0] ![1, 1024, 256] inb_S2x1024x256_S1x1024x256_0_0_0), w0⟩ :: T) (y := ix3 0 r l) (not_memA r l)).trans ?_
  rw [← emb0A r l]
  exact View.canon_cons_emb (Rect.unit (s := S2x1024x256) ![0, 0, 0] ![1, 1024, 256] inb_S2x1024x256_S1x1024x256_0_0_0) w0 T (ix3 0 r l)
/-- A half after both were written. -/
theorem canonA_at0 (w1 w0 : Vec Ideal S1x1024x256 .f32) (r : Fin 1024) (l : Fin 256) : canonA w1 w0 (ix3 0 r l) = w0 (ix3 0 r l) := by
  unfold canonA; exact canon0A w1 w0 [] r l
/-- A half after both were written. -/
theorem canonA_at1 (w1 w0 : Vec Ideal S1x1024x256 .f32) (r : Fin 1024) (l : Fin 256) : canonA w1 w0 (ix3 1 r l) = w1 (ix3 0 r l) := by
  unfold canonA; exact canon1A w1 _ r l
/-- Once both halves are written, nothing older is left. -/
theorem canon_tailA (w1 w0 : Vec Ideal S1x1024x256 .f32) (T : List (View.Piece (Elt Ideal) S2x1024x256 .f32)) :
    View.canon (Val := Elt Ideal) (s := S2x1024x256) (e := .f32) (⟨(Rect.unit (s := S2x1024x256) ![1, 0, 0] ![1, 1024, 256] inb_S2x1024x256_S1x1024x256_1_0_0), w1⟩ :: ⟨(Rect.unit (s := S2x1024x256) ![0, 0, 0] ![1, 1024, 256] inb_S2x1024x256_S1x1024x256_0_0_0), w0⟩ :: T) = canonA w1 w0 := by
  funext j
  idx_vars j
  fin_cases j0
  · exact (canon0A w1 w0 T j1 j2).trans (canonA_at0 w1 w0 j1 j2).symm
  · exact (canon1A w1 _ j1 j2).trans (canonA_at1 w1 w0 j1 j2).symm
/-- Offsets at the origin are no offsets. -/
theorem hz3A : (![0, 0, 0] : Fin 3 → Nat) = fun _ => 0 := funext fun a => by fin_cases a <;> rfl
/-- The first half read back after the whole was written. -/
theorem rc0A {sg : RefSig} {κ : Kind} {sp : Space} (v : View sg κ sp S2x1024x256 .f32) (Z : Vec Ideal S2x1024x256 .f32) :
    v.readCov (Val := Elt Ideal) [⟨(Rect.unit (s := S2x1024x256) ![0, 0, 0] ![2, 1024, 256] inb_S2x1024x256_S2x1024x256_0_0_0), Z⟩] (Rect.unit (s := S2x1024x256) ![0, 0, 0] ![1, 1024, 256] inb_S2x1024x256_S1x1024x256_0_0_0).toLoadRect = ld0A Z := by
  rw [View.readCov_eq_canon', View.canon_cons_unit_zero (S := S2x1024x256) hz3A]
  rfl
/-- The second half read back after the whole and then the first half were written. -/
theorem rc1A {sg : RefSig} {κ : Kind} {sp : Space} (v : View sg κ sp S2x1024x256 .f32) (w : Vec Ideal S1x1024x256 .f32) (Z : Vec Ideal S2x1024x256 .f32) :
    v.readCov (Val := Elt Ideal) [⟨(Rect.unit (s := S2x1024x256) ![0, 0, 0] ![1, 1024, 256] inb_S2x1024x256_S1x1024x256_0_0_0), w⟩, ⟨(Rect.unit (s := S2x1024x256) ![0, 0, 0] ![2, 1024, 256] inb_S2x1024x256_S2x1024x256_0_0_0), Z⟩] (Rect.unit (s := S2x1024x256) ![1, 0, 0] ![1, 1024, 256] inb_S2x1024x256_S1x1024x256_1_0_0).toLoadRect = ld1A Z := by
  rw [View.readCov_eq_canon']
  funext j
  idx_vars j
  obtain rfl : j0 = 0 := Subsingleton.elim _ _
  show View.canon _ ((Rect.unit (s := S2x1024x256) ![1, 0, 0] ![1, 1024, 256] inb_S2x1024x256_S1x1024x256_1_0_0).emb (ix3 0 j1 j2)) = _
  rw [ld1A_at, emb1A, View.canon_cons_of_not_mem, View.canon_cons_unit_zero (S := S2x1024x256) hz3A]
  rw [Rect.mem_set_unit]
  intro h
  have := (h 0).2
  revert this
  show ¬ (1 < 0 + 1)
  omega
/-- The halves read back after both were written. -/
theorem rb0A {sg : RefSig} {κ : Kind} {sp : Space} (v : View sg κ sp S2x1024x256 .f32) (w1 w0 : Vec Ideal S1x1024x256 .f32) :
    v.readCov (Val := Elt Ideal) [⟨(Rect.unit (s := S2x1024x256) ![1, 0, 0] ![1, 1024, 256] inb_S2x1024x256_S1x1024x256_1_0_0), w1⟩, ⟨(Rect.unit (s := S2x1024x256) ![0, 0, 0] ![1, 1024, 256] inb_S2x1024x256_S1x1024x256_0_0_0), w0⟩] (Rect.unit (s := S2x1024x256) ![0, 0, 0] ![1, 1024, 256] inb_S2x1024x256_S1x1024x256_0_0_0).toLoadRect = ld0A (canonA w1 w0) := by
  rw [View.readCov_eq_canon']; unfold ld0A canonA; rfl
/-- The second half of the products reads back what was written to it last. -/
theorem rb1A {sg : RefSig} {κ : Kind} {sp : Space} (v : View sg κ sp S2x1024x256 .f32) (w1 w0 : Vec Ideal S1x1024x256 .f32) :
    v.readCov (Val := Elt Ideal) [⟨(Rect.unit (s := S2x1024x256) ![1, 0, 0] ![1, 1024, 256] inb_S2x1024x256_S1x1024x256_1_0_0), w1⟩, ⟨(Rect.unit (s := S2x1024x256) ![0, 0, 0] ![1, 1024, 256] inb_S2x1024x256_S1x1024x256_0_0_0), w0⟩] (Rect.unit (s := S2x1024x256) ![1, 0, 0] ![1, 1024, 256] inb_S2x1024x256_S1x1024x256_1_0_0).toLoadRect = ld1A (canonA w1 w0) := by
  rw [View.readCov_eq_canon']; unfold ld1A canonA; rfl

end Cert.Attn
end
-- ==== Proof.Attn.Blk.lean ====
module

public import proofs.«01_k».proof.Proof.Attn.Halves
public import proofs.«01_k».proof.Proof.Gen.KernelIdeal.Frame
public import proofs.«01_k».proof.Proof.Gen.KernelIdeal.Value
public import Idealize.ShloMosaic.Lib.Pipeline.Value
public import Idealize.ShloMosaic.Lib.Pipeline.ValueKit.Tiles

@[expose] public section

set_option maxRecDepth 16384

noncomputable section

namespace Cert.Attn

open Idealize.ShloMosaic Idealize.ShloMosaic.TcCoe Idealize.ShloMosaic.Tactic Idealize.SL.Sem
open Cert.KernelIdeal Cert.KernelIdeal.Gen

variable (m : (ℓ : Loc nD τ sig) → Buf (Elt Ideal) ℓ)

variable (c : Dev nD) (t : Fin cfg0.N)

/-! What a grid point reads. -/

/-- The head's slope. -/
def slA : EReal := (View.ld (iblk m c 0 t) (Rect.unit (s := S8) ![BitVec.toNat (Scalar.indexCast (BitVec.ofNat 32 (grid0.coords t 1).val))] ![1] (k0_off1_inb (grid0.coords t))) (Shape.Idx.first (s := S1) (by decide)))
/-- The score bound. -/
def shA : EReal := (View.ld (iblk m c 1 t) (Rect.unit (s := S1) ![0] ![1] inb_S1_S1_0) (Shape.Idx.first (s := S1) (by decide)))
/-- The block of queries. -/
def qA : Vec Ideal S1024x256 .bf16 := View.ld (iblk m c 6 t) (Rect.unit (s := S1024x256) ![0, 0] ![1024, 256] inb_S1024x256_S1024x256_0_0)
/-- The block of keys. -/
def kA : Vec Ideal S1024x256 .bf16 := View.ld (iblk m c 7 t) (Rect.unit (s := S1024x256) ![0, 0] ![1024, 256] inb_S1024x256_S1024x256_0_0)
/-- The block of values. -/
def vA : Vec Ideal S1024x256 .bf16 := View.ld (iblk m c 8 t) (Rect.unit (s := S1024x256) ![0, 0] ![1024, 256] inb_S1024x256_S1024x256_0_0)
/-- The bias a grid point reads from the kept block. -/
def bA (X : Vec Ideal S1024x1024 .f32) : Vec Ideal S1024x1024 .f32 := View.ld X (Rect.unit (s := S1024x1024) ![0, 0] ![1024, 1024] inb_S1024x1024_S1024x1024_0_0)
/-- The second map's shifted scores of an off-diagonal block. -/
def e1A : Vec Ideal S1024x1024 .f32 := k0_pay13 (F := Ideal) (BitVec.ofNat 32 (grid0.coords t 2).val) (BitVec.ofNat 32 (grid0.coords t 3).val) (slA m c t)
    (View.ld (iblk m c 4 t) (Rect.unit (s := S3x1024x128) ![0, 0, 0] ![1, 1024, 128] inb_S3x1024x128_S1x1024x128_0_0_0))
    (View.ld (iblk m c 4 t) (Rect.unit (s := S3x1024x128) ![1, 0, 0] ![1, 1024, 128] inb_S3x1024x128_S1x1024x128_1_0_0))
    (View.ld (iblk m c 4 t) (Rect.unit (s := S3x1024x128) ![2, 0, 0] ![1, 1024, 128] inb_S3x1024x128_S1x1024x128_2_0_0))
    (View.ld (iblk m c 5 t) (Rect.unit (s := S1024x128) ![0, 0] ![1024, 128] inb_S1024x128_S1024x128_0_0)) (qA m c t) (kA m c t)
/-- The first map's weights of an off-diagonal block. -/
def p0A : Vec Ideal S1024x1024 .f32 := k0_pay14 (F := Ideal) (BitVec.ofNat 32 (grid0.coords t 2).val) (BitVec.ofNat 32 (grid0.coords t 3).val) (slA m c t)
    (View.ld (iblk m c 4 t) (Rect.unit (s := S3x1024x128) ![0, 0, 0] ![1, 1024, 128] inb_S3x1024x128_S1x1024x128_0_0_0))
    (View.ld (iblk m c 4 t) (Rect.unit (s := S3x1024x128) ![1, 0, 0] ![1, 1024, 128] inb_S3x1024x128_S1x1024x128_1_0_0))
    (View.ld (iblk m c 4 t) (Rect.unit (s := S3x1024x128) ![2, 0, 0] ![1, 1024, 128] inb_S3x1024x128_S1x1024x128_2_0_0))
    (View.ld (iblk m c 5 t) (Rect.unit (s := S1024x128) ![0, 0] ![1024, 128] inb_S1024x128_S1024x128_0_0)) (qA m c t) (kA m c t)
/-- The first two lane groups of those weights, added. -/
def p15A : Vec Ideal S1024x128 .f32 := k0_pay15 (F := Ideal) (BitVec.ofNat 32 (grid0.coords t 2).val) (BitVec.ofNat 32 (grid0.coords t 3).val) (slA m c t)
    (View.ld (iblk m c 4 t) (Rect.unit (s := S3x1024x128) ![0, 0, 0] ![1, 1024, 128] inb_S3x1024x128_S1x1024x128_0_0_0))
    (View.ld (iblk m c 4 t) (Rect.unit (s := S3x1024x128) ![1, 0, 0] ![1, 1024, 128] inb_S3x1024x128_S1x1024x128_1_0_0))
    (View.ld (iblk m c 4 t) (Rect.unit (s := S3x1024x128) ![2, 0, 0] ![1, 1024, 128] inb_S3x1024x128_S1x1024x128_2_0_0))
    (View.ld (iblk m c 5 t) (Rect.unit (s := S1024x128) ![0, 0] ![1024, 128] inb_S1024x128_S1024x128_0_0)) (qA m c t) (kA m c t)

/-! The two running sums after one block. -/

/-- The sums of weights after an off-diagonal block. -/
def offL (X : Vec Ideal S2x1024x128 .f32) : Vec Ideal S2x1024x128 .f32 :=
  canonL (k0_pay4 (F := Ideal) (k0_pay19 (e1A m c t)) (ld1L X)) (k0_pay16 (F := Ideal) (p0A m c t) (p15A m c t) (ld0L X))
/-- The weighted sums of values after an off-diagonal block. -/
def offS (X : Vec Ideal S2x1024x256 .f32) : Vec Ideal S2x1024x256 .f32 :=
  canonA (k0_pay5 (F := Ideal) (vA m c t) (k0_pay18 (e1A m c t)) (ld1A X)) (k0_pay17 (F := Ideal) (vA m c t) (p0A m c t) (ld0A X))
/-- The sums of weights after a diagonal block with the given bias. -/
def diaL (β : Vec Ideal S1024x1024 .f32) (X : Vec Ideal S2x1024x128 .f32) : Vec Ideal S2x1024x128 .f32 :=
  canonL (k0_pay8 (F := Ideal) (k0_pay21 β (qA m c t) (kA m c t)) (ld1L X)) (k0_pay23 (F := Ideal) β (qA m c t) (kA m c t) (ld0L X))
/-- The weighted sums of values after a diagonal block with the given bias. -/
def diaS (β : Vec Ideal S1024x1024 .f32) (X : Vec Ideal S2x1024x256 .f32) : Vec Ideal S2x1024x256 .f32 :=
  canonA (k0_pay9 (F := Ideal) (k0_pay21 β (qA m c t) (kA m c t)) (vA m c t) (ld1A X)) (k0_pay6 (F := Ideal) (vA m c t) (k0_pay22 β (qA m c t) (kA m c t)) (ld0A X))
/-- The bias the first block of a head computes. -/
def biasA : Vec Ideal S1024x1024 .f32 := k0_pay20 (F := Ideal) (slA m c t) (shA m c t)
/-- The difference of the two maps' outputs. -/
def difA (L : Vec Ideal S2x1024x128 .f32) (A : Vec Ideal S2x1024x256 .f32) : Vec Ideal S1024x256 .bf16 :=
  k0_pay10 (F := Ideal)
    (k0_pay24 (View.ld (iblk m c 2 t) (Rect.unit (s := S4x128) ![0, 0] ![4, 128] inb_S4x128_S4x128_0_0)) (ld0L L) (ld1L L) (ld0A A) (ld1A A))
    (k0_pay25 (View.ld (iblk m c 2 t) (Rect.unit (s := S4x128) ![0, 0] ![4, 128] inb_S4x128_S4x128_0_0)) (ld0L L) (ld1L L) (ld0A A) (ld1A A))
    k0_pay26 (View.ld (iblk m c 3 t) (Rect.unit (s := S1x256) ![0, 0] ![1, 256] inb_S1x256_S1x256_0_0))
/-- What the point before left. -/
abbrev prevA := outsAt0 m c (t.val - 1) (Nat.lt_of_le_of_lt (Nat.sub_le _ _) t.isLt)

/-- Offsets at the origin are no offsets. -/
theorem hz2 : (![0, 0] : Fin 2 → Nat) = fun _ => 0 := funext fun a => by fin_cases a <;> rfl
/-- The bias read back right after it was written. -/
theorem rcB {sg : RefSig} {κ : Kind} {sp : Space} (v : View sg κ sp S1024x1024 .f32) (Z : Vec Ideal S1024x1024 .f32) :
    v.readCov (Val := Elt Ideal) [⟨(Rect.unit (s := S1024x1024) ![0, 0] ![1024, 1024] inb_S1024x1024_S1024x1024_0_0), Z⟩] (Rect.unit (s := S1024x1024) ![0, 0] ![1024, 1024] inb_S1024x1024_S1024x1024_0_0).toLoadRect = Z :=
  View.readCov_unit_zero (S := S1024x1024) v hz2 _ Z
/-- The whole bias read. -/
theorem bA_eq (X : Vec Ideal S1024x1024 .f32) : bA X = X := View.ld_unit_zero (S := S1024x1024) hz2 _ X

end Cert.Attn
end
-- ==== Proof.Attn.CaseA.lean ====
module

public import proofs.«01_k».proof.Proof.Attn.Blk
public import proofs.«01_k».proof.Proof.Gen.KernelIdeal.Frame
public import proofs.«01_k».proof.Proof.Gen.KernelIdeal.Value
public import Idealize.ShloMosaic.Lib.Pipeline.Value
public import Idealize.ShloMosaic.Lib.Pipeline.ValueKit.Tiles

@[expose] public section

set_option maxRecDepth 16384

noncomputable section

namespace Cert.Attn

open Idealize.ShloMosaic Idealize.ShloMosaic.TcCoe Idealize.ShloMosaic.Tactic Idealize.SL.Sem
open Cert.KernelIdeal Cert.KernelIdeal.Gen

variable (m : (ℓ : Loc nD τ sig) → Buf (Elt Ideal) ℓ)

variable (c : Dev nD) (t : Fin cfg0.N)

/-- The sums of weights after a point of case A. -/
theorem l_A (h0 : t.val % 8 = 0) (h1 : ¬t.val / 8 % 8 ≠ t.val % 8) (h2 : t.val / 8 % 8 = t.val % 8) (h3 : ¬t.val % 8 = 7) (h4 : t.val / 8 % 8 = 0) :
    (outsAt0 m c t.val t.isLt).2.1 = diaL m c t (biasA m c t) (k0_pay2 (F := Ideal)) := by
  rw [outsAt0_A m c t h0 h1 h2 h3 h4]
  dsimp only
  unfold sout0_A_1
  rw [View.read_writes_eq_canon]
  rotate_left
  · intro y; apply scover0_A_1
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (Memref.isWhole_whole _).read_unread, rcB, rc0L, rc1L, rc0A, rc1A, rb0L, rb1L, rb0A, rb1A, canon_tailL, canon_tailA]
  rfl

/-- The weighted sums of values after a point of case A. -/
theorem s_A (h0 : t.val % 8 = 0) (h1 : ¬t.val / 8 % 8 ≠ t.val % 8) (h2 : t.val / 8 % 8 = t.val % 8) (h3 : ¬t.val % 8 = 7) (h4 : t.val / 8 % 8 = 0) :
    (outsAt0 m c t.val t.isLt).2.2.1 = diaS m c t (biasA m c t) (k0_pay3 (F := Ideal)) := by
  rw [outsAt0_A m c t h0 h1 h2 h3 h4]
  dsimp only
  unfold sout0_A_2
  rw [View.read_writes_eq_canon]
  rotate_left
  · intro y; apply scover0_A_2
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (Memref.isWhole_whole _).read_unread, rcB, rc0L, rc1L, rc0A, rc1A, rb0L, rb1L, rb0A, rb1A, canon_tailL, canon_tailA]
  rfl

/-- The kept bias after a point of case A. -/
theorem b_A (h0 : t.val % 8 = 0) (h1 : ¬t.val / 8 % 8 ≠ t.val % 8) (h2 : t.val / 8 % 8 = t.val % 8) (h3 : ¬t.val % 8 = 7) (h4 : t.val / 8 % 8 = 0) :
    (outsAt0 m c t.val t.isLt).2.2.2 = biasA m c t := by
  rw [outsAt0_A m c t h0 h1 h2 h3 h4]
  dsimp only
  unfold sout0_A_3
  rw [View.read_writes_eq_canon]
  rotate_left
  · intro y; apply scover0_A_3
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (Memref.isWhole_whole _).read_unread, rcB, rc0L, rc1L, rc0A, rc1A, rb0L, rb1L, rb0A, rb1A, canon_tailL, canon_tailA]
  refine (View.canon_unit_zero (S := S1024x1024) hz2 _ _).trans ?_
  rfl

end Cert.Attn
end
-- ==== Proof.Attn.CaseB.lean ====
module

public import proofs.«01_k».proof.Proof.Attn.Blk
public import proofs.«01_k».proof.Proof.Gen.KernelIdeal.Frame
public import proofs.«01_k».proof.Proof.Gen.KernelIdeal.Value
public import Idealize.ShloMosaic.Lib.Pipeline.Value
public import Idealize.ShloMosaic.Lib.Pipeline.ValueKit.Tiles

@[expose] public section

set_option maxRecDepth 16384

noncomputable section

namespace Cert.Attn

open Idealize.ShloMosaic Idealize.ShloMosaic.TcCoe Idealize.ShloMosaic.Tactic Idealize.SL.Sem
open Cert.KernelIdeal Cert.KernelIdeal.Gen

variable (m : (ℓ : Loc nD τ sig) → Buf (Elt Ideal) ℓ)

variable (c : Dev nD) (t : Fin cfg0.N)

/-- The sums of weights after a point of case B. -/
theorem l_B (h0 : ¬t.val % 8 = 0) (h1 : t.val / 8 % 8 ≠ t.val % 8) (h2 : ¬t.val / 8 % 8 = t.val % 8) (h3 : ¬t.val % 8 = 7) :
    (outsAt0 m c t.val t.isLt).2.1 = offL m c t (prevA m c t).2.1 := by
  rw [outsAt0_B m c t h0 h1 h2 h3]
  dsimp only
  unfold sout0_B_1
  rw [View.read_writes_eq_canon]
  rotate_left
  · intro y; apply scover0_B_1
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (Memref.isWhole_whole _).read_unread, rcB, rc0L, rc1L, rc0A, rc1A, rb0L, rb1L, rb0A, rb1A, canon_tailL, canon_tailA]
  rfl

/-- The weighted sums of values after a point of case B. -/
theorem s_B (h0 : ¬t.val % 8 = 0) (h1 : t.val / 8 % 8 ≠ t.val % 8) (h2 : ¬t.val / 8 % 8 = t.val % 8) (h3 : ¬t.val % 8 = 7) :
    (outsAt0 m c t.val t.isLt).2.2.1 = offS m c t (prevA m c t).2.2.1 := by
  rw [outsAt0_B m c t h0 h1 h2 h3]
  dsimp only
  unfold sout0_B_2
  rw [View.read_writes_eq_canon]
  rotate_left
  · intro y; apply scover0_B_2
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (Memref.isWhole_whole _).read_unread, rcB, rc0L, rc1L, rc0A, rc1A, rb0L, rb1L, rb0A, rb1A, canon_tailL, canon_tailA]
  rfl

/-- The kept bias after a point of case B. -/
theorem b_B (h0 : ¬t.val % 8 = 0) (h1 : t.val / 8 % 8 ≠ t.val % 8) (h2 : ¬t.val / 8 % 8 = t.val % 8) (h3 : ¬t.val % 8 = 7) :
    (outsAt0 m c t.val t.isLt).2.2.2 = (prevA m c t).2.2.2 := by
  rw [outsAt0_B m c t h0 h1 h2 h3]
  rfl

end Cert.Attn
end
-- ==== Proof.Attn.CaseC.lean ====
module

public import proofs.«01_k».proof.Proof.Attn.Blk
public import proofs.«01_k».proof.Proof.Gen.KernelIdeal.Frame
public import proofs.«01_k».proof.Proof.Gen.KernelIdeal.Value
public import Idealize.ShloMosaic.Lib.Pipeline.Value
public import Idealize.ShloMosaic.Lib.Pipeline.ValueKit.Tiles

@[expose] public section

set_option maxRecDepth 16384

noncomputable section

namespace Cert.Attn

open Idealize.ShloMosaic Idealize.ShloMosaic.TcCoe Idealize.ShloMosaic.Tactic Idealize.SL.Sem
open Cert.KernelIdeal Cert.KernelIdeal.Gen

variable (m : (ℓ : Loc nD τ sig) → Buf (Elt Ideal) ℓ)

variable (c : Dev nD) (t : Fin cfg0.N)

/-- The sums of weights after a point of case C. -/
theorem l_C (h0 : ¬t.val % 8 = 0) (h1 : t.val / 8 % 8 ≠ t.val % 8) (h2 : ¬t.val / 8 % 8 = t.val % 8) (h3 : t.val % 8 = 7) :
    (outsAt0 m c t.val t.isLt).2.1 = offL m c t (prevA m c t).2.1 := by
  rw [outsAt0_C m c t h0 h1 h2 h3]
  dsimp only
  unfold sout0_C_1
  rw [View.read_writes_eq_canon]
  rotate_left
  · intro y; apply scover0_C_1
  unfold kernelRun0_C
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (Memref.isWhole_whole _).read_unread, rcB, rc0L, rc1L, rc0A, rc1A, rb0L, rb1L, rb0A, rb1A, canon_tailL, canon_tailA]
  rfl

/-- The weighted sums of values after a point of case C. -/
theorem s_C (h0 : ¬t.val % 8 = 0) (h1 : t.val / 8 % 8 ≠ t.val % 8) (h2 : ¬t.val / 8 % 8 = t.val % 8) (h3 : t.val % 8 = 7) :
    (outsAt0 m c t.val t.isLt).2.2.1 = offS m c t (prevA m c t).2.2.1 := by
  rw [outsAt0_C m c t h0 h1 h2 h3]
  dsimp only
  unfold sout0_C_2
  rw [View.read_writes_eq_canon]
  rotate_left
  · intro y; apply scover0_C_2
  unfold kernelRun0_C
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (Memref.isWhole_whole _).read_unread, rcB, rc0L, rc1L, rc0A, rc1A, rb0L, rb1L, rb0A, rb1A, canon_tailL, canon_tailA]
  rfl

/-- The kept bias after a point of case C. -/
theorem b_C (h0 : ¬t.val % 8 = 0) (h1 : t.val / 8 % 8 ≠ t.val % 8) (h2 : ¬t.val / 8 % 8 = t.val % 8) (h3 : t.val % 8 = 7) :
    (outsAt0 m c t.val t.isLt).2.2.2 = (prevA m c t).2.2.2 := by
  rw [outsAt0_C m c t h0 h1 h2 h3]
  rfl

/-- The output block after a point of case C. -/
theorem o_C (h0 : ¬t.val % 8 = 0) (h1 : t.val / 8 % 8 ≠ t.val % 8) (h2 : ¬t.val / 8 % 8 = t.val % 8) (h3 : t.val % 8 = 7) :
    (outsAt0 m c t.val t.isLt).1 = difA m c t (offL m c t (prevA m c t).2.1) (offS m c t (prevA m c t).2.2.1) := by
  rw [outsAt0_C m c t h0 h1 h2 h3]
  dsimp only
  unfold out0_C_9
  rw [View.read_writes_eq_canon]
  rotate_left
  · intro y; apply cover0_C_9
  unfold kernelRun0_C
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (Memref.isWhole_whole _).read_unread, rcB, rc0L, rc1L, rc0A, rc1A, rb0L, rb1L, rb0A, rb1A, canon_tailL, canon_tailA]
  refine (View.canon_unit_zero (S := S1024x256) hz2 _ _).trans ?_
  rfl

end Cert.Attn
end
-- ==== Proof.Attn.CaseD.lean ====
module

public import proofs.«01_k».proof.Proof.Attn.Blk
public import proofs.«01_k».proof.Proof.Gen.KernelIdeal.Frame
public import proofs.«01_k».proof.Proof.Gen.KernelIdeal.Value
public import Idealize.ShloMosaic.Lib.Pipeline.Value
public import Idealize.ShloMosaic.Lib.Pipeline.ValueKit.Tiles

@[expose] public section

set_option maxRecDepth 16384

noncomputable section

namespace Cert.Attn

open Idealize.ShloMosaic Idealize.ShloMosaic.TcCoe Idealize.ShloMosaic.Tactic Idealize.SL.Sem
open Cert.KernelIdeal Cert.KernelIdeal.Gen

variable (m : (ℓ : Loc nD τ sig) → Buf (Elt Ideal) ℓ)

variable (c : Dev nD) (t : Fin cfg0.N)

/-- The sums of weights after a point of case D. -/
theorem l_D (h0 : t.val % 8 = 0) (h1 : t.val / 8 % 8 ≠ t.val % 8) (h2 : ¬t.val / 8 % 8 = t.val % 8) (h3 : ¬t.val % 8 = 7) :
    (outsAt0 m c t.val t.isLt).2.1 = offL m c t (k0_pay2 (F := Ideal)) := by
  rw [outsAt0_D m c t h0 h1 h2 h3]
  dsimp only
  unfold sout0_D_1
  rw [View.read_writes_eq_canon]
  rotate_left
  · intro y; apply scover0_D_1
  unfold kernelRun0_D
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (Memref.isWhole_whole _).read_unread, rcB, rc0L, rc1L, rc0A, rc1A, rb0L, rb1L, rb0A, rb1A, canon_tailL, canon_tailA]
  rfl

/-- The weighted sums of values after a point of case D. -/
theorem s_D (h0 : t.val % 8 = 0) (h1 : t.val / 8 % 8 ≠ t.val % 8) (h2 : ¬t.val / 8 % 8 = t.val % 8) (h3 : ¬t.val % 8 = 7) :
    (outsAt0 m c t.val t.isLt).2.2.1 = offS m c t (k0_pay3 (F := Ideal)) := by
  rw [outsAt0_D m c t h0 h1 h2 h3]
  dsimp only
  unfold sout0_D_2
  rw [View.read_writes_eq_canon]
  rotate_left
  · intro y; apply scover0_D_2
  unfold kernelRun0_D
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (Memref.isWhole_whole _).read_unread, rcB, rc0L, rc1L, rc0A, rc1A, rb0L, rb1L, rb0A, rb1A, canon_tailL, canon_tailA]
  rfl

/-- The kept bias after a point of case D. -/
theorem b_D (h0 : t.val % 8 = 0) (h1 : t.val / 8 % 8 ≠ t.val % 8) (h2 : ¬t.val / 8 % 8 = t.val % 8) (h3 : ¬t.val % 8 = 7) :
    (outsAt0 m c t.val t.isLt).2.2.2 = (prevA m c t).2.2.2 := by
  rw [outsAt0_D m c t h0 h1 h2 h3]
  rfl

end Cert.Attn
end
-- ==== Proof.Attn.CaseE.lean ====
module

public import proofs.«01_k».proof.Proof.Attn.Blk
public import proofs.«01_k».proof.Proof.Gen.KernelIdeal.Frame
public import proofs.«01_k».proof.Proof.Gen.KernelIdeal.Value
public import Idealize.ShloMosaic.Lib.Pipeline.Value
public import Idealize.ShloMosaic.Lib.Pipeline.ValueKit.Tiles

@[expose] public section

set_option maxRecDepth 16384

noncomputable section

namespace Cert.Attn

open Idealize.ShloMosaic Idealize.ShloMosaic.TcCoe Idealize.ShloMosaic.Tactic Idealize.SL.Sem
open Cert.KernelIdeal Cert.KernelIdeal.Gen

variable (m : (ℓ : Loc nD τ sig) → Buf (Elt Ideal) ℓ)

variable (c : Dev nD) (t : Fin cfg0.N)

/-- The sums of weights after a point of case E. -/
theorem l_E (h0 : ¬t.val % 8 = 0) (h1 : ¬t.val / 8 % 8 ≠ t.val % 8) (h2 : t.val / 8 % 8 = t.val % 8) (h3 : ¬t.val % 8 = 7) (h4 : ¬t.val / 8 % 8 = 0) :
    (outsAt0 m c t.val t.isLt).2.1 = diaL m c t (bA (prevA m c t).2.2.2) (prevA m c t).2.1 := by
  rw [outsAt0_E m c t h0 h1 h2 h3 h4]
  dsimp only
  unfold sout0_E_1
  rw [View.read_writes_eq_canon]
  rotate_left
  · intro y; apply scover0_E_1
  unfold kernelRun0_E
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (Memref.isWhole_whole _).read_unread, rcB, rc0L, rc1L, rc0A, rc1A, rb0L, rb1L, rb0A, rb1A, canon_tailL, canon_tailA]
  rfl

/-- The weighted sums of values after a point of case E. -/
theorem s_E (h0 : ¬t.val % 8 = 0) (h1 : ¬t.val / 8 % 8 ≠ t.val % 8) (h2 : t.val / 8 % 8 = t.val % 8) (h3 : ¬t.val % 8 = 7) (h4 : ¬t.val / 8 % 8 = 0) :
    (outsAt0 m c t.val t.isLt).2.2.1 = diaS m c t (bA (prevA m c t).2.2.2) (prevA m c t).2.2.1 := by
  rw [outsAt0_E m c t h0 h1 h2 h3 h4]
  dsimp only
  unfold sout0_E_2
  rw [View.read_writes_eq_canon]
  rotate_left
  · intro y; apply scover0_E_2
  unfold kernelRun0_E
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (Memref.isWhole_whole _).read_unread, rcB, rc0L, rc1L, rc0A, rc1A, rb0L, rb1L, rb0A, rb1A, canon_tailL, canon_tailA]
  rfl

/-- The kept bias after a point of case E. -/
theorem b_E (h0 : ¬t.val % 8 = 0) (h1 : ¬t.val / 8 % 8 ≠ t.val % 8) (h2 : t.val / 8 % 8 = t.val % 8) (h3 : ¬t.val % 8 = 7) (h4 : ¬t.val / 8 % 8 = 0) :
    (outsAt0 m c t.val t.isLt).2.2.2 = (prevA m c t).2.2.2 := by
  rw [outsAt0_E m c t h0 h1 h2 h3 h4]
  rfl

end Cert.Attn
end
-- ==== Proof.Attn.CaseF.lean ====
module

public import proofs.«01_k».proof.Proof.Attn.Blk
public import proofs.«01_k».proof.Proof.Gen.KernelIdeal.Frame
public import proofs.«01_k».proof.Proof.Gen.KernelIdeal.Value
public import Idealize.ShloMosaic.Lib.Pipeline.Value
public import Idealize.ShloMosaic.Lib.Pipeline.ValueKit.Tiles

@[expose] public section

set_option maxRecDepth 16384

noncomputable section

namespace Cert.Attn

open Idealize.ShloMosaic Idealize.ShloMosaic.TcCoe Idealize.ShloMosaic.Tactic Idealize.SL.Sem
open Cert.KernelIdeal Cert.KernelIdeal.Gen

variable (m : (ℓ : Loc nD τ sig) → Buf (Elt Ideal) ℓ)

variable (c : Dev nD) (t : Fin cfg0.N)

/-- The sums of weights after a point of case F. -/
theorem l_F (h0 : ¬t.val % 8 = 0) (h1 : ¬t.val / 8 % 8 ≠ t.val % 8) (h2 : t.val / 8 % 8 = t.val % 8) (h3 : t.val % 8 = 7) (h4 : ¬t.val / 8 % 8 = 0) :
    (outsAt0 m c t.val t.isLt).2.1 = diaL m c t (bA (prevA m c t).2.2.2) (prevA m c t).2.1 := by
  rw [outsAt0_F m c t h0 h1 h2 h3 h4]
  dsimp only
  unfold sout0_F_1
  rw [View.read_writes_eq_canon]
  rotate_left
  · intro y; apply scover0_F_1
  unfold kernelRun0_F
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (Memref.isWhole_whole _).read_unread, rcB, rc0L, rc1L, rc0A, rc1A, rb0L, rb1L, rb0A, rb1A, canon_tailL, canon_tailA]
  rfl

/-- The weighted sums of values after a point of case F. -/
theorem s_F (h0 : ¬t.val % 8 = 0) (h1 : ¬t.val / 8 % 8 ≠ t.val % 8) (h2 : t.val / 8 % 8 = t.val % 8) (h3 : t.val % 8 = 7) (h4 : ¬t.val / 8 % 8 = 0) :
    (outsAt0 m c t.val t.isLt).2.2.1 = diaS m c t (bA (prevA m c t).2.2.2) (prevA m c t).2.2.1 := by
  rw [outsAt0_F m c t h0 h1 h2 h3 h4]
  dsimp only
  unfold sout0_F_2
  rw [View.read_writes_eq_canon]
  rotate_left
  · intro y; apply scover0_F_2
  unfold kernelRun0_F
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (Memref.isWhole_whole _).read_unread, rcB, rc0L, rc1L, rc0A, rc1A, rb0L, rb1L, rb0A, rb1A, canon_tailL, canon_tailA]
  rfl

/-- The kept bias after a point of case F. -/
theorem b_F (h0 : ¬t.val % 8 = 0) (h1 : ¬t.val / 8 % 8 ≠ t.val % 8) (h2 : t.val / 8 % 8 = t.val % 8) (h3 : t.val % 8 = 7) (h4 : ¬t.val / 8 % 8 = 0) :
    (outsAt0 m c t.val t.isLt).2.2.2 = (prevA m c t).2.2.2 := by
  rw [outsAt0_F m c t h0 h1 h2 h3 h4]
  rfl

/-- The output block after a point of case F. -/
theorem o_F (h0 : ¬t.val % 8 = 0) (h1 : ¬t.val / 8 % 8 ≠ t.val % 8) (h2 : t.val / 8 % 8 = t.val % 8) (h3 : t.val % 8 = 7) (h4 : ¬t.val / 8 % 8 = 0) :
    (outsAt0 m c t.val t.isLt).1 = difA m c t (diaL m c t (bA (prevA m c t).2.2.2) (prevA m c t).2.1) (diaS m c t (bA (prevA m c t).2.2.2) (prevA m c t).2.2.1) := by
  rw [outsAt0_F m c t h0 h1 h2 h3 h4]
  dsimp only
  unfold out0_F_9
  rw [View.read_writes_eq_canon]
  rotate_left
  · intro y; apply cover0_F_9
  unfold kernelRun0_F
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (Memref.isWhole_whole _).read_unread, rcB, rc0L, rc1L, rc0A, rc1A, rb0L, rb1L, rb0A, rb1A, canon_tailL, canon_tailA]
  refine (View.canon_unit_zero (S := S1024x256) hz2 _ _).trans ?_
  rfl

end Cert.Attn
end
-- ==== Proof.Attn.Reads.lean ====
module

public import proofs.«01_k».proof.Proof.Attn.Blk
public import proofs.«01_k».proof.Proof.Gen.KernelIdeal.Frame
public import proofs.«01_k».proof.Proof.Gen.KernelIdeal.Value
public import Idealize.ShloMosaic.Lib.Pipeline.Value
public import Idealize.ShloMosaic.Lib.Pipeline.ValueKit.Tiles

@[expose] public section

set_option maxRecDepth 16384

noncomputable section

namespace Cert.Attn

open Idealize.ShloMosaic Idealize.ShloMosaic.TcCoe Idealize.ShloMosaic.Tactic Idealize.SL.Sem
open Cert.KernelIdeal Cert.KernelIdeal.Gen

variable (m : (ℓ : Loc nD τ sig) → Buf (Elt Ideal) ℓ)

variable (c : Dev nD) (t : Fin cfg0.N)

/-! The grid: batch, head, query block, key block. -/

/-- The second coordinate of a step: the head. -/
theorem co1 : ∀ t : Fin cfg0.N, (grid0.coords t 1).val = t.val / 64 % 8 := (by decide +kernel : ∀ t : Fin grid0.N, _)
/-- The third coordinate of a step: the block of queries. -/
theorem co2 : ∀ t : Fin cfg0.N, (grid0.coords t 2).val = t.val / 8 % 8 := (by decide +kernel : ∀ t : Fin grid0.N, _)
/-- The fourth coordinate of a step: the block of keys. -/
theorem co3 : ∀ t : Fin cfg0.N, (grid0.coords t 3).val = t.val % 8 := (by decide +kernel : ∀ t : Fin grid0.N, _)
/-- The block of queries a step reads. -/
theorem ind6 : ∀ t : Fin cfg0.N, win0_6.index t 0 = t.val / 512 * 8 + t.val / 8 % 8 ∧ win0_6.index t 1 = t.val / 64 % 8 := (by decide +kernel : ∀ t : Fin grid0.N, _)
/-- The block of keys a step reads. -/
theorem ind7 : ∀ t : Fin cfg0.N, win0_7.index t 0 = t.val / 512 * 8 + t.val % 8 ∧ win0_7.index t 1 = 8 + t.val / 64 % 8 := (by decide +kernel : ∀ t : Fin grid0.N, _)
/-- The block of values a step reads. -/
theorem ind8 : ∀ t : Fin cfg0.N, win0_8.index t 0 = t.val / 512 * 8 + t.val % 8 ∧ win0_8.index t 1 = t.val / 64 % 8 := (by decide +kernel : ∀ t : Fin grid0.N, _)
/-- The block of the output a step holds. -/
theorem ind9 : ∀ t : Fin cfg0.N, win0_9.index t 0 = t.val / 512 * 8 + t.val / 8 % 8 ∧ win0_9.index t 1 = t.val / 64 % 8 := (by decide +kernel : ∀ t : Fin grid0.N, _)
/-- There are 1024 steps. -/
theorem N_lt : t.val < 1024 := lt_of_lt_of_eq t.isLt N_0

/-- The queries and keys as the call finds them. -/
def X0 : S16384x4096.Idx → EReal := V m c main_arg0
/-- The values as the call finds them. -/
def X1 : S16384x2048.Idx → EReal := V m c main_arg1
/-- The four lambda vectors as the call finds them. -/
def X2 : S4x128.Idx → EReal := V m c main_arg2

/-- The block of queries, from the array. -/
theorem qA_real (h : AllReal (X0 m c)) (r : Fin 1024) (d : Fin 256) :
    qA m c t (ix2 r d) = ((Qf (X0 m c) (t.val / 512) (t.val / 64 % 8) (t.val / 8 % 8 * 1024 + r.val) d.val : ℝ) : EReal) := by
  have ht := N_lt t
  have hr := r.isLt
  have hd := d.isLt
  unfold Qf
  rw [← qkR_eq h _ _ (by omega) (by omega)]
  unfold qA
  rw [View.ld_unit_zero (S := S1024x256) hz2]
  unfold iblk
  rw [View.read_apply]
  show V m c main_arg0 _ = V m c main_arg0 _
  congr 1
  funext a
  apply Fin.ext
  match a with
  | ⟨0, _⟩ => show win0_6.index t 0 * 1024 + 1 * r.val = t.val / 512 * 8192 + (t.val / 8 % 8 * 1024 + r.val); rw [(ind6 t).1]; omega
  | ⟨1, _⟩ => show win0_6.index t 1 * 256 + 1 * d.val = t.val / 64 % 8 * 256 + d.val; rw [(ind6 t).2]; omega

/-- The block of keys, from the array. -/
theorem kA_real (h : AllReal (X0 m c)) (r : Fin 1024) (d : Fin 256) :
    kA m c t (ix2 r d) = ((Kf (X0 m c) (t.val / 512) (t.val / 64 % 8) (t.val % 8 * 1024 + r.val) d.val : ℝ) : EReal) := by
  have ht := N_lt t
  have hr := r.isLt
  have hd := d.isLt
  unfold Kf
  rw [← qkR_eq h _ _ (by omega) (by omega)]
  unfold kA
  rw [View.ld_unit_zero (S := S1024x256) hz2]
  unfold iblk
  rw [View.read_apply]
  show V m c main_arg0 _ = V m c main_arg0 _
  congr 1
  funext a
  apply Fin.ext
  match a with
  | ⟨0, _⟩ => show win0_7.index t 0 * 1024 + 1 * r.val = t.val / 512 * 8192 + (t.val % 8 * 1024 + r.val); rw [(ind7 t).1]; omega
  | ⟨1, _⟩ => show win0_7.index t 1 * 256 + 1 * d.val = 2048 + t.val / 64 % 8 * 256 + d.val; rw [(ind7 t).2]; omega

/-- The block of values, from the array. -/
theorem vA_real (h : AllReal (X1 m c)) (r : Fin 1024) (d : Fin 256) :
    vA m c t (ix2 r d) = ((Vf (X1 m c) (t.val / 512) (t.val / 64 % 8) (t.val % 8 * 1024 + r.val) d.val : ℝ) : EReal) := by
  have ht := N_lt t
  have hr := r.isLt
  have hd := d.isLt
  unfold Vf
  rw [← vR_eq h _ _ (by omega) (by omega)]
  unfold vA
  rw [View.ld_unit_zero (S := S1024x256) hz2]
  unfold iblk
  rw [View.read_apply]
  show V m c main_arg1 _ = V m c main_arg1 _
  congr 1
  funext a
  apply Fin.ext
  match a with
  | ⟨0, _⟩ => show win0_8.index t 0 * 1024 + 1 * r.val = t.val / 512 * 8192 + (t.val % 8 * 1024 + r.val); rw [(ind8 t).1]; omega
  | ⟨1, _⟩ => show win0_8.index t 1 * 256 + 1 * d.val = t.val / 64 % 8 * 256 + d.val; rw [(ind8 t).2]; omega

/-- The slope table holds the slopes. -/
theorem slope_lit (h : Fin 8) : Ideal.ofBits FTy.f32 (lit0 h) = ((slopeR h.val : ℝ) : EReal) := by
  have e : ∀ h : Fin 8, slopeR h.val = ((2 : ℝ) ^ (h.val + 1))⁻¹ := fun h => by
    unfold slopeR
    rw [Real.rpow_neg (by norm_num), ← Real.rpow_natCast]
    push_cast
    rfl
  rw [e]
  fin_cases h <;> (simp [lit0, Ideal.ofBits, Ideal.ieee, -EReal.coe_mul]; try norm_num)

/-- The slope a grid point reads. -/
theorem slA_real : slA m c t = ((slopeR (t.val / 64 % 8) : ℝ) : EReal) := by
  have ht := N_lt t
  refine Eq.trans ?_ (slope_lit ⟨t.val / 64 % 8, by omega⟩)
  unfold slA
  rw [View.ld_apply]
  unfold iblk
  rw [View.read_apply]
  show V m c main_cst _ = _
  rw [V_slopes]
  show Ideal.ofBits .f32 (lit0 _) = _
  congr 2
  apply Fin.ext
  show (S8.rowMajor _).val = t.val / 64 % 8
  have key : ∀ i : S8.Idx, (i 0).val = t.val / 64 % 8 → (S8.rowMajor i).val = t.val / 64 % 8 := fun i hi => by
    rw [← hi]
    exact Shape.rowMajor_val_one i
  apply key
  show 0 * 8 + 1 * ((BitVec.toNat (Scalar.indexCast (BitVec.ofNat 32 (grid0.coords t 1).val))) + 1 * 0) = _
  rw [co1]
  unfold Scalar.indexCast
  simp
  omega

variable (sh : ℝ) (hsh : shN m c ix0 = ((sh : ℝ) : EReal))
include hsh in
/-- The score bound a grid point reads. -/
theorem shA_real : shA m c t = ((sh : ℝ) : EReal) := by
  unfold shA
  rw [View.ld_apply]
  unfold iblk
  rw [View.read_apply]
  show V m c main_v70 _ = _
  rw [V_sh]
  refine Eq.trans ?_ (sh_apply (shN m c) sh hsh)
  congr 1
  funext a
  apply Fin.ext
  match a with
  | ⟨0, _⟩ => rfl

/-- The table of key offsets, read whole. -/
theorem ka_real (r : Fin 1024) (l : Fin 128) :
    View.ld (iblk m c 5 t) (Rect.unit (s := S1024x128) ![0, 0] ![1024, 128] inb_S1024x128_S1024x128_0_0) (ix2 r l) = ((kaR r.val l.val : ℝ) : EReal) := by
  rw [View.ld_unit_zero (S := S1024x128) hz2]
  unfold iblk
  rw [View.read_apply]
  show V m c main_v39 _ = _
  rw [V_ka]
  refine Eq.trans ?_ (ka_apply r l)
  congr 1
  funext a
  apply Fin.ext
  match a with
  | ⟨0, _⟩ => show 0 * 1024 + 1 * r.val = r.val; omega
  | ⟨1, _⟩ => show 0 * 128 + 1 * l.val = l.val; omega

/-- One of the three query tables, read. -/
theorem qt_read (n : ℕ) (hn : n < 3) (inb) (r : Fin 1024) (l : Fin 128) :
    View.ld (iblk m c 4 t) (Rect.unit (s := S3x1024x128) ![n, 0, 0] ![1, 1024, 128] inb) (ix3 0 r l) = qtTerm (shN m c) (ix3 ⟨n, hn⟩ r l) := by
  rw [View.ld_apply]
  unfold iblk
  rw [View.read_apply]
  show V m c main_v66 _ = _
  rw [V_qt]
  congr 1
  funext a
  apply Fin.ext
  match a with
  | ⟨0, _⟩ => show 0 * 3 + 1 * (n + 1 * 0) = n; omega
  | ⟨1, _⟩ => show 0 * 1024 + 1 * (0 + 1 * r.val) = r.val; omega
  | ⟨2, _⟩ => show 0 * 128 + 1 * (0 + 1 * l.val) = l.val; omega

/-- The four lambda vectors, read whole. -/
theorem lam_read : View.ld (iblk m c 2 t) (Rect.unit (s := S4x128) ![0, 0] ![4, 128] inb_S4x128_S4x128_0_0) = X2 m c := by
  rw [View.ld_unit_zero (S := S4x128) hz2]
  funext j
  unfold iblk
  rw [View.read_apply]
  show V m c main_arg2 _ = V m c main_arg2 _
  congr 1
  funext a
  apply Fin.ext
  match a with
  | ⟨0, _⟩ => show 0 * 4 + 1 * (j 0).val = (j 0).val; omega
  | ⟨1, _⟩ => show 0 * 128 + 1 * (j 1).val = (j 1).val; omega

/-- A row of gains laid out as a one-row table. -/
theorem row_cast (x : FVec Ideal S256 .f32) (d : Fin 256) : shapeCast S1x256 x shapeCasts_S256_S1x256 (ix2 0 d) = x (ix1 d) := by
  pointwise []
/-- The gain of the head's norm as the call finds it. -/
def X3 : Fin 256 → EReal := fun d => (m (c, Proc.devRef .tc main_arg3) : S256.Idx → EReal) (ix1 d)
/-- The gain, read whole. -/
theorem g_read (d : Fin 256) : View.ld (iblk m c 3 t) (Rect.unit (s := S1x256) ![0, 0] ![1, 256] inb_S1x256_S1x256_0_0) (ix2 0 d) = X3 m c d := by
  rw [View.ld_unit_zero (S := S1x256) hz2]
  unfold iblk
  rw [View.read_apply]
  show V m c main_v71 _ = _
  rw [V_g]
  refine Eq.trans ?_ (row_cast _ d)
  congr 1
  funext a
  apply Fin.ext
  match a with
  | ⟨0, _⟩ => rfl
  | ⟨1, _⟩ => show 0 * 256 + 1 * d.val = d.val; omega

end Cert.Attn
end
-- ==== Proof.Attn.Step.lean ====
module

public import proofs.«01_k».proof.Proof.Attn.Reads
public import proofs.«01_k».proof.Proof.Gen.KernelIdeal.Frame
public import proofs.«01_k».proof.Proof.Gen.KernelIdeal.Value
public import Idealize.ShloMosaic.Lib.Pipeline.Value
public import Idealize.ShloMosaic.Lib.Pipeline.ValueKit.Tiles

@[expose] public section

set_option maxRecDepth 16384

noncomputable section

namespace Cert.Attn

open Idealize.ShloMosaic Idealize.ShloMosaic.TcCoe Idealize.ShloMosaic.Tactic Idealize.SL.Sem
open Cert.KernelIdeal Cert.KernelIdeal.Gen

variable (m : (ℓ : Loc nD τ sig) → Buf (Elt Ideal) ℓ)

/-! The two running sums after some blocks. -/

/-- The sum of weights over the first blocks, in one lane. -/
def lS (E : ℕ → ℕ → ℝ) (q n lane : ℕ) : ℝ := ∑ j ∈ Finset.range n, lpart E q (j * 1024) lane
/-- The weighted sum of values over the first blocks. -/
def aS (E V : ℕ → ℕ → ℝ) (q n e : ℕ) : ℝ := ∑ j ∈ Finset.range n, apart E V q (j * 1024) e

/-- All lanes of all blocks add up to the row's sum of weights. -/
theorem lS_all (E : ℕ → ℕ → ℝ) (q : ℕ) : (∑ x : Fin 128, lS E q 8 x.val) = lsum E q := by
  rw [← Finset.sum_range (fun x => lS E q 8 x)]
  unfold lS lpart
  rw [Finset.sum_comm]
  have e : ∀ j, (∑ x ∈ Finset.range 128, ∑ i ∈ Finset.range 8, Real.exp (E q (j * 1024 + (i * 128 + x))))
      = ∑ s ∈ Finset.range 1024, Real.exp (E q (j * 1024 + s)) := fun j => by
    rw [Finset.sum_comm]
    exact sum_blocks (fun s => Real.exp (E q (j * 1024 + s))) 128 8
  rw [Finset.sum_congr rfl (fun j _ => e j)]
  exact sum_blocks (fun s => Real.exp (E q s)) 1024 8

/-- All blocks add up to the row's weighted sum of values. -/
theorem aS_all (E V : ℕ → ℕ → ℝ) (q e : ℕ) : aS E V q 8 e = asum E V q e := by
  unfold aS apart
  exact sum_blocks (fun s => Real.exp (E q s) * V s e) 1024 8

/-- The two scratch blocks hold the sums over the first blocks of keys, for the rows of one block of queries. -/
def Sums (E0 E1 V : ℕ → ℕ → ℝ) (q n : ℕ) (L : S2x1024x128.Idx → EReal) (A : S2x1024x256.Idx → EReal) : Prop :=
  (∀ (r : Fin 1024) (l : Fin 128), L (ix3 0 r l) = ((lS E0 (q * 1024 + r.val) n l.val : ℝ) : EReal)) ∧
  (∀ (r : Fin 1024) (l : Fin 128), L (ix3 1 r l) = ((lS E1 (q * 1024 + r.val) n l.val : ℝ) : EReal)) ∧
  (∀ (r : Fin 1024) (d : Fin 256), A (ix3 0 r d) = ((aS E0 V (q * 1024 + r.val) n d.val : ℝ) : EReal)) ∧
  (∀ (r : Fin 1024) (d : Fin 256), A (ix3 1 r d) = ((aS E1 V (q * 1024 + r.val) n d.val : ℝ) : EReal))

/-- The bias block holds the distances within a block, times the slope, less the bound. -/
def Bias (slope sh : ℝ) (B : S1024x1024.Idx → EReal) : Prop :=
  ∀ r s : Fin 1024, B (ix2 r s) = ((-slope * |(r.val : ℝ) - (s.val : ℝ)| - sh : ℝ) : EReal)

/-- Before the first block the sums are zero. -/
theorem sums_zero (E0 E1 V : ℕ → ℕ → ℝ) (q : ℕ) : Sums E0 E1 V q 0 (k0_pay2 (F := Ideal)) (k0_pay3 (F := Ideal)) := by
  have h2 : ∀ (a : Fin 2) (r : Fin 1024) (l : Fin 128), k0_pay2 (F := Ideal) (ix3 a r l) = 0 := fun a r l => by
    pointwise [k0_pay2]
  have h3 : ∀ (a : Fin 2) (r : Fin 1024) (l : Fin 256), k0_pay3 (F := Ideal) (ix3 a r l) = 0 := fun a r l => by
    pointwise [k0_pay3]
  refine ⟨fun r l => ?_, fun r l => ?_, fun r l => ?_, fun r l => ?_⟩
  · rw [h2]; simp [lS]
  · rw [h2]; simp [lS]
  · rw [h3]; simp [aS]
  · rw [h3]; simp [aS]

/-- One more block of weights. -/
theorem lS_next (E : ℕ → ℕ → ℝ) (q n l : ℕ) : ((lS E q n l : ℝ) : EReal) + ((lpart E q (n * 1024) l : ℝ) : EReal) = ((lS E q (n + 1) l : ℝ) : EReal) := by
  rw [← EReal.coe_add]
  unfold lS
  rw [Finset.sum_range_succ]
/-- One more block of weighted values. -/
theorem aS_next (E V : ℕ → ℕ → ℝ) (q n e : ℕ) : ((aS E V q n e : ℝ) : EReal) + ((apart E V q (n * 1024) e : ℝ) : EReal) = ((aS E V q (n + 1) e : ℝ) : EReal) := by
  rw [← EReal.coe_add]
  unfold aS
  rw [Finset.sum_range_succ]

variable (c : Dev nD) (t : Fin cfg0.N)
variable (sh : ℝ) (hsh : shN m c ix0 = ((sh : ℝ) : EReal)) (H0 : AllReal (X0 m c)) (H1 : AllReal (X1 m c)) (H2 : AllReal (X2 m c))

/-- The scores of one map at a grid point's batch and head, shifted by the bound. -/
def EE (g : ℕ) : ℕ → ℕ → ℝ := ex (Qf (X0 m c) (t.val / 512) (t.val / 64 % 8)) (Kf (X0 m c) (t.val / 512) (t.val / 64 % 8)) (slopeR (t.val / 64 % 8)) sh g
/-- The values at a grid point's batch and head. -/
def VV : ℕ → ℕ → ℝ := Vf (X1 m c) (t.val / 512) (t.val / 64 % 8)

include hsh H0 in
/-- The weights of the first map at an off-diagonal point. -/
theorem p0A_real (hne : t.val / 8 % 8 ≠ t.val % 8) (r s : Fin 1024) :
    p0A m c t (ix2 r s) = ((Real.exp (EE m c t sh 0 (t.val / 8 % 8 * 1024 + r.val) (t.val % 8 * 1024 + s.val)) : ℝ) : EReal) := by
  unfold p0A
  rw [co2, co3]
  exact pay14_real (Qf (X0 m c) (t.val / 512) (t.val / 64 % 8)) (Kf (X0 m c) (t.val / 512) (t.val / 64 % 8)) (slopeR (t.val / 64 % 8)) sh
    ⟨t.val / 8 % 8, Nat.mod_lt _ (by omega)⟩ ⟨t.val % 8, Nat.mod_lt _ (by omega)⟩ _ _ _ _ _ _ _ (slA_real m c t)
    (fun r l => (qt_read m c t 0 (by omega) _ r l).trans (qt_apply0 _ r l)) (fun r l => (qt_read m c t 1 (by omega) _ r l).trans (qt_apply1 _ r l))
    (fun r l => (qt_read m c t 2 (by omega) _ r l).trans (qt_apply2 _ sh hsh r l)) (fun r l => ka_real m c t r l)
    (fun r d => qA_real m c t H0 r d) (fun r d => kA_real m c t H0 r d) (fun h => hne (congrArg Fin.val h)) r s

include hsh H0 in
/-- The scores of the second map at an off-diagonal point. -/
theorem e1A_real (hne : t.val / 8 % 8 ≠ t.val % 8) (r s : Fin 1024) :
    e1A m c t (ix2 r s) = ((EE m c t sh 1 (t.val / 8 % 8 * 1024 + r.val) (t.val % 8 * 1024 + s.val) : ℝ) : EReal) := by
  unfold e1A
  rw [co2, co3]
  exact pay13_real (Qf (X0 m c) (t.val / 512) (t.val / 64 % 8)) (Kf (X0 m c) (t.val / 512) (t.val / 64 % 8)) (slopeR (t.val / 64 % 8)) sh
    ⟨t.val / 8 % 8, Nat.mod_lt _ (by omega)⟩ ⟨t.val % 8, Nat.mod_lt _ (by omega)⟩ _ _ _ _ _ _ _ (slA_real m c t)
    (fun r l => (qt_read m c t 0 (by omega) _ r l).trans (qt_apply0 _ r l)) (fun r l => (qt_read m c t 1 (by omega) _ r l).trans (qt_apply1 _ r l))
    (fun r l => (qt_read m c t 2 (by omega) _ r l).trans (qt_apply2 _ sh hsh r l)) (fun r l => ka_real m c t r l)
    (fun r d => qA_real m c t H0 r d) (fun r d => kA_real m c t H0 r d) (fun h => hne (congrArg Fin.val h)) r s

/-- The first two lane groups of the first map's weights. -/
theorem p15A_read (r : Fin 1024) (l : Fin 128) : p15A m c t (ix2 r l) = p0A m c t (ix2 r ⟨l.val, by omega⟩) + p0A m c t (ix2 r ⟨128 + l.val, by omega⟩) := by
  unfold p15A p0A
  generalize View.ld (iblk m c 4 t) _ = w1
  pointwise [k0_pay15]

include hsh H0 H1 in
/-- An off-diagonal point adds its block. -/
theorem step_off (hne : t.val / 8 % 8 ≠ t.val % 8) (L : S2x1024x128.Idx → EReal) (A : S2x1024x256.Idx → EReal)
    (h : Sums (EE m c t sh 0) (EE m c t sh 1) (VV m c t) (t.val / 8 % 8) (t.val % 8) L A) :
    Sums (EE m c t sh 0) (EE m c t sh 1) (VV m c t) (t.val / 8 % 8) (t.val % 8 + 1) (offL m c t L) (offS m c t A) := by
  obtain ⟨hl0, hl1, ha0, ha1⟩ := h
  have hp := p0A_real m c t sh hsh H0 hne
  have he := e1A_real m c t sh hsh H0 hne
  have hv := vA_real m c t H1
  refine ⟨fun r l => ?_, fun r l => ?_, fun r d => ?_, fun r d => ?_⟩
  · unfold offL
    rw [canonL_at0, pay16_real (EE m c t sh 0) (fun r => t.val / 8 % 8 * 1024 + r.val) (t.val % 8 * 1024) _ hp _ _ (p15A_read m c t) r l, ld0L_at, hl0, lS_next]
  · unfold offL
    rw [canonL_at1, pay4_real (EE m c t sh 1) (fun r => t.val / 8 % 8 * 1024 + r.val) (t.val % 8 * 1024) _ he _ r l, ld1L_at, hl1, lS_next]
  · unfold offS
    rw [canonA_at0, pay17_real (EE m c t sh 0) (VV m c t) (fun r => t.val / 8 % 8 * 1024 + r.val) (t.val % 8 * 1024) _ _ hp hv _ r d, ld0A_at, ha0, aS_next]
  · unfold offS
    rw [canonA_at1, pay5_real (EE m c t sh 1) (VV m c t) (fun r => t.val / 8 % 8 * 1024 + r.val) (t.val % 8 * 1024) _ _
      (pay18_real (EE m c t sh 1) (fun r => t.val / 8 % 8 * 1024 + r.val) (t.val % 8 * 1024) _ he) hv _ r d, ld1A_at, ha1, aS_next]

include H0 H1 in
/-- A diagonal point adds its block. -/
theorem step_dia (heq : t.val / 8 % 8 = t.val % 8) (β : S1024x1024.Idx → EReal) (hβ : Bias (slopeR (t.val / 64 % 8)) sh β)
    (L : S2x1024x128.Idx → EReal) (A : S2x1024x256.Idx → EReal)
    (h : Sums (EE m c t sh 0) (EE m c t sh 1) (VV m c t) (t.val / 8 % 8) (t.val % 8) L A) :
    Sums (EE m c t sh 0) (EE m c t sh 1) (VV m c t) (t.val / 8 % 8) (t.val % 8 + 1) (diaL m c t β L) (diaS m c t β A) := by
  obtain ⟨hl0, hl1, ha0, ha1⟩ := h
  have hk : ∀ (r : Fin 1024) (d : Fin 256), kA m c t (ix2 r d) = ((Kf (X0 m c) (t.val / 512) (t.val / 64 % 8) (t.val / 8 % 8 * 1024 + r.val) d.val : ℝ) : EReal) := by
    rw [heq]; exact kA_real m c t H0
  have hp := pay22_real (Qf (X0 m c) (t.val / 512) (t.val / 64 % 8)) (Kf (X0 m c) (t.val / 512) (t.val / 64 % 8)) (slopeR (t.val / 64 % 8)) sh
    ⟨t.val / 8 % 8, Nat.mod_lt _ (by omega)⟩ β (qA m c t) (kA m c t) hβ (qA_real m c t H0) hk
  have he := pay21_real (Qf (X0 m c) (t.val / 512) (t.val / 64 % 8)) (Kf (X0 m c) (t.val / 512) (t.val / 64 % 8)) (slopeR (t.val / 64 % 8)) sh
    ⟨t.val / 8 % 8, Nat.mod_lt _ (by omega)⟩ β (qA m c t) (kA m c t) hβ (qA_real m c t H0) hk
  have hv := vA_real m c t H1
  rw [← heq] at hv
  rw [← heq] at hl0 hl1 ha0 ha1 ⊢
  refine ⟨fun r l => ?_, fun r l => ?_, fun r d => ?_, fun r d => ?_⟩
  · unfold diaL
    rw [canonL_at0, pay23_real (EE m c t sh 0) (fun r => t.val / 8 % 8 * 1024 + r.val) (t.val / 8 % 8 * 1024) _ _ _ _ hp r l, ld0L_at, hl0, lS_next]
  · unfold diaL
    rw [canonL_at1, pay8_real (EE m c t sh 1) (fun r => t.val / 8 % 8 * 1024 + r.val) (t.val / 8 % 8 * 1024) _ he _ r l, ld1L_at, hl1, lS_next]
  · unfold diaS
    rw [canonA_at0, pay6_real (EE m c t sh 0) (VV m c t) (fun r => t.val / 8 % 8 * 1024 + r.val) (t.val / 8 % 8 * 1024) _ _ hp hv _ r d, ld0A_at, ha0, aS_next]
  · unfold diaS
    rw [canonA_at1, pay9_real (EE m c t sh 1) (VV m c t) (fun r => t.val / 8 % 8 * 1024 + r.val) (t.val / 8 % 8 * 1024) _ _ he hv _ r d, ld1A_at, ha1, aS_next]

include hsh in
/-- The bias the first point of a head leaves. -/
theorem bias_real : Bias (slopeR (t.val / 64 % 8)) sh (biasA m c t) := fun r s =>
  pay20_real (slopeR (t.val / 64 % 8)) sh _ _ (slA_real m c t) (shA_real m c t sh hsh) r s

end Cert.Attn
end
-- ==== Proof.Attn.Out.lean ====
module

public import proofs.«01_k».proof.Proof.Attn.Step
public import proofs.«01_k».proof.Proof.Gen.KernelIdeal.Frame
public import proofs.«01_k».proof.Proof.Gen.KernelIdeal.Value
public import Idealize.ShloMosaic.Lib.Pipeline.Value
public import Idealize.ShloMosaic.Lib.Pipeline.ValueKit.Tiles

@[expose] public section

set_option maxRecDepth 16384

noncomputable section

namespace Cert.Attn

open Idealize.ShloMosaic Idealize.ShloMosaic.TcCoe Idealize.ShloMosaic.Tactic Idealize.SL.Sem
open Cert.KernelIdeal Cert.KernelIdeal.Gen

variable (m : (ℓ : Loc nD τ sig) → Buf (Elt Ideal) ℓ)

variable (c : Dev nD) (t : Fin cfg0.N)
variable (sh : ℝ) (H2 : AllReal (X2 m c))

/-! The output block, from the two running sums. -/

include H2 in
/-- The difference of the two normalised maps. -/
theorem dif_real (E0 E1 V : ℕ → ℕ → ℝ) (q : ℕ) (L : S2x1024x128.Idx → EReal) (A : S2x1024x256.Idx → EReal) (h : Sums E0 E1 V q 8 L A) (r : Fin 1024) (d : Fin 256) :
    k0_pay24 (F := Ideal) (X2 m c) (ld0L L) (ld1L L) (ld0A A) (ld1A A) (ix2 r d)
      = ((diffR E0 E1 V (lamR (X2 m c)) (q * 1024 + r.val) d.val : ℝ) : EReal) := by
  obtain ⟨hl0, hl1, ha0, ha1⟩ := h
  have e0 : (∑ x : Fin 128, ld0L L (ix3 0 r x)) = ((lsum E0 (q * 1024 + r.val) : ℝ) : EReal) := by
    rw [← lS_all, ← coe_sum]
    exact Finset.sum_congr rfl fun x _ => by rw [ld0L_at, hl0]
  have e1 : (∑ x : Fin 128, ld1L L (ix3 0 r x)) = ((lsum E1 (q * 1024 + r.val) : ℝ) : EReal) := by
    rw [← lS_all, ← coe_sum]
    exact Finset.sum_congr rfl fun x _ => by rw [ld1L_at, hl1]
  have el := lamE_eq H2
  unfold lamE at el
  pointwise [k0_pay24]
  rw [e0, e1, el, ld0A_at, ld1A_at, ha0, ha1, aS_all, aS_all, div_real _ _ (lsum_pos _ _), div_real _ _ (lsum_pos _ _), ← EReal.coe_mul, ← EReal.coe_sub]
  rfl

include H2 in
/-- The output block at a point whose sums are complete. -/
theorem out_real (E0 E1 V : ℕ → ℕ → ℝ) (q : ℕ) (L : S2x1024x128.Idx → EReal) (A : S2x1024x256.Idx → EReal) (h : Sums E0 E1 V q 8 L A) (r : Fin 1024) (d : Fin 256) :
    difA m c t L A (ix2 r d) = outE (fun e => diffR E0 E1 V (lamR (X2 m c)) (q * 1024 + r.val) e.val) (X3 m c d) d := by
  have hd := dif_real m c H2 E0 E1 V q L A h
  unfold difA
  rw [lam_read]
  have h25 : k0_pay25 (F := Ideal) (X2 m c) (ld0L L) (ld1L L) (ld0A A) (ld1A A) (ix2 r 0)
      = ∑ x : Fin 256, k0_pay24 (F := Ideal) (X2 m c) (ld0L L) (ld1L L) (ld0A A) (ld1A A) (ix2 r x) * k0_pay24 (F := Ideal) (X2 m c) (ld0L L) (ld1L L) (ld0A A) (ld1A A) (ix2 r x) := by
    pointwise [k0_pay25]
  have hg := g_read m c t d
  generalize View.ld (iblk m c 3 t) (Rect.unit (s := S1x256) ![0, 0] ![1, 256] inb_S1x256_S1x256_0_0) = g at hg
  have h26 : k0_pay26 (F := Ideal) (ix2 r 0) = Ideal.ofBits .f32 1132462080#32 := by
    pointwise [k0_pay26]
  have h25' := h25.trans (Finset.sum_congr rfl fun x _ => by rw [hd r x])
  have hrd := hd r d
  generalize k0_pay24 (F := Ideal) (X2 m c) (ld0L L) (ld1L L) (ld0A A) (ld1A A) = w24 at hrd ⊢
  generalize k0_pay25 (F := Ideal) (X2 m c) (ld0L L) (ld1L L) (ld0A A) (ld1A A) = w25 at h25' ⊢
  generalize k0_pay26 (F := Ideal) = w26 at h26 ⊢
  pointwise [k0_pay10]
  rw [hg, hrd, h26, h25']
  rfl

end Cert.Attn
end
-- ==== Proof.Attn.Inv.lean ====
module

public import proofs.«01_k».proof.Proof.Attn.CaseA
public import proofs.«01_k».proof.Proof.Attn.CaseB
public import proofs.«01_k».proof.Proof.Attn.CaseC
public import proofs.«01_k».proof.Proof.Attn.CaseD
public import proofs.«01_k».proof.Proof.Attn.CaseE
public import proofs.«01_k».proof.Proof.Attn.CaseF
public import proofs.«01_k».proof.Proof.Attn.Out
public import proofs.«01_k».proof.Proof.Gen.KernelIdeal.Frame
public import proofs.«01_k».proof.Proof.Gen.KernelIdeal.Value
public import Idealize.ShloMosaic.Lib.Pipeline.Value
public import Idealize.ShloMosaic.Lib.Pipeline.ValueKit.Tiles

@[expose] public section

set_option maxRecDepth 16384

noncomputable section

namespace Cert.Attn

open Idealize.ShloMosaic Idealize.ShloMosaic.TcCoe Idealize.ShloMosaic.Tactic Idealize.SL.Sem
open Cert.KernelIdeal Cert.KernelIdeal.Gen

variable (m : (ℓ : Loc nD τ sig) → Buf (Elt Ideal) ℓ)

variable (c : Dev nD)
variable (sh : ℝ) (hsh : shN m c ix0 = ((sh : ℝ) : EReal)) (H0 : AllReal (X0 m c)) (H1 : AllReal (X1 m c)) (H2 : AllReal (X2 m c))

/-! What the kept blocks hold after each grid point. -/

/-- The state after a grid point: the two sums over the key blocks so far, and the head's bias. -/
def Holds (t : Fin cfg0.N) (L : S2x1024x128.Idx → EReal) (A : S2x1024x256.Idx → EReal) (B : S1024x1024.Idx → EReal) : Prop :=
  Sums (EE m c t sh 0) (EE m c t sh 1) (VV m c t) (t.val / 8 % 8) (t.val % 8 + 1) L A ∧ Bias (slopeR (t.val / 64 % 8)) sh B

/-- The scores depend on the batch and the head only. -/
theorem EE_congr (t u : Fin cfg0.N) (h1 : t.val / 512 = u.val / 512) (h2 : t.val / 64 % 8 = u.val / 64 % 8) (g : ℕ) : EE m c t sh g = EE m c u sh g := by
  unfold EE
  rw [h1, h2]
/-- The values depend on the batch and the head only. -/
theorem VV_congr (t u : Fin cfg0.N) (h1 : t.val / 512 = u.val / 512) (h2 : t.val / 64 % 8 = u.val / 64 % 8) : VV m c t = VV m c u := by
  unfold VV
  rw [h1, h2]

/-- What the point before left, for a point that is not the first of its row of blocks. -/
theorem prev_sums (t u : Fin cfg0.N) (hu : t.val = u.val + 1) (h0 : ¬t.val % 8 = 0) (L : S2x1024x128.Idx → EReal) (A : S2x1024x256.Idx → EReal) (B : S1024x1024.Idx → EReal)
    (h : Holds m c sh u L A B) : Sums (EE m c t sh 0) (EE m c t sh 1) (VV m c t) (t.val / 8 % 8) (t.val % 8) L A := by
  have h1 : t.val / 512 = u.val / 512 := by omega
  have h2 : t.val / 64 % 8 = u.val / 64 % 8 := by omega
  rw [EE_congr m c sh t u h1 h2, EE_congr m c sh t u h1 h2, VV_congr m c t u h1 h2, show t.val / 8 % 8 = u.val / 8 % 8 by omega, show t.val % 8 = u.val % 8 + 1 by omega]
  exact h.1

/-- The bias the point before left, for a point that is not the first of its head. -/
theorem prev_bias (t u : Fin cfg0.N) (hu : t.val = u.val + 1) (h0 : ¬(t.val % 8 = 0 ∧ t.val / 8 % 8 = 0)) (L : S2x1024x128.Idx → EReal) (A : S2x1024x256.Idx → EReal) (B : S1024x1024.Idx → EReal)
    (h : Holds m c sh u L A B) : Bias (slopeR (t.val / 64 % 8)) sh B := by
  rw [show t.val / 64 % 8 = u.val / 64 % 8 by omega]
  exact h.2

include hsh H0 H1 in
/-- The state after every grid point. -/
theorem holds_all : ∀ (n : ℕ) (hn : n < cfg0.N), Holds m c sh ⟨n, hn⟩ (outsAt0 m c n hn).2.1 (outsAt0 m c n hn).2.2.1 (outsAt0 m c n hn).2.2.2 := by
  intro n
  induction n with
  | zero =>
    intro hn
    have h0 : (⟨0, hn⟩ : Fin cfg0.N).val % 8 = 0 := by simp
    have h1 : ¬(⟨0, hn⟩ : Fin cfg0.N).val / 8 % 8 ≠ (⟨0, hn⟩ : Fin cfg0.N).val % 8 := by simp
    have h2 : (⟨0, hn⟩ : Fin cfg0.N).val / 8 % 8 = (⟨0, hn⟩ : Fin cfg0.N).val % 8 := by simp
    have h3 : ¬(⟨0, hn⟩ : Fin cfg0.N).val % 8 = 7 := by simp
    have h4 : (⟨0, hn⟩ : Fin cfg0.N).val / 8 % 8 = 0 := by simp
    rw [l_A m c ⟨0, hn⟩ h0 h1 h2 h3 h4, s_A m c ⟨0, hn⟩ h0 h1 h2 h3 h4, b_A m c ⟨0, hn⟩ h0 h1 h2 h3 h4]
    exact ⟨step_dia m c ⟨0, hn⟩ sh H0 H1 h2 _ (bias_real m c ⟨0, hn⟩ sh hsh) _ _ (sums_zero _ _ _ _), bias_real m c ⟨0, hn⟩ sh hsh⟩
  | succ n ih =>
    intro hn
    have hp := ih (Nat.lt_of_succ_lt hn)
    generalize ht : (⟨n + 1, hn⟩ : Fin cfg0.N) = t
    have hv : t.val = n + 1 := by rw [← ht]
    have e : outsAt0 m c (n + 1) hn = outsAt0 m c t.val t.isLt := by subst ht; rfl
    have ep : prevA m c t = outsAt0 m c n (Nat.lt_of_succ_lt hn) := by subst ht; rfl
    rw [e]
    rw [← ep] at hp
    have hS := fun h0 => prev_sums m c sh t ⟨n, Nat.lt_of_succ_lt hn⟩ hv h0 _ _ _ hp
    have hB := fun h0 => prev_bias m c sh t ⟨n, Nat.lt_of_succ_lt hn⟩ hv h0 _ _ _ hp
    by_cases h0 : t.val % 8 = 0
    · have hz : Sums (EE m c t sh 0) (EE m c t sh 1) (VV m c t) (t.val / 8 % 8) (t.val % 8) (k0_pay2 (F := Ideal)) (k0_pay3 (F := Ideal)) := by
        rw [h0]; exact sums_zero _ _ _ _
      by_cases h2 : t.val / 8 % 8 = t.val % 8
      · have h1 : ¬t.val / 8 % 8 ≠ t.val % 8 := fun h => h h2
        have h3 : ¬t.val % 8 = 7 := by omega
        have h4 : t.val / 8 % 8 = 0 := by omega
        rw [l_A m c t h0 h1 h2 h3 h4, s_A m c t h0 h1 h2 h3 h4, b_A m c t h0 h1 h2 h3 h4]
        exact ⟨step_dia m c t sh H0 H1 h2 _ (bias_real m c t sh hsh) _ _ hz, bias_real m c t sh hsh⟩
      · have h3 : ¬t.val % 8 = 7 := by omega
        rw [l_D m c t h0 h2 h2 h3, s_D m c t h0 h2 h2 h3, b_D m c t h0 h2 h2 h3]
        exact ⟨step_off m c t sh hsh H0 H1 h2 _ _ hz, hB (by omega)⟩
    · have hb := hB (by omega)
      have hs := hS h0
      by_cases h2 : t.val / 8 % 8 = t.val % 8
      · have h1 : ¬t.val / 8 % 8 ≠ t.val % 8 := fun h => h h2
        have h4 : ¬t.val / 8 % 8 = 0 := by omega
        by_cases h3 : t.val % 8 = 7
        · rw [l_F m c t h0 h1 h2 h3 h4, s_F m c t h0 h1 h2 h3 h4, b_F m c t h0 h1 h2 h3 h4, bA_eq]
          exact ⟨step_dia m c t sh H0 H1 h2 _ hb _ _ hs, hb⟩
        · rw [l_E m c t h0 h1 h2 h3 h4, s_E m c t h0 h1 h2 h3 h4, b_E m c t h0 h1 h2 h3 h4, bA_eq]
          exact ⟨step_dia m c t sh H0 H1 h2 _ hb _ _ hs, hb⟩
      · by_cases h3 : t.val % 8 = 7
        · rw [l_C m c t h0 h2 h2 h3, s_C m c t h0 h2 h2 h3, b_C m c t h0 h2 h2 h3]
          exact ⟨step_off m c t sh hsh H0 H1 h2 _ _ hs, hb⟩
        · rw [l_B m c t h0 h2 h2 h3, s_B m c t h0 h2 h2 h3, b_B m c t h0 h2 h2 h3]
          exact ⟨step_off m c t sh hsh H0 H1 h2 _ _ hs, hb⟩

include hsh H0 H1 H2 in
/-- The output block after the last point of a row of blocks. -/
theorem out_all (t : Fin cfg0.N) (h3 : t.val % 8 = 7) (r : Fin 1024) (d : Fin 256) :
    (outsAt0 m c t.val t.isLt).1 (ix2 r d)
      = outE (fun e => diffR (EE m c t sh 0) (EE m c t sh 1) (VV m c t) (lamR (X2 m c)) (t.val / 8 % 8 * 1024 + r.val) e.val) (X3 m c d) d := by
  have hh := (holds_all m c sh hsh H0 H1 t.val t.isLt).1
  have h0 : ¬t.val % 8 = 0 := by omega
  have h8 : t.val % 8 + 1 = 8 := by omega
  change Sums (EE m c t sh 0) (EE m c t sh 1) (VV m c t) (t.val / 8 % 8) (t.val % 8 + 1) _ _ at hh
  rw [h8] at hh
  by_cases h2 : t.val / 8 % 8 = t.val % 8
  · have h1 : ¬t.val / 8 % 8 ≠ t.val % 8 := fun h => h h2
    have h4 : ¬t.val / 8 % 8 = 0 := by omega
    rw [o_F m c t h0 h1 h2 h3 h4, ← l_F m c t h0 h1 h2 h3 h4, ← s_F m c t h0 h1 h2 h3 h4]
    exact out_real m c t H2 _ _ _ _ _ _ hh r d
  · rw [o_C m c t h0 h2 h2 h3, ← l_C m c t h0 h2 h2 h3, ← s_C m c t h0 h2 h2 h3]
    exact out_real m c t H2 _ _ _ _ _ _ hh r d

end Cert.Attn
end
-- ==== Proof.Attn.Final.lean ====
module

public import proofs.«01_k».proof.Proof.Attn.Inv
public import proofs.«01_k».proof.Proof.Gen.KernelIdeal.Frame
public import proofs.«01_k».proof.Proof.Gen.KernelIdeal.Value
public import Idealize.ShloMosaic.Lib.Pipeline.Value
public import Idealize.ShloMosaic.Lib.Pipeline.ValueKit.Tiles

@[expose] public section

set_option maxRecDepth 16384

noncomputable section

namespace Cert.Attn

open Idealize.ShloMosaic Idealize.ShloMosaic.TcCoe Idealize.ShloMosaic.Tactic Idealize.SL.Sem
open Cert.KernelIdeal Cert.KernelIdeal.Gen

variable (m : (ℓ : Loc nD τ sig) → Buf (Elt Ideal) ℓ)

variable (c : Dev nD)
variable (sh : ℝ) (hsh : shN m c ix0 = ((sh : ℝ) : EReal)) (H0 : AllReal (X0 m c)) (H1 : AllReal (X1 m c)) (H2 : AllReal (X2 m c))

/-- The array the call leaves. -/
def result : Buf (Elt Ideal) ((c : Thread nD τ).loc main_v72) :=
  (fun j : S16384x2048.Idx => resE (X0 m c) (X1 m c) (X2 m c) (X3 m c) 0 (j 0) (j 1) : S16384x2048.Idx → EReal)

/-- The array's entry at a block's place is the block's own output. -/
theorem resE_block (t : Fin cfg0.N) (R : Fin 16384) (C : Fin 2048) (r : Fin 1024) (d : Fin 256)
    (hR : R.val = (t.val / 512 * 8 + t.val / 8 % 8) * 1024 + r.val) (hC : C.val = t.val / 64 % 8 * 256 + d.val) :
    outE (fun e => diffR (EE m c t sh 0) (EE m c t sh 1) (VV m c t) (lamR (X2 m c)) (t.val / 8 % 8 * 1024 + r.val) e.val) (X3 m c d) d
      = resE (X0 m c) (X1 m c) (X2 m c) (X3 m c) 0 R C := by
  have ht := N_lt t
  have hr := r.isLt
  have hd := d.isLt
  rw [← resE_shift _ _ _ _ sh]
  unfold resE EE VV
  have e1 : R.val / 8192 = t.val / 512 := by omega
  have e2 : C.val / 256 = t.val / 64 % 8 := by omega
  have e3 : R.val % 8192 = t.val / 8 % 8 * 1024 + r.val := by omega
  have e4 : (⟨C.val % 256, Nat.mod_lt _ (by omega)⟩ : Fin 256) = d := Fin.ext (by show C.val % 256 = d.val; omega)
  rw [e1, e2, e3, e4]

include hsh H0 H1 H2 in
/-- What is written back is the array's block. -/
theorem flushed_eq (t : Fin cfg0.N) (hf : (cfg0.win 9).flush t = true) :
    (dats m 0 c).flushed 9 t = ((cfg0.win 9).blk t).view.read (Elt Ideal) (result m c) := by
  have h3 : t.val % 8 = 7 := (flush0_9 t).mp hf
  rw [Cert.KernelIdeal.Value.flushed9]
  funext j
  rw [View.read_apply]
  show (outsAt0 m c t.val t.isLt).1 j = result m c _
  have key : ∀ (j : S1024x256.Idx), (outsAt0 m c t.val t.isLt).1 j = outE (fun e => diffR (EE m c t sh 0) (EE m c t sh 1) (VV m c t) (lamR (X2 m c)) (t.val / 8 % 8 * 1024 + (j 0).val) e.val) (X3 m c (j 1)) (j 1) := fun j => by
    idx_vars j
    exact out_all m c sh hsh H0 H1 H2 t h3 j0 j1
  refine (key j).trans ?_
  unfold result
  apply resE_block
  · show win0_9.index t 0 * 1024 + 1 * (j 0).val = _
    rw [(ind9 t).1]
    omega
  · show win0_9.index t 1 * 256 + 1 * (j 1).val = _
    rw [(ind9 t).2]
    omega

include hsh H0 H1 H2 in
/-- The call's array after the whole grid. -/
theorem final : (dats m 0 c).arrAt 9 cfg0.N = result m c :=
  (dats m 0 c).arrAt_eq_of_cover 9 (result m c) (flushed_eq m c sh hsh H0 H1 H2) fun i => by
    have hi0 : (i 0 : Nat) < 16384 := (i 0).isLt
    have hi1 : (i 1 : Nat) < 2048 := (i 1).isLt
    have hN : cfg0.N = 1024 := N_0
    let n := (((i 0 : Nat) / 8192 * 8 + (i 1 : Nat) / 256) * 8 + (i 0 : Nat) / 1024 % 8) * 8 + 7
    have hn : n < cfg0.N := by rw [hN]; omega
    refine ⟨⟨n, hn⟩, (flush0_9 _).mpr (show n % 8 = 7 by omega), ?_⟩
    show i ∈ ((View.whole main_v72).slice (win0_9.rect ⟨n, hn⟩)).set
    rw [View.set_slice_whole, Rect.mem_set_unit]
    intro a
    have k0 := (ind9 ⟨n, hn⟩).1
    have k1 := (ind9 ⟨n, hn⟩).2
    match a with
    | ⟨0, _⟩ =>
      show win0_9.index ⟨n, hn⟩ 0 * 1024 ≤ (i 0 : Nat) ∧ (i 0 : Nat) < win0_9.index ⟨n, hn⟩ 0 * 1024 + 1024
      rw [k0]
      show (n / 512 * 8 + n / 8 % 8) * 1024 ≤ (i 0 : Nat) ∧ (i 0 : Nat) < (n / 512 * 8 + n / 8 % 8) * 1024 + 1024
      omega
    | ⟨1, _⟩ =>
      show win0_9.index ⟨n, hn⟩ 1 * 256 ≤ (i 1 : Nat) ∧ (i 1 : Nat) < win0_9.index ⟨n, hn⟩ 1 * 256 + 256
      rw [k1]
      show n / 64 % 8 * 256 ≤ (i 1 : Nat) ∧ (i 1 : Nat) < n / 64 % 8 * 256 + 256
      omega

end Cert.Attn
end
-- ==== Proof.Attn.Ref.lean ====
module

public import proofs.«01_k».proof.Proof.Attn.Math
public import proofs.«01_k».proof.Proof.Gen.ReferenceIdeal.Read

@[expose] public section

set_option maxRecDepth 16384

noncomputable section

namespace Cert.Attn

open Idealize.ShloMosaic Idealize.ShloMosaic.TcCoe Idealize.ShloMosaic.Tactic
open Cert.ReferenceIdeal Cert.ReferenceIdeal.Read

/-! What the reference computes, at an index. -/

/-- A literal of the reference: two. -/
theorem lit_two : Ideal.ofBits FTy.f32 1073741824#32 = ((2 : ℝ) : EReal) := by
  simp [Ideal.ofBits, Ideal.ieee, -EReal.coe_mul]
  norm_num
/-- A literal of the reference: eight. -/
theorem lit_eight : Ideal.ofBits FTy.f32 1090519040#32 = ((8 : ℝ) : EReal) := by
  simp [Ideal.ofBits, Ideal.ieee, -EReal.coe_mul]
  norm_num
/-- A literal of the reference: minus eight. -/
theorem lit_neg_eight : Ideal.ofBits FTy.f32 3238002688#32 = ((-8 : ℝ) : EReal) := by
  simp [Ideal.ofBits, Ideal.ieee, -EReal.coe_mul]
  norm_num
/-- A literal of the reference: minus infinity. -/
theorem lit_bot : Ideal.ofBits FTy.f32 4286578688#32 = ⊥ := by
  simp [Ideal.ofBits, Ideal.ieee]

/-- The reference's slope is the power of two. -/
theorem slope_ref (h : Fin 8) :
    Ideal.pow (Ideal.ofBits FTy.f32 1073741824#32)
      (Ideal.div (Ideal.ofBits FTy.f32 3238002688#32 * (1 + FloatOps.sitofp (F := Ideal) FTy.f32 (BitVec.ofNat 32 h.val))) (Ideal.ofBits FTy.f32 1090519040#32))
      = ((slopeR h.val : ℝ) : EReal) := by
  have e : FloatOps.sitofp (F := Ideal) FTy.f32 (BitVec.ofNat 32 h.val) = (((h.val : ℕ) : ℝ) : EReal) := by
    show ((((BitVec.ofNat 32 h.val).toInt : ℤ) : ℝ) : EReal) = _
    rw [toInt_row ⟨h.val, by omega⟩]
    push_cast
    rfl
  rw [e, lit_two, lit_eight, lit_neg_eight, ← EReal.coe_one, ← EReal.coe_add, ← EReal.coe_mul, div_real _ _ (by norm_num)]
  show ((Real.rpow 2 _ : ℝ) : EReal) = _
  rw [show (-8 * (1 + ((h.val : ℕ) : ℝ)) / 8) = -(((h.val : ℕ) : ℝ) + 1) by ring]
  rfl

variable (x0 : S16384x4096.Idx → EReal) (x1 : S16384x2048.Idx → EReal) (x2 : S4x128.Idx → EReal) (x3 : S256.Idx → EReal)
variable (h0 : AllReal x0) (h1 : AllReal x1) (h2 : AllReal x2)

include h0 in
/-- The reference's queries, as reals. -/
theorem v2_real (b : Fin 2) (s : Fin 8192) (h : Fin 8) (c : Fin 2) (d : Fin 128) :
    val_main_v2 (F := Ideal) x0 (ix5 b s h c d) = ((Qf x0 b.val h.val s.val (c.val * 128 + d.val) : ℝ) : EReal) := by
  pointwise [val_main_v2, val_main_v1, val_main_v0]
  rw [qkR_eq h0]
  unfold Qf
  rw [← Nat.add_assoc]

include h0 in
/-- The reference's keys, as reals. -/
theorem v5_real (b : Fin 2) (s : Fin 8192) (h : Fin 8) (c : Fin 2) (d : Fin 128) :
    val_main_v5 (F := Ideal) x0 (ix5 b s h c d) = ((Kf x0 b.val h.val s.val (c.val * 128 + d.val) : ℝ) : EReal) := by
  pointwise [val_main_v5, val_main_v4, val_main_v3]
  rw [qkR_eq h0]
  unfold Kf
  simp only [Nat.add_assoc]

include h1 in
/-- The reference's values, as reals. -/
theorem v7_real (b : Fin 2) (s : Fin 8192) (h : Fin 8) (e : Fin 256) :
    val_main_v7 (F := Ideal) x1 (ix4 b s h e) = ((Vf x1 b.val h.val s.val e.val : ℝ) : EReal) := by
  pointwise [val_main_v7, val_main_v6]
  rw [vR_eq h1]
  rfl

/-- The reference's scores. -/
abbrev exR (b h : ℕ) (c : ℕ) : ℕ → ℕ → ℝ := ex (Qf x0 b h) (Kf x0 b h) (slopeR h) 0 c

include h0 in
/-- The reference's scores, as reals. -/
theorem v51_real (b : Fin 2) (h : Fin 8) (c : Fin 2) (q k : Fin 8192) :
    val_main_v51 (F := Ideal) x0 (ix5 b h c q k) = ((exR x0 b.val h.val c.val q.val k.val : ℝ) : EReal) := by
  have e : val_main_v48 (F := Ideal) x0 (ix5 b h c q k) = (∑ x, val_main_v2 (F := Ideal) x0 (ix5 b q h c x) * val_main_v5 (F := Ideal) x0 (ix5 b k h c x) : EReal) := by
    pointwise [val_main_v48]
  pointwise [val_main_v51, val_main_v50, val_main_v49, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28,  val_main_v27, val_main_v26, val_main_v25, val_main_v24, val_main_cst_2, val_main_cst_3, val_main_cst_4, val_main_cst_5]
  rw [slope_ref, e, coe_dot _ _ _ _ (fun d => v2_real x0 h0 b q h c d) (fun d => v5_real x0 h0 b k h c d),
    show (FloatOps.sitofp (F := Ideal) FTy.f32 (IntOp.absi (IntOp.subi (BitVec.ofNat 32 q.val) (BitVec.ofNat 32 k.val)))) = ((((IntOp.absi (IntOp.subi (BitVec.ofNat 32 q.val) (BitVec.ofNat 32 k.val))).toInt : ℝ)) : EReal) from rfl,
    toInt_absi_row, ← EReal.coe_neg, ← EReal.coe_mul, ← EReal.coe_add]
  congr 1
  unfold exR ex
  push_cast
  ring

/-- The largest of finitely many real numbers is a real number. -/
theorem fold_max_real {ι : Type} [Fintype ι] [Nonempty ι] (f : ι → ℝ) (F : ι → EReal) (B : EReal) (hB : B = ⊥) (hF : ∀ i, F i = ((f i : ℝ) : EReal)) :
    ∃ M : ℝ, Finset.fold max B F Finset.univ = (M : EReal) := by
  subst hB
  classical
  have key : ∀ s : Finset ι, (s = ∅ ∧ Finset.fold max ⊥ F s = ⊥) ∨ ∃ M : ℝ, Finset.fold max ⊥ F s = (M : EReal) := by
    intro s
    induction s using Finset.induction_on with
    | empty => exact Or.inl ⟨rfl, rfl⟩
    | insert a s ha ih =>
      right
      rw [Finset.fold_insert ha, hF]
      rcases ih with ⟨-, h⟩ | ⟨M, h⟩
      · rw [h]; exact ⟨f a, by simp⟩
      · rw [h]; exact ⟨max (f a) M, (EReal.coe_strictMono.monotone.map_max).symm⟩
  rcases key Finset.univ with ⟨h, -⟩ | h
  · exact absurd h (Finset.univ_nonempty.ne_empty)
  · exact h

/-- The reference's maximum of a row is a fold. -/
theorem v52_fold (b : Fin 2) (h : Fin 8) (c : Fin 2) (q : Fin 8192) : val_main_v52 (F := Ideal) x0 (ix4 b h c q)
    = (Finset.fold max (Ideal.ofBits FTy.f32 4286578688#32) (fun x : Fin 8192 => (val_main_v51 (F := Ideal) x0 (ix5 b h c q x) : EReal)) Finset.univ : EReal) := by
  pointwise [val_main_v52, val_main_cst_6]

include h0 in
/-- The reference's maximum of a row is real. -/
theorem v52_real (b : Fin 2) (h : Fin 8) (c : Fin 2) (q : Fin 8192) : ∃ M : ℝ, val_main_v52 (F := Ideal) x0 (ix4 b h c q) = (M : EReal) := by
  haveI : Nonempty (Fin 8192) := ⟨⟨0, by norm_num⟩⟩
  obtain ⟨M, hM⟩ := fold_max_real (fun k : Fin 8192 => exR x0 b.val h.val c.val q.val k.val) (fun k : Fin 8192 => (val_main_v51 (F := Ideal) x0 (ix5 b h c q k) : EReal)) _ lit_bot (fun k => v51_real x0 h0 b h c q k)
  exact ⟨M, (v52_fold x0 b h c q).trans hM⟩

include h0 in
/-- The maximum softmax subtracts is real. -/
theorem v54_real (b : Fin 2) (h : Fin 8) (c : Fin 2) (q : Fin 8192) : ∃ M : ℝ, val_main_v54 (F := Ideal) x0 (ix4 b h c q) = (M : EReal) := by
  obtain ⟨M, hM⟩ := v52_real x0 h0 b h c q
  have e : val_main_v53 (F := Ideal) (ix4 b h c q) = (⊥ : EReal) := by
    pointwise [val_main_v53, val_main_cst_7]
    rw [lit_bot]
  have e2 : val_main_v54 (F := Ideal) x0 (ix4 b h c q) = (max (val_main_v53 (F := Ideal) (ix4 b h c q)) (val_main_v52 (F := Ideal) x0 (ix4 b h c q)) : EReal) :=
    val_main_v54_apply (F := Ideal) x0 (ix4 b h c q)
  rw [e, hM] at e2
  exact ⟨M, e2.trans (max_eq_right bot_le)⟩

include h0 in
/-- The exponentials of a row, less the row's largest score. -/
theorem v58_real (b : Fin 2) (h : Fin 8) (c : Fin 2) (q : Fin 8192) : ∃ M : ℝ, ∀ k : Fin 8192,
    val_main_v58 (F := Ideal) x0 (ix5 b h c q k) = ((Real.exp (exR x0 b.val h.val c.val q.val k.val - M) : ℝ) : EReal) := by
  obtain ⟨M, hM⟩ := v54_real x0 h0 b h c q
  refine ⟨M, fun k => ?_⟩
  pointwise [val_main_v58, val_main_v57, val_main_v56, val_main_v55]
  rw [hM, v51_real x0 h0, ← EReal.coe_sub]
  rfl

include h0 in
/-- The softmax of a row. -/
theorem v62_real (b : Fin 2) (h : Fin 8) (c : Fin 2) (q k : Fin 8192) :
    val_main_v62 (F := Ideal) x0 (ix5 b h c q k)
      = ((Real.exp (exR x0 b.val h.val c.val q.val k.val) / lsum (exR x0 b.val h.val c.val) q.val : ℝ) : EReal) := by
  obtain ⟨M, hM⟩ := v58_real x0 h0 b h c q
  have e : val_main_v59 (F := Ideal) x0 (ix4 b h c q) = ((Real.exp (-M) * lsum (exR x0 b.val h.val c.val) q.val : ℝ) : EReal) := by
    pointwise [val_main_v59, val_main_cst_8]
    rw [show (∑ x : Fin 8192, val_main_v58 (F := Ideal) x0 (ix5 b h c q x) : EReal) = ∑ x : Fin 8192, ((Real.exp (exR x0 b.val h.val c.val q.val x.val - M) : ℝ) : EReal) from Finset.sum_congr rfl fun x _ => hM x, coe_sum]
    congr 1
    unfold lsum
    rw [Finset.mul_sum, ← Finset.sum_range (fun k => Real.exp (exR x0 b.val h.val c.val q.val k - M))]
    exact Finset.sum_congr rfl fun k _ => by rw [← Real.exp_add]; congr 1; ring
  pointwise [val_main_v62, val_main_v61, val_main_v60]
  rw [hM, e, div_real _ _ (mul_pos (Real.exp_pos _) (lsum_pos _ _))]
  congr 1
  rw [show exR x0 b.val h.val c.val q.val k.val - M = -M + exR x0 b.val h.val c.val q.val k.val by ring, Real.exp_add, mul_div_mul_left _ _ (Real.exp_pos _).ne']

/-- The reference's lambda. -/
theorem v23_eq (i : S_.Idx) : val_main_v23 (F := Ideal) x2 i = lamE x2 := by
  obtain rfl : i = ix0 := funext fun a => a.elim0
  pointwise [val_main_v23, val_main_v22, val_main_v21, val_main_v20, val_main_v19, val_main_v18, val_main_v17, val_main_v16, val_main_v15, val_main_v14, val_main_v13, val_main_v12, val_main_v11, val_main_v10, val_main_v9, val_main_v8, val_main_cst, val_main_cst_0, val_main_cst_1]
  rfl

/-- The difference of the two maps. -/
abbrev wR (x0 : S16384x4096.Idx → EReal) (lam : ℝ) (b h : ℕ) (s k : ℕ) : ℝ :=
  Real.exp (exR x0 b h 0 s k) / lsum (exR x0 b h 0) s - lam * (Real.exp (exR x0 b h 1 s k) / lsum (exR x0 b h 1) s)

/-- The first map's weight, out of the pair. -/
theorem v64_open (b : Fin 2) (h : Fin 8) (s k : Fin 8192) : val_main_v64 (F := Ideal) x0 (ix4 b h s k) = val_main_v63 (F := Ideal) x0 (ix5 b h 0 s k) := by
  pointwise [val_main_v64]
/-- The second map's weight, out of the pair. -/
theorem v66_open (b : Fin 2) (h : Fin 8) (s k : Fin 8192) : val_main_v66 (F := Ideal) x0 (ix4 b h s k) = val_main_v65 (F := Ideal) x0 (ix5 b h 0 s k) := by
  pointwise [val_main_v66]
/-- The first map's weight, of the softmax. -/
theorem v63_open (b : Fin 2) (h : Fin 8) (s k : Fin 8192) : val_main_v63 (F := Ideal) x0 (ix5 b h 0 s k) = val_main_v62 (F := Ideal) x0 (ix5 b h 0 s k) := by
  pointwise [val_main_v63]
/-- The second map's weight, of the softmax. -/
theorem v65_open (b : Fin 2) (h : Fin 8) (s k : Fin 8192) : val_main_v65 (F := Ideal) x0 (ix5 b h 0 s k) = val_main_v62 (F := Ideal) x0 (ix5 b h 1 s k) := by
  pointwise [val_main_v65]
/-- Lambda, spread over the weights. -/
theorem v67_open (b : Fin 2) (h : Fin 8) (s k : Fin 8192) : val_main_v67 (F := Ideal) x2 (ix4 b h s k) = lamE x2 := by
  rw [← v23_eq x2 ix0]
  pointwise [val_main_v67]

/-- The difference of the two weights. -/
theorem v69_open (b : Fin 2) (h : Fin 8) (s k : Fin 8192) : val_main_v69 (F := Ideal) x0 x2 (ix4 b h s k)
    = (val_main_v62 (F := Ideal) x0 (ix5 b h 0 s k) - lamE x2 * val_main_v62 (F := Ideal) x0 (ix5 b h 1 s k) : EReal) := by
  rw [← v67_open x2 b h s k, ← v63_open, ← v64_open, ← v65_open, ← v66_open]
  exact (val_main_v69_apply (F := Ideal) x0 x2 (ix4 b h s k)).trans
    (congrArg (fun r : EReal => (val_main_v64 (F := Ideal) x0 (ix4 b h s k) - r : EReal)) (val_main_v68_apply (F := Ideal) x0 x2 (ix4 b h s k)))

include h0 h2 in
/-- The difference of the two weights, as a real. -/
theorem v69_real (b : Fin 2) (h : Fin 8) (s k : Fin 8192) : val_main_v69 (F := Ideal) x0 x2 (ix4 b h s k) = ((wR x0 (lamR x2) b.val h.val s.val k.val : ℝ) : EReal) := by
  have e0 := v62_real x0 h0 b h 0 s k
  have e1 := v62_real x0 h0 b h 1 s k
  rw [Fin.val_zero] at e0
  rw [Fin.val_one] at e1
  rw [v69_open, e0, e1, lamE_eq h2, ← EReal.coe_mul, ← EReal.coe_sub]

/-- The reference's product with the values, the heads moved. -/
theorem v71_open (b : Fin 2) (s : Fin 8192) (h : Fin 8) (e : Fin 256) :
    val_main_v71 (F := Ideal) x0 x1 x2 (ix4 b s h e) = (∑ k : Fin 8192, val_main_v7 (F := Ideal) x1 (ix4 b k h e) * val_main_v69 (F := Ideal) x0 x2 (ix4 b h s k) : EReal) := by
  pointwise [val_main_v71, val_main_v70]

include h0 h1 h2 in
/-- The reference's product with the values, as a real. -/
theorem v71_real (b : Fin 2) (s : Fin 8192) (h : Fin 8) (e : Fin 256) :
    val_main_v71 (F := Ideal) x0 x1 x2 (ix4 b s h e)
      = ((diffR (exR x0 b.val h.val 0) (exR x0 b.val h.val 1) (Vf x1 b.val h.val) (lamR x2) s.val e.val : ℝ) : EReal) := by
  refine (v71_open x0 x1 x2 b s h e).trans ?_
  refine (coe_dot (fun k : Fin 8192 => (val_main_v7 (F := Ideal) x1 (ix4 b k h e) : EReal)) (fun k => (val_main_v69 (F := Ideal) x0 x2 (ix4 b h s k) : EReal))
    (fun k => Vf x1 b.val h.val k.val e.val) (fun k => wR x0 (lamR x2) b.val h.val s.val k.val) (fun k => v7_real x1 h1 b k h e) (fun k => v69_real x0 x2 h0 h2 b h s k)).trans ?_
  exact congrArg (fun r : ℝ => (r : EReal)) (diff_of_weights (exR x0 b.val h.val 0) (exR x0 b.val h.val 1) (Vf x1 b.val h.val) (lamR x2) s.val e.val)

include h0 h1 h2 in
/-- The reference's result is the layer's result. -/
theorem ref_value (R : Fin 16384) (C : Fin 2048) :
    val_main_v88 (F := Ideal) x0 x1 x2 x3 (ix2 R C) = resE x0 x1 x2 (fun e => x3 (ix1 e)) 0 R C := by
  pointwise [val_main_v88, val_main_v87, val_main_v86, val_main_v85, val_main_v84, val_main_v83, val_main_v82, val_main_v81, val_main_v80, val_main_v79, val_main_v78, val_main_v77, val_main_v76, val_main_v75, val_main_v74, val_main_v73, val_main_v72, val_main_cst_9, val_main_cst_10, val_main_cst_11, val_main_cst_12]
  simp only [v71_real x0 x1 x2 h0 h1 h2]
  rfl

end Cert.Attn

end
-- ==== Proof.Attn.Pre.lean ====
module

public import proofs.«01_k».proof.Proof.Attn.Final
public import proofs.«01_k».proof.Proof.Attn.Ref
public import proofs.«01_k».proof.Defs
public import proofs.«01_k».proof.Proof.Gen.Pre_finite
public import proofs.«01_k».proof.Proof.Gen.Kernel.Frame
public import proofs.«01_k».proof.Proof.Gen.ReferenceIdeal.Run
public import Idealize.ShloMosaic.Lib.ReduceAll

@[expose] public section

set_option maxRecDepth 16384

noncomputable section

namespace Cert.Attn

open Idealize.ShloMosaic Idealize.ShloMosaic.TcCoe Idealize.ShloMosaic.Tactic Idealize.SL.Sem
open Cert.KernelIdeal (S16384x4096 S16384x2048 S4x128 S256)

/-- The literal the predicate compares with is infinity. -/
theorem lit_top : Ideal.ofBits FTy.f32 2139095040#32 = ⊤ := by
  simp [Ideal.ofBits, Ideal.ieee]

/-- An entry whose magnitude compares below infinity is a real. -/
theorem real_of_below (x : EReal) (h : Ideal.cmp .olt (max x (-x)) (Ideal.ofBits FTy.f32 2139095040#32) = 1#1) : ∃ v : ℝ, x = (v : EReal) := by
  rw [lit_top] at h
  have hlt : max x (-x) < ⊤ := by
    by_contra hc
    have : Ideal.cmp .olt (max x (-x)) ⊤ = 0#1 := by
      simp only [Ideal.cmp, hc, decide_false]
      rfl
    rw [this] at h
    exact absurd h (by decide)
  have h1 : x ≠ ⊤ := fun e => by rw [e] at hlt; exact absurd (lt_of_le_of_lt (le_max_left _ _) hlt) (lt_irrefl _)
  have h2 : x ≠ ⊥ := fun e => by
    rw [e] at hlt
    exact absurd (lt_of_le_of_lt (le_max_right (⊥ : EReal) (-⊥)) hlt) (by simp)
  exact ⟨x.toReal, (EReal.coe_toReal h1 h2).symm⟩

/-- An array all of whose magnitudes compare below infinity has real entries. -/
theorem real_of_all {s : Shape} {φ : FTy} (x : FVec Ideal s .f32) (hb : Cert.Pre_finite.S_.BroadcastsInDim s (![] : Fin 0 → Fin s.rank))
    (axes : List (Fin s.rank)) (hr : s.ReducesTo axes Cert.Pre_finite.S_) (hu : 0 < Cert.Pre_finite.S_.numel)
    (h : Host.reduce IntOp.andi (cmpf .olt (Host.absf x) (broadcastInDim s ![] hb (constant (F := Ideal) Cert.Pre_finite.S_ .f32 0x7F800000#32))) (constantI Cert.Pre_finite.S_ 1 1#1) hr hu ix0 = 1#1) :
    AllReal (s := s) x := fun i =>
  real_of_below (x i) (Host.reduce_andi_all _ _ _ _ _ h i)

/-- What the predicate says: the queries and keys, the values, the lambda vectors and the shift have real entries. -/
theorem pre_real (x0 : FVec Ideal Cert.Pre_finite.S16384x4096 .bf16) (x1 : FVec Ideal Cert.Pre_finite.S16384x2048 .bf16) (x2 : FVec Ideal Cert.Pre_finite.S4x128 .f32)
    (x3 : FVec Ideal Cert.Pre_finite.S256 .f32) (x4 : FVec Ideal Cert.Pre_finite.S1 .f32)
    (h : Cert.Pre_finite.fn (F := Ideal) x0 x1 x2 x3 x4 ix0 = 1#1) :
    AllReal (s := Cert.Pre_finite.S16384x4096) x0 ∧ AllReal (s := Cert.Pre_finite.S16384x2048) x1 ∧ AllReal (s := Cert.Pre_finite.S4x128) x2 ∧ AllReal (s := Cert.Pre_finite.S1) x4 := by
  unfold Cert.Pre_finite.fn Cert.Pre_finite.fn_part1 at h
  obtain ⟨h012, h4⟩ := IntOp.andi_eq_one.1 h
  obtain ⟨h01, h2⟩ := IntOp.andi_eq_one.1 h012
  obtain ⟨h0, h1⟩ := IntOp.andi_eq_one.1 h01
  exact ⟨real_of_all (φ := .f32) x0 _ _ _ _ h0, real_of_all (φ := .f32) x1 _ _ _ _ h1, real_of_all (φ := .f32) x2 _ _ _ _ h2, real_of_all (φ := .f32) x4 _ _ _ _ h4⟩

section
open Cert.KernelIdeal Cert.KernelIdeal.Gen

variable (m : (ℓ : Loc nD τ sig) → Buf (Elt Ideal) ℓ) (c : Dev nD)

/-- Under the predicate the kernel's call leaves the layer's result. -/
theorem final_of_pre (h : Cert.Pre_KernelIdeal_finite m) :
    ((dats m 0 c).arrAt 9 cfg0.N = result m c) ∧ AllReal (X0 m c) ∧ AllReal (X1 m c) ∧ AllReal (X2 m c) := by
  obtain ⟨a0, a1, a2, a4⟩ := pre_real _ _ _ _ _ (congrFun (h c) ix0)
  have e0 : X0 m c = m ((c.tc : Thread nD τ).loc main_arg0) := V_main_arg0 m c
  have e1 : X1 m c = m ((c.tc : Thread nD τ).loc main_arg1) := V_main_arg1 m c
  have e2 : X2 m c = m ((c.tc : Thread nD τ).loc main_arg2) := V_main_arg2 m c
  have b0 : AllReal (X0 m c) := fun i => by rw [e0]; exact a0 i
  have b1 : AllReal (X1 m c) := fun i => by rw [e1]; exact a1 i
  have b2 : AllReal (X2 m c) := fun i => by rw [e2]; exact a2 i
  have hs : ∃ sh : ℝ, shN m c ix0 = (sh : EReal) := by
    unfold shN
    exact a4 _
  obtain ⟨sh, hsh⟩ := hs
  exact ⟨final m c sh hsh b0 b1 b2, b0, b1, b2⟩

end

/-- The kernel's result and the reference's are one array where the arguments agree and are finite. -/
theorem result_eq (m : (ℓ : Loc Cert.KernelIdeal.nD Cert.KernelIdeal.τ Cert.KernelIdeal.sig) → Buf (Elt Ideal) ℓ) (c : Dev Cert.KernelIdeal.nD)
    (x0 : S16384x4096.Idx → EReal) (x1 : S16384x2048.Idx → EReal) (x2 : S4x128.Idx → EReal) (x3 : S256.Idx → EReal)
    (h0 : AllReal x0) (h1 : AllReal x1) (h2 : AllReal x2)
    (e0 : x0 = X0 m c) (e1 : x1 = X1 m c) (e2 : x2 = X2 m c) (e3 : (fun e => x3 (ix1 e)) = X3 m c) :
    (Cert.ReferenceIdeal.Read.val_main_v88 (F := Ideal) x0 x1 x2 x3 : S16384x2048.Idx → EReal) = result m c := by
  have k : ∀ (R : Fin 16384) (C : Fin 2048), Cert.ReferenceIdeal.Read.val_main_v88 (F := Ideal) x0 x1 x2 x3 (ix2 R C) = resE (X0 m c) (X1 m c) (X2 m c) (X3 m c) 0 R C := fun R C => by
    rw [ref_value x0 x1 x2 x3 h0 h1 h2 R C, e0, e1, e2, e3]
  funext j
  idx_vars j
  exact k j0 j1

end Cert.Attn

end
-- ==== Proof.Calls.Merge.lean ====
module

public import proofs.«01_k».proof.Proof.Attn.Pay
public import proofs.«01_k».proof.Proof.Gen.MergeIdeal.Frame
public import proofs.«01_k».proof.Proof.Gen.MergeIdeal.Value
public import proofs.«01_k».proof.Proof.Gen.MergeRefIdeal.Read
public import Idealize.ShloMosaic.Lib.Pipeline.Value
public import Idealize.ShloMosaic.Lib.Pipeline.ValueKit.Tiles

@[expose] public section

set_option maxRecDepth 16384

noncomputable section

namespace Cert.CallMerge

open Idealize.ShloMosaic Idealize.ShloMosaic.TcCoe Idealize.ShloMosaic.Tactic Idealize.SL.Sem
open Cert.MergeIdeal Cert.MergeIdeal.Gen

variable (m : (ℓ : Loc nD τ sig) → Buf (Elt Ideal) ℓ)
variable (c : Dev nD) (t : Fin cfg0.N)

/-- The gated sum of the two products, at a row and a column. -/
def mergeE (fm : S16384x1024.Idx → EReal) (on : S16384x2048.Idx → EReal) (g : S16384x4096.Idx → EReal) (wf : S1024x2048.Idx → EReal)
    (wa : S2048x2048.Idx → EReal) (i : Fin 16384) (j : Fin 2048) : EReal :=
  g (ix2 i ⟨j.val, by have := j.isLt; omega⟩) * (∑ k : Fin 1024, fm (ix2 i k) * wf (ix2 k j))
    + g (ix2 i ⟨2048 + j.val, by have := j.isLt; omega⟩) * (∑ k : Fin 2048, on (ix2 i k) * wa (ix2 k j))

/-- The reference's array is the gated sum. -/
theorem ref_eq (fm : S16384x1024.Idx → EReal) (on : S16384x2048.Idx → EReal) (g : S16384x4096.Idx → EReal) (wf : S1024x2048.Idx → EReal)
    (wa : S2048x2048.Idx → EReal) (i : Fin 16384) (j : Fin 2048) :
    Cert.MergeRefIdeal.Read.val_main_v11 (F := Ideal) fm on g wf wa (ix2 i j) = mergeE fm on g wf wa i j := by
  pointwise [Cert.MergeRefIdeal.Read.val_main_v11, Cert.MergeRefIdeal.Read.val_main_v10, Cert.MergeRefIdeal.Read.val_main_v9, Cert.MergeRefIdeal.Read.val_main_v8, Cert.MergeRefIdeal.Read.val_main_v7, Cert.MergeRefIdeal.Read.val_main_v6, Cert.MergeRefIdeal.Read.val_main_v5, Cert.MergeRefIdeal.Read.val_main_v4, Cert.MergeRefIdeal.Read.val_main_v3, Cert.MergeRefIdeal.Read.val_main_v2, Cert.MergeRefIdeal.Read.val_main_v1, Cert.MergeRefIdeal.Read.val_main_v0]
  unfold mergeE
  rfl

/-- What a step computes of the blocks it reads. -/
theorem pay_eq (v0 : S512x1024.Idx → EReal) (v2 : S1024x2048.Idx → EReal) (v4 : S512x2048.Idx → EReal) (v5 : S2048x2048.Idx → EReal)
    (v7 v10 : S512x2048.Idx → EReal) (r : Fin 512) (j : Fin 2048) :
    k0_pay1 (F := Ideal) v0 v2 v4 v5 v7 v10 (ix2 r j)
      = v7 (ix2 r j) * (∑ k : Fin 1024, v0 (ix2 r k) * v2 (ix2 k j)) + v10 (ix2 r j) * (∑ k : Fin 2048, v4 (ix2 r k) * v5 (ix2 k j)) := by
  pointwise [k0_pay1]

/-- The offset of a whole block. -/
theorem hz2 : (![0, 0] : Fin 2 → Nat) = fun _ => 0 := funext fun a => by fin_cases a <;> rfl

/-- The block of the first input a step reads. -/
theorem ind0 : ∀ t : Fin cfg0.N, win0_0.index t 0 = t.val ∧ win0_0.index t 1 = 0 := (by decide +kernel : ∀ t : Fin grid0.N, _)
/-- The block of the second input a step reads. -/
theorem ind1 : ∀ t : Fin cfg0.N, win0_1.index t 0 = t.val ∧ win0_1.index t 1 = 0 := (by decide +kernel : ∀ t : Fin grid0.N, _)
/-- The block of the first gates a step reads. -/
theorem ind2 : ∀ t : Fin cfg0.N, win0_2.index t 0 = t.val ∧ win0_2.index t 1 = 0 := (by decide +kernel : ∀ t : Fin grid0.N, _)
/-- The block of the second gates a step reads. -/
theorem ind3 : ∀ t : Fin cfg0.N, win0_3.index t 0 = t.val ∧ win0_3.index t 1 = 1 := (by decide +kernel : ∀ t : Fin grid0.N, _)
/-- The block of the first weights a step reads. -/
theorem ind4 : ∀ t : Fin cfg0.N, win0_4.index t 0 = 0 ∧ win0_4.index t 1 = 0 := (by decide +kernel : ∀ t : Fin grid0.N, _)
/-- The block of the second weights a step reads. -/
theorem ind5 : ∀ t : Fin cfg0.N, win0_5.index t 0 = 0 ∧ win0_5.index t 1 = 0 := (by decide +kernel : ∀ t : Fin grid0.N, _)
/-- The block of the output a step holds. -/
theorem ind6 : ∀ t : Fin cfg0.N, win0_6.index t 0 = t.val ∧ win0_6.index t 1 = 0 := (by decide +kernel : ∀ t : Fin grid0.N, _)
/-- There are 32 steps. -/
theorem N_lt : t.val < 32 := lt_of_lt_of_eq t.isLt N_0

/-- The first input's block, from its array. -/
theorem read0 (r : Fin 512) (k : Fin 1024) (R : Fin 16384) (hR : R.val = t.val * 512 + r.val) :
    (iblk m c 0 t : S512x1024.Idx → EReal) (ix2 r k) = (V m c main_arg0 : S16384x1024.Idx → EReal) (ix2 R k) := by
  unfold iblk
  rw [View.read_apply]
  show V m c main_arg0 _ = V m c main_arg0 _
  congr 1
  funext a
  apply Fin.ext
  match a with
  | ⟨0, _⟩ => show win0_0.index t 0 * 512 + 1 * r.val = R.val; rw [(ind0 t).1]; omega
  | ⟨1, _⟩ => show win0_0.index t 1 * 1024 + 1 * k.val = k.val; rw [(ind0 t).2]; omega

/-- The second input's block, from its array. -/
theorem read1 (r : Fin 512) (k : Fin 2048) (R : Fin 16384) (hR : R.val = t.val * 512 + r.val) :
    (iblk m c 1 t : S512x2048.Idx → EReal) (ix2 r k) = (V m c main_arg1 : S16384x2048.Idx → EReal) (ix2 R k) := by
  unfold iblk
  rw [View.read_apply]
  show V m c main_arg1 _ = V m c main_arg1 _
  congr 1
  funext a
  apply Fin.ext
  match a with
  | ⟨0, _⟩ => show win0_1.index t 0 * 512 + 1 * r.val = R.val; rw [(ind1 t).1]; omega
  | ⟨1, _⟩ => show win0_1.index t 1 * 2048 + 1 * k.val = k.val; rw [(ind1 t).2]; omega

/-- The first gates' block, from the array. -/
theorem read2 (r : Fin 512) (k : Fin 2048) (R : Fin 16384) (hR : R.val = t.val * 512 + r.val) :
    (iblk m c 2 t : S512x2048.Idx → EReal) (ix2 r k) = (V m c main_arg2 : S16384x4096.Idx → EReal) (ix2 R ⟨k.val, by have := k.isLt; omega⟩) := by
  unfold iblk
  rw [View.read_apply]
  show V m c main_arg2 _ = V m c main_arg2 _
  congr 1
  funext a
  apply Fin.ext
  match a with
  | ⟨0, _⟩ => show win0_2.index t 0 * 512 + 1 * r.val = R.val; rw [(ind2 t).1]; omega
  | ⟨1, _⟩ => show win0_2.index t 1 * 2048 + 1 * k.val = k.val; rw [(ind2 t).2]; omega

/-- The second gates' block, from the array. -/
theorem read3 (r : Fin 512) (k : Fin 2048) (R : Fin 16384) (hR : R.val = t.val * 512 + r.val) :
    (iblk m c 3 t : S512x2048.Idx → EReal) (ix2 r k) = (V m c main_arg2 : S16384x4096.Idx → EReal) (ix2 R ⟨2048 + k.val, by have := k.isLt; omega⟩) := by
  unfold iblk
  rw [View.read_apply]
  show V m c main_arg2 _ = V m c main_arg2 _
  congr 1
  funext a
  apply Fin.ext
  match a with
  | ⟨0, _⟩ => show win0_3.index t 0 * 512 + 1 * r.val = R.val; rw [(ind3 t).1]; omega
  | ⟨1, _⟩ => show win0_3.index t 1 * 2048 + 1 * k.val = 2048 + k.val; rw [(ind3 t).2]; omega

/-- The first weights' block is the array. -/
theorem read4 (r : Fin 1024) (k : Fin 2048) :
    (iblk m c 4 t : S1024x2048.Idx → EReal) (ix2 r k) = (V m c main_arg3 : S1024x2048.Idx → EReal) (ix2 r k) := by
  unfold iblk
  rw [View.read_apply]
  show V m c main_arg3 _ = V m c main_arg3 _
  congr 1
  funext a
  apply Fin.ext
  match a with
  | ⟨0, _⟩ => show win0_4.index t 0 * 1024 + 1 * r.val = r.val; rw [(ind4 t).1]; omega
  | ⟨1, _⟩ => show win0_4.index t 1 * 2048 + 1 * k.val = k.val; rw [(ind4 t).2]; omega

/-- The second weights' block is the array. -/
theorem read5 (r : Fin 2048) (k : Fin 2048) :
    (iblk m c 5 t : S2048x2048.Idx → EReal) (ix2 r k) = (V m c main_arg4 : S2048x2048.Idx → EReal) (ix2 r k) := by
  unfold iblk
  rw [View.read_apply]
  show V m c main_arg4 _ = V m c main_arg4 _
  congr 1
  funext a
  apply Fin.ext
  match a with
  | ⟨0, _⟩ => show win0_5.index t 0 * 2048 + 1 * r.val = r.val; rw [(ind5 t).1]; omega
  | ⟨1, _⟩ => show win0_5.index t 1 * 2048 + 1 * k.val = k.val; rw [(ind5 t).2]; omega

/-- A step's output block is the array's. -/
theorem block (r : Fin 512) (j : Fin 2048) (R : Fin 16384) (hR : R.val = t.val * 512 + r.val) :
    out0_6 (F := Ideal) (iblk m c 0 t) (iblk m c 1 t) (iblk m c 2 t) (iblk m c 3 t) (iblk m c 4 t) (iblk m c 5 t) (ix2 r j)
      = mergeE (V m c main_arg0) (V m c main_arg1) (V m c main_arg2) (V m c main_arg3) (V m c main_arg4) R j := by
  unfold out0_6
  rw [show ∀ p : Vec Ideal S512x2048 .bf16, View.canon [⟨r0_2, p⟩] = p from fun p => View.canon_unit_zero (S := S512x2048) hz2 _ p]
  rw [View.ld_unit_zero (S := S512x1024) hz2, View.ld_unit_zero (S := S1024x2048) hz2, View.ld_unit_zero (S := S2048x2048) hz2,
    View.ld_unit_zero (S := S512x2048) hz2, View.ld_unit_zero (S := S512x2048) hz2, View.ld_unit_zero (S := S512x2048) hz2]
  rw [pay_eq]
  unfold mergeE
  rw [read2 m c t r j R hR, read3 m c t r j R hR]
  congr 2
  · exact Finset.sum_congr rfl fun k _ => by rw [read0 m c t r k R hR, read4]
  · exact Finset.sum_congr rfl fun k _ => by rw [read1 m c t r k R hR, read5]

/-- The array the call leaves. -/
def result : Buf (Elt Ideal) ((c : Thread nD τ).loc main_v0) :=
  (fun j : S16384x2048.Idx => mergeE (V m c main_arg0) (V m c main_arg1) (V m c main_arg2) (V m c main_arg3) (V m c main_arg4) (j 0) (j 1) : S16384x2048.Idx → EReal)

/-- What is written back is the array's block. -/
theorem flushed_eq (hf : (cfg0.win 6).flush t = true) :
    (dats m 0 c).flushed 6 t = ((cfg0.win 6).blk t).view.read (Elt Ideal) (result m c) := by
  have ht := N_lt t
  rw [Value.flushed6]
  funext j
  rw [View.read_apply]
  have key : ∀ (j : S512x2048.Idx) (R : Fin 16384) (C : Fin 2048), R.val = t.val * 512 + (j 0).val → C.val = (j 1).val →
      out0_6 (F := Ideal) (iblk m c 0 t) (iblk m c 1 t) (iblk m c 2 t) (iblk m c 3 t) (iblk m c 4 t) (iblk m c 5 t) j
        = mergeE (V m c main_arg0) (V m c main_arg1) (V m c main_arg2) (V m c main_arg3) (V m c main_arg4) R C := fun j => by
    idx_vars j
    intro R C hR hC
    rw [show C = j1 from Fin.ext hC]
    exact block m c t j0 j1 R hR
  show out0_6 (F := Ideal) (iblk m c 0 t) (iblk m c 1 t) (iblk m c 2 t) (iblk m c 3 t) (iblk m c 4 t) (iblk m c 5 t) j = result m c _
  unfold result
  refine key j _ _ ?_ ?_
  · show win0_6.index t 0 * 512 + 1 * (j 0).val = _
    rw [(ind6 t).1]
    omega
  · show win0_6.index t 1 * 2048 + 1 * (j 1).val = _
    rw [(ind6 t).2]
    omega

/-- The call's array after the whole grid. -/
theorem final : (dats m 0 c).arrAt 6 cfg0.N = result m c :=
  (dats m 0 c).arrAt_eq_of_cover 6 (result m c) (flushed_eq m c) fun i => by
    have hi0 : (i 0 : Nat) < 16384 := (i 0).isLt
    have hi1 : (i 1 : Nat) < 2048 := (i 1).isLt
    have hN : cfg0.N = 32 := N_0
    let n := (i 0 : Nat) / 512
    have hn : n < cfg0.N := by rw [hN]; omega
    refine ⟨⟨n, hn⟩, flush0_6 _, ?_⟩
    show i ∈ ((View.whole main_v0).slice (win0_6.rect ⟨n, hn⟩)).set
    rw [View.set_slice_whole, Rect.mem_set_unit]
    intro a
    have k0 := (ind6 ⟨n, hn⟩).1
    have k1 := (ind6 ⟨n, hn⟩).2
    match a with
    | ⟨0, _⟩ =>
      show win0_6.index ⟨n, hn⟩ 0 * 512 ≤ (i 0 : Nat) ∧ (i 0 : Nat) < win0_6.index ⟨n, hn⟩ 0 * 512 + 512
      rw [k0]
      show n * 512 ≤ (i 0 : Nat) ∧ (i 0 : Nat) < n * 512 + 512
      omega
    | ⟨1, _⟩ =>
      show win0_6.index ⟨n, hn⟩ 1 * 2048 ≤ (i 1 : Nat) ∧ (i 1 : Nat) < win0_6.index ⟨n, hn⟩ 1 * 2048 + 2048
      rw [k1]
      omega

end Cert.CallMerge
end
-- ==== Proof.Calls.Out.lean ====
module

public import proofs.«01_k».proof.Proof.Calls.Merge
public import proofs.«01_k».proof.Proof.Gen.OutIdeal.Frame
public import proofs.«01_k».proof.Proof.Gen.OutIdeal.Value
public import proofs.«01_k».proof.Proof.Gen.OutRefIdeal.Read
public import Idealize.ShloMosaic.Lib.Pipeline.Value
public import Idealize.ShloMosaic.Lib.Pipeline.ValueKit.Tiles

@[expose] public section

set_option maxRecDepth 16384

noncomputable section

namespace Cert.CallOut

open Idealize.ShloMosaic Idealize.ShloMosaic.TcCoe Idealize.ShloMosaic.Tactic Idealize.SL.Sem
open Cert.OutIdeal Cert.OutIdeal.Gen

variable (m : (ℓ : Loc nD τ sig) → Buf (Elt Ideal) ℓ)
variable (c : Dev nD) (t : Fin cfg0.N)

/-- The offset of a whole block. -/
theorem hz2 : (![0, 0] : Fin 2 → Nat) = fun _ => 0 := funext fun a => by fin_cases a <;> rfl

/-- The first result at a row and a column: the input plus the product. -/
def hE (mx x : S16384x2048.Idx → EReal) (w : S2048x2048.Idx → EReal) (i : Fin 16384) (j : Fin 2048) : EReal :=
  x (ix2 i j) + ∑ k : Fin 2048, mx (ix2 i k) * w (ix2 k j)

/-- A row normalised by the root of its mean square, at a column, times the gain. -/
def normE (h : Fin 2048 → EReal) (g : EReal) (j : Fin 2048) : EReal :=
  h j * Ideal.rsqrt (Ideal.div (∑ k : Fin 2048, h k * h k) (Ideal.ofBits FTy.f32 1157627904#32) + Ideal.ofBits FTy.f32 897988541#32) * g

section Ref

variable (mx x : S16384x2048.Idx → EReal) (w : S2048x2048.Idx → EReal) (g : S2048.Idx → EReal) (i : Fin 16384) (j : Fin 2048)

/-- The reference's first result. -/
theorem ref0_eq : Cert.OutRefIdeal.Read.val_main_v3 (F := Ideal) mx x w (ix2 i j) = hE mx x w i j := by
  pointwise [Cert.OutRefIdeal.Read.val_main_v3, Cert.OutRefIdeal.Read.val_main_v2, Cert.OutRefIdeal.Read.val_main_v1, Cert.OutRefIdeal.Read.val_main_v0]
  rfl

/-- The reference's sum of squares. -/
theorem ref_ms : Cert.OutRefIdeal.Read.val_main_v5 (F := Ideal) mx x w (ix1 i) = ∑ k : Fin 2048, hE mx x w i k * hE mx x w i k := by
  have h := ref0_eq mx x w i
  have e : ∀ k : Fin 2048, Cert.OutRefIdeal.Read.val_main_v4 (F := Ideal) mx x w (ix2 i k) = hE mx x w i k * hE mx x w i k := fun k => by
    rw [← h k]
    pointwise [Cert.OutRefIdeal.Read.val_main_v4]
  generalize e4 : Cert.OutRefIdeal.Read.val_main_v4 (F := Ideal) mx x w = w4 at e
  unfold Cert.OutRefIdeal.Read.val_main_v5
  rw [e4]
  pointwise [Cert.OutRefIdeal.Read.val_main_cst]
  exact Finset.sum_congr rfl fun k _ => e k

/-- The reference's second result. -/
theorem ref1_eq : Cert.OutRefIdeal.Read.val_main_v17 (F := Ideal) mx x w g (ix2 i j) = normE (hE mx x w i) (g (ix1 j)) j := by
  have h := ref0_eq mx x w i j
  have hs := ref_ms mx x w i
  unfold normE
  rw [← h, ← hs]
  pointwise [Cert.OutRefIdeal.Read.val_main_v17, Cert.OutRefIdeal.Read.val_main_v16, Cert.OutRefIdeal.Read.val_main_v15, Cert.OutRefIdeal.Read.val_main_v14, Cert.OutRefIdeal.Read.val_main_v13, Cert.OutRefIdeal.Read.val_main_v12, Cert.OutRefIdeal.Read.val_main_v11, Cert.OutRefIdeal.Read.val_main_v10, Cert.OutRefIdeal.Read.val_main_v9, Cert.OutRefIdeal.Read.val_main_v8, Cert.OutRefIdeal.Read.val_main_v7, Cert.OutRefIdeal.Read.val_main_v6, Cert.OutRefIdeal.Read.val_main_cst_0, Cert.OutRefIdeal.Read.val_main_cst_1]

/-- The reference's third result. -/
theorem ref2_eq : Cert.OutRefIdeal.Read.val_main_v18 (F := Ideal) mx x w g (ix2 j i) = normE (hE mx x w i) (g (ix1 j)) j := by
  rw [← ref1_eq]
  pointwise [Cert.OutRefIdeal.Read.val_main_v18]

end Ref

section Pay

variable (v0 v1 : S512x2048.Idx → EReal) (v2 : S2048x2048.Idx → EReal) (v16 : S1x2048.Idx → EReal) (r : Fin 512) (j : Fin 2048)

/-- The first output of a step. -/
theorem pay1_eq : k0_pay1 (F := Ideal) v0 v1 v2 (ix2 r j) = v0 (ix2 r j) + ∑ k : Fin 2048, v1 (ix2 r k) * v2 (ix2 k j) := by
  pointwise [k0_pay1]

/-- The normalised row of a step. -/
theorem pay2_eq (h : Fin 2048 → EReal) (hh : ∀ j, k0_pay1 (F := Ideal) v0 v1 v2 (ix2 r j) = h j) :
    k0_pay2 (F := Ideal) v0 v1 v2 v16 (ix2 r j) = normE h (v16 (ix2 0 j)) j := by
  unfold normE
  unfold k0_pay2
  generalize k0_pay1 (F := Ideal) v0 v1 v2 = w1 at hh ⊢
  simp only [← hh]
  pointwise []

/-- The second output of a step. -/
theorem pay3_eq (h : Fin 2048 → EReal) (hh : ∀ j, k0_pay1 (F := Ideal) v0 v1 v2 (ix2 r j) = h j) :
    k0_pay3 (F := Ideal) v0 v1 v2 v16 (ix2 r j) = normE h (v16 (ix2 0 j)) j := by
  rw [← pay2_eq v0 v1 v2 v16 r j h hh]
  pointwise [k0_pay3]

/-- The third output of a step. -/
theorem pay4_eq (h : Fin 2048 → EReal) (hh : ∀ j, k0_pay1 (F := Ideal) v0 v1 v2 (ix2 r j) = h j) :
    k0_pay4 (F := Ideal) v0 v1 v2 v16 (ix2 j r) = normE h (v16 (ix2 0 j)) j := by
  rw [← pay2_eq v0 v1 v2 v16 r j h hh]
  pointwise [k0_pay4]

end Pay

/-- The block of the mixed rows a step reads. -/
theorem ind0 : ∀ t : Fin cfg0.N, win0_0.index t 0 = t.val ∧ win0_0.index t 1 = 0 := (by decide +kernel : ∀ t : Fin grid0.N, _)

/-- The block of the input rows a step reads. -/
theorem ind1 : ∀ t : Fin cfg0.N, win0_1.index t 0 = t.val ∧ win0_1.index t 1 = 0 := (by decide +kernel : ∀ t : Fin grid0.N, _)

/-- The block of the weights a step reads. -/
theorem ind2 : ∀ t : Fin cfg0.N, win0_2.index t 0 = 0 ∧ win0_2.index t 1 = 0 := (by decide +kernel : ∀ t : Fin grid0.N, _)

/-- The block of the gain a step reads. -/
theorem ind3 : ∀ t : Fin cfg0.N, win0_3.index t 0 = 0 ∧ win0_3.index t 1 = 0 := (by decide +kernel : ∀ t : Fin grid0.N, _)

/-- The block of the first output a step holds. -/
theorem ind4 : ∀ t : Fin cfg0.N, win0_4.index t 0 = t.val ∧ win0_4.index t 1 = 0 := (by decide +kernel : ∀ t : Fin grid0.N, _)

/-- The block of the second output a step holds. -/
theorem ind5 : ∀ t : Fin cfg0.N, win0_5.index t 0 = t.val ∧ win0_5.index t 1 = 0 := (by decide +kernel : ∀ t : Fin grid0.N, _)

/-- The block of the third output a step holds. -/
theorem ind6 : ∀ t : Fin cfg0.N, win0_6.index t 0 = 0 ∧ win0_6.index t 1 = t.val := (by decide +kernel : ∀ t : Fin grid0.N, _)

/-- There are 32 steps. -/
theorem N_lt : t.val < 32 := lt_of_lt_of_eq t.isLt N_0

/-- The gain as the call finds it: one row. -/
theorem V_g : V m c main_v0 = shapeCast S1x2048 (m (c, Proc.devRef .tc main_arg3)) shapeCasts_S2048_S1x2048 := by
  unfold_abbrev_sides
  after_reads_simp
  rfl

/-- The gain's entry. -/
theorem g_at (j : Fin 2048) : (V m c main_v0 : S1x2048.Idx → EReal) (ix2 0 j) = (V m c main_arg3 : S2048.Idx → EReal) (ix1 j) := by
  rw [V_g, V_main_arg3]
  show shapeCast S1x2048 (m (c, Proc.devRef .tc main_arg3) : S2048.Idx → EReal) shapeCasts_S2048_S1x2048 (ix2 0 j) = (m (c, Proc.devRef .tc main_arg3) : S2048.Idx → EReal) (ix1 j)
  generalize (m (c, Proc.devRef .tc main_arg3) : S2048.Idx → EReal) = g
  pointwise []

/-- The mixed rows' block, from the array. -/
theorem read0 (r : Fin 512) (k : Fin 2048) (R : Fin 16384) (hR : R.val = t.val * 512 + r.val) :
    (iblk m c 0 t : S512x2048.Idx → EReal) (ix2 r k) = (V m c main_arg0 : S16384x2048.Idx → EReal) (ix2 R k) := by
  unfold iblk
  rw [View.read_apply]
  show V m c main_arg0 _ = V m c main_arg0 _
  congr 1
  funext a
  apply Fin.ext
  match a with
  | ⟨0, _⟩ => show win0_0.index t 0 * 512 + 1 * r.val = R.val; rw [(ind0 t).1]; omega
  | ⟨1, _⟩ => show win0_0.index t 1 * 2048 + 1 * k.val = k.val; rw [(ind0 t).2]; omega

/-- The input rows' block, from the array. -/
theorem read1 (r : Fin 512) (k : Fin 2048) (R : Fin 16384) (hR : R.val = t.val * 512 + r.val) :
    (iblk m c 1 t : S512x2048.Idx → EReal) (ix2 r k) = (V m c main_arg1 : S16384x2048.Idx → EReal) (ix2 R k) := by
  unfold iblk
  rw [View.read_apply]
  show V m c main_arg1 _ = V m c main_arg1 _
  congr 1
  funext a
  apply Fin.ext
  match a with
  | ⟨0, _⟩ => show win0_1.index t 0 * 512 + 1 * r.val = R.val; rw [(ind1 t).1]; omega
  | ⟨1, _⟩ => show win0_1.index t 1 * 2048 + 1 * k.val = k.val; rw [(ind1 t).2]; omega

/-- The weights' block is the array. -/
theorem read2 (r k : Fin 2048) :
    (iblk m c 2 t : S2048x2048.Idx → EReal) (ix2 r k) = (V m c main_arg2 : S2048x2048.Idx → EReal) (ix2 r k) := by
  unfold iblk
  rw [View.read_apply]
  show V m c main_arg2 _ = V m c main_arg2 _
  congr 1
  funext a
  apply Fin.ext
  match a with
  | ⟨0, _⟩ => show win0_2.index t 0 * 2048 + 1 * r.val = r.val; rw [(ind2 t).1]; omega
  | ⟨1, _⟩ => show win0_2.index t 1 * 2048 + 1 * k.val = k.val; rw [(ind2 t).2]; omega

/-- The gain's block is the array. -/
theorem read3 (r : Fin 1) (k : Fin 2048) :
    (iblk m c 3 t : S1x2048.Idx → EReal) (ix2 r k) = (V m c main_v0 : S1x2048.Idx → EReal) (ix2 r k) := by
  unfold iblk
  rw [View.read_apply]
  show V m c main_v0 _ = V m c main_v0 _
  congr 1
  funext a
  apply Fin.ext
  match a with
  | ⟨0, _⟩ => show win0_3.index t 0 * 1 + 1 * r.val = r.val; rw [(ind3 t).1]; omega
  | ⟨1, _⟩ => show win0_3.index t 1 * 2048 + 1 * k.val = k.val; rw [(ind3 t).2]; omega

/-- The first output of a step, of the arrays. -/
theorem h_blk (r : Fin 512) (R : Fin 16384) (hR : R.val = t.val * 512 + r.val) (j : Fin 2048) :
    k0_pay1 (F := Ideal) (iblk m c 1 t) (iblk m c 0 t) (iblk m c 2 t) (ix2 r j) = hE (V m c main_arg0) (V m c main_arg1) (V m c main_arg2) R j := by
  refine (pay1_eq _ _ _ r j).trans ?_
  unfold hE
  rw [read1 m c t r j R hR]
  congr 1
  exact Finset.sum_congr rfl fun k _ => by rw [read0 m c t r k R hR, read2]

/-- A step's first output block is the array's. -/
theorem block4 (r : Fin 512) (j : Fin 2048) (R : Fin 16384) (C : Fin 2048) (hR : R.val = t.val * 512 + r.val) (hC : C.val = 0 * 2048 + j.val) :
    out0_4 (F := Ideal) (iblk m c 0 t) (iblk m c 1 t) (iblk m c 2 t) (iblk m c 3 t) (ix2 r j) = hE (V m c main_arg0) (V m c main_arg1) (V m c main_arg2) R C := by
  rw [show C = j from Fin.ext (by omega)]
  unfold out0_4
  rw [show ∀ p : Vec Ideal S512x2048 .f32, View.canon [⟨r0_0, p⟩] = p from fun p => View.canon_unit_zero (S := S512x2048) hz2 _ p]
  rw [View.ld_unit_zero (S := S512x2048) hz2, View.ld_unit_zero (S := S512x2048) hz2, View.ld_unit_zero (S := S2048x2048) hz2]
  exact h_blk m c t r R hR j

/-- A step's second output block is the array's. -/
theorem block5 (r : Fin 512) (j : Fin 2048) (R : Fin 16384) (C : Fin 2048) (hR : R.val = t.val * 512 + r.val) (hC : C.val = 0 * 2048 + j.val) :
    out0_5 (F := Ideal) (iblk m c 0 t) (iblk m c 1 t) (iblk m c 2 t) (iblk m c 3 t) (ix2 r j) = normE (hE (V m c main_arg0) (V m c main_arg1) (V m c main_arg2) R) ((V m c main_arg3 : S2048.Idx → EReal) (ix1 C)) C := by
  rw [show C = j from Fin.ext (by omega)]
  unfold out0_5
  rw [show ∀ p : Vec Ideal S512x2048 .bf16, View.canon [⟨r0_0, p⟩] = p from fun p => View.canon_unit_zero (S := S512x2048) hz2 _ p]
  rw [View.ld_unit_zero (S := S512x2048) hz2, View.ld_unit_zero (S := S512x2048) hz2, View.ld_unit_zero (S := S2048x2048) hz2, View.ld_unit_zero (S := S1x2048) hz2]
  refine (pay3_eq _ _ _ _ r j _ (h_blk m c t r R hR)).trans ?_
  rw [read3, g_at]

/-- A step's third output block is the array's. -/
theorem block6 (j : Fin 2048) (r : Fin 512) (C : Fin 2048) (R : Fin 16384) (hC : C.val = 0 * 2048 + j.val) (hR : R.val = t.val * 512 + r.val) :
    out0_6 (F := Ideal) (iblk m c 0 t) (iblk m c 1 t) (iblk m c 2 t) (iblk m c 3 t) (ix2 j r) = normE (hE (V m c main_arg0) (V m c main_arg1) (V m c main_arg2) R) ((V m c main_arg3 : S2048.Idx → EReal) (ix1 C)) C := by
  rw [show C = j from Fin.ext (by omega)]
  unfold out0_6
  rw [show ∀ p : Vec Ideal S2048x512 .bf16, View.canon [⟨r0_3, p⟩] = p from fun p => View.canon_unit_zero (S := S2048x512) hz2 _ p]
  rw [View.ld_unit_zero (S := S512x2048) hz2, View.ld_unit_zero (S := S512x2048) hz2, View.ld_unit_zero (S := S2048x2048) hz2, View.ld_unit_zero (S := S1x2048) hz2]
  refine (pay4_eq _ _ _ _ r j _ (h_blk m c t r R hR)).trans ?_
  rw [read3, g_at]

/-- The array the call leaves. -/
def result0 : Buf (Elt Ideal) ((c : Thread nD τ).loc main_v1_0) :=
  (fun j : S16384x2048.Idx => hE (V m c main_arg0) (V m c main_arg1) (V m c main_arg2) (j 0) (j 1) : S16384x2048.Idx → EReal)

/-- What is written back is the array's block. -/
theorem flushed_eq0 (hf : (cfg0.win 4).flush t = true) :
    (dats m 0 c).flushed 4 t = ((cfg0.win 4).blk t).view.read (Elt Ideal) (result0 m c) := by
  have ht := N_lt t
  rw [Value.flushed4]
  funext j
  rw [View.read_apply]
  have key : ∀ (j : S512x2048.Idx) (R : Fin 16384) (C : Fin 2048), R.val = t.val * 512 + (j 0).val → C.val = 0 * 2048 + (j 1).val →
      out0_4 (F := Ideal) (iblk m c 0 t) (iblk m c 1 t) (iblk m c 2 t) (iblk m c 3 t) j = hE (V m c main_arg0) (V m c main_arg1) (V m c main_arg2) R C := fun j => by
    idx_vars j
    intro R C hR hC
    exact block4 m c t j0 j1 R C hR hC
  show out0_4 (F := Ideal) (iblk m c 0 t) (iblk m c 1 t) (iblk m c 2 t) (iblk m c 3 t) j = result0 m c _
  unfold result0
  refine key j _ _ ?_ ?_
  · show win0_4.index t 0 * 512 + 1 * (j 0).val = _
    rw [(ind4 t).1]
    omega
  · show win0_4.index t 1 * 2048 + 1 * (j 1).val = _
    rw [(ind4 t).2]
    omega

/-- The call's array after the whole grid. -/
theorem final0 : (dats m 0 c).arrAt 4 cfg0.N = result0 m c :=
  (dats m 0 c).arrAt_eq_of_cover 4 (result0 m c) (flushed_eq0 m c) fun i => by
    have hi0 : (i 0 : Nat) < 16384 := (i 0).isLt
    have hi1 : (i 1 : Nat) < 2048 := (i 1).isLt
    have hN : cfg0.N = 32 := N_0
    let n := (i 0 : Nat) / 512
    have hn : n < cfg0.N := by rw [hN]; omega
    refine ⟨⟨n, hn⟩, flush0_4 _, ?_⟩
    show i ∈ ((View.whole main_v1_0).slice (win0_4.rect ⟨n, hn⟩)).set
    rw [View.set_slice_whole, Rect.mem_set_unit]
    intro a
    have k0 := (ind4 ⟨n, hn⟩).1
    have k1 := (ind4 ⟨n, hn⟩).2
    match a with
    | ⟨0, _⟩ =>
      show win0_4.index ⟨n, hn⟩ 0 * 512 ≤ (i 0 : Nat) ∧ (i 0 : Nat) < win0_4.index ⟨n, hn⟩ 0 * 512 + 512
      rw [k0]
      show n * 512 ≤ (i 0 : Nat) ∧ (i 0 : Nat) < n * 512 + 512
      omega
    | ⟨1, _⟩ =>
      show win0_4.index ⟨n, hn⟩ 1 * 2048 ≤ (i 1 : Nat) ∧ (i 1 : Nat) < win0_4.index ⟨n, hn⟩ 1 * 2048 + 2048
      rw [k1]
      show 0 * 2048 ≤ (i 1 : Nat) ∧ (i 1 : Nat) < 0 * 2048 + 2048
      omega

/-- The array the call leaves. -/
def result1 : Buf (Elt Ideal) ((c : Thread nD τ).loc main_v1_1) :=
  (fun j : S16384x2048.Idx => normE (hE (V m c main_arg0) (V m c main_arg1) (V m c main_arg2) (j 0)) ((V m c main_arg3 : S2048.Idx → EReal) (ix1 (j 1))) (j 1) : S16384x2048.Idx → EReal)

/-- What is written back is the array's block. -/
theorem flushed_eq1 (hf : (cfg0.win 5).flush t = true) :
    (dats m 0 c).flushed 5 t = ((cfg0.win 5).blk t).view.read (Elt Ideal) (result1 m c) := by
  have ht := N_lt t
  rw [Value.flushed5]
  funext j
  rw [View.read_apply]
  have key : ∀ (j : S512x2048.Idx) (R : Fin 16384) (C : Fin 2048), R.val = t.val * 512 + (j 0).val → C.val = 0 * 2048 + (j 1).val →
      out0_5 (F := Ideal) (iblk m c 0 t) (iblk m c 1 t) (iblk m c 2 t) (iblk m c 3 t) j = normE (hE (V m c main_arg0) (V m c main_arg1) (V m c main_arg2) R) ((V m c main_arg3 : S2048.Idx → EReal) (ix1 C)) C := fun j => by
    idx_vars j
    intro R C hR hC
    exact block5 m c t j0 j1 R C hR hC
  show out0_5 (F := Ideal) (iblk m c 0 t) (iblk m c 1 t) (iblk m c 2 t) (iblk m c 3 t) j = result1 m c _
  unfold result1
  refine key j _ _ ?_ ?_
  · show win0_5.index t 0 * 512 + 1 * (j 0).val = _
    rw [(ind5 t).1]
    omega
  · show win0_5.index t 1 * 2048 + 1 * (j 1).val = _
    rw [(ind5 t).2]
    omega

/-- The call's array after the whole grid. -/
theorem final1 : (dats m 0 c).arrAt 5 cfg0.N = result1 m c :=
  (dats m 0 c).arrAt_eq_of_cover 5 (result1 m c) (flushed_eq1 m c) fun i => by
    have hi0 : (i 0 : Nat) < 16384 := (i 0).isLt
    have hi1 : (i 1 : Nat) < 2048 := (i 1).isLt
    have hN : cfg0.N = 32 := N_0
    let n := (i 0 : Nat) / 512
    have hn : n < cfg0.N := by rw [hN]; omega
    refine ⟨⟨n, hn⟩, flush0_5 _, ?_⟩
    show i ∈ ((View.whole main_v1_1).slice (win0_5.rect ⟨n, hn⟩)).set
    rw [View.set_slice_whole, Rect.mem_set_unit]
    intro a
    have k0 := (ind5 ⟨n, hn⟩).1
    have k1 := (ind5 ⟨n, hn⟩).2
    match a with
    | ⟨0, _⟩ =>
      show win0_5.index ⟨n, hn⟩ 0 * 512 ≤ (i 0 : Nat) ∧ (i 0 : Nat) < win0_5.index ⟨n, hn⟩ 0 * 512 + 512
      rw [k0]
      show n * 512 ≤ (i 0 : Nat) ∧ (i 0 : Nat) < n * 512 + 512
      omega
    | ⟨1, _⟩ =>
      show win0_5.index ⟨n, hn⟩ 1 * 2048 ≤ (i 1 : Nat) ∧ (i 1 : Nat) < win0_5.index ⟨n, hn⟩ 1 * 2048 + 2048
      rw [k1]
      show 0 * 2048 ≤ (i 1 : Nat) ∧ (i 1 : Nat) < 0 * 2048 + 2048
      omega

/-- The array the call leaves. -/
def result2 : Buf (Elt Ideal) ((c : Thread nD τ).loc main_v1_2) :=
  (fun j : S2048x16384.Idx => normE (hE (V m c main_arg0) (V m c main_arg1) (V m c main_arg2) (j 1)) ((V m c main_arg3 : S2048.Idx → EReal) (ix1 (j 0))) (j 0) : S2048x16384.Idx → EReal)

/-- What is written back is the array's block. -/
theorem flushed_eq2 (hf : (cfg0.win 6).flush t = true) :
    (dats m 0 c).flushed 6 t = ((cfg0.win 6).blk t).view.read (Elt Ideal) (result2 m c) := by
  have ht := N_lt t
  rw [Value.flushed6]
  funext j
  rw [View.read_apply]
  have key : ∀ (j : S2048x512.Idx) (R : Fin 2048) (C : Fin 16384), R.val = 0 * 2048 + (j 0).val → C.val = t.val * 512 + (j 1).val →
      out0_6 (F := Ideal) (iblk m c 0 t) (iblk m c 1 t) (iblk m c 2 t) (iblk m c 3 t) j = normE (hE (V m c main_arg0) (V m c main_arg1) (V m c main_arg2) C) ((V m c main_arg3 : S2048.Idx → EReal) (ix1 R)) R := fun j => by
    idx_vars j
    intro R C hR hC
    exact block6 m c t j0 j1 R C hR hC
  show out0_6 (F := Ideal) (iblk m c 0 t) (iblk m c 1 t) (iblk m c 2 t) (iblk m c 3 t) j = result2 m c _
  unfold result2
  refine key j _ _ ?_ ?_
  · show win0_6.index t 0 * 2048 + 1 * (j 0).val = _
    rw [(ind6 t).1]
    omega
  · show win0_6.index t 1 * 512 + 1 * (j 1).val = _
    rw [(ind6 t).2]
    omega

/-- The call's array after the whole grid. -/
theorem final2 : (dats m 0 c).arrAt 6 cfg0.N = result2 m c :=
  (dats m 0 c).arrAt_eq_of_cover 6 (result2 m c) (flushed_eq2 m c) fun i => by
    have hi0 : (i 0 : Nat) < 2048 := (i 0).isLt
    have hi1 : (i 1 : Nat) < 16384 := (i 1).isLt
    have hN : cfg0.N = 32 := N_0
    let n := (i 1 : Nat) / 512
    have hn : n < cfg0.N := by rw [hN]; omega
    refine ⟨⟨n, hn⟩, flush0_6 _, ?_⟩
    show i ∈ ((View.whole main_v1_2).slice (win0_6.rect ⟨n, hn⟩)).set
    rw [View.set_slice_whole, Rect.mem_set_unit]
    intro a
    have k0 := (ind6 ⟨n, hn⟩).1
    have k1 := (ind6 ⟨n, hn⟩).2
    match a with
    | ⟨0, _⟩ =>
      show win0_6.index ⟨n, hn⟩ 0 * 2048 ≤ (i 0 : Nat) ∧ (i 0 : Nat) < win0_6.index ⟨n, hn⟩ 0 * 2048 + 2048
      rw [k0]
      show 0 * 2048 ≤ (i 0 : Nat) ∧ (i 0 : Nat) < 0 * 2048 + 2048
      omega
    | ⟨1, _⟩ =>
      show win0_6.index ⟨n, hn⟩ 1 * 512 ≤ (i 1 : Nat) ∧ (i 1 : Nat) < win0_6.index ⟨n, hn⟩ 1 * 512 + 512
      rw [k1]
      show n * 512 ≤ (i 1 : Nat) ∧ (i 1 : Nat) < n * 512 + 512
      omega

end Cert.CallOut
end
-- ==== Proof.Calls.Values.lean ====
module

public import proofs.«01_k».proof.Proof.Calls.Out
public import proofs.«01_k».proof.Proof.Gen.ValuesIdeal.Frame
public import proofs.«01_k».proof.Proof.Gen.ValuesIdeal.Value
public import proofs.«01_k».proof.Proof.Gen.ValuesRefIdeal.Read
public import Idealize.ShloMosaic.Lib.Pipeline.Value
public import Idealize.ShloMosaic.Lib.Pipeline.ValueKit.Tiles

@[expose] public section

set_option maxRecDepth 16384

noncomputable section

namespace Cert.CallValues

open Idealize.ShloMosaic Idealize.ShloMosaic.TcCoe Idealize.ShloMosaic.Tactic Idealize.SL.Sem
open Cert.ValuesIdeal Cert.ValuesIdeal.Gen

variable (m : (ℓ : Loc nD τ sig) → Buf (Elt Ideal) ℓ)
variable (c : Dev nD) (t : Fin cfg0.N)

/-- The offset of a whole block. -/
theorem hz2 : (![0, 0] : Fin 2 → Nat) = fun _ => 0 := funext fun a => by fin_cases a <;> rfl

/-- A row times a column of the weights, the columns counted from the call's own. -/
def dotE (x : S16384x2048.Idx → EReal) (w : S2048x11264.Idx → EReal) (i : Fin 16384) (j : Fin 2048) : EReal :=
  ∑ k : Fin 2048, x (ix2 i k) * w (ix2 k ⟨5120 + j.val, by have := j.isLt; omega⟩)

/-- The reference's array. -/
theorem ref_eq (x : S16384x2048.Idx → EReal) (w : S2048x11264.Idx → EReal) (i : Fin 16384) (j : Fin 2048) :
    Cert.ValuesRefIdeal.Read.val_main_v3 (F := Ideal) x w (ix2 i j) = dotE x w i j := by
  pointwise [Cert.ValuesRefIdeal.Read.val_main_v3, Cert.ValuesRefIdeal.Read.val_main_v2, Cert.ValuesRefIdeal.Read.val_main_v1, Cert.ValuesRefIdeal.Read.val_main_v0]
  unfold dotE
  rfl

/-- The block of rows a step reads. -/
theorem ind0 : ∀ t : Fin cfg0.N, win0_0.index t 0 = t.val % 16 ∧ win0_0.index t 1 = 0 := (by decide +kernel : ∀ t : Fin grid0.N, _)

/-- The block of the weights a step reads. -/
theorem ind1 : ∀ t : Fin cfg0.N, win0_1.index t 0 = 0 ∧ win0_1.index t 1 = 5 + t.val / 16 := (by decide +kernel : ∀ t : Fin grid0.N, _)

/-- The block of the output a step holds. -/
theorem ind3 : ∀ t : Fin cfg0.N, win0_3.index t 0 = t.val % 16 ∧ win0_3.index t 1 = t.val / 16 := (by decide +kernel : ∀ t : Fin grid0.N, _)

/-- There are 32 steps. -/
theorem N_lt : t.val < 32 := lt_of_lt_of_eq t.isLt N_0

/-- The rows' block, from the array. -/
theorem read0 (r : Fin 1024) (k : Fin 2048) (R : Fin 16384) (hR : R.val = t.val % 16 * 1024 + r.val) :
    (iblk m c 0 t : S1024x2048.Idx → EReal) (ix2 r k) = (V m c main_arg0 : S16384x2048.Idx → EReal) (ix2 R k) := by
  unfold iblk
  rw [View.read_apply]
  show V m c main_arg0 _ = V m c main_arg0 _
  congr 1
  funext a
  apply Fin.ext
  match a with
  | ⟨0, _⟩ => show win0_0.index t 0 * 1024 + 1 * r.val = R.val; rw [(ind0 t).1]; omega
  | ⟨1, _⟩ => show win0_0.index t 1 * 2048 + 1 * k.val = k.val; rw [(ind0 t).2]; omega

/-- The weights' block, from the array. -/
theorem read1 (r : Fin 2048) (k : Fin 1024) (C : Fin 11264) (hC : C.val = 5120 + (t.val / 16 * 1024 + k.val)) :
    (iblk m c 1 t : S2048x1024.Idx → EReal) (ix2 r k) = (V m c main_arg1 : S2048x11264.Idx → EReal) (ix2 r C) := by
  unfold iblk
  rw [View.read_apply]
  show V m c main_arg1 _ = V m c main_arg1 _
  congr 1
  funext a
  apply Fin.ext
  match a with
  | ⟨0, _⟩ => show win0_1.index t 0 * 2048 + 1 * r.val = r.val; rw [(ind1 t).1]; omega
  | ⟨1, _⟩ => show win0_1.index t 1 * 1024 + 1 * k.val = C.val; rw [(ind1 t).2]; omega

/-- The weights read back right after they were written. -/
theorem rcW {sg : RefSig} {κ : Kind} {sp : Space} (v : View sg κ sp S2048x1024 .bf16) (Z : Vec Ideal S2048x1024 .bf16) :
    v.readCov (Val := Elt Ideal) [⟨(Rect.unit (s := S2048x1024) ![0, 0] ![2048, 1024] inb_S2048x1024_S2048x1024_0_0), Z⟩] (Rect.unit (s := S2048x1024) ![0, 0] ![2048, 1024] inb_S2048x1024_S2048x1024_0_0).toLoadRect = Z :=
  View.readCov_unit_zero (S := S2048x1024) v hz2 _ Z

/-- The kept weights after a step that fetched them. -/
theorem w_A (h0 : t.val % 16 = 0) : (outsAt0 m c t.val t.isLt).2 = k0_pay1 (F := Ideal) (iblk m c 1 t) := by
  rw [outsAt0_A m c t h0]
  dsimp only
  unfold sout0_A_0
  rw [View.read_writes_eq_canon]
  rotate_left
  · intro y; apply scover0_A_0
  unfold kernelRun0_A
  dsimp only
  sl_unfold_words
  simp only [View.readAt_eq_ld, (hs0_0 t).read_unread, (hs0_1 t).read_unread, (hs0_2 t).read_unread, (hs0_3 t).read_unread, (Memref.isWhole_whole _).read_unread, rcW]
  refine (View.canon_unit_zero (S := S2048x1024) hz2 _ _).trans ?_
  rw [View.ld_unit_zero (S := S2048x1024) hz2]

/-- The kept weights after any other step: as the step before left them. -/
theorem w_B (h0 : ¬t.val % 16 = 0) :
    (outsAt0 m c t.val t.isLt).2 = (outsAt0 m c (t.val - 1) (Nat.lt_of_le_of_lt (Nat.sub_le _ _) t.isLt)).2 := by
  rw [outsAt0_B m c t h0]
  rfl

/-- The weights in the reduced format are the weights. -/
theorem w_pay (v : S2048x1024.Idx → EReal) (k : Fin 2048) (j : Fin 1024) : k0_pay1 (F := Ideal) v (ix2 k j) = v (ix2 k j) := by
  pointwise [k0_pay1]

/-- The kept weights are the step's own columns. -/
theorem w_inv : ∀ (n : ℕ) (hn : n < cfg0.N) (k : Fin 2048) (j : Fin 1024) (C : Fin 11264), C.val = 5120 + (n / 16 * 1024 + j.val) →
    ((outsAt0 m c n hn).2 : S2048x1024.Idx → EReal) (ix2 k j) = (V m c main_arg1 : S2048x11264.Idx → EReal) (ix2 k C) := by
  intro n
  induction n with
  | zero =>
    intro hn k j C hC
    refine (congrFun (w_A m c ⟨0, hn⟩ (Nat.zero_mod _)) (ix2 k j)).trans ((w_pay _ k j).trans ?_)
    exact read1 m c ⟨0, hn⟩ k j C hC
  | succ n ih =>
    intro hn k j C hC
    by_cases h0 : (n + 1) % 16 = 0
    · refine (congrFun (w_A m c ⟨n + 1, hn⟩ h0) (ix2 k j)).trans ((w_pay _ k j).trans ?_)
      exact read1 m c ⟨n + 1, hn⟩ k j C hC
    · refine (congrFun (w_B m c ⟨n + 1, hn⟩ h0) (ix2 k j)).trans ?_
      exact ih (Nat.lt_of_succ_lt hn) k j C (by omega)

/-- The output of a step that fetched its weights. -/
theorem o_A (h0 : t.val % 16 = 0) : (outsAt0 m c t.val t.isLt).1 = k0_pay2 (F := Ideal) (iblk m c 0 t) (outsAt0 m c t.val t.isLt).2 := by
  rw [w_A m c t h0]
  rw [outsAt0_A m c t h0]
  dsimp only
  unfold out0_A_3
  rw [View.read_writes_eq_canon]
  rotate_left
  · intro y; apply cover0_A_3
  unfold kernelRun0_A
  dsimp only
  sl_unfold_words
  simp only [View.readAt_eq_ld, (hs0_0 t).read_unread, (hs0_1 t).read_unread, (hs0_2 t).read_unread, (hs0_3 t).read_unread, (Memref.isWhole_whole _).read_unread, rcW]
  refine (View.canon_unit_zero (S := S1024x1024) hz2 _ _).trans ?_
  rw [View.ld_unit_zero (S := S2048x1024) hz2, View.ld_unit_zero (S := S1024x2048) hz2]

/-- The output of any other step. -/
theorem o_B (h0 : ¬t.val % 16 = 0) : (outsAt0 m c t.val t.isLt).1 = k0_pay2 (F := Ideal) (iblk m c 0 t) (outsAt0 m c t.val t.isLt).2 := by
  rw [w_B m c t h0]
  rw [outsAt0_B m c t h0]
  dsimp only
  unfold out0_B_3
  rw [View.read_writes_eq_canon]
  rotate_left
  · intro y; apply cover0_B_3
  unfold kernelRun0_B
  dsimp only
  sl_unfold_words
  simp only [View.readAt_eq_ld, (hs0_0 t).read_unread, (hs0_1 t).read_unread, (hs0_2 t).read_unread, (hs0_3 t).read_unread, (Memref.isWhole_whole _).read_unread, rcW]
  refine (View.canon_unit_zero (S := S1024x1024) hz2 _ _).trans ?_
  rw [View.ld_unit_zero (S := S2048x1024) hz2, View.ld_unit_zero (S := S1024x2048) hz2]

/-- What a step computes of its rows and weights. -/
theorem o_pay (x : S1024x2048.Idx → EReal) (w : S2048x1024.Idx → EReal) (r j : Fin 1024) :
    k0_pay2 (F := Ideal) x w (ix2 r j) = ∑ k : Fin 2048, x (ix2 r k) * w (ix2 k j) := by
  pointwise [k0_pay2]

/-- A step's output block is the array's. -/
theorem block (r j : Fin 1024) (R : Fin 16384) (C : Fin 2048) (hR : R.val = t.val % 16 * 1024 + r.val) (hC : C.val = t.val / 16 * 1024 + j.val) :
    ((outsAt0 m c t.val t.isLt).1 : S1024x1024.Idx → EReal) (ix2 r j) = dotE (V m c main_arg0) (V m c main_arg1) R C := by
  have e : (outsAt0 m c t.val t.isLt).1 = k0_pay2 (F := Ideal) (iblk m c 0 t) (outsAt0 m c t.val t.isLt).2 := by
    by_cases h0 : t.val % 16 = 0
    · exact o_A m c t h0
    · exact o_B m c t h0
  refine (congrFun e (ix2 r j)).trans ((o_pay _ _ r j).trans ?_)
  unfold dotE
  skip
  exact Finset.sum_congr rfl fun k _ => by rw [read0 m c t r k R hR, w_inv m c t.val t.isLt k j ⟨5120 + C.val, by have := C.isLt; omega⟩ (by show 5120 + C.val = _; omega)]

/-- The array the call leaves. -/
def result : Buf (Elt Ideal) ((c : Thread nD τ).loc main_v1) :=
  (fun j : S16384x2048.Idx => dotE (V m c main_arg0) (V m c main_arg1) (j 0) (j 1) : S16384x2048.Idx → EReal)

/-- What is written back is the array's block. -/
theorem flushed_eq (hf : (cfg0.win 3).flush t = true) :
    (dats m 0 c).flushed 3 t = ((cfg0.win 3).blk t).view.read (Elt Ideal) (result m c) := by
  have ht := N_lt t
  rw [Value.flushed3]
  funext j
  rw [View.read_apply]
  have key : ∀ (j : S1024x1024.Idx) (R : Fin 16384) (C : Fin 2048), R.val = t.val % 16 * 1024 + (j 0).val → C.val = t.val / 16 * 1024 + (j 1).val →
      ((outsAt0 m c t.val t.isLt).1 : S1024x1024.Idx → EReal) j = dotE (V m c main_arg0) (V m c main_arg1) R C := fun j => by
    idx_vars j
    intro R C hR hC
    exact block m c t j0 j1 R C hR hC
  show ((outsAt0 m c t.val t.isLt).1 : S1024x1024.Idx → EReal) j = result m c _
  unfold result
  refine key j _ _ ?_ ?_
  · show win0_3.index t 0 * 1024 + 1 * (j 0).val = _
    rw [(ind3 t).1]
    omega
  · show win0_3.index t 1 * 1024 + 1 * (j 1).val = _
    rw [(ind3 t).2]
    omega

/-- The call's array after the whole grid. -/
theorem final : (dats m 0 c).arrAt 3 cfg0.N = result m c :=
  (dats m 0 c).arrAt_eq_of_cover 3 (result m c) (flushed_eq m c) fun i => by
    have hi0 : (i 0 : Nat) < 16384 := (i 0).isLt
    have hi1 : (i 1 : Nat) < 2048 := (i 1).isLt
    have hN : cfg0.N = 32 := N_0
    let n := (i 1 : Nat) / 1024 * 16 + (i 0 : Nat) / 1024
    have hn : n < cfg0.N := by rw [hN]; omega
    refine ⟨⟨n, hn⟩, flush0_3 _, ?_⟩
    show i ∈ ((View.whole main_v1).slice (win0_3.rect ⟨n, hn⟩)).set
    rw [View.set_slice_whole, Rect.mem_set_unit]
    intro a
    have k0 := (ind3 ⟨n, hn⟩).1
    have k1 := (ind3 ⟨n, hn⟩).2
    match a with
    | ⟨0, _⟩ =>
      show win0_3.index ⟨n, hn⟩ 0 * 1024 ≤ (i 0 : Nat) ∧ (i 0 : Nat) < win0_3.index ⟨n, hn⟩ 0 * 1024 + 1024
      rw [k0]
      show n % 16 * 1024 ≤ (i 0 : Nat) ∧ (i 0 : Nat) < n % 16 * 1024 + 1024
      omega
    | ⟨1, _⟩ =>
      show win0_3.index ⟨n, hn⟩ 1 * 1024 ≤ (i 1 : Nat) ∧ (i 1 : Nat) < win0_3.index ⟨n, hn⟩ 1 * 1024 + 1024
      rw [k1]
      show n / 16 * 1024 ≤ (i 1 : Nat) ∧ (i 1 : Nat) < n / 16 * 1024 + 1024
      omega

end Cert.CallValues
end
-- ==== Proof.Calls.Channels.lean ====
module

public import proofs.«01_k».proof.Proof.Calls.Values
public import proofs.«01_k».proof.Proof.Gen.ChannelsIdeal.Frame
public import proofs.«01_k».proof.Proof.Gen.ChannelsIdeal.Value
public import proofs.«01_k».proof.Proof.Gen.ChannelsRefIdeal.Read
public import Idealize.ShloMosaic.Lib.Pipeline.Value
public import Idealize.ShloMosaic.Lib.Pipeline.ValueKit.Tiles

@[expose] public section

set_option maxRecDepth 16384

noncomputable section

namespace Cert.CallChannels

open Idealize.ShloMosaic Idealize.ShloMosaic.TcCoe Idealize.ShloMosaic.Tactic Idealize.SL.Sem
open Cert.ChannelsIdeal Cert.ChannelsIdeal.Gen

variable (m : (ℓ : Loc nD τ sig) → Buf (Elt Ideal) ℓ)
variable (c : Dev nD) (t : Fin cfg0.N)

/-- The offset of a whole block. -/
theorem hz2 : (![0, 0] : Fin 2 → Nat) = fun _ => 0 := funext fun a => by fin_cases a <;> rfl

/-- A row times a column of the weights, the columns counted from the call's own. -/
def dotE (x : S16384x2048.Idx → EReal) (w : S2048x11264.Idx → EReal) (i : Fin 16384) (j : Fin 1024) : EReal :=
  ∑ k : Fin 2048, x (ix2 i k) * w (ix2 k ⟨0 + j.val, by have := j.isLt; omega⟩)

/-- The reference's array. -/
theorem ref_eq (x : S16384x2048.Idx → EReal) (w : S2048x11264.Idx → EReal) (i : Fin 16384) (j : Fin 1024) :
    Cert.ChannelsRefIdeal.Read.val_main_v2 (F := Ideal) x w (ix2 i j) = dotE x w i j := by
  pointwise [Cert.ChannelsRefIdeal.Read.val_main_v2, Cert.ChannelsRefIdeal.Read.val_main_v1, Cert.ChannelsRefIdeal.Read.val_main_v0]
  unfold dotE
  refine Finset.sum_congr rfl fun k _ => ?_
  have e : (⟨j.val, by have := j.isLt; omega⟩ : Fin 11264) = ⟨0 + j.val, by have := j.isLt; omega⟩ := Fin.ext (Nat.zero_add _).symm
  rw [← e]
  skip

/-- The block of rows a step reads. -/
theorem ind0 : ∀ t : Fin cfg0.N, win0_0.index t 0 = t.val % 16 ∧ win0_0.index t 1 = 0 := (by decide +kernel : ∀ t : Fin grid0.N, _)

/-- The block of the weights a step reads. -/
theorem ind1 : ∀ t : Fin cfg0.N, win0_1.index t 0 = 0 ∧ win0_1.index t 1 = 0 + t.val / 16 := (by decide +kernel : ∀ t : Fin grid0.N, _)

/-- The block of the output a step holds. -/
theorem ind3 : ∀ t : Fin cfg0.N, win0_3.index t 0 = t.val % 16 ∧ win0_3.index t 1 = t.val / 16 := (by decide +kernel : ∀ t : Fin grid0.N, _)

/-- There are 16 steps. -/
theorem N_lt : t.val < 16 := lt_of_lt_of_eq t.isLt N_0

/-- The rows' block, from the array. -/
theorem read0 (r : Fin 1024) (k : Fin 2048) (R : Fin 16384) (hR : R.val = t.val % 16 * 1024 + r.val) :
    (iblk m c 0 t : S1024x2048.Idx → EReal) (ix2 r k) = (V m c main_arg0 : S16384x2048.Idx → EReal) (ix2 R k) := by
  unfold iblk
  rw [View.read_apply]
  show V m c main_arg0 _ = V m c main_arg0 _
  congr 1
  funext a
  apply Fin.ext
  match a with
  | ⟨0, _⟩ => show win0_0.index t 0 * 1024 + 1 * r.val = R.val; rw [(ind0 t).1]; omega
  | ⟨1, _⟩ => show win0_0.index t 1 * 2048 + 1 * k.val = k.val; rw [(ind0 t).2]; omega

/-- The weights' block, from the array. -/
theorem read1 (r : Fin 2048) (k : Fin 1024) (C : Fin 11264) (hC : C.val = 0 + (t.val / 16 * 1024 + k.val)) :
    (iblk m c 1 t : S2048x1024.Idx → EReal) (ix2 r k) = (V m c main_arg1 : S2048x11264.Idx → EReal) (ix2 r C) := by
  unfold iblk
  rw [View.read_apply]
  show V m c main_arg1 _ = V m c main_arg1 _
  congr 1
  funext a
  apply Fin.ext
  match a with
  | ⟨0, _⟩ => show win0_1.index t 0 * 2048 + 1 * r.val = r.val; rw [(ind1 t).1]; omega
  | ⟨1, _⟩ => show win0_1.index t 1 * 1024 + 1 * k.val = C.val; rw [(ind1 t).2]; omega

/-- The weights read back right after they were written. -/
theorem rcW {sg : RefSig} {κ : Kind} {sp : Space} (v : View sg κ sp S2048x1024 .bf16) (Z : Vec Ideal S2048x1024 .bf16) :
    v.readCov (Val := Elt Ideal) [⟨(Rect.unit (s := S2048x1024) ![0, 0] ![2048, 1024] inb_S2048x1024_S2048x1024_0_0), Z⟩] (Rect.unit (s := S2048x1024) ![0, 0] ![2048, 1024] inb_S2048x1024_S2048x1024_0_0).toLoadRect = Z :=
  View.readCov_unit_zero (S := S2048x1024) v hz2 _ Z

/-- The kept weights after a step that fetched them. -/
theorem w_A (h0 : t.val % 16 = 0) : (outsAt0 m c t.val t.isLt).2 = k0_pay1 (F := Ideal) (iblk m c 1 t) := by
  rw [outsAt0_A m c t h0]
  dsimp only
  unfold sout0_A_0
  rw [View.read_writes_eq_canon]
  rotate_left
  · intro y; apply scover0_A_0
  unfold kernelRun0_A
  dsimp only
  sl_unfold_words
  simp only [View.readAt_eq_ld, (hs0_0 t).read_unread, (hs0_1 t).read_unread, (hs0_2 t).read_unread, (hs0_3 t).read_unread, (Memref.isWhole_whole _).read_unread, rcW]
  refine (View.canon_unit_zero (S := S2048x1024) hz2 _ _).trans ?_
  rw [View.ld_unit_zero (S := S2048x1024) hz2]

/-- The kept weights after any other step: as the step before left them. -/
theorem w_B (h0 : ¬t.val % 16 = 0) :
    (outsAt0 m c t.val t.isLt).2 = (outsAt0 m c (t.val - 1) (Nat.lt_of_le_of_lt (Nat.sub_le _ _) t.isLt)).2 := by
  rw [outsAt0_B m c t h0]
  rfl

/-- The weights in the reduced format are the weights. -/
theorem w_pay (v : S2048x1024.Idx → EReal) (k : Fin 2048) (j : Fin 1024) : k0_pay1 (F := Ideal) v (ix2 k j) = v (ix2 k j) := by
  pointwise [k0_pay1]

/-- The kept weights are the step's own columns. -/
theorem w_inv : ∀ (n : ℕ) (hn : n < cfg0.N) (k : Fin 2048) (j : Fin 1024) (C : Fin 11264), C.val = 0 + (n / 16 * 1024 + j.val) →
    ((outsAt0 m c n hn).2 : S2048x1024.Idx → EReal) (ix2 k j) = (V m c main_arg1 : S2048x11264.Idx → EReal) (ix2 k C) := by
  intro n
  induction n with
  | zero =>
    intro hn k j C hC
    refine (congrFun (w_A m c ⟨0, hn⟩ (Nat.zero_mod _)) (ix2 k j)).trans ((w_pay _ k j).trans ?_)
    exact read1 m c ⟨0, hn⟩ k j C hC
  | succ n ih =>
    intro hn k j C hC
    by_cases h0 : (n + 1) % 16 = 0
    · refine (congrFun (w_A m c ⟨n + 1, hn⟩ h0) (ix2 k j)).trans ((w_pay _ k j).trans ?_)
      exact read1 m c ⟨n + 1, hn⟩ k j C hC
    · refine (congrFun (w_B m c ⟨n + 1, hn⟩ h0) (ix2 k j)).trans ?_
      exact ih (Nat.lt_of_succ_lt hn) k j C (by omega)

/-- The output of a step that fetched its weights. -/
theorem o_A (h0 : t.val % 16 = 0) : (outsAt0 m c t.val t.isLt).1 = k0_pay2 (F := Ideal) (iblk m c 0 t) (outsAt0 m c t.val t.isLt).2 := by
  rw [w_A m c t h0]
  rw [outsAt0_A m c t h0]
  dsimp only
  unfold out0_A_3
  rw [View.read_writes_eq_canon]
  rotate_left
  · intro y; apply cover0_A_3
  unfold kernelRun0_A
  dsimp only
  sl_unfold_words
  simp only [View.readAt_eq_ld, (hs0_0 t).read_unread, (hs0_1 t).read_unread, (hs0_2 t).read_unread, (hs0_3 t).read_unread, (Memref.isWhole_whole _).read_unread, rcW]
  refine (View.canon_unit_zero (S := S1024x1024) hz2 _ _).trans ?_
  rw [View.ld_unit_zero (S := S2048x1024) hz2, View.ld_unit_zero (S := S1024x2048) hz2]

/-- The output of any other step. -/
theorem o_B (h0 : ¬t.val % 16 = 0) : (outsAt0 m c t.val t.isLt).1 = k0_pay2 (F := Ideal) (iblk m c 0 t) (outsAt0 m c t.val t.isLt).2 := by
  rw [w_B m c t h0]
  rw [outsAt0_B m c t h0]
  dsimp only
  unfold out0_B_3
  rw [View.read_writes_eq_canon]
  rotate_left
  · intro y; apply cover0_B_3
  unfold kernelRun0_B
  dsimp only
  sl_unfold_words
  simp only [View.readAt_eq_ld, (hs0_0 t).read_unread, (hs0_1 t).read_unread, (hs0_2 t).read_unread, (hs0_3 t).read_unread, (Memref.isWhole_whole _).read_unread, rcW]
  refine (View.canon_unit_zero (S := S1024x1024) hz2 _ _).trans ?_
  rw [View.ld_unit_zero (S := S2048x1024) hz2, View.ld_unit_zero (S := S1024x2048) hz2]

/-- What a step computes of its rows and weights. -/
theorem o_pay (x : S1024x2048.Idx → EReal) (w : S2048x1024.Idx → EReal) (r j : Fin 1024) :
    k0_pay2 (F := Ideal) x w (ix2 r j) = ∑ k : Fin 2048, x (ix2 r k) * w (ix2 k j) := by
  pointwise [k0_pay2]

/-- A step's output block is the array's. -/
theorem block (r j : Fin 1024) (R : Fin 16384) (C : Fin 1024) (hR : R.val = t.val % 16 * 1024 + r.val) (hC : C.val = t.val / 16 * 1024 + j.val) :
    ((outsAt0 m c t.val t.isLt).1 : S1024x1024.Idx → EReal) (ix2 r j) = dotE (V m c main_arg0) (V m c main_arg1) R C := by
  have e : (outsAt0 m c t.val t.isLt).1 = k0_pay2 (F := Ideal) (iblk m c 0 t) (outsAt0 m c t.val t.isLt).2 := by
    by_cases h0 : t.val % 16 = 0
    · exact o_A m c t h0
    · exact o_B m c t h0
  refine (congrFun e (ix2 r j)).trans ((o_pay _ _ r j).trans ?_)
  unfold dotE
  skip
  exact Finset.sum_congr rfl fun k _ => by rw [read0 m c t r k R hR, w_inv m c t.val t.isLt k j ⟨0 + C.val, by have := C.isLt; omega⟩ (by show 0 + C.val = _; omega)]

/-- The array the call leaves. -/
def result : Buf (Elt Ideal) ((c : Thread nD τ).loc main_v1) :=
  (fun j : S16384x1024.Idx => dotE (V m c main_arg0) (V m c main_arg1) (j 0) (j 1) : S16384x1024.Idx → EReal)

/-- What is written back is the array's block. -/
theorem flushed_eq (hf : (cfg0.win 3).flush t = true) :
    (dats m 0 c).flushed 3 t = ((cfg0.win 3).blk t).view.read (Elt Ideal) (result m c) := by
  have ht := N_lt t
  rw [Value.flushed3]
  funext j
  rw [View.read_apply]
  have key : ∀ (j : S1024x1024.Idx) (R : Fin 16384) (C : Fin 1024), R.val = t.val % 16 * 1024 + (j 0).val → C.val = t.val / 16 * 1024 + (j 1).val →
      ((outsAt0 m c t.val t.isLt).1 : S1024x1024.Idx → EReal) j = dotE (V m c main_arg0) (V m c main_arg1) R C := fun j => by
    idx_vars j
    intro R C hR hC
    exact block m c t j0 j1 R C hR hC
  show ((outsAt0 m c t.val t.isLt).1 : S1024x1024.Idx → EReal) j = result m c _
  unfold result
  refine key j _ _ ?_ ?_
  · show win0_3.index t 0 * 1024 + 1 * (j 0).val = _
    rw [(ind3 t).1]
    omega
  · show win0_3.index t 1 * 1024 + 1 * (j 1).val = _
    rw [(ind3 t).2]
    omega

/-- The call's array after the whole grid. -/
theorem final : (dats m 0 c).arrAt 3 cfg0.N = result m c :=
  (dats m 0 c).arrAt_eq_of_cover 3 (result m c) (flushed_eq m c) fun i => by
    have hi0 : (i 0 : Nat) < 16384 := (i 0).isLt
    have hi1 : (i 1 : Nat) < 1024 := (i 1).isLt
    have hN : cfg0.N = 16 := N_0
    let n := (i 1 : Nat) / 1024 * 16 + (i 0 : Nat) / 1024
    have hn : n < cfg0.N := by rw [hN]; omega
    refine ⟨⟨n, hn⟩, flush0_3 _, ?_⟩
    show i ∈ ((View.whole main_v1).slice (win0_3.rect ⟨n, hn⟩)).set
    rw [View.set_slice_whole, Rect.mem_set_unit]
    intro a
    have k0 := (ind3 ⟨n, hn⟩).1
    have k1 := (ind3 ⟨n, hn⟩).2
    match a with
    | ⟨0, _⟩ =>
      show win0_3.index ⟨n, hn⟩ 0 * 1024 ≤ (i 0 : Nat) ∧ (i 0 : Nat) < win0_3.index ⟨n, hn⟩ 0 * 1024 + 1024
      rw [k0]
      show n % 16 * 1024 ≤ (i 0 : Nat) ∧ (i 0 : Nat) < n % 16 * 1024 + 1024
      omega
    | ⟨1, _⟩ =>
      show win0_3.index ⟨n, hn⟩ 1 * 1024 ≤ (i 1 : Nat) ∧ (i 1 : Nat) < win0_3.index ⟨n, hn⟩ 1 * 1024 + 1024
      rw [k1]
      show n / 16 * 1024 ≤ (i 1 : Nat) ∧ (i 1 : Nat) < n / 16 * 1024 + 1024
      omega

end Cert.CallChannels
end
-- ==== Proof.Calls.Gates.lean ====
module

public import proofs.«01_k».proof.Proof.Calls.Channels
public import proofs.«01_k».proof.Proof.Gen.GatesIdeal.Frame
public import proofs.«01_k».proof.Proof.Gen.GatesIdeal.Value
public import proofs.«01_k».proof.Proof.Gen.GatesRefIdeal.Read
public import Idealize.ShloMosaic.Lib.Pipeline.Value
public import Idealize.ShloMosaic.Lib.Pipeline.ValueKit.Tiles

@[expose] public section

set_option maxRecDepth 16384

noncomputable section

namespace Cert.CallGates

open Idealize.ShloMosaic Idealize.ShloMosaic.TcCoe Idealize.ShloMosaic.Tactic Idealize.SL.Sem
open Cert.GatesIdeal Cert.GatesIdeal.Gen

variable (m : (ℓ : Loc nD τ sig) → Buf (Elt Ideal) ℓ)
variable (c : Dev nD) (t : Fin cfg0.N)

/-- The offset of a whole block. -/
theorem hz2 : (![0, 0] : Fin 2 → Nat) = fun _ => 0 := funext fun a => by fin_cases a <;> rfl

/-- A row times a column of the weights, the columns counted from the call's own. -/
def dotE (x : S16384x2048.Idx → EReal) (w : S2048x11264.Idx → EReal) (i : Fin 16384) (j : Fin 4096) : EReal :=
  ∑ k : Fin 2048, x (ix2 i k) * w (ix2 k ⟨7168 + j.val, by have := j.isLt; omega⟩)

/-- The reference's array. -/
theorem ref_eq (x : S16384x2048.Idx → EReal) (w : S2048x11264.Idx → EReal) (i : Fin 16384) (j : Fin 4096) :
    Cert.GatesRefIdeal.Read.val_main_v9 (F := Ideal) x w (ix2 i j) = Ideal.logistic (dotE x w i j) := by
  pointwise [Cert.GatesRefIdeal.Read.val_main_v9, Cert.GatesRefIdeal.Read.val_main_v8, Cert.GatesRefIdeal.Read.val_main_v7, Cert.GatesRefIdeal.Read.val_main_v6, Cert.GatesRefIdeal.Read.val_main_v5, Cert.GatesRefIdeal.Read.val_main_v4, Cert.GatesRefIdeal.Read.val_main_v3, Cert.GatesRefIdeal.Read.val_main_v2, Cert.GatesRefIdeal.Read.val_main_v1, Cert.GatesRefIdeal.Read.val_main_v0, Cert.GatesRefIdeal.Read.val_main_cst, Cert.GatesRefIdeal.Read.val_main_cst_0]
  unfold dotE Ideal.logistic
  rfl

/-- The block of rows a step reads. -/
theorem ind0 : ∀ t : Fin cfg0.N, win0_0.index t 0 = t.val % 16 ∧ win0_0.index t 1 = 0 := (by decide +kernel : ∀ t : Fin grid0.N, _)

/-- The block of the weights a step reads. -/
theorem ind1 : ∀ t : Fin cfg0.N, win0_1.index t 0 = 0 ∧ win0_1.index t 1 = 7 + t.val / 16 := (by decide +kernel : ∀ t : Fin grid0.N, _)

/-- The block of the output a step holds. -/
theorem ind3 : ∀ t : Fin cfg0.N, win0_3.index t 0 = t.val % 16 ∧ win0_3.index t 1 = t.val / 16 := (by decide +kernel : ∀ t : Fin grid0.N, _)

/-- There are 64 steps. -/
theorem N_lt : t.val < 64 := lt_of_lt_of_eq t.isLt N_0

/-- The rows' block, from the array. -/
theorem read0 (r : Fin 1024) (k : Fin 2048) (R : Fin 16384) (hR : R.val = t.val % 16 * 1024 + r.val) :
    (iblk m c 0 t : S1024x2048.Idx → EReal) (ix2 r k) = (V m c main_arg0 : S16384x2048.Idx → EReal) (ix2 R k) := by
  unfold iblk
  rw [View.read_apply]
  show V m c main_arg0 _ = V m c main_arg0 _
  congr 1
  funext a
  apply Fin.ext
  match a with
  | ⟨0, _⟩ => show win0_0.index t 0 * 1024 + 1 * r.val = R.val; rw [(ind0 t).1]; omega
  | ⟨1, _⟩ => show win0_0.index t 1 * 2048 + 1 * k.val = k.val; rw [(ind0 t).2]; omega

/-- The weights' block, from the array. -/
theorem read1 (r : Fin 2048) (k : Fin 1024) (C : Fin 11264) (hC : C.val = 7168 + (t.val / 16 * 1024 + k.val)) :
    (iblk m c 1 t : S2048x1024.Idx → EReal) (ix2 r k) = (V m c main_arg1 : S2048x11264.Idx → EReal) (ix2 r C) := by
  unfold iblk
  rw [View.read_apply]
  show V m c main_arg1 _ = V m c main_arg1 _
  congr 1
  funext a
  apply Fin.ext
  match a with
  | ⟨0, _⟩ => show win0_1.index t 0 * 2048 + 1 * r.val = r.val; rw [(ind1 t).1]; omega
  | ⟨1, _⟩ => show win0_1.index t 1 * 1024 + 1 * k.val = C.val; rw [(ind1 t).2]; omega

/-- The weights read back right after they were written. -/
theorem rcW {sg : RefSig} {κ : Kind} {sp : Space} (v : View sg κ sp S2048x1024 .bf16) (Z : Vec Ideal S2048x1024 .bf16) :
    v.readCov (Val := Elt Ideal) [⟨(Rect.unit (s := S2048x1024) ![0, 0] ![2048, 1024] inb_S2048x1024_S2048x1024_0_0), Z⟩] (Rect.unit (s := S2048x1024) ![0, 0] ![2048, 1024] inb_S2048x1024_S2048x1024_0_0).toLoadRect = Z :=
  View.readCov_unit_zero (S := S2048x1024) v hz2 _ Z

/-- The kept weights after a step that fetched them. -/
theorem w_A (h0 : t.val % 16 = 0) : (outsAt0 m c t.val t.isLt).2 = k0_pay1 (F := Ideal) (iblk m c 1 t) := by
  rw [outsAt0_A m c t h0]
  dsimp only
  unfold sout0_A_0
  rw [View.read_writes_eq_canon]
  rotate_left
  · intro y; apply scover0_A_0
  unfold kernelRun0_A
  dsimp only
  sl_unfold_words
  simp only [View.readAt_eq_ld, (hs0_0 t).read_unread, (hs0_1 t).read_unread, (hs0_2 t).read_unread, (hs0_3 t).read_unread, (Memref.isWhole_whole _).read_unread, rcW]
  refine (View.canon_unit_zero (S := S2048x1024) hz2 _ _).trans ?_
  rw [View.ld_unit_zero (S := S2048x1024) hz2]

/-- The kept weights after any other step: as the step before left them. -/
theorem w_B (h0 : ¬t.val % 16 = 0) :
    (outsAt0 m c t.val t.isLt).2 = (outsAt0 m c (t.val - 1) (Nat.lt_of_le_of_lt (Nat.sub_le _ _) t.isLt)).2 := by
  rw [outsAt0_B m c t h0]
  rfl

/-- The weights in the reduced format are the weights. -/
theorem w_pay (v : S2048x1024.Idx → EReal) (k : Fin 2048) (j : Fin 1024) : k0_pay1 (F := Ideal) v (ix2 k j) = v (ix2 k j) := by
  pointwise [k0_pay1]

/-- The kept weights are the step's own columns. -/
theorem w_inv : ∀ (n : ℕ) (hn : n < cfg0.N) (k : Fin 2048) (j : Fin 1024) (C : Fin 11264), C.val = 7168 + (n / 16 * 1024 + j.val) →
    ((outsAt0 m c n hn).2 : S2048x1024.Idx → EReal) (ix2 k j) = (V m c main_arg1 : S2048x11264.Idx → EReal) (ix2 k C) := by
  intro n
  induction n with
  | zero =>
    intro hn k j C hC
    refine (congrFun (w_A m c ⟨0, hn⟩ (Nat.zero_mod _)) (ix2 k j)).trans ((w_pay _ k j).trans ?_)
    exact read1 m c ⟨0, hn⟩ k j C hC
  | succ n ih =>
    intro hn k j C hC
    by_cases h0 : (n + 1) % 16 = 0
    · refine (congrFun (w_A m c ⟨n + 1, hn⟩ h0) (ix2 k j)).trans ((w_pay _ k j).trans ?_)
      exact read1 m c ⟨n + 1, hn⟩ k j C hC
    · refine (congrFun (w_B m c ⟨n + 1, hn⟩ h0) (ix2 k j)).trans ?_
      exact ih (Nat.lt_of_succ_lt hn) k j C (by omega)

/-- The output of a step that fetched its weights. -/
theorem o_A (h0 : t.val % 16 = 0) : (outsAt0 m c t.val t.isLt).1 = k0_pay2 (F := Ideal) (iblk m c 0 t) (outsAt0 m c t.val t.isLt).2 := by
  rw [w_A m c t h0]
  rw [outsAt0_A m c t h0]
  dsimp only
  unfold out0_A_3
  rw [View.read_writes_eq_canon]
  rotate_left
  · intro y; apply cover0_A_3
  unfold kernelRun0_A
  dsimp only
  sl_unfold_words
  simp only [View.readAt_eq_ld, (hs0_0 t).read_unread, (hs0_1 t).read_unread, (hs0_2 t).read_unread, (hs0_3 t).read_unread, (Memref.isWhole_whole _).read_unread, rcW]
  refine (View.canon_unit_zero (S := S1024x1024) hz2 _ _).trans ?_
  rw [View.ld_unit_zero (S := S2048x1024) hz2, View.ld_unit_zero (S := S1024x2048) hz2]

/-- The output of any other step. -/
theorem o_B (h0 : ¬t.val % 16 = 0) : (outsAt0 m c t.val t.isLt).1 = k0_pay2 (F := Ideal) (iblk m c 0 t) (outsAt0 m c t.val t.isLt).2 := by
  rw [w_B m c t h0]
  rw [outsAt0_B m c t h0]
  dsimp only
  unfold out0_B_3
  rw [View.read_writes_eq_canon]
  rotate_left
  · intro y; apply cover0_B_3
  unfold kernelRun0_B
  dsimp only
  sl_unfold_words
  simp only [View.readAt_eq_ld, (hs0_0 t).read_unread, (hs0_1 t).read_unread, (hs0_2 t).read_unread, (hs0_3 t).read_unread, (Memref.isWhole_whole _).read_unread, rcW]
  refine (View.canon_unit_zero (S := S1024x1024) hz2 _ _).trans ?_
  rw [View.ld_unit_zero (S := S2048x1024) hz2, View.ld_unit_zero (S := S1024x2048) hz2]

/-- What a step computes of its rows and weights. -/
theorem o_pay (x : S1024x2048.Idx → EReal) (w : S2048x1024.Idx → EReal) (r j : Fin 1024) :
    k0_pay2 (F := Ideal) x w (ix2 r j) = Ideal.logistic (∑ k : Fin 2048, x (ix2 r k) * w (ix2 k j)) := by
  pointwise [k0_pay2]

/-- A step's output block is the array's. -/
theorem block (r j : Fin 1024) (R : Fin 16384) (C : Fin 4096) (hR : R.val = t.val % 16 * 1024 + r.val) (hC : C.val = t.val / 16 * 1024 + j.val) :
    ((outsAt0 m c t.val t.isLt).1 : S1024x1024.Idx → EReal) (ix2 r j) = Ideal.logistic (dotE (V m c main_arg0) (V m c main_arg1) R C) := by
  have e : (outsAt0 m c t.val t.isLt).1 = k0_pay2 (F := Ideal) (iblk m c 0 t) (outsAt0 m c t.val t.isLt).2 := by
    by_cases h0 : t.val % 16 = 0
    · exact o_A m c t h0
    · exact o_B m c t h0
  refine (congrFun e (ix2 r j)).trans ((o_pay _ _ r j).trans ?_)
  unfold dotE
  refine congrArg Ideal.logistic ?_
  exact Finset.sum_congr rfl fun k _ => by rw [read0 m c t r k R hR, w_inv m c t.val t.isLt k j ⟨7168 + C.val, by have := C.isLt; omega⟩ (by show 7168 + C.val = _; omega)]

/-- The array the call leaves. -/
def result : Buf (Elt Ideal) ((c : Thread nD τ).loc main_v1) :=
  (fun j : S16384x4096.Idx => Ideal.logistic (dotE (V m c main_arg0) (V m c main_arg1) (j 0) (j 1)) : S16384x4096.Idx → EReal)

/-- What is written back is the array's block. -/
theorem flushed_eq (hf : (cfg0.win 3).flush t = true) :
    (dats m 0 c).flushed 3 t = ((cfg0.win 3).blk t).view.read (Elt Ideal) (result m c) := by
  have ht := N_lt t
  rw [Value.flushed3]
  funext j
  rw [View.read_apply]
  have key : ∀ (j : S1024x1024.Idx) (R : Fin 16384) (C : Fin 4096), R.val = t.val % 16 * 1024 + (j 0).val → C.val = t.val / 16 * 1024 + (j 1).val →
      ((outsAt0 m c t.val t.isLt).1 : S1024x1024.Idx → EReal) j = Ideal.logistic (dotE (V m c main_arg0) (V m c main_arg1) R C) := fun j => by
    idx_vars j
    intro R C hR hC
    exact block m c t j0 j1 R C hR hC
  show ((outsAt0 m c t.val t.isLt).1 : S1024x1024.Idx → EReal) j = result m c _
  unfold result
  refine key j _ _ ?_ ?_
  · show win0_3.index t 0 * 1024 + 1 * (j 0).val = _
    rw [(ind3 t).1]
    omega
  · show win0_3.index t 1 * 1024 + 1 * (j 1).val = _
    rw [(ind3 t).2]
    omega

/-- The call's array after the whole grid. -/
theorem final : (dats m 0 c).arrAt 3 cfg0.N = result m c :=
  (dats m 0 c).arrAt_eq_of_cover 3 (result m c) (flushed_eq m c) fun i => by
    have hi0 : (i 0 : Nat) < 16384 := (i 0).isLt
    have hi1 : (i 1 : Nat) < 4096 := (i 1).isLt
    have hN : cfg0.N = 64 := N_0
    let n := (i 1 : Nat) / 1024 * 16 + (i 0 : Nat) / 1024
    have hn : n < cfg0.N := by rw [hN]; omega
    refine ⟨⟨n, hn⟩, flush0_3 _, ?_⟩
    show i ∈ ((View.whole main_v1).slice (win0_3.rect ⟨n, hn⟩)).set
    rw [View.set_slice_whole, Rect.mem_set_unit]
    intro a
    have k0 := (ind3 ⟨n, hn⟩).1
    have k1 := (ind3 ⟨n, hn⟩).2
    match a with
    | ⟨0, _⟩ =>
      show win0_3.index ⟨n, hn⟩ 0 * 1024 ≤ (i 0 : Nat) ∧ (i 0 : Nat) < win0_3.index ⟨n, hn⟩ 0 * 1024 + 1024
      rw [k0]
      show n % 16 * 1024 ≤ (i 0 : Nat) ∧ (i 0 : Nat) < n % 16 * 1024 + 1024
      omega
    | ⟨1, _⟩ =>
      show win0_3.index ⟨n, hn⟩ 1 * 1024 ≤ (i 1 : Nat) ∧ (i 1 : Nat) < win0_3.index ⟨n, hn⟩ 1 * 1024 + 1024
      rw [k1]
      show n / 16 * 1024 ≤ (i 1 : Nat) ∧ (i 1 : Nat) < n / 16 * 1024 + 1024
      omega

end Cert.CallGates
end
-- ==== Proof.Calls.Qk.lean ====
module

public import proofs.«01_k».proof.Proof.Calls.Gates
public import proofs.«01_k».proof.Proof.Gen.QkIdeal.Frame
public import proofs.«01_k».proof.Proof.Gen.QkIdeal.Value
public import proofs.«01_k».proof.Proof.Gen.QkRefIdeal.Read
public import Idealize.ShloMosaic.Lib.Pipeline.Value
public import Idealize.ShloMosaic.Lib.Pipeline.ValueKit.Tiles

@[expose] public section

set_option maxRecDepth 16384

noncomputable section

namespace Cert.CallQk

open Idealize.ShloMosaic Idealize.ShloMosaic.TcCoe Idealize.ShloMosaic.Tactic Idealize.SL.Sem
open Cert.QkIdeal Cert.QkIdeal.Gen

variable (m : (ℓ : Loc nD τ sig) → Buf (Elt Ideal) ℓ)
variable (c : Dev nD) (t : Fin cfg0.N)

/-- The offset of a whole block. -/
theorem hz2 : (![0, 0] : Fin 2 → Nat) = fun _ => 0 := funext fun a => by fin_cases a <;> rfl

/-- A row times a column of the weights, the columns counted from the call's own. -/
def dotE (x : S16384x2048.Idx → EReal) (w : S2048x11264.Idx → EReal) (i : Fin 16384) (j : Fin 4096) : EReal :=
  ∑ k : Fin 2048, x (ix2 i k) * w (ix2 k ⟨1024 + j.val, by have := j.isLt; omega⟩)

/-- A head's row normalised by the root of its mean square, at a column, times the gain. -/
def headE (y : Fin 128 → EReal) (g : EReal) (d : Fin 128) : EReal :=
  y d * Ideal.rsqrt (Ideal.div (∑ k : Fin 128, y k * y k) (Ideal.ofBits FTy.f32 1124073472#32) + Ideal.ofBits FTy.f32 897988541#32) * g

/-- The result at a row and a column: the column's head of the product, normalised. -/
def qkE (x : S16384x2048.Idx → EReal) (w : S2048x11264.Idx → EReal) (g : S1x4096.Idx → EReal) (i : Fin 16384) (j : Fin 4096) : EReal :=
  headE (fun d => dotE x w i ⟨j.val / 128 * 128 + d.val, by have := j.isLt; have := d.isLt; omega⟩) (g (ix2 0 j)) ⟨j.val % 128, by omega⟩

section Ref

variable (x : S16384x2048.Idx → EReal) (w : S2048x11264.Idx → EReal) (g : S1x4096.Idx → EReal) (i : Fin 16384) (h : Fin 32) (d : Fin 128)

/-- The reference's product, at a row, a head and a column of it. -/
theorem ref_dot : Cert.QkRefIdeal.Read.val_main_v3 (F := Ideal) x w (ix3 i h d) = dotE x w i ⟨h.val * 128 + d.val, by have := h.isLt; have := d.isLt; omega⟩ := by
  have e : Cert.QkRefIdeal.Read.val_main_v3 (F := Ideal) x w (ix3 i h d) = Cert.QkRefIdeal.Read.val_main_v2 (F := Ideal) x w (ix2 i ⟨h.val * 128 + d.val, by have := h.isLt; have := d.isLt; omega⟩) := by
    unfold Cert.QkRefIdeal.Read.val_main_v3
    generalize Cert.QkRefIdeal.Read.val_main_v2 (F := Ideal) x w = y
    pointwise []
  rw [e]
  pointwise [Cert.QkRefIdeal.Read.val_main_v2, Cert.QkRefIdeal.Read.val_main_v1, Cert.QkRefIdeal.Read.val_main_v0]
  rfl

/-- The reference's sum of squares of a head. -/
theorem ref_ms : Cert.QkRefIdeal.Read.val_main_v5 (F := Ideal) x w (ix2 i h) = ∑ k : Fin 128, Cert.QkRefIdeal.Read.val_main_v3 (F := Ideal) x w (ix3 i h k) * Cert.QkRefIdeal.Read.val_main_v3 (F := Ideal) x w (ix3 i h k) := by
  unfold Cert.QkRefIdeal.Read.val_main_v5 Cert.QkRefIdeal.Read.val_main_v4
  generalize Cert.QkRefIdeal.Read.val_main_v3 (F := Ideal) x w = y
  pointwise [Cert.QkRefIdeal.Read.val_main_cst]

/-- The reference's normalised head. -/
theorem ref_head : Cert.QkRefIdeal.Read.val_main_v17 (F := Ideal) x w g (ix3 i h d)
    = headE (fun d => dotE x w i ⟨h.val * 128 + d.val, by have := h.isLt; have := d.isLt; omega⟩) (g (ix2 0 ⟨h.val * 128 + d.val, by have := h.isLt; have := d.isLt; omega⟩)) d := by
  have hs := ref_ms x w i h
  unfold headE
  simp only [← ref_dot]
  rw [← hs]
  pointwise [Cert.QkRefIdeal.Read.val_main_v17, Cert.QkRefIdeal.Read.val_main_v16, Cert.QkRefIdeal.Read.val_main_v15, Cert.QkRefIdeal.Read.val_main_v14, Cert.QkRefIdeal.Read.val_main_v13, Cert.QkRefIdeal.Read.val_main_v12, Cert.QkRefIdeal.Read.val_main_v11, Cert.QkRefIdeal.Read.val_main_v10, Cert.QkRefIdeal.Read.val_main_v9, Cert.QkRefIdeal.Read.val_main_v8, Cert.QkRefIdeal.Read.val_main_v7, Cert.QkRefIdeal.Read.val_main_v6, Cert.QkRefIdeal.Read.val_main_cst_0, Cert.QkRefIdeal.Read.val_main_cst_1]

/-- The reference's array. -/
theorem ref_eq (j : Fin 4096) : Cert.QkRefIdeal.Read.val_main_v19 (F := Ideal) x w g (ix2 i j) = qkE x w g i j := by
  have hj := j.isLt
  have e : Cert.QkRefIdeal.Read.val_main_v19 (F := Ideal) x w g (ix2 i j) = Cert.QkRefIdeal.Read.val_main_v17 (F := Ideal) x w g (ix3 i ⟨j.val / 128, by omega⟩ ⟨j.val % 128, by omega⟩) := by
    unfold Cert.QkRefIdeal.Read.val_main_v19 Cert.QkRefIdeal.Read.val_main_v18
    generalize Cert.QkRefIdeal.Read.val_main_v17 (F := Ideal) x w g = y
    pointwise []
  refine e.trans ((ref_head x w g i _ _).trans ?_)
  unfold qkE
  have ej : (⟨j.val / 128 * 128 + j.val % 128, by omega⟩ : Fin 4096) = j := Fin.ext (by show j.val / 128 * 128 + j.val % 128 = j.val; omega)
  show headE _ (g (ix2 0 ⟨j.val / 128 * 128 + j.val % 128, _⟩)) _ = _
  rw [ej]

end Ref

/-- The block of rows a step reads. -/
theorem ind0 : ∀ t : Fin cfg0.N, win0_0.index t 0 = t.val % 16 ∧ win0_0.index t 1 = 0 := (by decide +kernel : ∀ t : Fin grid0.N, _)

/-- The block of the weights a step reads. -/
theorem ind1 : ∀ t : Fin cfg0.N, win0_1.index t 0 = 0 ∧ win0_1.index t 1 = 1 + t.val / 16 := (by decide +kernel : ∀ t : Fin grid0.N, _)

/-- The block of the gain a step reads. -/
theorem ind2 : ∀ t : Fin cfg0.N, win0_2.index t 0 = 0 ∧ win0_2.index t 1 = t.val / 16 := (by decide +kernel : ∀ t : Fin grid0.N, _)

/-- The block of the output a step holds. -/
theorem ind3 : ∀ t : Fin cfg0.N, win0_3.index t 0 = t.val % 16 ∧ win0_3.index t 1 = t.val / 16 := (by decide +kernel : ∀ t : Fin grid0.N, _)

/-- There are 64 steps. -/
theorem N_lt : t.val < 64 := lt_of_lt_of_eq t.isLt N_0

/-- The rows' block, from the array. -/
theorem read0 (r : Fin 1024) (k : Fin 2048) (R : Fin 16384) (hR : R.val = t.val % 16 * 1024 + r.val) :
    (iblk m c 0 t : S1024x2048.Idx → EReal) (ix2 r k) = (V m c main_arg0 : S16384x2048.Idx → EReal) (ix2 R k) := by
  unfold iblk
  rw [View.read_apply]
  show V m c main_arg0 _ = V m c main_arg0 _
  congr 1
  funext a
  apply Fin.ext
  match a with
  | ⟨0, _⟩ => show win0_0.index t 0 * 1024 + 1 * r.val = R.val; rw [(ind0 t).1]; omega
  | ⟨1, _⟩ => show win0_0.index t 1 * 2048 + 1 * k.val = k.val; rw [(ind0 t).2]; omega

/-- The weights' block, from the array. -/
theorem read1 (r : Fin 2048) (k : Fin 1024) (C : Fin 11264) (hC : C.val = 1024 + (t.val / 16 * 1024 + k.val)) :
    (iblk m c 1 t : S2048x1024.Idx → EReal) (ix2 r k) = (V m c main_arg1 : S2048x11264.Idx → EReal) (ix2 r C) := by
  unfold iblk
  rw [View.read_apply]
  show V m c main_arg1 _ = V m c main_arg1 _
  congr 1
  funext a
  apply Fin.ext
  match a with
  | ⟨0, _⟩ => show win0_1.index t 0 * 2048 + 1 * r.val = r.val; rw [(ind1 t).1]; omega
  | ⟨1, _⟩ => show win0_1.index t 1 * 1024 + 1 * k.val = C.val; rw [(ind1 t).2]; omega

/-- The gain's block, from the array. -/
theorem read2 (r : Fin 1) (k : Fin 1024) (C : Fin 4096) (hC : C.val = t.val / 16 * 1024 + k.val) :
    (iblk m c 2 t : S1x1024.Idx → EReal) (ix2 r k) = (V m c main_arg2 : S1x4096.Idx → EReal) (ix2 r C) := by
  unfold iblk
  rw [View.read_apply]
  show V m c main_arg2 _ = V m c main_arg2 _
  congr 1
  funext a
  apply Fin.ext
  match a with
  | ⟨0, _⟩ => show win0_2.index t 0 * 1 + 1 * r.val = r.val; rw [(ind2 t).1]; omega
  | ⟨1, _⟩ => show win0_2.index t 1 * 1024 + 1 * k.val = C.val; rw [(ind2 t).2]; omega

/-- The weights read back right after they were written. -/
theorem rcW {sg : RefSig} {κ : Kind} {sp : Space} (v : View sg κ sp S2048x1024 .bf16) (Z : Vec Ideal S2048x1024 .bf16) :
    v.readCov (Val := Elt Ideal) [⟨(Rect.unit (s := S2048x1024) ![0, 0] ![2048, 1024] inb_S2048x1024_S2048x1024_0_0), Z⟩] (Rect.unit (s := S2048x1024) ![0, 0] ![2048, 1024] inb_S2048x1024_S2048x1024_0_0).toLoadRect = Z :=
  View.readCov_unit_zero (S := S2048x1024) v hz2 _ Z

/-- The kept weights after a step that fetched them. -/
theorem w_A (h0 : t.val % 16 = 0) : (outsAt0 m c t.val t.isLt).2 = k0_pay2 (F := Ideal) (iblk m c 1 t) := by
  rw [outsAt0_A m c t h0]
  dsimp only
  unfold sout0_A_0
  rw [View.read_writes_eq_canon]
  rotate_left
  · intro y; apply scover0_A_0
  unfold kernelRun0_A
  dsimp only
  sl_unfold_words
  simp only [View.readAt_eq_ld, (hs0_0 t).read_unread, (hs0_1 t).read_unread, (hs0_2 t).read_unread, (hs0_3 t).read_unread, (Memref.isWhole_whole _).read_unread, rcW]
  refine (View.canon_unit_zero (S := S2048x1024) hz2 _ _).trans ?_
  rw [View.ld_unit_zero (S := S2048x1024) hz2]

/-- The kept weights after any other step: as the step before left them. -/
theorem w_B (h0 : ¬t.val % 16 = 0) :
    (outsAt0 m c t.val t.isLt).2 = (outsAt0 m c (t.val - 1) (Nat.lt_of_le_of_lt (Nat.sub_le _ _) t.isLt)).2 := by
  rw [outsAt0_B m c t h0]
  rfl

/-- The weights in the reduced format are the weights. -/
theorem w_pay (v : S2048x1024.Idx → EReal) (k : Fin 2048) (j : Fin 1024) : k0_pay2 (F := Ideal) v (ix2 k j) = v (ix2 k j) := by
  pointwise [k0_pay2]

/-- The kept weights are the step's own columns. -/
theorem w_inv : ∀ (n : ℕ) (hn : n < cfg0.N) (k : Fin 2048) (j : Fin 1024) (C : Fin 11264), C.val = 1024 + (n / 16 * 1024 + j.val) →
    ((outsAt0 m c n hn).2 : S2048x1024.Idx → EReal) (ix2 k j) = (V m c main_arg1 : S2048x11264.Idx → EReal) (ix2 k C) := by
  intro n
  induction n with
  | zero =>
    intro hn k j C hC
    refine (congrFun (w_A m c ⟨0, hn⟩ (Nat.zero_mod _)) (ix2 k j)).trans ((w_pay _ k j).trans ?_)
    exact read1 m c ⟨0, hn⟩ k j C hC
  | succ n ih =>
    intro hn k j C hC
    by_cases h0 : (n + 1) % 16 = 0
    · refine (congrFun (w_A m c ⟨n + 1, hn⟩ h0) (ix2 k j)).trans ((w_pay _ k j).trans ?_)
      exact read1 m c ⟨n + 1, hn⟩ k j C hC
    · refine (congrFun (w_B m c ⟨n + 1, hn⟩ h0) (ix2 k j)).trans ?_
      exact ih (Nat.lt_of_succ_lt hn) k j C (by omega)

section Pay

variable (y : S1024x1024.Idx → EReal) (g : S1x128.Idx → EReal) (r : Fin 1024) (d : Fin 128)

/-- Head 0 of a step. -/
theorem pay_0 (v3 : S1024x2048.Idx → EReal) (v4 : S2048x1024.Idx → EReal) : k0_pay4 (F := Ideal) v3 v4 g (ix2 r d) = headE (fun d => k0_pay3 (F := Ideal) v3 v4 (ix2 r ⟨d.val, by have := d.isLt; omega⟩)) (g (ix2 0 d)) d := by
  unfold k0_pay4
  generalize k0_pay3 (F := Ideal) v3 v4 = y
  unfold headE
  pointwise []

/-- Head 1 of a step. -/
theorem pay_1 (v3 : S1024x2048.Idx → EReal) (v4 : S2048x1024.Idx → EReal) : k0_pay5 (F := Ideal) v3 v4 g (ix2 r d) = headE (fun d => k0_pay3 (F := Ideal) v3 v4 (ix2 r ⟨128 + d.val, by have := d.isLt; omega⟩)) (g (ix2 0 d)) d := by
  unfold k0_pay5
  generalize k0_pay3 (F := Ideal) v3 v4 = y
  unfold headE
  pointwise []

/-- Head 2 of a step. -/
theorem pay_2 : k0_pay6 (F := Ideal) y g (ix2 r d) = headE (fun d => y (ix2 r ⟨256 + d.val, by have := d.isLt; omega⟩)) (g (ix2 0 d)) d := by
  unfold headE
  pointwise [k0_pay6]

/-- Head 3 of a step. -/
theorem pay_3 : k0_pay7 (F := Ideal) y g (ix2 r d) = headE (fun d => y (ix2 r ⟨384 + d.val, by have := d.isLt; omega⟩)) (g (ix2 0 d)) d := by
  unfold headE
  pointwise [k0_pay7]

/-- Head 4 of a step. -/
theorem pay_4 : k0_pay10 (F := Ideal) (k0_pay8 y) (k0_pay9 y) g (ix2 r d) = headE (fun d => y (ix2 r ⟨512 + d.val, by have := d.isLt; omega⟩)) (g (ix2 0 d)) d := by
  unfold headE
  pointwise [k0_pay10, k0_pay8, k0_pay9]

/-- Head 5 of a step. -/
theorem pay_5 : k0_pay11 (F := Ideal) y g (ix2 r d) = headE (fun d => y (ix2 r ⟨640 + d.val, by have := d.isLt; omega⟩)) (g (ix2 0 d)) d := by
  unfold headE
  pointwise [k0_pay11]

/-- Head 6 of a step. -/
theorem pay_6 : k0_pay12 (F := Ideal) y g (ix2 r d) = headE (fun d => y (ix2 r ⟨768 + d.val, by have := d.isLt; omega⟩)) (g (ix2 0 d)) d := by
  unfold headE
  pointwise [k0_pay12]

/-- Head 7 of a step. -/
theorem pay_7 : k0_pay1 (F := Ideal) y g (ix2 r d) = headE (fun d => y (ix2 r ⟨896 + d.val, by have := d.isLt; omega⟩)) (g (ix2 0 d)) d := by
  unfold headE
  pointwise [k0_pay1]

end Pay

/-- What a step leaves in its output block, of the product of its rows and weights and of its gain. -/
def stepE (y : S1024x1024.Idx → EReal) (g : S1x1024.Idx → EReal) (ix : S1024x1024.Idx) : EReal :=
  headE (fun d => y (ix2 (ix 0 : Fin 1024) ⟨(ix 1 : Nat) / 128 * 128 + d.val, by have h : (ix 1 : Nat) < 1024 := (ix 1).isLt; have := d.isLt; omega⟩)) (g (ix2 0 (ix 1 : Fin 1024))) ⟨(ix 1 : Nat) % 128, by omega⟩

/-- Where the entries of one head's columns lie. -/
theorem emb_at (N : ℕ) (inb : ∀ a, (![0, N] : Fin 2 → Nat) a + (![1024, 128] : Fin 2 → Nat) a ≤ S1024x1024.size a) (r : Fin 1024) (d : Fin 128) (C : Fin 1024) (hC : C.val = N + d.val) :
    (Rect.unit (s := S1024x1024) ![0, N] ![1024, 128] inb).emb (ix2 r d) = (ix2 r C : S1024x1024.Idx) := by
  funext a; apply Fin.ext
  match a with
  | ⟨0, _⟩ => show 0 + 1 * r.val = r.val; omega
  | ⟨1, _⟩ => show N + 1 * d.val = C.val; omega

/-- One head's gain read. -/
theorem gain_at (g : S1x1024.Idx → EReal) (N : ℕ) (inb : ∀ a, (![0, N] : Fin 2 → Nat) a + (![1, 128] : Fin 2 → Nat) a ≤ S1x1024.size a) (d : Fin 128) (C : Fin 1024) (hC : C.val = N + d.val) :
    View.ld (Val := Elt Ideal) (e' := .f32) g (Rect.unit (s := S1x1024) ![0, N] ![1, 128] inb) (ix2 0 d) = g (ix2 0 C) := by
  refine congrArg g ?_
  funext a; apply Fin.ext
  match a with
  | ⟨0, _⟩ => rfl
  | ⟨1, _⟩ => show N + 1 * d.val = C.val; omega

/-- One head's columns hold what the step leaves there. -/
theorem piece (y : S1024x1024.Idx → EReal) (g : S1x1024.Idx → EReal) (N : ℕ) (hN : N % 128 = 0) (hN2 : N + 128 ≤ 1024)
    (inb : ∀ a, (![0, N] : Fin 2 → Nat) a + (![1024, 128] : Fin 2 → Nat) a ≤ S1024x1024.size a)
    (inb' : ∀ a, (![0, N] : Fin 2 → Nat) a + (![1, 128] : Fin 2 → Nat) a ≤ S1x1024.size a)
    (w : S1024x128.Idx → EReal)
    (hw : ∀ r d, w (ix2 r d) = headE (fun d => y (ix2 r ⟨N + d.val, by have := d.isLt; omega⟩)) (View.ld (Val := Elt Ideal) (e' := .f32) g (Rect.unit (s := S1x1024) ![0, N] ![1, 128] inb') (ix2 0 d)) d)
    (x : S1024x128.Idx) : w x = stepE y g ((Rect.unit (s := S1024x1024) ![0, N] ![1024, 128] inb).emb x) := by
  idx_vars x
  have hlt := x1.isLt
  rw [emb_at N inb x0 x1 ⟨N + x1.val, by omega⟩ rfl, hw x0 x1, gain_at g N inb' x1 ⟨N + x1.val, by omega⟩ rfl]
  unfold stepE
  have e1 : (⟨(N + x1.val) % 128, by omega⟩ : Fin 128) = x1 := Fin.ext (by show (N + x1.val) % 128 = x1.val; omega)
  have e2 : (fun d : Fin 128 => y (ix2 x0 ⟨N + d.val, by have := d.isLt; omega⟩)) = fun d : Fin 128 => y (ix2 x0 ⟨(N + x1.val) / 128 * 128 + d.val, by have := d.isLt; omega⟩) := by
    funext d
    exact congrArg (fun C : Fin 1024 => y (ix2 x0 C)) (Fin.ext (by show N + d.val = (N + x1.val) / 128 * 128 + d.val; omega))
  show headE _ (g (ix2 0 ⟨N + x1.val, _⟩)) x1 = headE (fun d : Fin 128 => y (ix2 x0 ⟨(N + x1.val) / 128 * 128 + d.val, _⟩)) (g (ix2 0 ⟨N + x1.val, _⟩)) ⟨(N + x1.val) % 128, _⟩
  rw [e1, e2]

/-- The eight heads' columns together, each holding what the step leaves there. -/
theorem pieces8 (G : S1024x1024.Idx → EReal) (w0 w1 w2 w3 w4 w5 w6 w7 : S1024x128.Idx → EReal)
    (h0 : ∀ x : S1024x128.Idx, w0 x = G ((Rect.unit (s := S1024x1024) ![0, 0] S1024x128.size inb_S1024x1024_S1024x128_0_0).emb x))
    (h1 : ∀ x : S1024x128.Idx, w1 x = G ((Rect.unit (s := S1024x1024) ![0, 128] S1024x128.size inb_S1024x1024_S1024x128_0_128).emb x))
    (h2 : ∀ x : S1024x128.Idx, w2 x = G ((Rect.unit (s := S1024x1024) ![0, 256] S1024x128.size inb_S1024x1024_S1024x128_0_256).emb x))
    (h3 : ∀ x : S1024x128.Idx, w3 x = G ((Rect.unit (s := S1024x1024) ![0, 384] S1024x128.size inb_S1024x1024_S1024x128_0_384).emb x))
    (h4 : ∀ x : S1024x128.Idx, w4 x = G ((Rect.unit (s := S1024x1024) ![0, 512] S1024x128.size inb_S1024x1024_S1024x128_0_512).emb x))
    (h5 : ∀ x : S1024x128.Idx, w5 x = G ((Rect.unit (s := S1024x1024) ![0, 640] S1024x128.size inb_S1024x1024_S1024x128_0_640).emb x))
    (h6 : ∀ x : S1024x128.Idx, w6 x = G ((Rect.unit (s := S1024x1024) ![0, 768] S1024x128.size inb_S1024x1024_S1024x128_0_768).emb x))
    (h7 : ∀ x : S1024x128.Idx, w7 x = G ((Rect.unit (s := S1024x1024) ![0, 896] S1024x128.size inb_S1024x1024_S1024x128_0_896).emb x)) :
    ∀ p ∈ ([⟨Rect.unit (s := S1024x1024) ![0, 896] S1024x128.size inb_S1024x1024_S1024x128_0_896, w7⟩, ⟨Rect.unit (s := S1024x1024) ![0, 768] S1024x128.size inb_S1024x1024_S1024x128_0_768, w6⟩, ⟨Rect.unit (s := S1024x1024) ![0, 640] S1024x128.size inb_S1024x1024_S1024x128_0_640, w5⟩, ⟨Rect.unit (s := S1024x1024) ![0, 512] S1024x128.size inb_S1024x1024_S1024x128_0_512, w4⟩, ⟨Rect.unit (s := S1024x1024) ![0, 384] S1024x128.size inb_S1024x1024_S1024x128_0_384, w3⟩, ⟨Rect.unit (s := S1024x1024) ![0, 256] S1024x128.size inb_S1024x1024_S1024x128_0_256, w2⟩, ⟨Rect.unit (s := S1024x1024) ![0, 128] S1024x128.size inb_S1024x1024_S1024x128_0_128, w1⟩, ⟨Rect.unit (s := S1024x1024) ![0, 0] S1024x128.size inb_S1024x1024_S1024x128_0_0, w0⟩] : List (View.Piece (Elt Ideal) S1024x1024 .bf16)), ∀ x : p.1.shape.Idx, p.2 x = G (p.1.emb x) := by
  intro p hp
  simp only [List.mem_cons, List.not_mem_nil, or_false] at hp
  rcases hp with rfl | rfl | rfl | rfl | rfl | rfl | rfl | rfl
  · exact h7
  · exact h6
  · exact h5
  · exact h4
  · exact h3
  · exact h2
  · exact h1
  · exact h0

/-- The eight heads' columns as a step computes them. -/
theorem step8 (v3 : S1024x2048.Idx → EReal) (v4 : S2048x1024.Idx → EReal) (g : S1x1024.Idx → EReal) :
    ∀ p ∈ ([⟨Rect.unit (s := S1024x1024) ![0, 896] S1024x128.size inb_S1024x1024_S1024x128_0_896, k0_pay1 (F := Ideal) (k0_pay3 (F := Ideal) v3 v4) (View.ld (Val := Elt Ideal) (e' := .f32) g (Rect.unit (s := S1x1024) ![0, 896] S1x128.size inb_S1x1024_S1x128_0_896))⟩, ⟨Rect.unit (s := S1024x1024) ![0, 768] S1024x128.size inb_S1024x1024_S1024x128_0_768, k0_pay12 (F := Ideal) (k0_pay3 (F := Ideal) v3 v4) (View.ld (Val := Elt Ideal) (e' := .f32) g (Rect.unit (s := S1x1024) ![0, 768] S1x128.size inb_S1x1024_S1x128_0_768))⟩, ⟨Rect.unit (s := S1024x1024) ![0, 640] S1024x128.size inb_S1024x1024_S1024x128_0_640, k0_pay11 (F := Ideal) (k0_pay3 (F := Ideal) v3 v4) (View.ld (Val := Elt Ideal) (e' := .f32) g (Rect.unit (s := S1x1024) ![0, 640] S1x128.size inb_S1x1024_S1x128_0_640))⟩, ⟨Rect.unit (s := S1024x1024) ![0, 512] S1024x128.size inb_S1024x1024_S1024x128_0_512, k0_pay10 (F := Ideal) (k0_pay8 (k0_pay3 (F := Ideal) v3 v4)) (k0_pay9 (k0_pay3 (F := Ideal) v3 v4)) (View.ld (Val := Elt Ideal) (e' := .f32) g (Rect.unit (s := S1x1024) ![0, 512] S1x128.size inb_S1x1024_S1x128_0_512))⟩, ⟨Rect.unit (s := S1024x1024) ![0, 384] S1024x128.size inb_S1024x1024_S1024x128_0_384, k0_pay7 (F := Ideal) (k0_pay3 (F := Ideal) v3 v4) (View.ld (Val := Elt Ideal) (e' := .f32) g (Rect.unit (s := S1x1024) ![0, 384] S1x128.size inb_S1x1024_S1x128_0_384))⟩, ⟨Rect.unit (s := S1024x1024) ![0, 256] S1024x128.size inb_S1024x1024_S1024x128_0_256, k0_pay6 (F := Ideal) (k0_pay3 (F := Ideal) v3 v4) (View.ld (Val := Elt Ideal) (e' := .f32) g (Rect.unit (s := S1x1024) ![0, 256] S1x128.size inb_S1x1024_S1x128_0_256))⟩, ⟨Rect.unit (s := S1024x1024) ![0, 128] S1024x128.size inb_S1024x1024_S1024x128_0_128, k0_pay5 (F := Ideal) v3 v4 (View.ld (Val := Elt Ideal) (e' := .f32) g (Rect.unit (s := S1x1024) ![0, 128] S1x128.size inb_S1x1024_S1x128_0_128))⟩, ⟨Rect.unit (s := S1024x1024) ![0, 0] S1024x128.size inb_S1024x1024_S1024x128_0_0, k0_pay4 (F := Ideal) v3 v4 (View.ld (Val := Elt Ideal) (e' := .f32) g (Rect.unit (s := S1x1024) ![0, 0] S1x128.size inb_S1x1024_S1x128_0_0))⟩] : List (View.Piece (Elt Ideal) S1024x1024 .bf16)), ∀ x : p.1.shape.Idx, p.2 x = stepE (k0_pay3 (F := Ideal) v3 v4) g (p.1.emb x) := by
  refine pieces8 (stepE (k0_pay3 (F := Ideal) v3 v4) g) _ _ _ _ _ _ _ _ ?_ ?_ ?_ ?_ ?_ ?_ ?_ ?_
  · exact piece _ g 0 (by omega) (by omega) inb_S1024x1024_S1024x128_0_0 inb_S1x1024_S1x128_0_0 _ (fun r d => (pay_0 _ r d v3 v4).trans (by
      have e : (fun d : Fin 128 => k0_pay3 (F := Ideal) v3 v4 (ix2 r ⟨d.val, by have := d.isLt; omega⟩)) = fun d : Fin 128 => k0_pay3 (F := Ideal) v3 v4 (ix2 r ⟨0 + d.val, by have := d.isLt; omega⟩) :=
        funext fun d => congrArg (fun C : Fin 1024 => k0_pay3 (F := Ideal) v3 v4 (ix2 r C)) (Fin.ext (Nat.zero_add _).symm)
      rw [e]))
  · exact piece _ g 128 (by omega) (by omega) inb_S1024x1024_S1024x128_0_128 inb_S1x1024_S1x128_0_128 _ (fun r d => pay_1 _ r d v3 v4)
  · exact piece _ g 256 (by omega) (by omega) inb_S1024x1024_S1024x128_0_256 inb_S1x1024_S1x128_0_256 _ (fun r d => pay_2 _ _ r d)
  · exact piece _ g 384 (by omega) (by omega) inb_S1024x1024_S1024x128_0_384 inb_S1x1024_S1x128_0_384 _ (fun r d => pay_3 _ _ r d)
  · exact piece _ g 512 (by omega) (by omega) inb_S1024x1024_S1024x128_0_512 inb_S1x1024_S1x128_0_512 _ (fun r d => pay_4 _ _ r d)
  · exact piece _ g 640 (by omega) (by omega) inb_S1024x1024_S1024x128_0_640 inb_S1x1024_S1x128_0_640 _ (fun r d => pay_5 _ _ r d)
  · exact piece _ g 768 (by omega) (by omega) inb_S1024x1024_S1024x128_0_768 inb_S1x1024_S1x128_0_768 _ (fun r d => pay_6 _ _ r d)
  · exact piece _ g 896 (by omega) (by omega) inb_S1024x1024_S1024x128_0_896 inb_S1x1024_S1x128_0_896 _ (fun r d => pay_7 _ _ r d)

/-- The output of a step that fetched its weights. -/
theorem o_A (h0 : t.val % 16 = 0) (y : S1024x1024.Idx) : (outsAt0 m c t.val t.isLt).1 y = stepE (k0_pay3 (F := Ideal) (iblk m c 0 t) (outsAt0 m c t.val t.isLt).2) (iblk m c 2 t) y := by
  rw [w_A m c t h0]
  rw [outsAt0_A m c t h0]
  dsimp only
  unfold out0_A_3
  rw [View.read_writes_eq_canon]
  rotate_left
  · intro y; apply cover0_A_3
  refine View.canon_apply_of_pieces (Val := Elt Ideal) (S := S1024x1024) (e := .bf16) (stepE _ _) _ ?_ y (by apply cover0_A_3)
  unfold kernelRun0_A
  dsimp only
  sl_unfold_words
  simp only [View.readAt_eq_ld, (hs0_0 t).read_unread, (hs0_1 t).read_unread, (hs0_2 t).read_unread, (hs0_3 t).read_unread, (Memref.isWhole_whole _).read_unread, rcW]
  rw [View.ld_unit_zero (S := S1024x2048) hz2, View.ld_unit_zero (S := S2048x1024) hz2]
  exact step8 _ _ _

/-- The output of any other step. -/
theorem o_B (h0 : ¬t.val % 16 = 0) (y : S1024x1024.Idx) : (outsAt0 m c t.val t.isLt).1 y = stepE (k0_pay3 (F := Ideal) (iblk m c 0 t) (outsAt0 m c t.val t.isLt).2) (iblk m c 2 t) y := by
  rw [w_B m c t h0]
  rw [outsAt0_B m c t h0]
  dsimp only
  unfold out0_B_3
  rw [View.read_writes_eq_canon]
  rotate_left
  · intro y; apply cover0_B_3
  refine View.canon_apply_of_pieces (Val := Elt Ideal) (S := S1024x1024) (e := .bf16) (stepE _ _) _ ?_ y (by apply cover0_B_3)
  unfold kernelRun0_B
  dsimp only
  sl_unfold_words
  simp only [View.readAt_eq_ld, (hs0_0 t).read_unread, (hs0_1 t).read_unread, (hs0_2 t).read_unread, (hs0_3 t).read_unread, (Memref.isWhole_whole _).read_unread, rcW]
  rw [View.ld_unit_zero (S := S1024x2048) hz2, View.ld_unit_zero (S := S2048x1024) hz2]
  exact step8 _ _ _

/-- The product of a step's rows and weights. -/
theorem dot_pay (x : S1024x2048.Idx → EReal) (w : S2048x1024.Idx → EReal) (r j : Fin 1024) :
    k0_pay3 (F := Ideal) x w (ix2 r j) = ∑ k : Fin 2048, x (ix2 r k) * w (ix2 k j) := by
  pointwise [k0_pay3]

/-- A step's output block is the array's. -/
theorem block (r j : Fin 1024) (R : Fin 16384) (C : Fin 4096) (hR : R.val = t.val % 16 * 1024 + r.val) (hC : C.val = t.val / 16 * 1024 + j.val) :
    ((outsAt0 m c t.val t.isLt).1 : S1024x1024.Idx → EReal) (ix2 r j) = qkE (V m c main_arg0) (V m c main_arg1) (V m c main_arg2) R C := by
  have e : (outsAt0 m c t.val t.isLt).1 (ix2 r j) = stepE (k0_pay3 (F := Ideal) (iblk m c 0 t) (outsAt0 m c t.val t.isLt).2) (iblk m c 2 t) (ix2 r j) := by
    by_cases h0 : t.val % 16 = 0
    · exact o_A m c t h0 (ix2 r j)
    · exact o_B m c t h0 (ix2 r j)
  refine e.trans ?_
  have hj := j.isLt
  have e1 : (⟨j.val % 128, by omega⟩ : Fin 128) = ⟨C.val % 128, by omega⟩ := Fin.ext (by show j.val % 128 = C.val % 128; omega)
  have e2 : (fun d : Fin 128 => k0_pay3 (F := Ideal) (iblk m c 0 t) (outsAt0 m c t.val t.isLt).2 (ix2 r ⟨j.val / 128 * 128 + d.val, by have := d.isLt; omega⟩))
      = fun d : Fin 128 => dotE (V m c main_arg0) (V m c main_arg1) R ⟨C.val / 128 * 128 + d.val, by have := d.isLt; have := C.isLt; omega⟩ := by
    funext d
    have hd := d.isLt
    have hCl := C.isLt
    refine (dot_pay _ _ r _).trans ?_
    unfold dotE
    exact Finset.sum_congr rfl fun k _ => by
      rw [read0 m c t r k R hR, w_inv m c t.val t.isLt k ⟨j.val / 128 * 128 + d.val, by omega⟩ ⟨1024 + (C.val / 128 * 128 + d.val), by omega⟩ (by show 1024 + (C.val / 128 * 128 + d.val) = 1024 + (t.val / 16 * 1024 + (j.val / 128 * 128 + d.val)); omega)]
  unfold stepE qkE
  show headE (fun d : Fin 128 => k0_pay3 (F := Ideal) (iblk m c 0 t) (outsAt0 m c t.val t.isLt).2 (ix2 r ⟨j.val / 128 * 128 + d.val, _⟩)) ((iblk m c 2 t : S1x1024.Idx → EReal) (ix2 0 j)) ⟨j.val % 128, _⟩ = _
  rw [e1, e2, read2 m c t 0 j C hC]

/-- The array the call leaves. -/
def result : Buf (Elt Ideal) ((c : Thread nD τ).loc main_v0) :=
  (fun j : S16384x4096.Idx => qkE (V m c main_arg0) (V m c main_arg1) (V m c main_arg2) (j 0) (j 1) : S16384x4096.Idx → EReal)

/-- What is written back is the array's block. -/
theorem flushed_eq (hf : (cfg0.win 3).flush t = true) :
    (dats m 0 c).flushed 3 t = ((cfg0.win 3).blk t).view.read (Elt Ideal) (result m c) := by
  have ht := N_lt t
  rw [Value.flushed3]
  funext j
  rw [View.read_apply]
  have key : ∀ (j : S1024x1024.Idx) (R : Fin 16384) (C : Fin 4096), R.val = t.val % 16 * 1024 + (j 0).val → C.val = t.val / 16 * 1024 + (j 1).val →
      ((outsAt0 m c t.val t.isLt).1 : S1024x1024.Idx → EReal) j = qkE (V m c main_arg0) (V m c main_arg1) (V m c main_arg2) R C := fun j => by
    idx_vars j
    intro R C hR hC
    exact block m c t j0 j1 R C hR hC
  show ((outsAt0 m c t.val t.isLt).1 : S1024x1024.Idx → EReal) j = result m c _
  unfold result
  refine key j _ _ ?_ ?_
  · show win0_3.index t 0 * 1024 + 1 * (j 0).val = _
    rw [(ind3 t).1]
    omega
  · show win0_3.index t 1 * 1024 + 1 * (j 1).val = _
    rw [(ind3 t).2]
    omega

/-- The call's array after the whole grid. -/
theorem final : (dats m 0 c).arrAt 3 cfg0.N = result m c :=
  (dats m 0 c).arrAt_eq_of_cover 3 (result m c) (flushed_eq m c) fun i => by
    have hi0 : (i 0 : Nat) < 16384 := (i 0).isLt
    have hi1 : (i 1 : Nat) < 4096 := (i 1).isLt
    have hN : cfg0.N = 64 := N_0
    let n := (i 1 : Nat) / 1024 * 16 + (i 0 : Nat) / 1024
    have hn : n < cfg0.N := by rw [hN]; omega
    refine ⟨⟨n, hn⟩, flush0_3 _, ?_⟩
    show i ∈ ((View.whole main_v0).slice (win0_3.rect ⟨n, hn⟩)).set
    rw [View.set_slice_whole, Rect.mem_set_unit]
    intro a
    have k0 := (ind3 ⟨n, hn⟩).1
    have k1 := (ind3 ⟨n, hn⟩).2
    match a with
    | ⟨0, _⟩ =>
      show win0_3.index ⟨n, hn⟩ 0 * 1024 ≤ (i 0 : Nat) ∧ (i 0 : Nat) < win0_3.index ⟨n, hn⟩ 0 * 1024 + 1024
      rw [k0]
      show n % 16 * 1024 ≤ (i 0 : Nat) ∧ (i 0 : Nat) < n % 16 * 1024 + 1024
      omega
    | ⟨1, _⟩ =>
      show win0_3.index ⟨n, hn⟩ 1 * 1024 ≤ (i 1 : Nat) ∧ (i 1 : Nat) < win0_3.index ⟨n, hn⟩ 1 * 1024 + 1024
      rw [k1]
      show n / 16 * 1024 ≤ (i 1 : Nat) ∧ (i 1 : Nat) < n / 16 * 1024 + 1024
      omega

end Cert.CallQk
end
-- ==== Proof.Calls.Norm.lean ====
module

public import proofs.«01_k».proof.Proof.Calls.Qk
public import proofs.«01_k».proof.Proof.Gen.NormIdeal.Frame
public import proofs.«01_k».proof.Proof.Gen.NormIdeal.Value
public import proofs.«01_k».proof.Proof.Gen.NormRefIdeal.Read
public import Idealize.ShloMosaic.Lib.Pipeline.Value
public import Idealize.ShloMosaic.Lib.Pipeline.ValueKit.Tiles

@[expose] public section

set_option maxRecDepth 16384

noncomputable section

namespace Cert.CallNorm

open Idealize.ShloMosaic Idealize.ShloMosaic.TcCoe Idealize.ShloMosaic.Tactic Idealize.SL.Sem
open Cert.NormIdeal Cert.NormIdeal.Gen

variable (m : (ℓ : Loc nD τ sig) → Buf (Elt Ideal) ℓ)
variable (c : Dev nD) (t : Fin cfg0.N)

/-- The offset of a whole block. -/
theorem hz2 : (![0, 0] : Fin 2 → Nat) = fun _ => 0 := funext fun a => by fin_cases a <;> rfl

/-- A row normalised by the root of its mean square, at a column, times the gain. -/
def normE (h : Fin 2048 → EReal) (g : EReal) (j : Fin 2048) : EReal :=
  h j * Ideal.rsqrt (Ideal.div (∑ k : Fin 2048, h k * h k) (Ideal.ofBits FTy.f32 1157627904#32) + Ideal.ofBits FTy.f32 897988541#32) * g

section Ref

variable (x : S16384x2048.Idx → EReal) (g : S2048.Idx → EReal) (i : Fin 16384) (j : Fin 2048)

/-- The reference's sum of squares. -/
theorem ref_ms : Cert.NormRefIdeal.Read.val_main_v1 (F := Ideal) x (ix1 i) = ∑ k : Fin 2048, x (ix2 i k) * x (ix2 i k) := by
  pointwise [Cert.NormRefIdeal.Read.val_main_v1, Cert.NormRefIdeal.Read.val_main_v0, Cert.NormRefIdeal.Read.val_main_cst]

/-- The reference's result. -/
theorem ref_eq : Cert.NormRefIdeal.Read.val_main_v13 (F := Ideal) x g (ix2 i j) = normE (fun k => x (ix2 i k)) (g (ix1 j)) j := by
  have hs := ref_ms x i
  unfold normE
  rw [← hs]
  pointwise [Cert.NormRefIdeal.Read.val_main_v13, Cert.NormRefIdeal.Read.val_main_v12, Cert.NormRefIdeal.Read.val_main_v11, Cert.NormRefIdeal.Read.val_main_v10, Cert.NormRefIdeal.Read.val_main_v9, Cert.NormRefIdeal.Read.val_main_v8, Cert.NormRefIdeal.Read.val_main_v7, Cert.NormRefIdeal.Read.val_main_v6, Cert.NormRefIdeal.Read.val_main_v5, Cert.NormRefIdeal.Read.val_main_v4, Cert.NormRefIdeal.Read.val_main_v3, Cert.NormRefIdeal.Read.val_main_v2, Cert.NormRefIdeal.Read.val_main_cst_0, Cert.NormRefIdeal.Read.val_main_cst_1]

end Ref

/-- The output of a step. -/
theorem pay1_eq (v0 : S512x2048.Idx → EReal) (v11 : S1x2048.Idx → EReal) (r : Fin 512) (j : Fin 2048) :
    k0_pay1 (F := Ideal) v0 v11 (ix2 r j) = normE (fun k => v0 (ix2 r k)) (v11 (ix2 0 j)) j := by
  unfold normE
  pointwise [k0_pay1]

/-- The block of the input rows a step reads. -/
theorem ind0 : ∀ t : Fin cfg0.N, win0_0.index t 0 = t.val ∧ win0_0.index t 1 = 0 := (by decide +kernel : ∀ t : Fin grid0.N, _)

/-- The block of the gain a step reads. -/
theorem ind1 : ∀ t : Fin cfg0.N, win0_1.index t 0 = 0 ∧ win0_1.index t 1 = 0 := (by decide +kernel : ∀ t : Fin grid0.N, _)

/-- The block of the output a step holds. -/
theorem ind2 : ∀ t : Fin cfg0.N, win0_2.index t 0 = t.val ∧ win0_2.index t 1 = 0 := (by decide +kernel : ∀ t : Fin grid0.N, _)

/-- There are 32 steps. -/
theorem N_lt : t.val < 32 := lt_of_lt_of_eq t.isLt N_0

/-- The gain as the call finds it: one row. -/
theorem V_g : V m c main_v0 = shapeCast S1x2048 (m (c, Proc.devRef .tc main_arg1)) shapeCasts_S2048_S1x2048 := by
  unfold_abbrev_sides
  after_reads_simp
  rfl

/-- The gain's entry. -/
theorem g_at (j : Fin 2048) : (V m c main_v0 : S1x2048.Idx → EReal) (ix2 0 j) = (V m c main_arg1 : S2048.Idx → EReal) (ix1 j) := by
  rw [V_g, V_main_arg1]
  show shapeCast S1x2048 (m (c, Proc.devRef .tc main_arg1) : S2048.Idx → EReal) shapeCasts_S2048_S1x2048 (ix2 0 j) = (m (c, Proc.devRef .tc main_arg1) : S2048.Idx → EReal) (ix1 j)
  generalize (m (c, Proc.devRef .tc main_arg1) : S2048.Idx → EReal) = g
  pointwise []

/-- The input rows' block, from the array. -/
theorem read0 (r : Fin 512) (k : Fin 2048) (R : Fin 16384) (hR : R.val = t.val * 512 + r.val) :
    (iblk m c 0 t : S512x2048.Idx → EReal) (ix2 r k) = (V m c main_arg0 : S16384x2048.Idx → EReal) (ix2 R k) := by
  unfold iblk
  rw [View.read_apply]
  show V m c main_arg0 _ = V m c main_arg0 _
  congr 1
  funext a
  apply Fin.ext
  match a with
  | ⟨0, _⟩ => show win0_0.index t 0 * 512 + 1 * r.val = R.val; rw [(ind0 t).1]; omega
  | ⟨1, _⟩ => show win0_0.index t 1 * 2048 + 1 * k.val = k.val; rw [(ind0 t).2]; omega

/-- The gain's block is the array. -/
theorem read1 (r : Fin 1) (k : Fin 2048) :
    (iblk m c 1 t : S1x2048.Idx → EReal) (ix2 r k) = (V m c main_v0 : S1x2048.Idx → EReal) (ix2 r k) := by
  unfold iblk
  rw [View.read_apply]
  show V m c main_v0 _ = V m c main_v0 _
  congr 1
  funext a
  apply Fin.ext
  match a with
  | ⟨0, _⟩ => show win0_1.index t 0 * 1 + 1 * r.val = r.val; rw [(ind1 t).1]; omega
  | ⟨1, _⟩ => show win0_1.index t 1 * 2048 + 1 * k.val = k.val; rw [(ind1 t).2]; omega

/-- A step's output block is the array's. -/
theorem block (r : Fin 512) (j : Fin 2048) (R : Fin 16384) (C : Fin 2048) (hR : R.val = t.val * 512 + r.val) (hC : C.val = 0 * 2048 + j.val) :
    out0_2 (F := Ideal) (iblk m c 0 t) (iblk m c 1 t) (ix2 r j) = normE (fun k => (V m c main_arg0 : S16384x2048.Idx → EReal) (ix2 R k)) ((V m c main_arg1 : S2048.Idx → EReal) (ix1 C)) C := by
  rw [show C = j from Fin.ext (by omega)]
  unfold out0_2
  rw [show ∀ p : Vec Ideal S512x2048 .bf16, View.canon [⟨r0_0, p⟩] = p from fun p => View.canon_unit_zero (S := S512x2048) hz2 _ p]
  rw [View.ld_unit_zero (S := S512x2048) hz2, View.ld_unit_zero (S := S1x2048) hz2]
  refine (pay1_eq _ _ r j).trans ?_
  rw [read1, g_at, show (fun k => (iblk m c 0 t : S512x2048.Idx → EReal) (ix2 r k)) = (fun k => (V m c main_arg0 : S16384x2048.Idx → EReal) (ix2 R k)) from funext fun k => read0 m c t r k R hR]

/-- The array the call leaves. -/
def result : Buf (Elt Ideal) ((c : Thread nD τ).loc main_v1) :=
  (fun j : S16384x2048.Idx => normE (fun k => (V m c main_arg0 : S16384x2048.Idx → EReal) (ix2 (j 0) k)) ((V m c main_arg1 : S2048.Idx → EReal) (ix1 (j 1))) (j 1) : S16384x2048.Idx → EReal)

/-- What is written back is the array's block. -/
theorem flushed_eq (hf : (cfg0.win 2).flush t = true) :
    (dats m 0 c).flushed 2 t = ((cfg0.win 2).blk t).view.read (Elt Ideal) (result m c) := by
  have ht := N_lt t
  rw [Value.flushed2]
  funext j
  rw [View.read_apply]
  have key : ∀ (j : S512x2048.Idx) (R : Fin 16384) (C : Fin 2048), R.val = t.val * 512 + (j 0).val → C.val = 0 * 2048 + (j 1).val →
      out0_2 (F := Ideal) (iblk m c 0 t) (iblk m c 1 t) j = normE (fun k => (V m c main_arg0 : S16384x2048.Idx → EReal) (ix2 R k)) ((V m c main_arg1 : S2048.Idx → EReal) (ix1 C)) C := fun j => by
    idx_vars j
    intro R C hR hC
    exact block m c t j0 j1 R C hR hC
  show out0_2 (F := Ideal) (iblk m c 0 t) (iblk m c 1 t) j = result m c _
  unfold result
  refine key j _ _ ?_ ?_
  · show win0_2.index t 0 * 512 + 1 * (j 0).val = _
    rw [(ind2 t).1]
    omega
  · show win0_2.index t 1 * 2048 + 1 * (j 1).val = _
    rw [(ind2 t).2]
    omega

/-- The call's array after the whole grid. -/
theorem final : (dats m 0 c).arrAt 2 cfg0.N = result m c :=
  (dats m 0 c).arrAt_eq_of_cover 2 (result m c) (flushed_eq m c) fun i => by
    have hi0 : (i 0 : Nat) < 16384 := (i 0).isLt
    have hi1 : (i 1 : Nat) < 2048 := (i 1).isLt
    have hN : cfg0.N = 32 := N_0
    let n := (i 0 : Nat) / 512
    have hn : n < cfg0.N := by rw [hN]; omega
    refine ⟨⟨n, hn⟩, flush0_2 _, ?_⟩
    show i ∈ ((View.whole main_v1).slice (win0_2.rect ⟨n, hn⟩)).set
    rw [View.set_slice_whole, Rect.mem_set_unit]
    intro a
    have k0 := (ind2 ⟨n, hn⟩).1
    have k1 := (ind2 ⟨n, hn⟩).2
    match a with
    | ⟨0, _⟩ =>
      show win0_2.index ⟨n, hn⟩ 0 * 512 ≤ (i 0 : Nat) ∧ (i 0 : Nat) < win0_2.index ⟨n, hn⟩ 0 * 512 + 512
      rw [k0]
      show n * 512 ≤ (i 0 : Nat) ∧ (i 0 : Nat) < n * 512 + 512
      omega
    | ⟨1, _⟩ =>
      show win0_2.index ⟨n, hn⟩ 1 * 2048 ≤ (i 1 : Nat) ∧ (i 1 : Nat) < win0_2.index ⟨n, hn⟩ 1 * 2048 + 2048
      rw [k1]
      show 0 * 2048 ≤ (i 1 : Nat) ∧ (i 1 : Nat) < 0 * 2048 + 2048
      omega

end Cert.CallNorm

end
-- ==== Proof.Online.Host.lean ====
module

public import proofs.«01_k».proof.Proof.Gen.OnlineIdeal.Frame.Runs
public import Idealize.ShloMosaic.Lib.Pointwise
public import Idealize.ShloMosaic.Lib.StableHlo.Run
public import Idealize.ShloMosaic.Lib.StableHlo.RunRead
public import Idealize.ShloMosaic.Lib.StableHlo.RunHlo
public import Idealize.ShloMosaic.Lib.Tactic
public import Idealize.ShloMosaic.Lib.Claim

@[expose] public section

noncomputable section

namespace Cert.OnlineAttn

open Idealize.ShloMosaic Idealize.ShloMosaic.TcCoe Idealize.ShloMosaic.Tactic
open Cert.OnlineIdeal Cert.OnlineIdeal.Gen

variable (m : (ℓ : Loc nD τ sig) → Buf (Elt Ideal) ℓ)

/-- Whole numbers of one shape, one value everywhere. -/
abbrev splatI (s : Shape) (h : S_.BroadcastsInDim s ![]) (b : BitVec 32) : IVec s 32 := broadcastInDim s ![] h (constantI S_ 32 b)

/-- The key side of the bias lanes. -/
def kaTerm : FVec Ideal S1024x128 .bf16 :=
  sitofp .bf16 (select (cmpi .eq (iotaInDim S1024x128 32 1) (splatI S1024x128 bcast_S_S1024x128 2#32))
    (andi (iotaInDim S1024x128 32 0) (splatI S1024x128 bcast_S_S1024x128 255#32))
    (select (cmpi .eq (iotaInDim S1024x128 32 1) (splatI S1024x128 bcast_S_S1024x128 3#32))
      (andi (iotaInDim S1024x128 32 0) (splatI S1024x128 bcast_S_S1024x128 4294967040#32))
      (select (cmpi .sle (iotaInDim S1024x128 32 1) (splatI S1024x128 bcast_S_S1024x128 6#32))
        (splatI S1024x128 bcast_S_S1024x128 1#32) (splatI S1024x128 bcast_S_S1024x128 0#32))))

/-- The key side of the bias lanes, as the region finds it. -/
theorem V_ka (c : Dev nD) : V m c main_v39 = kaTerm := by
  unfold_abbrev_sides
  after_reads_simp
  rfl

/-- The scores' shift: nothing is taken off. -/
def shN (c : Dev nD) : FVec Ideal S_ .f32 := constant S_ .f32 0#32

/-- The shift is zero. -/
theorem sh_zero (c : Dev nD) : shN c ix0 = ((0 : ℝ) : EReal) := by
  pointwise [shN]
  simp

/-- A number as the narrow format has it, read back. -/
def pt (x : FVec Ideal S_ .f32) : FVec Ideal S_ .f32 := extf .f32 (truncf .bf16 x bitsLt_bf16_f32) bitsLt_bf16_f32
def part1 (x : FVec Ideal S_ .f32) : FVec Ideal S_ .f32 := x
def part2 (x : FVec Ideal S_ .f32) : FVec Ideal S_ .f32 := pt (subf x x)
def part3 (x : FVec Ideal S_ .f32) : FVec Ideal S_ .f32 := pt (subf (subf x x) (part2 x))

/-- The shift the diagonal blocks read: the three parts added up. -/
def shTerm (x : FVec Ideal S_ .f32) : FVec Ideal S1 .f32 :=
  shapeCast S1 (addf (addf (addf (constant S_ .f32 0#32) (part1 x)) (part2 x)) (part3 x)) shapeCasts_S_S1

/-- The shift as the call finds it: the sum of its three parts. -/
theorem V_sh (c : Dev nD) : V m c main_v68 = shTerm (shN c) := by
  unfold_abbrev_sides
  after_reads_simp
  rfl

/-- The gain as the call finds it: one row. -/
theorem V_g (c : Dev nD) : V m c main_v69 = shapeCast S1x256 (m (c, Proc.devRef .tc main_arg3)) shapeCasts_S256_S1x256 := by
  unfold_abbrev_sides
  after_reads_simp
  rfl

/-- The slopes as the call finds them: eight literals. -/
theorem V_slopes (c : Dev nD) : V m c main_cst = (fun i => FloatOps.ofBits .f32 (lit0 (S8.rowMajor i)) : FVec Ideal S8 .f32) := by
  unfold_abbrev_sides
  after_reads_simp
  rfl

abbrev lane3 : IVec S1x1024x128 32 := iotaInDim S1x1024x128 32 2
abbrev row3 : IVec S1x1024x128 32 := iotaInDim S1x1024x128 32 1
abbrev sp3 (b : BitVec 32) : IVec S1x1024x128 32 := splatI S1x1024x128 bcast_S_S1x1024x128 b

/-- The query side: what the bias lanes hold before the block offset is added, and the offset's own lane. -/
def q01Term : FVec Ideal S2x1024x128 .f32 :=
  sitofp .f32 (concatenate S2x1024x128 0
    [⟨S1x1024x128, select (cmpi .eq lane3 (sp3 0#32)) (negi (andi row3 (sp3 4294967040#32)))
        (select (cmpi .eq lane3 (sp3 1#32)) (negi (andi row3 (sp3 255#32)))
          (select (cmpi .sle lane3 (sp3 3#32)) (sp3 1#32) (sp3 0#32)))⟩,
     ⟨S1x1024x128, select (cmpi .eq lane3 (sp3 0#32)) (sp3 4294967295#32) (sp3 0#32)⟩] concatenates_S1x1024x128_S1x1024x128_S2x1024x128_d0)

/-- The query side: the lanes that hold the shift's parts. -/
def q2Term (x : FVec Ideal S_ .f32) : FVec Ideal S1x1024x128 .f32 :=
  addf (addf (addf (broadcastInDim S1x1024x128 ![] bcast_S_S1x1024x128 (constant S_ .f32 0#32)) (select (cmpi .eq lane3 (sp3 4#32)) (broadcastInDim S1x1024x128 ![] bcast_S_S1x1024x128 (Host.negf (part1 x))) (broadcastInDim S1x1024x128 ![] bcast_S_S1x1024x128 (constant S_ .f32 0#32))))
      (select (cmpi .eq lane3 (sp3 5#32)) (broadcastInDim S1x1024x128 ![] bcast_S_S1x1024x128 (Host.negf (part2 x))) (broadcastInDim S1x1024x128 ![] bcast_S_S1x1024x128 (constant S_ .f32 0#32))))
    (select (cmpi .eq lane3 (sp3 6#32)) (broadcastInDim S1x1024x128 ![] bcast_S_S1x1024x128 (Host.negf (part3 x))) (broadcastInDim S1x1024x128 ![] bcast_S_S1x1024x128 (constant S_ .f32 0#32)))

def qtTerm (x : FVec Ideal S_ .f32) : FVec Ideal S3x1024x128 .f32 :=
  concatenate S3x1024x128 0 [⟨S2x1024x128, q01Term⟩, ⟨S1x1024x128, q2Term x⟩] concatenates_S2x1024x128_S1x1024x128_S3x1024x128_d0

/-- The table of query columns as the call finds it. -/
theorem V_qt (c : Dev nD) : V m c main_v64 = qtTerm (shN c) := by
  unfold_abbrev_sides
  after_reads_simp
  refine congrArg₂ (fun a b => concatenate S3x1024x128 0 [⟨S2x1024x128, a⟩, ⟨S1x1024x128, b⟩] concatenates_S2x1024x128_S1x1024x128_S3x1024x128_d0) ?_ ?_
  · after_reads_simp
    refine congrArg (sitofp .f32) (congrArg₂ (fun a b => concatenate S2x1024x128 0 [⟨S1x1024x128, a⟩, ⟨S1x1024x128, b⟩] concatenates_S1x1024x128_S1x1024x128_S2x1024x128_d0) ?_ ?_)
    · after_reads_simp
      rfl
    · after_reads_simp
      rfl
  · after_reads_simp
    rfl

end Cert.OnlineAttn

end
-- ==== Proof.Online.Tables.lean ====
module

public import proofs.«01_k».proof.Proof.Online.Host

@[expose] public section

noncomputable section

namespace Cert.OnlineAttn

open Idealize.ShloMosaic Idealize.ShloMosaic.TcCoe Idealize.ShloMosaic.Tactic
open Cert.OnlineIdeal Cert.OnlineIdeal.Gen

/-- Which lane it is, from words. -/
theorem laneEq : ∀ (l : Fin 128) (k : Fin 8), IntOp.cmpi .eq (BitVec.ofNat 32 l.val) (BitVec.ofNat 32 k.val) = BitVec.ofBool (decide (l.val = k.val)) := by
  decide +kernel
/-- Whether a lane comes before another, from words. -/
theorem laneLe : ∀ (l : Fin 128) (k : Fin 8), IntOp.cmpi .sle (BitVec.ofNat 32 l.val) (BitVec.ofNat 32 k.val) = BitVec.ofBool (decide (l.val ≤ k.val)) := by
  decide +kernel
/-- A row's remainder by 256, from words. -/
theorem rowLow : ∀ r : Fin 1024, (IntOp.andi (BitVec.ofNat 32 r.val) 255#32).toInt = (r.val % 256 : ℕ) := by
  decide +kernel
/-- A row's multiple of 256, from words. -/
theorem rowHigh : ∀ r : Fin 1024, (IntOp.andi (BitVec.ofNat 32 r.val) 4294967040#32).toInt = (r.val / 256 * 256 : ℕ) := by
  decide +kernel
/-- A row's remainder by 256, negated, from words. -/
theorem rowLowNeg : ∀ r : Fin 1024, (-IntOp.andi (BitVec.ofNat 32 r.val) 255#32).toInt = -(r.val % 256 : ℕ) := by
  decide +kernel
/-- A row's multiple of 256, negated, from words. -/
theorem rowHighNeg : ∀ r : Fin 1024, (-IntOp.andi (BitVec.ofNat 32 r.val) 4294967040#32).toInt = -(r.val / 256 * 256 : ℕ) := by
  decide +kernel

/-- A choice by a decided word is a choice by the proposition. -/
theorem sel_ofBool {α : Type} (p : Prop) [Decidable p] (a b : α) : Scalar.select (BitVec.ofBool (decide p)) a b = if p then a else b := by
  by_cases h : p <;> simp [h, Scalar.select]

/-- A comparison of a lane with a small number, chosen upon. -/
theorem selEq {α : Type} (l : Fin 128) (k : ℕ) (hk : k < 8) (w : BitVec 32) (hw : BitVec.ofNat 32 k = w) (a b : α) :
    Scalar.select (IntOp.cmpi .eq (BitVec.ofNat 32 l.val) w) a b = if l.val = k then a else b := by
  subst hw
  rw [laneEq l ⟨k, hk⟩, sel_ofBool]
/-- A choice by a lane's place. -/
theorem selLe {α : Type} (l : Fin 128) (k : ℕ) (hk : k < 8) (w : BitVec 32) (hw : BitVec.ofNat 32 k = w) (a b : α) :
    Scalar.select (IntOp.cmpi .sle (BitVec.ofNat 32 l.val) w) a b = if l.val ≤ k then a else b := by
  subst hw
  rw [laneLe l ⟨k, hk⟩, sel_ofBool]

/-- The key side's bias lanes as real numbers. -/
def kaR (r l : ℕ) : ℝ := if l = 2 then ((r % 256 : ℕ) : ℝ) else if l = 3 then ((r / 256 * 256 : ℕ) : ℝ) else if l ≤ 6 then 1 else 0
/-- The query side's bias lanes before the block offset. -/
def qa0R (r l : ℕ) : ℝ := if l = 0 then -((r / 256 * 256 : ℕ) : ℝ) else if l = 1 then -((r % 256 : ℕ) : ℝ) else if l ≤ 3 then 1 else 0
/-- The lane of the block offset. -/
def qa1R (l : ℕ) : ℝ := if l = 0 then -1 else 0
/-- The lane of the shift (its two lower parts are zero: nothing is rounded). -/
def qa2R (sh : ℝ) (l : ℕ) : ℝ := if l = 4 then -sh else 0

/-- The key columns' entries. -/
theorem ka_apply (r : Fin 1024) (l : Fin 128) : kaTerm (ix2 r l) = ((kaR r.val l.val : ℝ) : EReal) := by
  pointwise [kaTerm]
  rw [selEq l 2 (by decide) 2#32 rfl, selEq l 3 (by decide) 3#32 rfl, selLe l 6 (by decide) 6#32 rfl]
  show (((BitVec.toInt _ : ℤ) : ℝ) : EReal) = _
  unfold kaR
  congr 1
  split_ifs
  · rw [rowLow]; push_cast; rfl
  · rw [rowHigh]; push_cast; rfl
  · norm_num
  · norm_num

/-- The query columns' entries. -/
theorem q0_apply (r : Fin 1024) (l : Fin 128) : q01Term (ix3 0 r l) = ((qa0R r.val l.val : ℝ) : EReal) := by
  pointwise [q01Term]
  rw [selEq l 0 (by decide) 0#32 rfl, selEq l 1 (by decide) 1#32 rfl, selLe l 3 (by decide) 3#32 rfl]
  show (((BitVec.toInt _ : ℤ) : ℝ) : EReal) = _
  unfold qa0R
  congr 1
  split_ifs
  · rw [rowHighNeg]; push_cast; rfl
  · rw [rowLowNeg]; push_cast; rfl
  · norm_num
  · norm_num

/-- The offset columns' entries. -/
theorem q1_apply (r : Fin 1024) (l : Fin 128) : q01Term (ix3 1 r l) = ((qa1R l.val : ℝ) : EReal) := by
  pointwise [q01Term]
  rw [selEq l 0 (by decide) 0#32 rfl]
  show (((BitVec.toInt _ : ℤ) : ℝ) : EReal) = _
  unfold qa1R
  congr 1
  split_ifs
  · rw [show (4294967295#32).toInt = -1 by decide]; norm_num
  · norm_num

/-- The shift columns' entries. -/
theorem q2_apply (x : FVec Ideal S_ .f32) (sh : ℝ) (hx : x ix0 = ((sh : ℝ) : EReal)) (r : Fin 1024) (l : Fin 128) :
    q2Term x (ix3 0 r l) = ((qa2R sh l.val : ℝ) : EReal) := by
  pointwise [q2Term, part1, part2, part3, pt]
  rw [selEq l 4 (by decide) 4#32 rfl, selEq l 5 (by decide) 5#32 rfl, selEq l 6 (by decide) 6#32 rfl, hx]
  unfold qa2R
  simp only [
    ← EReal.coe_sub, sub_self, ← EReal.coe_neg, neg_zero, EReal.coe_zero, ite_self, add_zero]
  split_ifs <;> simp

/-- The three planes the kernel loads. -/
theorem qt_apply0 (x : FVec Ideal S_ .f32) (r : Fin 1024) (l : Fin 128) : qtTerm x (ix3 0 r l) = ((qa0R r.val l.val : ℝ) : EReal) := by
  rw [← q0_apply]
  pointwise [qtTerm]
/-- The whole table's second plane. -/
theorem qt_apply1 (x : FVec Ideal S_ .f32) (r : Fin 1024) (l : Fin 128) : qtTerm x (ix3 1 r l) = ((qa1R l.val : ℝ) : EReal) := by
  rw [← q1_apply r l]
  pointwise [qtTerm]
/-- The whole table's third plane. -/
theorem qt_apply2 (x : FVec Ideal S_ .f32) (sh : ℝ) (hx : x ix0 = ((sh : ℝ) : EReal)) (r : Fin 1024) (l : Fin 128) :
    qtTerm x (ix3 2 r l) = ((qa2R sh l.val : ℝ) : EReal) := by
  rw [← q2_apply x sh hx r l]
  pointwise [qtTerm]

/-- The shift's parts add up to the shift. -/
theorem sh_apply (x : FVec Ideal S_ .f32) (sh : ℝ) (hx : x ix0 = ((sh : ℝ) : EReal)) : shTerm x (ix1 0) = ((sh : ℝ) : EReal) := by
  pointwise [shTerm, part1, part2, part3, pt]
  rw [hx]
  simp only [← EReal.coe_sub, ← EReal.coe_add, sub_self, add_zero]

/-- A sum of 128 terms that vanish from the seventh on. -/
theorem sum_head7 (f : Fin 128 → ℝ) (h : ∀ l : Fin 128, 7 ≤ l.val → f l = 0) :
    ∑ l : Fin 128, f l = f 0 + f 1 + f 2 + f 3 + f 4 + f 5 + f 6 := by
  have e : ∑ l : Fin 128, f l = ∑ l ∈ ({0, 1, 2, 3, 4, 5, 6} : Finset (Fin 128)), f l := by
    refine (Finset.sum_subset (Finset.subset_univ _) fun l _ hl => h l ?_).symm
    by_contra hc
    apply hl
    have : l.val < 7 := by omega
    have : l = 0 ∨ l = 1 ∨ l = 2 ∨ l = 3 ∨ l = 4 ∨ l = 5 ∨ l = 6 := by
      simp only [Fin.ext_iff]
      show l.val = 0 ∨ l.val = 1 ∨ l.val = 2 ∨ l.val = 3 ∨ l.val = 4 ∨ l.val = 5 ∨ l.val = 6
      omega
    simpa using this
  rw [e]
  rw [Finset.sum_insert (by decide), Finset.sum_insert (by decide), Finset.sum_insert (by decide), Finset.sum_insert (by decide), Finset.sum_insert (by decide), Finset.sum_insert (by decide), Finset.sum_singleton]
  ring

/-- The bias lanes' product is the slope times the signed distance, less the shift. -/
theorem lanes_sum (C off sh : ℝ) (r s : ℕ) :
    ∑ l : Fin 128, ((qa0R r l.val + off * qa1R l.val) * C + qa2R sh l.val) * kaR s l.val = C * ((s : ℝ) - (r : ℝ) - off) - sh := by
  rw [sum_head7 _ (fun l hl => by
    have h0 : qa0R r l.val = 0 := by unfold qa0R; rw [if_neg (by omega), if_neg (by omega), if_neg (by omega)]
    have h1 : qa1R l.val = 0 := by unfold qa1R; rw [if_neg (by omega)]
    have h2 : qa2R sh l.val = 0 := by unfold qa2R; rw [if_neg (by omega)]
    rw [h0, h1, h2]; ring)]
  have hs : (s : ℝ) = ((s % 256 : ℕ) : ℝ) + ((s / 256 * 256 : ℕ) : ℝ) := by
    rw [← Nat.cast_add]; congr 1; omega
  have hr : (r : ℝ) = ((r % 256 : ℕ) : ℝ) + ((r / 256 * 256 : ℕ) : ℝ) := by
    rw [← Nat.cast_add]; congr 1; omega
  rw [hs, hr]
  simp only [qa0R, qa1R, qa2R, kaR, show ((0 : Fin 128).val) = 0 from rfl, show ((1 : Fin 128).val) = 1 from rfl, show ((2 : Fin 128).val) = 2 from rfl,
    show ((3 : Fin 128).val) = 3 from rfl, show ((4 : Fin 128).val) = 4 from rfl, show ((5 : Fin 128).val) = 5 from rfl, show ((6 : Fin 128).val) = 6 from rfl]
  norm_num
  ring

end Cert.OnlineAttn

end
-- ==== Proof.Online.Pay.lean ====
module

public import proofs.«01_k».proof.Proof.Online.Tables

@[expose] public section

set_option maxRecDepth 16384

noncomputable section

namespace Cert.OnlineAttn

open Idealize.ShloMosaic Idealize.ShloMosaic.TcCoe Idealize.ShloMosaic.Tactic
open Cert.OnlineIdeal Cert.OnlineIdeal.Gen

/-! Words as numbers. -/

/-- A position as a word has its value. -/
theorem toInt_row (r : Fin 8192) : (BitVec.ofNat 32 r.val).toInt = (r.val : ℤ) := by
  have hr := r.isLt
  rw [BitVec.toInt_eq_toNat_of_lt (by rw [BitVec.toNat_ofNat]; omega), BitVec.toNat_ofNat, Nat.mod_eq_of_lt (by omega)]

/-- A difference of positions as a word has its value. -/
theorem toInt_sub_row (r s : Fin 8192) : (IntOp.subi (BitVec.ofNat 32 r.val) (BitVec.ofNat 32 s.val)).toInt = (r.val : ℤ) - s.val := by
  have hr := r.isLt
  have hs := s.isLt
  unfold IntOp.subi
  rw [BitVec.toInt_sub, toInt_row, toInt_row, Int.bmod_eq_of_le (by norm_num; omega) (by norm_num; omega)]

/-- A distance of positions as a word has its value. -/
theorem toInt_absi_row (r s : Fin 8192) : (IntOp.absi (IntOp.subi (BitVec.ofNat 32 r.val) (BitVec.ofNat 32 s.val))).toInt = |(r.val : ℤ) - s.val| := by
  have hr := r.isLt
  have hs := s.isLt
  have h := toInt_sub_row r s
  unfold IntOp.absi
  rw [BitVec.msb_eq_toInt, h]
  by_cases hc : (r.val : ℤ) - s.val < 0
  · rw [decide_eq_true hc, if_pos rfl, BitVec.toInt_neg, h, abs_of_neg hc, Int.bmod_eq_of_le (by norm_num; omega) (by norm_num; omega)]
  · rw [decide_eq_false hc, if_neg (by simp), h, abs_of_nonneg (by omega)]

/-- The offset of two blocks as a word has its value. -/
theorem off_toInt : ∀ a b : Fin 8, (Scalar.muli (Scalar.subi (BitVec.ofNat 32 a.val) (BitVec.ofNat 32 b.val)) 1024#32).toInt = ((a.val : ℤ) - b.val) * 1024 := by
  decide +kernel
/-- The offset's comparison with zero is the order of the blocks. -/
theorem off_pos : ∀ a b : Fin 8, Scalar.cmpi .sgt (Scalar.muli (Scalar.subi (BitVec.ofNat 32 a.val) (BitVec.ofNat 32 b.val)) 1024#32) 0#32 = BitVec.ofBool (decide (b.val < a.val)) := by
  decide +kernel

/-! Sums of real numbers among the extended reals. -/

/-- A finite sum of reals, read in the extended reals. -/
theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A product of two real rows. -/
theorem coe_dot {n : ℕ} (a b : Fin n → EReal) (f g : Fin n → ℝ) (ha : ∀ i, a i = ((f i : ℝ) : EReal)) (hb : ∀ i, b i = ((g i : ℝ) : EReal)) :
    (∑ i, a i * b i) = ((∑ i, f i * g i : ℝ) : EReal) := by
  rw [← coe_sum]
  exact Finset.sum_congr rfl fun i _ => by rw [ha, hb, EReal.coe_mul]

/-! The real score. -/

/-- What the exponential is taken of: the product of a query and a key, less the slope times their distance, less the shift. The product may be infinite. -/
def ex (Q K : ℕ → ℕ → EReal) (slope sh : ℝ) (c qg kg : ℕ) : EReal :=
  (∑ d : Fin 128, Q qg (c * 128 + d.val) * K kg (c * 128 + d.val)) + ((-slope * |(qg : ℝ) - (kg : ℝ)| - sh : ℝ) : EReal)

/-- The sign chosen by the order of two different blocks turns the offset into the distance. -/
theorem slope_dist (slope : ℝ) (qi ki : Fin 8) (hne : qi ≠ ki) (r s : Fin 1024) :
    (if ki.val < qi.val then slope else -slope) * ((s.val : ℝ) - (r.val : ℝ) - ((qi.val : ℝ) - (ki.val : ℝ)) * 1024)
      = -slope * |((qi.val * 1024 + r.val : ℕ) : ℝ) - ((ki.val * 1024 + s.val : ℕ) : ℝ)| := by
  have hne' : qi.val ≠ ki.val := fun h => hne (Fin.ext h)
  have hr := r.isLt
  have hs := s.isLt
  split_ifs with h
  · have : (ki.val * 1024 + s.val : ℕ) ≤ (qi.val * 1024 + r.val : ℕ) := by omega
    have h' : ((ki.val * 1024 + s.val : ℕ) : ℝ) ≤ ((qi.val * 1024 + r.val : ℕ) : ℝ) := by exact_mod_cast this
    rw [abs_of_nonneg (by linarith)]
    push_cast
    ring
  · have : (qi.val * 1024 + r.val : ℕ) ≤ (ki.val * 1024 + s.val : ℕ) := by omega
    have h' : ((qi.val * 1024 + r.val : ℕ) : ℝ) ≤ ((ki.val * 1024 + s.val : ℕ) : ℝ) := by exact_mod_cast this
    rw [abs_of_nonpos (by linarith)]
    push_cast
    ring

section Off

variable (Q K : ℕ → ℕ → EReal) (Vv : ℕ → ℕ → ℝ) (slope sh : ℝ) (qi ki : Fin 8)
variable (v4 : EReal) (v19 v22 v29 : S1x1024x128.Idx → EReal) (v33 : S1024x128.Idx → EReal) (v35 v36 v47 : S1024x256.Idx → EReal)
variable (h4 : v4 = ((slope : ℝ) : EReal))
  (h19 : ∀ (r : Fin 1024) (l : Fin 128), v19 (ix3 0 r l) = ((qa0R r.val l.val : ℝ) : EReal))
  (h22 : ∀ (r : Fin 1024) (l : Fin 128), v22 (ix3 0 r l) = ((qa1R l.val : ℝ) : EReal))
  (h29 : ∀ (r : Fin 1024) (l : Fin 128), v29 (ix3 0 r l) = ((qa2R sh l.val : ℝ) : EReal))
  (h33 : ∀ (r : Fin 1024) (l : Fin 128), v33 (ix2 r l) = ((kaR r.val l.val : ℝ) : EReal))
  (h35 : ∀ (r : Fin 1024) (d : Fin 256), v35 (ix2 r d) = Q (qi.val * 1024 + r.val) d.val)
  (h36 : ∀ (r : Fin 1024) (d : Fin 256), v36 (ix2 r d) = K (ki.val * 1024 + r.val) d.val)

include h4 h19 h22 h29 in
/-- The extra query columns off the diagonal, as reals. -/
theorem pay13_real (r : Fin 1024) (l : Fin 128) :
    k0_pay13 (F := Ideal) (BitVec.ofNat 32 qi.val) (BitVec.ofNat 32 ki.val) v4 v19 v22 v29 (ix2 r l)
      = (((qa0R r.val l.val + ((qi.val : ℝ) - (ki.val : ℝ)) * 1024 * qa1R l.val) * (if ki.val < qi.val then slope else -slope) + qa2R sh l.val : ℝ) : EReal) := by
  pointwise [k0_pay13]
  rw [off_toInt, off_pos, sel_ofBool, h19, h22, h29, h4]
  have hz : (0 : EReal) - ((slope : ℝ) : EReal) = ((-slope : ℝ) : EReal) := by rw [← EReal.coe_zero, ← EReal.coe_sub, zero_sub]
  rw [hz]
  have hi : ((if ki.val < qi.val then ((slope : ℝ) : EReal) else ((-slope : ℝ) : EReal))) = (((if ki.val < qi.val then slope else -slope : ℝ)) : EReal) := by
    split_ifs <;> rfl
  rw [hi, ← EReal.coe_mul, ← EReal.coe_add, ← EReal.coe_mul, ← EReal.coe_add]
  push_cast
  rfl

include h4 h19 h22 h29 h33 in
/-- The product over the extra columns is the bias less the shift. -/
theorem lanes_real (hne : qi ≠ ki) (r s : Fin 1024) :
    (∑ x : Fin 128, k0_pay13 (F := Ideal) (BitVec.ofNat 32 qi.val) (BitVec.ofNat 32 ki.val) v4 v19 v22 v29 (ix2 r x) * k0_pay14 (F := Ideal) v33 (ix2 s x))
      = ((-slope * |((qi.val * 1024 + r.val : ℕ) : ℝ) - ((ki.val * 1024 + s.val : ℕ) : ℝ)| - sh : ℝ) : EReal) := by
  rw [coe_dot _ _ _ (fun l => kaR s.val l.val) (fun l => pay13_real slope sh qi ki v4 v19 v22 v29 h4 h19 h22 h29 r l)
    (fun l => (show k0_pay14 (F := Ideal) v33 (ix2 s l) = v33 (ix2 s l) by pointwise [k0_pay14]).trans (h33 s l)), lanes_sum, slope_dist slope qi ki hne]

include h4 h19 h22 h29 h33 h35 h36 in
/-- The second map's scores less the shift, off the diagonal. -/
theorem pay16_real (hne : qi ≠ ki) (r s : Fin 1024) :
    k0_pay16 (F := Ideal) (BitVec.ofNat 32 qi.val) (BitVec.ofNat 32 ki.val) v4 v19 v22 v29 v33 v35 v36 (ix2 r s)
      = ex Q K slope sh 1 (qi.val * 1024 + r.val) (ki.val * 1024 + s.val) := by
  pointwise [k0_pay16]
  rw [lanes_real slope sh qi ki v4 v19 v22 v29 v33 h4 h19 h22 h29 h33 hne]
  simp only [h35, h36]
  rfl

include h4 h19 h22 h29 h33 h35 h36 in
/-- The first map's scores less the shift, off the diagonal. -/
theorem pay15_real (hne : qi ≠ ki) (r s : Fin 1024) :
    k0_pay15 (F := Ideal) (BitVec.ofNat 32 qi.val) (BitVec.ofNat 32 ki.val) v4 v19 v22 v29 v33 v35 v36 (ix2 r s)
      = ex Q K slope sh 0 (qi.val * 1024 + r.val) (ki.val * 1024 + s.val) := by
  pointwise [k0_pay15]
  rw [lanes_real slope sh qi ki v4 v19 v22 v29 v33 h4 h19 h22 h29 h33 hne]
  simp only [h35, h36]
  unfold ex
  simp only [Nat.zero_mul, Nat.zero_add]

end Off

/-! The diagonal blocks. -/

/-- The bias of a diagonal block. -/
theorem pay25_real (slope sh : ℝ) (v4 v97 : EReal) (h4 : v4 = ((slope : ℝ) : EReal)) (h97 : v97 = ((sh : ℝ) : EReal)) (r s : Fin 1024) :
    k0_pay25 (F := Ideal) v4 v97 (ix2 r s) = ((-slope * |(r.val : ℝ) - (s.val : ℝ)| - sh : ℝ) : EReal) := by
  pointwise [k0_pay25]
  have e := toInt_absi_row ⟨r.val, by omega⟩ ⟨s.val, by omega⟩
  rw [show (FloatOps.sitofp (F := Ideal) FTy.f32 (IntOp.absi (IntOp.subi (BitVec.ofNat 32 r.val) (BitVec.ofNat 32 s.val)))) = ((((IntOp.absi (IntOp.subi (BitVec.ofNat 32 r.val) (BitVec.ofNat 32 s.val))).toInt : ℝ)) : EReal) from rfl, e, h4, h97,
    ← EReal.coe_zero, ← EReal.coe_sub, ← EReal.coe_mul, ← EReal.coe_sub]
  congr 1
  push_cast
  ring

section Diag

variable (Q K : ℕ → ℕ → EReal) (slope sh : ℝ) (qi : Fin 8)
variable (v17 : S1024x1024.Idx → EReal) (v18 v19 : S1024x256.Idx → EReal)
variable (h17 : ∀ r s : Fin 1024, v17 (ix2 r s) = ((-slope * |(r.val : ℝ) - (s.val : ℝ)| - sh : ℝ) : EReal))
  (h18 : ∀ (r : Fin 1024) (d : Fin 256), v18 (ix2 r d) = Q (qi.val * 1024 + r.val) d.val)
  (h19 : ∀ (r : Fin 1024) (d : Fin 256), v19 (ix2 r d) = K (qi.val * 1024 + r.val) d.val)

/-- Within one block the distance does not see the block. -/
theorem diag_dist (a r s : ℕ) : |(r : ℝ) - (s : ℝ)| = |((a * 1024 + r : ℕ) : ℝ) - ((a * 1024 + s : ℕ) : ℝ)| := by
  congr 1
  push_cast
  ring

include h17 h18 h19 in
/-- The second map's scores less the shift, on the diagonal. -/
theorem pay27_real (r s : Fin 1024) :
    k0_pay27 (F := Ideal) v17 v18 v19 (ix2 r s) = ex Q K slope sh 1 (qi.val * 1024 + r.val) (qi.val * 1024 + s.val) := by
  pointwise [k0_pay27]
  rw [h17, diag_dist qi.val]
  simp only [h18, h19]
  rfl

include h17 h18 h19 in
/-- The first map's scores less the shift, on the diagonal. -/
theorem pay26_real (r s : Fin 1024) :
    k0_pay26 (F := Ideal) v17 v18 v19 (ix2 r s) = ex Q K slope sh 0 (qi.val * 1024 + r.val) (qi.val * 1024 + s.val) := by
  pointwise [k0_pay26]
  rw [h17, diag_dist qi.val]
  simp only [h18, h19]
  unfold ex
  simp only [Nat.zero_mul, Nat.zero_add]

end Diag

end Cert.OnlineAttn

end
-- ==== Proof.Online.Upd.lean ====
module

public import proofs.«01_k».proof.Proof.Online.Pay

@[expose] public section

set_option maxRecDepth 16384

noncomputable section

namespace Cert.OnlineAttn

open Idealize.ShloMosaic Idealize.ShloMosaic.TcCoe Idealize.ShloMosaic.Tactic
open Cert.OnlineIdeal Cert.OnlineIdeal.Gen

/-! The running maximum, the running sums: one block more. -/

/-- The weight of a score under a number not smaller: the exponential of their difference. -/
def wt (x y : EReal) : ℝ := (Ideal.exp (x - y)).toReal

/-- The exponential of minus infinity is zero. -/
theorem exp_bot : Ideal.exp ⊥ = ((0 : ℝ) : EReal) := rfl

/-- Minus infinity has weight zero. -/
theorem wt_bot (y : EReal) : wt ⊥ y = 0 := by
  unfold wt
  rw [EReal.bot_sub, exp_bot, EReal.toReal_coe]
/-- Under infinity every weight is zero. -/
theorem wt_top (x : EReal) : wt x ⊤ = 0 := by
  unfold wt
  rw [EReal.sub_top, exp_bot, EReal.toReal_coe]
/-- A real score's weight under a real number. -/
theorem wt_real (x y : ℝ) : wt ((x : ℝ) : EReal) ((y : ℝ) : EReal) = Real.exp (x - y) := by
  unfold wt
  rw [← EReal.coe_sub]
  rfl

/-- The weight is the exponential. -/
theorem wt_coe {x y : EReal} (h : x ≤ y) : Ideal.exp (x - y) = ((wt x y : ℝ) : EReal) := by
  induction y using EReal.rec with
  | top => rw [wt_top, EReal.sub_top]; exact exp_bot
  | bot => rw [le_bot_iff.1 h, wt_bot, EReal.bot_sub]; exact exp_bot
  | coe y =>
    induction x using EReal.rec with
    | top => exact absurd h (not_le.2 (EReal.coe_lt_top y))
    | bot => rw [wt_bot, EReal.bot_sub]; exact exp_bot
    | coe x => rw [wt_real, ← EReal.coe_sub]; rfl

/-- Weights compose. -/
theorem wt_mul {x y z : EReal} (h : x ≤ y) (h' : y ≤ z) : wt y z * wt x y = wt x z := by
  induction z using EReal.rec with
  | top => rw [wt_top, wt_top, zero_mul]
  | bot =>
    have hy := le_bot_iff.1 h'
    subst hy
    rw [le_bot_iff.1 h, wt_bot, zero_mul]
  | coe z =>
    induction y using EReal.rec with
    | top => exact absurd h' (not_le.2 (EReal.coe_lt_top z))
    | bot => rw [le_bot_iff.1 h, wt_bot, wt_bot, zero_mul]
    | coe y =>
      induction x using EReal.rec with
      | top => exact absurd h (not_le.2 (EReal.coe_lt_top y))
      | bot => rw [wt_bot, wt_bot, mul_zero]
      | coe x =>
        rw [wt_real, wt_real, wt_real, ← Real.exp_add]
        congr 1
        ring

/-- A weight is not negative. -/
theorem wt_nonneg {x y : EReal} (h : x ≤ y) : 0 ≤ wt x y := by
  induction y using EReal.rec with
  | top => rw [wt_top]
  | bot => rw [le_bot_iff.1 h, wt_bot]
  | coe y =>
    induction x using EReal.rec with
    | top => exact absurd h (not_le.2 (EReal.coe_lt_top y))
    | bot => rw [wt_bot]
    | coe x => rw [wt_real]; exact (Real.exp_pos _).le

/-- The largest score of the first blocks; minus infinity of none. -/
def rm (E : ℕ → ℕ → EReal) (q n : ℕ) : EReal := (Finset.range (n * 1024)).sup (E q)
/-- The sum of the weights of the first blocks' scores, under a number. -/
def lT (E : ℕ → ℕ → EReal) (q n : ℕ) (μ : EReal) : ℝ := ∑ s ∈ Finset.range (n * 1024), wt (E q s) μ
/-- The values of the first blocks, with those weights. -/
def aT (E : ℕ → ℕ → EReal) (Vv : ℕ → ℕ → ℝ) (q n : ℕ) (μ : EReal) (e : ℕ) : ℝ := ∑ s ∈ Finset.range (n * 1024), wt (E q s) μ * Vv s e

/-- A score of the first blocks is not above their largest. -/
theorem le_rm (E : ℕ → ℕ → EReal) (q n : ℕ) (s : ℕ) (h : s < n * 1024) : E q s ≤ rm E q n :=
  Finset.le_sup (f := E q) (Finset.mem_range.2 h)

/-- The largest score does not fall. -/
theorem rm_mono (E : ℕ → ℕ → EReal) (q n : ℕ) : rm E q n ≤ rm E q (n + 1) :=
  Finset.sup_le fun s hs => le_rm E q (n + 1) s (by have := Finset.mem_range.1 hs; omega)

/-- The largest score after one more block. -/
theorem rm_next (E : ℕ → ℕ → EReal) (q n : ℕ) :
    max (rm E q n) ((Finset.univ : Finset (Fin 1024)).sup fun x => E q (n * 1024 + x.val)) = rm E q (n + 1) := by
  apply le_antisymm
  · refine max_le (rm_mono E q n) (Finset.sup_le fun x _ => le_rm E q (n + 1) _ ?_)
    have := x.isLt
    omega
  · refine Finset.sup_le fun s hs => ?_
    have h := Finset.mem_range.1 hs
    by_cases hc : s < n * 1024
    · exact le_max_of_le_left (le_rm E q n s hc)
    · refine le_max_of_le_right ?_
      have e : s = n * 1024 + (⟨s - n * 1024, by omega⟩ : Fin 1024).val := by show s = n * 1024 + (s - n * 1024); omega
      rw [e]
      exact Finset.le_sup (f := fun x : Fin 1024 => E q (n * 1024 + x.val)) (Finset.mem_univ _)

/-- The sum after one more block. -/
theorem lT_next (E : ℕ → ℕ → EReal) (q n : ℕ) :
    wt (rm E q n) (rm E q (n + 1)) * lT E q n (rm E q n) + ∑ s ∈ Finset.range 1024, wt (E q (n * 1024 + s)) (rm E q (n + 1)) = lT E q (n + 1) (rm E q (n + 1)) := by
  unfold lT
  rw [show Finset.range ((n + 1) * 1024) = Finset.range (n * 1024 + 1024) by rw [Nat.succ_mul], Finset.sum_range_add]
  congr 1
  rw [Finset.mul_sum]
  exact Finset.sum_congr rfl fun s hs => wt_mul (le_rm E q n s (Finset.mem_range.1 hs)) (rm_mono E q n)
/-- The weighted values after one more block. -/
theorem aT_next (E : ℕ → ℕ → EReal) (Vv : ℕ → ℕ → ℝ) (q n : ℕ) (e : ℕ) :
    wt (rm E q n) (rm E q (n + 1)) * aT E Vv q n (rm E q n) e + ∑ s ∈ Finset.range 1024, wt (E q (n * 1024 + s)) (rm E q (n + 1)) * Vv (n * 1024 + s) e = aT E Vv q (n + 1) (rm E q (n + 1)) e := by
  unfold aT
  rw [show Finset.range ((n + 1) * 1024) = Finset.range (n * 1024 + 1024) by rw [Nat.succ_mul], Finset.sum_range_add]
  congr 1
  rw [Finset.mul_sum]
  exact Finset.sum_congr rfl fun s hs => by rw [← mul_assoc, wt_mul (le_rm E q n s (Finset.mem_range.1 hs)) (rm_mono E q n)]

/-- The literal the maximum starts from is minus infinity. -/
theorem lit_bot : Ideal.ofBits FTy.f32 4286578688#32 = ⊥ := by
  simp [Ideal.ofBits, Ideal.ieee]

section Upd

variable (E : ℕ → ℕ → EReal) (Vv : ℕ → ℕ → ℝ) (q n : ℕ) (r : Fin 1024)
variable (s : S1024x1024.Idx → EReal) (w : S1024x256.Idx → EReal) (mb lb : S1x1024x128.Idx → EReal) (ab : S1x1024x256.Idx → EReal)
variable (hs : ∀ x : Fin 1024, s (ix2 r x) = E q (n * 1024 + x.val))
  (hw : ∀ (x : Fin 1024) (d : Fin 256), w (ix2 x d) = ((Vv (n * 1024 + x.val) d.val : ℝ) : EReal))
  (hm : ∀ l : Fin 128, mb (ix3 0 r l) = rm E q n)
  (hl : ∀ l : Fin 128, lb (ix3 0 r l) = ((lT E q n (rm E q n) : ℝ) : EReal))
  (ha : ∀ d : Fin 256, ab (ix3 0 r d) = ((aT E Vv q n (rm E q n) d.val : ℝ) : EReal))

include hs hm in
/-- The new maximum, the same in every lane. -/
theorem max_next (l : Fin 128) : k0_pay18 (F := Ideal) s mb (ix2 r l) = rm E q (n + 1) := by
  have key : k0_pay18 (F := Ideal) s mb (ix2 r l) = max (rm E q n) ((Finset.univ : Finset (Fin 1024)).fold max (⊥ : EReal) fun x => s (ix2 r x)) := by
    rw [← lit_bot]
    pointwise [k0_pay18, k0_pay17]
    rw [hm]
  rw [key, ← rm_next]
  simp only [hs]
  rfl

variable (h18 : ∀ l : Fin 128, k0_pay18 (F := Ideal) s mb (ix2 r l) = rm E q (n + 1))

include hm h18 in
/-- What the kept sums are scaled by. -/
theorem pay19_real (l : Fin 128) : k0_pay19 (F := Ideal) s mb (ix2 r l) = ((wt (rm E q n) (rm E q (n + 1)) : ℝ) : EReal) := by
  pointwise [k0_pay19, k0_pay17]
  rw [h18, hm]
  exact wt_coe (rm_mono E q n)

include hs h18 in
/-- The block's weights. -/
theorem pay20_real' (x : Fin 1024) : k0_pay20 (F := Ideal) s mb (ix2 r x) = ((wt (E q (n * 1024 + x.val)) (rm E q (n + 1)) : ℝ) : EReal) := by
  pointwise [k0_pay20]
  rw [hs]
  simp only [h18, dite_eq_ite, ite_self]
  refine wt_coe (le_rm E q (n + 1) _ ?_)
  have := x.isLt
  omega

include hs hm hl h18 in
/-- The sum of weights after the block. -/
theorem pay21_next (l : Fin 128) : k0_pay21 (F := Ideal) s mb lb (ix3 0 r l) = ((lT E q (n + 1) (rm E q (n + 1)) : ℝ) : EReal) := by
  pointwise [k0_pay21]
  simp only [pay20_real' E q n r s mb hs h18]
  rw [pay19_real E q n r s mb hm h18, hl, coe_sum, ← EReal.coe_mul, ← EReal.coe_add, ← lT_next E q n, Finset.sum_range]

include hs hw hm ha h18 in
/-- The weighted values after the block. -/
theorem pay22_next (d : Fin 256) : k0_pay22 (F := Ideal) s w mb ab (ix3 0 r d) = ((aT E Vv q (n + 1) (rm E q (n + 1)) d.val : ℝ) : EReal) := by
  pointwise [k0_pay22]
  simp only [pay20_real' E q n r s mb hs h18, pay19_real E q n r s mb hm h18, dite_eq_ite, ite_self]
  rw [ha, coe_dot _ _ _ _ (fun x => rfl) (fun x => hw x d), ← EReal.coe_mul, ← EReal.coe_add, ← aT_next E Vv q n, Finset.sum_range]

include h18 in
/-- The maximum kept after the block. -/
theorem pay23_next (l : Fin 128) : k0_pay23 (F := Ideal) s mb (ix3 0 r l) = rm E q (n + 1) := by
  pointwise [k0_pay23]
  rw [h18]

end Upd

/-- One map's kept maximum, sum and weighted values after the first blocks, in one row. -/
def Half (E : ℕ → ℕ → EReal) (Vv : ℕ → ℕ → ℝ) (q n : ℕ) (M L : Fin 128 → EReal) (A : Fin 256 → EReal) : Prop :=
  (∀ l, M l = rm E q n) ∧ (∀ l, L l = ((lT E q n (rm E q n) : ℝ) : EReal)) ∧ ∀ d, A d = ((aT E Vv q n (rm E q n) d.val : ℝ) : EReal)

/-- One more block for one map, in one row. -/
theorem half_next (E : ℕ → ℕ → EReal) (Vv : ℕ → ℕ → ℝ) (q n : ℕ) (r : Fin 1024)
    (s : S1024x1024.Idx → EReal) (w : S1024x256.Idx → EReal) (mb lb : S1x1024x128.Idx → EReal) (ab : S1x1024x256.Idx → EReal)
    (hs : ∀ x : Fin 1024, s (ix2 r x) = E q (n * 1024 + x.val))
    (hw : ∀ (x : Fin 1024) (d : Fin 256), w (ix2 x d) = ((Vv (n * 1024 + x.val) d.val : ℝ) : EReal))
    (h : Half E Vv q n (fun l => mb (ix3 0 r l)) (fun l => lb (ix3 0 r l)) (fun d => ab (ix3 0 r d))) :
    Half E Vv q (n + 1) (fun l => k0_pay23 (F := Ideal) s mb (ix3 0 r l)) (fun l => k0_pay21 (F := Ideal) s mb lb (ix3 0 r l))
      (fun d => k0_pay22 (F := Ideal) s w mb ab (ix3 0 r d)) := by
  obtain ⟨hm, hl, ha⟩ := h
  have h18 := max_next E q n r s mb hs hm
  exact ⟨pay23_next E q n r s mb h18, pay21_next E q n r s mb lb hs hm hl h18, pay22_next E Vv q n r s w mb ab hs hw hm ha h18⟩

/-! Every block's update is one function of its scores. -/

section Same
variable (s b : FVec Ideal S1024x1024 .f32) (w qq kk : Vec Ideal S1024x256 .bf16) (mb lb : Vec Ideal S1x1024x128 .f32) (ab : Vec Ideal S1x1024x256 .f32)
/-- The second map's sum off the diagonal. -/
theorem up7 : k0_pay7 (F := Ideal) s (k0_pay24 mb) lb = k0_pay21 s mb lb := rfl
/-- The second map's weighted values off the diagonal. -/
theorem up8 : k0_pay8 (F := Ideal) s w (k0_pay24 mb) ab = k0_pay22 s w mb ab := rfl
/-- The second map's maximum off the diagonal. -/
theorem up9 : k0_pay9 (F := Ideal) s (k0_pay24 mb) = k0_pay23 s mb := rfl
/-- The first map's sum on the diagonal. -/
theorem up32 : k0_pay32 (F := Ideal) b qq kk mb lb = k0_pay21 (k0_pay26 b qq kk) mb lb := rfl
/-- The first map's weighted values on the diagonal. -/
theorem up33 : k0_pay33 (F := Ideal) w (k0_pay30 b qq kk mb) (k0_pay31 b qq kk mb) ab = k0_pay22 (k0_pay26 b qq kk) w mb ab := rfl
/-- The first map's maximum on the diagonal. -/
theorem up34 : k0_pay34 (F := Ideal) (k0_pay29 b qq kk mb) = k0_pay23 (k0_pay26 b qq kk) mb := rfl
/-- The second map's sum on the diagonal. -/
theorem up39 : k0_pay39 (F := Ideal) s mb lb = k0_pay21 s mb lb := rfl
/-- The second map's weighted values on the diagonal. -/
theorem up10 : k0_pay10 (F := Ideal) w (k0_pay38 s mb) (k0_pay40 s mb) ab = k0_pay22 s w mb ab := rfl
/-- The second map's maximum on the diagonal. -/
theorem up11 : k0_pay11 (F := Ideal) (k0_pay36 s mb) = k0_pay23 s mb := rfl
end Same

end Cert.OnlineAttn

end
-- ==== Proof.Online.Math.lean ====
module

public import proofs.«01_k».proof.Proof.Online.Upd

@[expose] public section

set_option maxRecDepth 16384

noncomputable section

namespace Cert.OnlineAttn

open Idealize.ShloMosaic Idealize.ShloMosaic.TcCoe Idealize.ShloMosaic.Tactic
open Cert.OnlineIdeal

/-! What both programs compute, over the real numbers. -/

/-- The entry of the queries and keys at a row and a column. -/
def qkR (x : S16384x4096.Idx → EReal) (r c : ℕ) : EReal := if h : r < 16384 ∧ c < 4096 then x (ix2 ⟨r, h.1⟩ ⟨c, h.2⟩) else 0
/-- The entry of the values at a row and a column, as a real number. -/
def vR (x : S16384x2048.Idx → EReal) (r c : ℕ) : ℝ := if h : r < 16384 ∧ c < 2048 then (x (ix2 ⟨r, h.1⟩ ⟨c, h.2⟩)).toReal else 0

/-- Every entry is a real number. -/
def AllReal {s : Shape} (x : s.Idx → EReal) : Prop := ∀ i, ∃ v : ℝ, x i = (v : EReal)

/-- An entry of the queries and keys, by its numbers. -/
theorem qkR_eq (x : S16384x4096.Idx → EReal) (r c : ℕ) (hr : r < 16384) (hc : c < 4096) :
    x (ix2 ⟨r, hr⟩ ⟨c, hc⟩) = qkR x r c := by
  unfold qkR
  rw [dif_pos ⟨hr, hc⟩]

/-- An entry of the values is its real. -/
theorem vR_eq {x : S16384x2048.Idx → EReal} (hx : AllReal x) (r c : ℕ) (hr : r < 16384) (hc : c < 2048) :
    x (ix2 ⟨r, hr⟩ ⟨c, hc⟩) = ((vR x r c : ℝ) : EReal) := by
  obtain ⟨v, hv⟩ := hx (ix2 ⟨r, hr⟩ ⟨c, hc⟩)
  unfold vR
  rw [dif_pos ⟨hr, hc⟩, hv, EReal.toReal_coe]

/-- The queries, keys and values of one head of one sequence. -/
def Qf (x : S16384x4096.Idx → EReal) (b h : ℕ) : ℕ → ℕ → EReal := fun s d => qkR x (b * 8192 + s) (h * 256 + d)
def Kf (x : S16384x4096.Idx → EReal) (b h : ℕ) : ℕ → ℕ → EReal := fun s d => qkR x (b * 8192 + s) (2048 + h * 256 + d)
def Vf (x : S16384x2048.Idx → EReal) (b h : ℕ) : ℕ → ℕ → ℝ := fun s d => vR x (b * 8192 + s) (h * 256 + d)

/-- The slope of a head. -/
def slopeR (h : ℕ) : ℝ := (2 : ℝ) ^ (-((h : ℝ) + 1))

/-- The weight of the second map. -/
def lamE (x : S4x128.Idx → EReal) : EReal :=
  Ideal.exp (∑ j : Fin 128, x (ix2 0 j) * x (ix2 1 j)) - Ideal.exp (∑ j : Fin 128, x (ix2 2 j) * x (ix2 3 j)) + Ideal.ofBits FTy.f32 1045220557#32

def lamR (x : S4x128.Idx → EReal) : ℝ := (lamE x).toReal

/-- The literal added to lambda, as a rational. -/
theorem lam_lit : Ideal.ofBits FTy.f32 1045220557#32 = ((13421773 / 67108864 : ℝ) : EReal) := by
  simp [Ideal.ofBits, Ideal.ieee, -EReal.coe_mul]
  norm_num

/-- Lambda of real vectors is real. -/
theorem lamE_eq {x : S4x128.Idx → EReal} (hx : AllReal x) : lamE x = ((lamR x : ℝ) : EReal) := by
  choose f hf using hx
  have e : ∃ v : ℝ, lamE x = (v : EReal) := by
    unfold lamE
    rw [coe_dot _ _ _ _ (fun j => hf (ix2 0 j)) (fun j => hf (ix2 1 j)), coe_dot _ _ _ _ (fun j => hf (ix2 2 j)) (fun j => hf (ix2 3 j)), lam_lit]
    refine ⟨Real.exp (∑ j : Fin 128, f (ix2 0 j) * f (ix2 1 j)) - Real.exp (∑ j : Fin 128, f (ix2 2 j) * f (ix2 3 j)) + 13421773 / 67108864, ?_⟩
    rw [EReal.coe_add, EReal.coe_sub]
    rfl
  obtain ⟨v, hv⟩ := e
  unfold lamR
  rw [hv, EReal.toReal_coe]

/-- A row divided by its root mean square, scaled by a gain and by the layer's constant. -/
def outE (o : Fin 256 → EReal) (g : EReal) (e : Fin 256) : EReal :=
  o e * Ideal.rsqrt (Ideal.div (∑ x, o x * o x) (Ideal.ofBits FTy.f32 1132462080#32) + Ideal.ofBits FTy.f32 897988541#32)
    * g * Ideal.ofBits FTy.f32 1061997773#32

/-- The sum of a row's weights. -/
def lsum (E : ℕ → ℕ → EReal) (q : ℕ) : ℝ := lT E q 8 (rm E q 8)
/-- The values weighted by a row's weights. -/
def asum (E : ℕ → ℕ → EReal) (V : ℕ → ℕ → ℝ) (q e : ℕ) : ℝ := aT E V q 8 (rm E q 8) e

/-- The kernel's order: the values weighted by each map and divided by the sum of weights, then the difference. -/
def diffK (E0 E1 : ℕ → ℕ → EReal) (V : ℕ → ℕ → ℝ) (lam : ℝ) (q e : ℕ) : EReal :=
  Ideal.div ((asum E0 V q e : ℝ) : EReal) ((lsum E0 q : ℝ) : EReal) - (lam : EReal) * Ideal.div ((asum E1 V q e : ℝ) : EReal) ((lsum E1 q : ℝ) : EReal)

/-- The reference's order: the difference of the two maps, then the values weighted by it. -/
def diffW (E0 E1 : ℕ → ℕ → EReal) (V : ℕ → ℕ → ℝ) (lam : ℝ) (q e : ℕ) : EReal :=
  ∑ k : Fin 8192, ((V k.val e : ℝ) : EReal) * (Ideal.div ((wt (E0 q k.val) (rm E0 q 8) : ℝ) : EReal) ((lsum E0 q : ℝ) : EReal)
    - (lam : EReal) * Ideal.div ((wt (E1 q k.val) (rm E1 q 8) : ℝ) : EReal) ((lsum E1 q : ℝ) : EReal))

/-- The layer's result from one head's row of differences: row `R` of all sequences, column `C` of all heads. -/
def resE (D : (ℕ → ℕ → EReal) → (ℕ → ℕ → EReal) → (ℕ → ℕ → ℝ) → ℝ → ℕ → ℕ → EReal)
    (x0 : S16384x4096.Idx → EReal) (x1 : S16384x2048.Idx → EReal) (x2 : S4x128.Idx → EReal) (x3 : Fin 256 → EReal) (R : Fin 16384) (C : Fin 2048) : EReal :=
  outE (fun e => D (ex (Qf x0 (R.val / 8192) (C.val / 256)) (Kf x0 (R.val / 8192) (C.val / 256)) (slopeR (C.val / 256)) 0 0)
      (ex (Qf x0 (R.val / 8192) (C.val / 256)) (Kf x0 (R.val / 8192) (C.val / 256)) (slopeR (C.val / 256)) 0 1)
      (Vf x1 (R.val / 8192) (C.val / 256)) (lamR x2) (R.val % 8192) e.val)
    (x3 ⟨C.val % 256, Nat.mod_lt _ (by norm_num)⟩) ⟨C.val % 256, Nat.mod_lt _ (by norm_num)⟩

/-- A quotient of real numbers by a positive one. -/
theorem div_real (a b : ℝ) (hb : 0 < b) : Ideal.div ((a : ℝ) : EReal) ((b : ℝ) : EReal) = ((a / b : ℝ) : EReal) := by
  rw [Ideal.div_coe hb.ne', ← EReal.coe_mul]
  congr 1
  ring

end Cert.OnlineAttn

end
-- ==== Proof.Online.Halves.lean ====
module

public import proofs.«01_k».proof.Proof.Online.Math
public import proofs.«01_k».proof.Proof.Gen.OnlineIdeal.Frame
public import proofs.«01_k».proof.Proof.Gen.OnlineIdeal.Value
public import Idealize.ShloMosaic.Lib.Pipeline.Value
public import Idealize.ShloMosaic.Lib.Pipeline.ValueKit.Tiles

@[expose] public section

set_option maxRecDepth 16384

noncomputable section

namespace Cert.OnlineAttn

open Idealize.ShloMosaic Idealize.ShloMosaic.TcCoe Idealize.ShloMosaic.Tactic Idealize.SL.Sem
open Cert.OnlineIdeal Cert.OnlineIdeal.Gen

variable (m : (ℓ : Loc nD τ sig) → Buf (Elt Ideal) ℓ)

/-! Reading and writing one half of the two running sums. -/

/-- The first half of the sums of weights. -/
def ld0L (X : Vec Ideal S2x1024x128 .f32) : Vec Ideal S1x1024x128 .f32 :=
  View.ld X (Rect.unit (s := S2x1024x128) ![0, 0, 0] ![1, 1024, 128] inb_S2x1024x128_S1x1024x128_0_0_0)
/-- The second half of the sums of weights. -/
def ld1L (X : Vec Ideal S2x1024x128 .f32) : Vec Ideal S1x1024x128 .f32 :=
  View.ld X (Rect.unit (s := S2x1024x128) ![1, 0, 0] ![1, 1024, 128] inb_S2x1024x128_S1x1024x128_1_0_0)
/-- The first half of the weighted sums of values. -/
def ld0A (X : Vec Ideal S2x1024x256 .f32) : Vec Ideal S1x1024x256 .f32 :=
  View.ld X (Rect.unit (s := S2x1024x256) ![0, 0, 0] ![1, 1024, 256] inb_S2x1024x256_S1x1024x256_0_0_0)
/-- The second half of the weighted sums of values. -/
def ld1A (X : Vec Ideal S2x1024x256 .f32) : Vec Ideal S1x1024x256 .f32 :=
  View.ld X (Rect.unit (s := S2x1024x256) ![1, 0, 0] ![1, 1024, 256] inb_S2x1024x256_S1x1024x256_1_0_0)
/-- The sums of weights after both halves are written. -/
def canonL (w1 w0 : Vec Ideal S1x1024x128 .f32) : Vec Ideal S2x1024x128 .f32 :=
  View.canon (Val := Elt Ideal) (s := S2x1024x128) (e := .f32) [⟨Rect.unit (s := S2x1024x128) ![1, 0, 0] ![1, 1024, 128] inb_S2x1024x128_S1x1024x128_1_0_0, w1⟩,
    ⟨Rect.unit (s := S2x1024x128) ![0, 0, 0] ![1, 1024, 128] inb_S2x1024x128_S1x1024x128_0_0_0, w0⟩]
/-- The weighted sums of values after both halves are written. -/
def canonA (w1 w0 : Vec Ideal S1x1024x256 .f32) : Vec Ideal S2x1024x256 .f32 :=
  View.canon (Val := Elt Ideal) (s := S2x1024x256) (e := .f32) [⟨Rect.unit (s := S2x1024x256) ![1, 0, 0] ![1, 1024, 256] inb_S2x1024x256_S1x1024x256_1_0_0, w1⟩,
    ⟨Rect.unit (s := S2x1024x256) ![0, 0, 0] ![1, 1024, 256] inb_S2x1024x256_S1x1024x256_0_0_0, w0⟩]

/-- Where the first half's entries lie. -/
theorem emb0L (r : Fin 1024) (l : Fin 128) : (Rect.unit (s := S2x1024x128) ![0, 0, 0] ![1, 1024, 128] inb_S2x1024x128_S1x1024x128_0_0_0).emb (ix3 0 r l) = (ix3 0 r l : S2x1024x128.Idx) := by
  funext a; apply Fin.ext
  match a with
  | ⟨0, _⟩ => rfl
  | ⟨1, _⟩ => show 0 + 1 * r.val = r.val; omega
  | ⟨2, _⟩ => show 0 + 1 * l.val = l.val; omega
/-- Where the second half's entries lie. -/
theorem emb1L (r : Fin 1024) (l : Fin 128) : (Rect.unit (s := S2x1024x128) ![1, 0, 0] ![1, 1024, 128] inb_S2x1024x128_S1x1024x128_1_0_0).emb (ix3 0 r l) = (ix3 1 r l : S2x1024x128.Idx) := by
  funext a; apply Fin.ext
  match a with
  | ⟨0, _⟩ => rfl
  | ⟨1, _⟩ => show 0 + 1 * r.val = r.val; omega
  | ⟨2, _⟩ => show 0 + 1 * l.val = l.val; omega
/-- The first half is not in the second. -/
theorem not_memL (r : Fin 1024) (l : Fin 128) : (ix3 0 r l : S2x1024x128.Idx) ∉ (Rect.unit (s := S2x1024x128) ![1, 0, 0] ![1, 1024, 128] inb_S2x1024x128_S1x1024x128_1_0_0).set := by
  rw [Rect.mem_set_unit]
  intro h
  exact absurd (show (1 : ℕ) ≤ 0 from (h 0).1) (by omega)
/-- The first half read. -/
theorem ld0L_at (X : Vec Ideal S2x1024x128 .f32) (r : Fin 1024) (l : Fin 128) : ld0L X (ix3 0 r l) = X (ix3 0 r l) :=
  congrArg X (emb0L r l)
/-- The second half read. -/
theorem ld1L_at (X : Vec Ideal S2x1024x128 .f32) (r : Fin 1024) (l : Fin 128) : ld1L X (ix3 0 r l) = X (ix3 1 r l) :=
  congrArg X (emb1L r l)
/-- What the second half holds after writing, whatever was written before. -/
theorem canon1L (w1 : Vec Ideal S1x1024x128 .f32) (T : List (View.Piece (Elt Ideal) S2x1024x128 .f32)) (r : Fin 1024) (l : Fin 128) :
    View.canon (Val := Elt Ideal) (s := S2x1024x128) (e := .f32) (⟨(Rect.unit (s := S2x1024x128) ![1, 0, 0] ![1, 1024, 128] inb_S2x1024x128_S1x1024x128_1_0_0), w1⟩ :: T) (ix3 1 r l) = w1 (ix3 0 r l) := by
  rw [← emb1L r l]
  exact View.canon_cons_emb (Rect.unit (s := S2x1024x128) ![1, 0, 0] ![1, 1024, 128] inb_S2x1024x128_S1x1024x128_1_0_0) w1 T (ix3 0 r l)
/-- What the first half holds after writing both, whatever was written before. -/
theorem canon0L (w1 w0 : Vec Ideal S1x1024x128 .f32) (T : List (View.Piece (Elt Ideal) S2x1024x128 .f32)) (r : Fin 1024) (l : Fin 128) :
    View.canon (Val := Elt Ideal) (s := S2x1024x128) (e := .f32) (⟨(Rect.unit (s := S2x1024x128) ![1, 0, 0] ![1, 1024, 128] inb_S2x1024x128_S1x1024x128_1_0_0), w1⟩ :: ⟨(Rect.unit (s := S2x1024x128) ![0, 0, 0] ![1, 1024, 128] inb_S2x1024x128_S1x1024x128_0_0_0), w0⟩ :: T) (ix3 0 r l) = w0 (ix3 0 r l) := by
  refine (View.canon_cons_of_not_mem (Val := Elt Ideal) (s := S2x1024x128) (e := .f32) ⟨(Rect.unit (s := S2x1024x128) ![1, 0, 0] ![1, 1024, 128] inb_S2x1024x128_S1x1024x128_1_0_0), w1⟩ (⟨(Rect.unit (s := S2x1024x128) ![0, 0, 0] ![1, 1024, 128] inb_S2x1024x128_S1x1024x128_0_0_0), w0⟩ :: T) (y := ix3 0 r l) (not_memL r l)).trans ?_
  rw [← emb0L r l]
  exact View.canon_cons_emb (Rect.unit (s := S2x1024x128) ![0, 0, 0] ![1, 1024, 128] inb_S2x1024x128_S1x1024x128_0_0_0) w0 T (ix3 0 r l)
/-- A half after both were written. -/
theorem canonL_at0 (w1 w0 : Vec Ideal S1x1024x128 .f32) (r : Fin 1024) (l : Fin 128) : canonL w1 w0 (ix3 0 r l) = w0 (ix3 0 r l) := by
  unfold canonL; exact canon0L w1 w0 [] r l
/-- A half after both were written. -/
theorem canonL_at1 (w1 w0 : Vec Ideal S1x1024x128 .f32) (r : Fin 1024) (l : Fin 128) : canonL w1 w0 (ix3 1 r l) = w1 (ix3 0 r l) := by
  unfold canonL; exact canon1L w1 _ r l
/-- Once both halves are written, nothing older is left. -/
theorem canon_tailL (w1 w0 : Vec Ideal S1x1024x128 .f32) (T : List (View.Piece (Elt Ideal) S2x1024x128 .f32)) :
    View.canon (Val := Elt Ideal) (s := S2x1024x128) (e := .f32) (⟨(Rect.unit (s := S2x1024x128) ![1, 0, 0] ![1, 1024, 128] inb_S2x1024x128_S1x1024x128_1_0_0), w1⟩ :: ⟨(Rect.unit (s := S2x1024x128) ![0, 0, 0] ![1, 1024, 128] inb_S2x1024x128_S1x1024x128_0_0_0), w0⟩ :: T) = canonL w1 w0 := by
  funext j
  idx_vars j
  fin_cases j0
  · exact (canon0L w1 w0 T j1 j2).trans (canonL_at0 w1 w0 j1 j2).symm
  · exact (canon1L w1 _ j1 j2).trans (canonL_at1 w1 w0 j1 j2).symm
/-- Offsets at the origin are no offsets. -/
theorem hz3L : (![0, 0, 0] : Fin 3 → Nat) = fun _ => 0 := funext fun a => by fin_cases a <;> rfl
/-- The first half read back after the whole was written. -/
theorem rc0L {sg : RefSig} {κ : Kind} {sp : Space} (v : View sg κ sp S2x1024x128 .f32) (Z : Vec Ideal S2x1024x128 .f32) :
    v.readCov (Val := Elt Ideal) [⟨(Rect.unit (s := S2x1024x128) ![0, 0, 0] ![2, 1024, 128] inb_S2x1024x128_S2x1024x128_0_0_0), Z⟩] (Rect.unit (s := S2x1024x128) ![0, 0, 0] ![1, 1024, 128] inb_S2x1024x128_S1x1024x128_0_0_0).toLoadRect = ld0L Z := by
  rw [View.readCov_eq_canon', View.canon_cons_unit_zero (S := S2x1024x128) hz3L]
  rfl
/-- The second half read back after the whole and then the first half were written. -/
theorem rc1L {sg : RefSig} {κ : Kind} {sp : Space} (v : View sg κ sp S2x1024x128 .f32) (w : Vec Ideal S1x1024x128 .f32) (Z : Vec Ideal S2x1024x128 .f32) :
    v.readCov (Val := Elt Ideal) [⟨(Rect.unit (s := S2x1024x128) ![0, 0, 0] ![1, 1024, 128] inb_S2x1024x128_S1x1024x128_0_0_0), w⟩, ⟨(Rect.unit (s := S2x1024x128) ![0, 0, 0] ![2, 1024, 128] inb_S2x1024x128_S2x1024x128_0_0_0), Z⟩] (Rect.unit (s := S2x1024x128) ![1, 0, 0] ![1, 1024, 128] inb_S2x1024x128_S1x1024x128_1_0_0).toLoadRect = ld1L Z := by
  rw [View.readCov_eq_canon']
  funext j
  idx_vars j
  obtain rfl : j0 = 0 := Subsingleton.elim _ _
  show View.canon _ ((Rect.unit (s := S2x1024x128) ![1, 0, 0] ![1, 1024, 128] inb_S2x1024x128_S1x1024x128_1_0_0).emb (ix3 0 j1 j2)) = _
  rw [ld1L_at, emb1L, View.canon_cons_of_not_mem, View.canon_cons_unit_zero (S := S2x1024x128) hz3L]
  rw [Rect.mem_set_unit]
  intro h
  have := (h 0).2
  revert this
  show ¬ (1 < 0 + 1)
  omega
/-- The halves read back after both were written. -/
theorem rb0L {sg : RefSig} {κ : Kind} {sp : Space} (v : View sg κ sp S2x1024x128 .f32) (w1 w0 : Vec Ideal S1x1024x128 .f32) :
    v.readCov (Val := Elt Ideal) [⟨(Rect.unit (s := S2x1024x128) ![1, 0, 0] ![1, 1024, 128] inb_S2x1024x128_S1x1024x128_1_0_0), w1⟩, ⟨(Rect.unit (s := S2x1024x128) ![0, 0, 0] ![1, 1024, 128] inb_S2x1024x128_S1x1024x128_0_0_0), w0⟩] (Rect.unit (s := S2x1024x128) ![0, 0, 0] ![1, 1024, 128] inb_S2x1024x128_S1x1024x128_0_0_0).toLoadRect = ld0L (canonL w1 w0) := by
  rw [View.readCov_eq_canon']; unfold ld0L canonL; rfl
/-- The second half of the sums reads back what was written to it last. -/
theorem rb1L {sg : RefSig} {κ : Kind} {sp : Space} (v : View sg κ sp S2x1024x128 .f32) (w1 w0 : Vec Ideal S1x1024x128 .f32) :
    v.readCov (Val := Elt Ideal) [⟨(Rect.unit (s := S2x1024x128) ![1, 0, 0] ![1, 1024, 128] inb_S2x1024x128_S1x1024x128_1_0_0), w1⟩, ⟨(Rect.unit (s := S2x1024x128) ![0, 0, 0] ![1, 1024, 128] inb_S2x1024x128_S1x1024x128_0_0_0), w0⟩] (Rect.unit (s := S2x1024x128) ![1, 0, 0] ![1, 1024, 128] inb_S2x1024x128_S1x1024x128_1_0_0).toLoadRect = ld1L (canonL w1 w0) := by
  rw [View.readCov_eq_canon']; unfold ld1L canonL; rfl
/-- Where the first half's entries lie. -/
theorem emb0A (r : Fin 1024) (l : Fin 256) : (Rect.unit (s := S2x1024x256) ![0, 0, 0] ![1, 1024, 256] inb_S2x1024x256_S1x1024x256_0_0_0).emb (ix3 0 r l) = (ix3 0 r l : S2x1024x256.Idx) := by
  funext a; apply Fin.ext
  match a with
  | ⟨0, _⟩ => rfl
  | ⟨1, _⟩ => show 0 + 1 * r.val = r.val; omega
  | ⟨2, _⟩ => show 0 + 1 * l.val = l.val; omega
/-- Where the second half's entries lie. -/
theorem emb1A (r : Fin 1024) (l : Fin 256) : (Rect.unit (s := S2x1024x256) ![1, 0, 0] ![1, 1024, 256] inb_S2x1024x256_S1x1024x256_1_0_0).emb (ix3 0 r l) = (ix3 1 r l : S2x1024x256.Idx) := by
  funext a; apply Fin.ext
  match a with
  | ⟨0, _⟩ => rfl
  | ⟨1, _⟩ => show 0 + 1 * r.val = r.val; omega
  | ⟨2, _⟩ => show 0 + 1 * l.val = l.val; omega
/-- The first half is not in the second. -/
theorem not_memA (r : Fin 1024) (l : Fin 256) : (ix3 0 r l : S2x1024x256.Idx) ∉ (Rect.unit (s := S2x1024x256) ![1, 0, 0] ![1, 1024, 256] inb_S2x1024x256_S1x1024x256_1_0_0).set := by
  rw [Rect.mem_set_unit]
  intro h
  exact absurd (show (1 : ℕ) ≤ 0 from (h 0).1) (by omega)
/-- The first half read. -/
theorem ld0A_at (X : Vec Ideal S2x1024x256 .f32) (r : Fin 1024) (l : Fin 256) : ld0A X (ix3 0 r l) = X (ix3 0 r l) :=
  congrArg X (emb0A r l)
/-- The second half read. -/
theorem ld1A_at (X : Vec Ideal S2x1024x256 .f32) (r : Fin 1024) (l : Fin 256) : ld1A X (ix3 0 r l) = X (ix3 1 r l) :=
  congrArg X (emb1A r l)
/-- What the second half holds after writing, whatever was written before. -/
theorem canon1A (w1 : Vec Ideal S1x1024x256 .f32) (T : List (View.Piece (Elt Ideal) S2x1024x256 .f32)) (r : Fin 1024) (l : Fin 256) :
    View.canon (Val := Elt Ideal) (s := S2x1024x256) (e := .f32) (⟨(Rect.unit (s := S2x1024x256) ![1, 0, 0] ![1, 1024, 256] inb_S2x1024x256_S1x1024x256_1_0_0), w1⟩ :: T) (ix3 1 r l) = w1 (ix3 0 r l) := by
  rw [← emb1A r l]
  exact View.canon_cons_emb (Rect.unit (s := S2x1024x256) ![1, 0, 0] ![1, 1024, 256] inb_S2x1024x256_S1x1024x256_1_0_0) w1 T (ix3 0 r l)
/-- What the first half holds after writing both, whatever was written before. -/
theorem canon0A (w1 w0 : Vec Ideal S1x1024x256 .f32) (T : List (View.Piece (Elt Ideal) S2x1024x256 .f32)) (r : Fin 1024) (l : Fin 256) :
    View.canon (Val := Elt Ideal) (s := S2x1024x256) (e := .f32) (⟨(Rect.unit (s := S2x1024x256) ![1, 0, 0] ![1, 1024, 256] inb_S2x1024x256_S1x1024x256_1_0_0), w1⟩ :: ⟨(Rect.unit (s := S2x1024x256) ![0, 0, 0] ![1, 1024, 256] inb_S2x1024x256_S1x1024x256_0_0_0), w0⟩ :: T) (ix3 0 r l) = w0 (ix3 0 r l) := by
  refine (View.canon_cons_of_not_mem (Val := Elt Ideal) (s := S2x1024x256) (e := .f32) ⟨(Rect.unit (s := S2x1024x256) ![1, 0, 0] ![1, 1024, 256] inb_S2x1024x256_S1x1024x256_1_0_0), w1⟩ (⟨(Rect.unit (s := S2x1024x256) ![0, 0, 0] ![1, 1024, 256] inb_S2x1024x256_S1x1024x256_0_0_0), w0⟩ :: T) (y := ix3 0 r l) (not_memA r l)).trans ?_
  rw [← emb0A r l]
  exact View.canon_cons_emb (Rect.unit (s := S2x1024x256) ![0, 0, 0] ![1, 1024, 256] inb_S2x1024x256_S1x1024x256_0_0_0) w0 T (ix3 0 r l)
/-- A half after both were written. -/
theorem canonA_at0 (w1 w0 : Vec Ideal S1x1024x256 .f32) (r : Fin 1024) (l : Fin 256) : canonA w1 w0 (ix3 0 r l) = w0 (ix3 0 r l) := by
  unfold canonA; exact canon0A w1 w0 [] r l
/-- A half after both were written. -/
theorem canonA_at1 (w1 w0 : Vec Ideal S1x1024x256 .f32) (r : Fin 1024) (l : Fin 256) : canonA w1 w0 (ix3 1 r l) = w1 (ix3 0 r l) := by
  unfold canonA; exact canon1A w1 _ r l
/-- Once both halves are written, nothing older is left. -/
theorem canon_tailA (w1 w0 : Vec Ideal S1x1024x256 .f32) (T : List (View.Piece (Elt Ideal) S2x1024x256 .f32)) :
    View.canon (Val := Elt Ideal) (s := S2x1024x256) (e := .f32) (⟨(Rect.unit (s := S2x1024x256) ![1, 0, 0] ![1, 1024, 256] inb_S2x1024x256_S1x1024x256_1_0_0), w1⟩ :: ⟨(Rect.unit (s := S2x1024x256) ![0, 0, 0] ![1, 1024, 256] inb_S2x1024x256_S1x1024x256_0_0_0), w0⟩ :: T) = canonA w1 w0 := by
  funext j
  idx_vars j
  fin_cases j0
  · exact (canon0A w1 w0 T j1 j2).trans (canonA_at0 w1 w0 j1 j2).symm
  · exact (canon1A w1 _ j1 j2).trans (canonA_at1 w1 w0 j1 j2).symm
/-- Offsets at the origin are no offsets. -/
theorem hz3A : (![0, 0, 0] : Fin 3 → Nat) = fun _ => 0 := funext fun a => by fin_cases a <;> rfl
/-- The first half read back after the whole was written. -/
theorem rc0A {sg : RefSig} {κ : Kind} {sp : Space} (v : View sg κ sp S2x1024x256 .f32) (Z : Vec Ideal S2x1024x256 .f32) :
    v.readCov (Val := Elt Ideal) [⟨(Rect.unit (s := S2x1024x256) ![0, 0, 0] ![2, 1024, 256] inb_S2x1024x256_S2x1024x256_0_0_0), Z⟩] (Rect.unit (s := S2x1024x256) ![0, 0, 0] ![1, 1024, 256] inb_S2x1024x256_S1x1024x256_0_0_0).toLoadRect = ld0A Z := by
  rw [View.readCov_eq_canon', View.canon_cons_unit_zero (S := S2x1024x256) hz3A]
  rfl
/-- The second half read back after the whole and then the first half were written. -/
theorem rc1A {sg : RefSig} {κ : Kind} {sp : Space} (v : View sg κ sp S2x1024x256 .f32) (w : Vec Ideal S1x1024x256 .f32) (Z : Vec Ideal S2x1024x256 .f32) :
    v.readCov (Val := Elt Ideal) [⟨(Rect.unit (s := S2x1024x256) ![0, 0, 0] ![1, 1024, 256] inb_S2x1024x256_S1x1024x256_0_0_0), w⟩, ⟨(Rect.unit (s := S2x1024x256) ![0, 0, 0] ![2, 1024, 256] inb_S2x1024x256_S2x1024x256_0_0_0), Z⟩] (Rect.unit (s := S2x1024x256) ![1, 0, 0] ![1, 1024, 256] inb_S2x1024x256_S1x1024x256_1_0_0).toLoadRect = ld1A Z := by
  rw [View.readCov_eq_canon']
  funext j
  idx_vars j
  obtain rfl : j0 = 0 := Subsingleton.elim _ _
  show View.canon _ ((Rect.unit (s := S2x1024x256) ![1, 0, 0] ![1, 1024, 256] inb_S2x1024x256_S1x1024x256_1_0_0).emb (ix3 0 j1 j2)) = _
  rw [ld1A_at, emb1A, View.canon_cons_of_not_mem, View.canon_cons_unit_zero (S := S2x1024x256) hz3A]
  rw [Rect.mem_set_unit]
  intro h
  have := (h 0).2
  revert this
  show ¬ (1 < 0 + 1)
  omega
/-- The halves read back after both were written. -/
theorem rb0A {sg : RefSig} {κ : Kind} {sp : Space} (v : View sg κ sp S2x1024x256 .f32) (w1 w0 : Vec Ideal S1x1024x256 .f32) :
    v.readCov (Val := Elt Ideal) [⟨(Rect.unit (s := S2x1024x256) ![1, 0, 0] ![1, 1024, 256] inb_S2x1024x256_S1x1024x256_1_0_0), w1⟩, ⟨(Rect.unit (s := S2x1024x256) ![0, 0, 0] ![1, 1024, 256] inb_S2x1024x256_S1x1024x256_0_0_0), w0⟩] (Rect.unit (s := S2x1024x256) ![0, 0, 0] ![1, 1024, 256] inb_S2x1024x256_S1x1024x256_0_0_0).toLoadRect = ld0A (canonA w1 w0) := by
  rw [View.readCov_eq_canon']; unfold ld0A canonA; rfl
/-- The second half of the products reads back what was written to it last. -/
theorem rb1A {sg : RefSig} {κ : Kind} {sp : Space} (v : View sg κ sp S2x1024x256 .f32) (w1 w0 : Vec Ideal S1x1024x256 .f32) :
    v.readCov (Val := Elt Ideal) [⟨(Rect.unit (s := S2x1024x256) ![1, 0, 0] ![1, 1024, 256] inb_S2x1024x256_S1x1024x256_1_0_0), w1⟩, ⟨(Rect.unit (s := S2x1024x256) ![0, 0, 0] ![1, 1024, 256] inb_S2x1024x256_S1x1024x256_0_0_0), w0⟩] (Rect.unit (s := S2x1024x256) ![1, 0, 0] ![1, 1024, 256] inb_S2x1024x256_S1x1024x256_1_0_0).toLoadRect = ld1A (canonA w1 w0) := by
  rw [View.readCov_eq_canon']; unfold ld1A canonA; rfl

end Cert.OnlineAttn
end
-- ==== Proof.Online.Blk.lean ====
module

public import proofs.«01_k».proof.Proof.Online.Halves
public import proofs.«01_k».proof.Proof.Gen.OnlineIdeal.Frame
public import proofs.«01_k».proof.Proof.Gen.OnlineIdeal.Value
public import Idealize.ShloMosaic.Lib.Pipeline.Value
public import Idealize.ShloMosaic.Lib.Pipeline.ValueKit.Tiles

@[expose] public section

set_option maxRecDepth 16384

noncomputable section

namespace Cert.OnlineAttn

open Idealize.ShloMosaic Idealize.ShloMosaic.TcCoe Idealize.ShloMosaic.Tactic Idealize.SL.Sem
open Cert.OnlineIdeal Cert.OnlineIdeal.Gen

variable (m : (ℓ : Loc nD τ sig) → Buf (Elt Ideal) ℓ)

variable (c : Dev nD) (t : Fin cfg0.N)

/-! What a grid point reads. -/

/-- The head's slope. -/
def slA : EReal := (View.ld (iblk m c 0 t) (Rect.unit (s := S8) ![BitVec.toNat (Scalar.indexCast (BitVec.ofNat 32 (grid0.coords t 1).val))] ![1] (k0_off1_inb (grid0.coords t))) (Shape.Idx.first (s := S1) (by decide)))
/-- The score bound. -/
def shA : EReal := (View.ld (iblk m c 1 t) (Rect.unit (s := S1) ![0] ![1] inb_S1_S1_0) (Shape.Idx.first (s := S1) (by decide)))
/-- The block of queries. -/
def qA : Vec Ideal S1024x256 .bf16 := View.ld (iblk m c 6 t) (Rect.unit (s := S1024x256) ![0, 0] ![1024, 256] inb_S1024x256_S1024x256_0_0)
/-- The block of keys. -/
def kA : Vec Ideal S1024x256 .bf16 := View.ld (iblk m c 7 t) (Rect.unit (s := S1024x256) ![0, 0] ![1024, 256] inb_S1024x256_S1024x256_0_0)
/-- The block of values. -/
def vA : Vec Ideal S1024x256 .bf16 := View.ld (iblk m c 8 t) (Rect.unit (s := S1024x256) ![0, 0] ![1024, 256] inb_S1024x256_S1024x256_0_0)
/-- The bias a grid point reads from the kept block. -/
def bA (X : Vec Ideal S1024x1024 .f32) : Vec Ideal S1024x1024 .f32 := View.ld X (Rect.unit (s := S1024x1024) ![0, 0] ![1024, 1024] inb_S1024x1024_S1024x1024_0_0)
/-- The second map's scores of an off-diagonal block. -/
def e1A : Vec Ideal S1024x1024 .f32 := k0_pay16 (F := Ideal) (BitVec.ofNat 32 (grid0.coords t 2).val) (BitVec.ofNat 32 (grid0.coords t 3).val) (slA m c t)
    (View.ld (iblk m c 4 t) (Rect.unit (s := S3x1024x128) ![0, 0, 0] ![1, 1024, 128] inb_S3x1024x128_S1x1024x128_0_0_0))
    (View.ld (iblk m c 4 t) (Rect.unit (s := S3x1024x128) ![1, 0, 0] ![1, 1024, 128] inb_S3x1024x128_S1x1024x128_1_0_0))
    (View.ld (iblk m c 4 t) (Rect.unit (s := S3x1024x128) ![2, 0, 0] ![1, 1024, 128] inb_S3x1024x128_S1x1024x128_2_0_0))
    (View.ld (iblk m c 5 t) (Rect.unit (s := S1024x128) ![0, 0] ![1024, 128] inb_S1024x128_S1024x128_0_0)) (qA m c t) (kA m c t)
/-- The first map's scores of an off-diagonal block. -/
def e0A : Vec Ideal S1024x1024 .f32 := k0_pay15 (F := Ideal) (BitVec.ofNat 32 (grid0.coords t 2).val) (BitVec.ofNat 32 (grid0.coords t 3).val) (slA m c t)
    (View.ld (iblk m c 4 t) (Rect.unit (s := S3x1024x128) ![0, 0, 0] ![1, 1024, 128] inb_S3x1024x128_S1x1024x128_0_0_0))
    (View.ld (iblk m c 4 t) (Rect.unit (s := S3x1024x128) ![1, 0, 0] ![1, 1024, 128] inb_S3x1024x128_S1x1024x128_1_0_0))
    (View.ld (iblk m c 4 t) (Rect.unit (s := S3x1024x128) ![2, 0, 0] ![1, 1024, 128] inb_S3x1024x128_S1x1024x128_2_0_0))
    (View.ld (iblk m c 5 t) (Rect.unit (s := S1024x128) ![0, 0] ![1024, 128] inb_S1024x128_S1024x128_0_0)) (qA m c t) (kA m c t)
/-- The first map's scores of a diagonal block with the given bias. -/
def d0A (β : Vec Ideal S1024x1024 .f32) : Vec Ideal S1024x1024 .f32 := k0_pay26 (F := Ideal) β (qA m c t) (kA m c t)
/-- The second map's scores of a diagonal block with the given bias. -/
def d1A (β : Vec Ideal S1024x1024 .f32) : Vec Ideal S1024x1024 .f32 := k0_pay27 (F := Ideal) β (qA m c t) (kA m c t)

/-! What is kept after one block. -/

/-- The running maxima after an off-diagonal block. -/
def offM (M : Vec Ideal S2x1024x128 .f32) : Vec Ideal S2x1024x128 .f32 :=
  canonL (k0_pay23 (F := Ideal) (e1A m c t) (ld1L M)) (k0_pay23 (F := Ideal) (e0A m c t) (ld0L M))
/-- The sums of weights after an off-diagonal block. -/
def offL (M X : Vec Ideal S2x1024x128 .f32) : Vec Ideal S2x1024x128 .f32 :=
  canonL (k0_pay21 (F := Ideal) (e1A m c t) (ld1L M) (ld1L X)) (k0_pay21 (F := Ideal) (e0A m c t) (ld0L M) (ld0L X))
/-- The weighted sums of values after an off-diagonal block. -/
def offS (M : Vec Ideal S2x1024x128 .f32) (X : Vec Ideal S2x1024x256 .f32) : Vec Ideal S2x1024x256 .f32 :=
  canonA (k0_pay22 (F := Ideal) (e1A m c t) (vA m c t) (ld1L M) (ld1A X)) (k0_pay22 (F := Ideal) (e0A m c t) (vA m c t) (ld0L M) (ld0A X))
/-- The running maxima after a diagonal block with the given bias. -/
def diaM (β : Vec Ideal S1024x1024 .f32) (M : Vec Ideal S2x1024x128 .f32) : Vec Ideal S2x1024x128 .f32 :=
  canonL (k0_pay23 (F := Ideal) (d1A m c t β) (ld1L M)) (k0_pay23 (F := Ideal) (d0A m c t β) (ld0L M))
/-- The sums of weights after a diagonal block with the given bias. -/
def diaL (β : Vec Ideal S1024x1024 .f32) (M X : Vec Ideal S2x1024x128 .f32) : Vec Ideal S2x1024x128 .f32 :=
  canonL (k0_pay21 (F := Ideal) (d1A m c t β) (ld1L M) (ld1L X)) (k0_pay21 (F := Ideal) (d0A m c t β) (ld0L M) (ld0L X))
/-- The weighted sums of values after a diagonal block with the given bias. -/
def diaS (β : Vec Ideal S1024x1024 .f32) (M : Vec Ideal S2x1024x128 .f32) (X : Vec Ideal S2x1024x256 .f32) : Vec Ideal S2x1024x256 .f32 :=
  canonA (k0_pay22 (F := Ideal) (d1A m c t β) (vA m c t) (ld1L M) (ld1A X)) (k0_pay22 (F := Ideal) (d0A m c t β) (vA m c t) (ld0L M) (ld0A X))
/-- The bias the first block of a head computes. -/
def biasA : Vec Ideal S1024x1024 .f32 := k0_pay25 (F := Ideal) (slA m c t) (shA m c t)
/-- The difference of the two maps' outputs. -/
def difA (L : Vec Ideal S2x1024x128 .f32) (A : Vec Ideal S2x1024x256 .f32) : Vec Ideal S1024x256 .bf16 :=
  k0_pay12 (F := Ideal)
    (k0_pay41 (View.ld (iblk m c 2 t) (Rect.unit (s := S4x128) ![0, 0] ![4, 128] inb_S4x128_S4x128_0_0)) (ld0L L) (ld1L L) (ld0A A) (ld1A A))
    (k0_pay42 (View.ld (iblk m c 2 t) (Rect.unit (s := S4x128) ![0, 0] ![4, 128] inb_S4x128_S4x128_0_0)) (ld0L L) (ld1L L) (ld0A A) (ld1A A))
    (View.ld (iblk m c 3 t) (Rect.unit (s := S1x256) ![0, 0] ![1, 256] inb_S1x256_S1x256_0_0))
/-- What the point before left. -/
abbrev prevA := outsAt0 m c (t.val - 1) (Nat.lt_of_le_of_lt (Nat.sub_le _ _) t.isLt)

/-- Offsets at the origin are no offsets. -/
theorem hz2 : (![0, 0] : Fin 2 → Nat) = fun _ => 0 := funext fun a => by fin_cases a <;> rfl
/-- The bias read back right after it was written. -/
theorem rcB {sg : RefSig} {κ : Kind} {sp : Space} (v : View sg κ sp S1024x1024 .f32) (Z : Vec Ideal S1024x1024 .f32) :
    v.readCov (Val := Elt Ideal) [⟨(Rect.unit (s := S1024x1024) ![0, 0] ![1024, 1024] inb_S1024x1024_S1024x1024_0_0), Z⟩] (Rect.unit (s := S1024x1024) ![0, 0] ![1024, 1024] inb_S1024x1024_S1024x1024_0_0).toLoadRect = Z :=
  View.readCov_unit_zero (S := S1024x1024) v hz2 _ Z
/-- The whole bias read. -/
theorem bA_eq (X : Vec Ideal S1024x1024 .f32) : bA X = X := View.ld_unit_zero (S := S1024x1024) hz2 _ X

end Cert.OnlineAttn
end
-- ==== Proof.Online.CaseA.lean ====
module

public import proofs.«01_k».proof.Proof.Online.Blk
public import proofs.«01_k».proof.Proof.Gen.OnlineIdeal.Frame
public import proofs.«01_k».proof.Proof.Gen.OnlineIdeal.Value
public import Idealize.ShloMosaic.Lib.Pipeline.Value
public import Idealize.ShloMosaic.Lib.Pipeline.ValueKit.Tiles

@[expose] public section

set_option maxRecDepth 16384

noncomputable section

namespace Cert.OnlineAttn

open Idealize.ShloMosaic Idealize.ShloMosaic.TcCoe Idealize.ShloMosaic.Tactic Idealize.SL.Sem
open Cert.OnlineIdeal Cert.OnlineIdeal.Gen

variable (m : (ℓ : Loc nD τ sig) → Buf (Elt Ideal) ℓ)

variable (c : Dev nD) (t : Fin cfg0.N)

/-- The running maxima after a point of case A. -/
theorem m_A (h0 : t.val % 8 = 0) (h1 : ¬t.val / 8 % 8 ≠ t.val % 8) (h2 : t.val / 8 % 8 = t.val % 8) (h3 : ¬t.val % 8 = 7) (h4 : t.val / 8 % 8 = 0) :
    (outsAt0 m c t.val t.isLt).2.1 = diaM m c t (biasA m c t) (k0_pay1 (F := Ideal)) := by
  rw [outsAt0_A m c t h0 h1 h2 h3 h4]
  dsimp only
  unfold sout0_A_0
  rw [View.read_writes_eq_canon]
  rotate_left
  · intro y; apply scover0_A_0
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (Memref.isWhole_whole _).read_unread, rcB, rc0L, rc1L, rc0A, rc1A, rb0L, rb1L, rb0A, rb1A, canon_tailL, canon_tailA, up7, up8, up9, up32, up33, up34, up39, up10, up11]
  rfl

/-- The sums of weights after a point of case A. -/
theorem l_A (h0 : t.val % 8 = 0) (h1 : ¬t.val / 8 % 8 ≠ t.val % 8) (h2 : t.val / 8 % 8 = t.val % 8) (h3 : ¬t.val % 8 = 7) (h4 : t.val / 8 % 8 = 0) :
    (outsAt0 m c t.val t.isLt).2.2.1 = diaL m c t (biasA m c t) (k0_pay1 (F := Ideal)) (k0_pay2 (F := Ideal)) := by
  rw [outsAt0_A m c t h0 h1 h2 h3 h4]
  dsimp only
  unfold sout0_A_1
  rw [View.read_writes_eq_canon]
  rotate_left
  · intro y; apply scover0_A_1
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (Memref.isWhole_whole _).read_unread, rcB, rc0L, rc1L, rc0A, rc1A, rb0L, rb1L, rb0A, rb1A, canon_tailL, canon_tailA, up7, up8, up9, up32, up33, up34, up39, up10, up11]
  rfl

/-- The weighted sums of values after a point of case A. -/
theorem s_A (h0 : t.val % 8 = 0) (h1 : ¬t.val / 8 % 8 ≠ t.val % 8) (h2 : t.val / 8 % 8 = t.val % 8) (h3 : ¬t.val % 8 = 7) (h4 : t.val / 8 % 8 = 0) :
    (outsAt0 m c t.val t.isLt).2.2.2.1 = diaS m c t (biasA m c t) (k0_pay1 (F := Ideal)) (k0_pay3 (F := Ideal)) := by
  rw [outsAt0_A m c t h0 h1 h2 h3 h4]
  dsimp only
  unfold sout0_A_2
  rw [View.read_writes_eq_canon]
  rotate_left
  · intro y; apply scover0_A_2
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (Memref.isWhole_whole _).read_unread, rcB, rc0L, rc1L, rc0A, rc1A, rb0L, rb1L, rb0A, rb1A, canon_tailL, canon_tailA, up7, up8, up9, up32, up33, up34, up39, up10, up11]
  rfl

/-- The kept bias after a point of case A. -/
theorem b_A (h0 : t.val % 8 = 0) (h1 : ¬t.val / 8 % 8 ≠ t.val % 8) (h2 : t.val / 8 % 8 = t.val % 8) (h3 : ¬t.val % 8 = 7) (h4 : t.val / 8 % 8 = 0) :
    (outsAt0 m c t.val t.isLt).2.2.2.2 = biasA m c t := by
  rw [outsAt0_A m c t h0 h1 h2 h3 h4]
  dsimp only
  unfold sout0_A_3
  rw [View.read_writes_eq_canon]
  rotate_left
  · intro y; apply scover0_A_3
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (Memref.isWhole_whole _).read_unread, rcB, rc0L, rc1L, rc0A, rc1A, rb0L, rb1L, rb0A, rb1A, canon_tailL, canon_tailA, up7, up8, up9, up32, up33, up34, up39, up10, up11]
  refine (View.canon_unit_zero (S := S1024x1024) hz2 _ _).trans ?_
  rfl

end Cert.OnlineAttn
end
-- ==== Proof.Online.CaseB.lean ====
module

public import proofs.«01_k».proof.Proof.Online.Blk
public import proofs.«01_k».proof.Proof.Gen.OnlineIdeal.Frame
public import proofs.«01_k».proof.Proof.Gen.OnlineIdeal.Value
public import Idealize.ShloMosaic.Lib.Pipeline.Value
public import Idealize.ShloMosaic.Lib.Pipeline.ValueKit.Tiles

@[expose] public section

set_option maxRecDepth 16384

noncomputable section

namespace Cert.OnlineAttn

open Idealize.ShloMosaic Idealize.ShloMosaic.TcCoe Idealize.ShloMosaic.Tactic Idealize.SL.Sem
open Cert.OnlineIdeal Cert.OnlineIdeal.Gen

variable (m : (ℓ : Loc nD τ sig) → Buf (Elt Ideal) ℓ)

variable (c : Dev nD) (t : Fin cfg0.N)

/-- The running maxima after a point of case B. -/
theorem m_B (h0 : ¬t.val % 8 = 0) (h1 : t.val / 8 % 8 ≠ t.val % 8) (h2 : ¬t.val / 8 % 8 = t.val % 8) (h3 : ¬t.val % 8 = 7) :
    (outsAt0 m c t.val t.isLt).2.1 = offM m c t (prevA m c t).2.1 := by
  rw [outsAt0_B m c t h0 h1 h2 h3]
  dsimp only
  unfold sout0_B_0
  rw [View.read_writes_eq_canon]
  rotate_left
  · intro y; apply scover0_B_0
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (Memref.isWhole_whole _).read_unread, rcB, rc0L, rc1L, rc0A, rc1A, rb0L, rb1L, rb0A, rb1A, canon_tailL, canon_tailA, up7, up8, up9, up32, up33, up34, up39, up10, up11]
  rfl

/-- The sums of weights after a point of case B. -/
theorem l_B (h0 : ¬t.val % 8 = 0) (h1 : t.val / 8 % 8 ≠ t.val % 8) (h2 : ¬t.val / 8 % 8 = t.val % 8) (h3 : ¬t.val % 8 = 7) :
    (outsAt0 m c t.val t.isLt).2.2.1 = offL m c t (prevA m c t).2.1 (prevA m c t).2.2.1 := by
  rw [outsAt0_B m c t h0 h1 h2 h3]
  dsimp only
  unfold sout0_B_1
  rw [View.read_writes_eq_canon]
  rotate_left
  · intro y; apply scover0_B_1
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (Memref.isWhole_whole _).read_unread, rcB, rc0L, rc1L, rc0A, rc1A, rb0L, rb1L, rb0A, rb1A, canon_tailL, canon_tailA, up7, up8, up9, up32, up33, up34, up39, up10, up11]
  rfl

/-- The weighted sums of values after a point of case B. -/
theorem s_B (h0 : ¬t.val % 8 = 0) (h1 : t.val / 8 % 8 ≠ t.val % 8) (h2 : ¬t.val / 8 % 8 = t.val % 8) (h3 : ¬t.val % 8 = 7) :
    (outsAt0 m c t.val t.isLt).2.2.2.1 = offS m c t (prevA m c t).2.1 (prevA m c t).2.2.2.1 := by
  rw [outsAt0_B m c t h0 h1 h2 h3]
  dsimp only
  unfold sout0_B_2
  rw [View.read_writes_eq_canon]
  rotate_left
  · intro y; apply scover0_B_2
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (Memref.isWhole_whole _).read_unread, rcB, rc0L, rc1L, rc0A, rc1A, rb0L, rb1L, rb0A, rb1A, canon_tailL, canon_tailA, up7, up8, up9, up32, up33, up34, up39, up10, up11]
  rfl

/-- The kept bias after a point of case B. -/
theorem b_B (h0 : ¬t.val % 8 = 0) (h1 : t.val / 8 % 8 ≠ t.val % 8) (h2 : ¬t.val / 8 % 8 = t.val % 8) (h3 : ¬t.val % 8 = 7) :
    (outsAt0 m c t.val t.isLt).2.2.2.2 = (prevA m c t).2.2.2.2 := by
  rw [outsAt0_B m c t h0 h1 h2 h3]
  rfl

end Cert.OnlineAttn
end
-- ==== Proof.Online.CaseC.lean ====
module

public import proofs.«01_k».proof.Proof.Online.Blk
public import proofs.«01_k».proof.Proof.Gen.OnlineIdeal.Frame
public import proofs.«01_k».proof.Proof.Gen.OnlineIdeal.Value
public import Idealize.ShloMosaic.Lib.Pipeline.Value
public import Idealize.ShloMosaic.Lib.Pipeline.ValueKit.Tiles

@[expose] public section

set_option maxRecDepth 16384

noncomputable section

namespace Cert.OnlineAttn

open Idealize.ShloMosaic Idealize.ShloMosaic.TcCoe Idealize.ShloMosaic.Tactic Idealize.SL.Sem
open Cert.OnlineIdeal Cert.OnlineIdeal.Gen

variable (m : (ℓ : Loc nD τ sig) → Buf (Elt Ideal) ℓ)

variable (c : Dev nD) (t : Fin cfg0.N)

/-- The running maxima after a point of case C. -/
theorem m_C (h0 : ¬t.val % 8 = 0) (h1 : t.val / 8 % 8 ≠ t.val % 8) (h2 : ¬t.val / 8 % 8 = t.val % 8) (h3 : t.val % 8 = 7) :
    (outsAt0 m c t.val t.isLt).2.1 = offM m c t (prevA m c t).2.1 := by
  rw [outsAt0_C m c t h0 h1 h2 h3]
  dsimp only
  unfold sout0_C_0
  rw [View.read_writes_eq_canon]
  rotate_left
  · intro y; apply scover0_C_0
  unfold kernelRun0_C
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (Memref.isWhole_whole _).read_unread, rcB, rc0L, rc1L, rc0A, rc1A, rb0L, rb1L, rb0A, rb1A, canon_tailL, canon_tailA, up7, up8, up9, up32, up33, up34, up39, up10, up11]
  rfl

/-- The sums of weights after a point of case C. -/
theorem l_C (h0 : ¬t.val % 8 = 0) (h1 : t.val / 8 % 8 ≠ t.val % 8) (h2 : ¬t.val / 8 % 8 = t.val % 8) (h3 : t.val % 8 = 7) :
    (outsAt0 m c t.val t.isLt).2.2.1 = offL m c t (prevA m c t).2.1 (prevA m c t).2.2.1 := by
  rw [outsAt0_C m c t h0 h1 h2 h3]
  dsimp only
  unfold sout0_C_1
  rw [View.read_writes_eq_canon]
  rotate_left
  · intro y; apply scover0_C_1
  unfold kernelRun0_C
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (Memref.isWhole_whole _).read_unread, rcB, rc0L, rc1L, rc0A, rc1A, rb0L, rb1L, rb0A, rb1A, canon_tailL, canon_tailA, up7, up8, up9, up32, up33, up34, up39, up10, up11]
  rfl

/-- The weighted sums of values after a point of case C. -/
theorem s_C (h0 : ¬t.val % 8 = 0) (h1 : t.val / 8 % 8 ≠ t.val % 8) (h2 : ¬t.val / 8 % 8 = t.val % 8) (h3 : t.val % 8 = 7) :
    (outsAt0 m c t.val t.isLt).2.2.2.1 = offS m c t (prevA m c t).2.1 (prevA m c t).2.2.2.1 := by
  rw [outsAt0_C m c t h0 h1 h2 h3]
  dsimp only
  unfold sout0_C_2
  rw [View.read_writes_eq_canon]
  rotate_left
  · intro y; apply scover0_C_2
  unfold kernelRun0_C
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (Memref.isWhole_whole _).read_unread, rcB, rc0L, rc1L, rc0A, rc1A, rb0L, rb1L, rb0A, rb1A, canon_tailL, canon_tailA, up7, up8, up9, up32, up33, up34, up39, up10, up11]
  rfl

/-- The kept bias after a point of case C. -/
theorem b_C (h0 : ¬t.val % 8 = 0) (h1 : t.val / 8 % 8 ≠ t.val % 8) (h2 : ¬t.val / 8 % 8 = t.val % 8) (h3 : t.val % 8 = 7) :
    (outsAt0 m c t.val t.isLt).2.2.2.2 = (prevA m c t).2.2.2.2 := by
  rw [outsAt0_C m c t h0 h1 h2 h3]
  rfl

/-- The output block after a point of case C. -/
theorem o_C (h0 : ¬t.val % 8 = 0) (h1 : t.val / 8 % 8 ≠ t.val % 8) (h2 : ¬t.val / 8 % 8 = t.val % 8) (h3 : t.val % 8 = 7) :
    (outsAt0 m c t.val t.isLt).1 = difA m c t (offL m c t (prevA m c t).2.1 (prevA m c t).2.2.1) (offS m c t (prevA m c t).2.1 (prevA m c t).2.2.2.1) := by
  rw [outsAt0_C m c t h0 h1 h2 h3]
  dsimp only
  unfold out0_C_9
  rw [View.read_writes_eq_canon]
  rotate_left
  · intro y; apply cover0_C_9
  unfold kernelRun0_C
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (Memref.isWhole_whole _).read_unread, rcB, rc0L, rc1L, rc0A, rc1A, rb0L, rb1L, rb0A, rb1A, canon_tailL, canon_tailA, up7, up8, up9, up32, up33, up34, up39, up10, up11]
  refine (View.canon_unit_zero (S := S1024x256) hz2 _ _).trans ?_
  rfl

end Cert.OnlineAttn
end
-- ==== Proof.Online.CaseD.lean ====
module

public import proofs.«01_k».proof.Proof.Online.Blk
public import proofs.«01_k».proof.Proof.Gen.OnlineIdeal.Frame
public import proofs.«01_k».proof.Proof.Gen.OnlineIdeal.Value
public import Idealize.ShloMosaic.Lib.Pipeline.Value
public import Idealize.ShloMosaic.Lib.Pipeline.ValueKit.Tiles

@[expose] public section

set_option maxRecDepth 16384

noncomputable section

namespace Cert.OnlineAttn

open Idealize.ShloMosaic Idealize.ShloMosaic.TcCoe Idealize.ShloMosaic.Tactic Idealize.SL.Sem
open Cert.OnlineIdeal Cert.OnlineIdeal.Gen

variable (m : (ℓ : Loc nD τ sig) → Buf (Elt Ideal) ℓ)

variable (c : Dev nD) (t : Fin cfg0.N)

/-- The running maxima after a point of case D. -/
theorem m_D (h0 : t.val % 8 = 0) (h1 : t.val / 8 % 8 ≠ t.val % 8) (h2 : ¬t.val / 8 % 8 = t.val % 8) (h3 : ¬t.val % 8 = 7) :
    (outsAt0 m c t.val t.isLt).2.1 = offM m c t (k0_pay1 (F := Ideal)) := by
  rw [outsAt0_D m c t h0 h1 h2 h3]
  dsimp only
  unfold sout0_D_0
  rw [View.read_writes_eq_canon]
  rotate_left
  · intro y; apply scover0_D_0
  unfold kernelRun0_D
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (Memref.isWhole_whole _).read_unread, rcB, rc0L, rc1L, rc0A, rc1A, rb0L, rb1L, rb0A, rb1A, canon_tailL, canon_tailA, up7, up8, up9, up32, up33, up34, up39, up10, up11]
  rfl

/-- The sums of weights after a point of case D. -/
theorem l_D (h0 : t.val % 8 = 0) (h1 : t.val / 8 % 8 ≠ t.val % 8) (h2 : ¬t.val / 8 % 8 = t.val % 8) (h3 : ¬t.val % 8 = 7) :
    (outsAt0 m c t.val t.isLt).2.2.1 = offL m c t (k0_pay1 (F := Ideal)) (k0_pay2 (F := Ideal)) := by
  rw [outsAt0_D m c t h0 h1 h2 h3]
  dsimp only
  unfold sout0_D_1
  rw [View.read_writes_eq_canon]
  rotate_left
  · intro y; apply scover0_D_1
  unfold kernelRun0_D
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (Memref.isWhole_whole _).read_unread, rcB, rc0L, rc1L, rc0A, rc1A, rb0L, rb1L, rb0A, rb1A, canon_tailL, canon_tailA, up7, up8, up9, up32, up33, up34, up39, up10, up11]
  rfl

/-- The weighted sums of values after a point of case D. -/
theorem s_D (h0 : t.val % 8 = 0) (h1 : t.val / 8 % 8 ≠ t.val % 8) (h2 : ¬t.val / 8 % 8 = t.val % 8) (h3 : ¬t.val % 8 = 7) :
    (outsAt0 m c t.val t.isLt).2.2.2.1 = offS m c t (k0_pay1 (F := Ideal)) (k0_pay3 (F := Ideal)) := by
  rw [outsAt0_D m c t h0 h1 h2 h3]
  dsimp only
  unfold sout0_D_2
  rw [View.read_writes_eq_canon]
  rotate_left
  · intro y; apply scover0_D_2
  unfold kernelRun0_D
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (Memref.isWhole_whole _).read_unread, rcB, rc0L, rc1L, rc0A, rc1A, rb0L, rb1L, rb0A, rb1A, canon_tailL, canon_tailA, up7, up8, up9, up32, up33, up34, up39, up10, up11]
  rfl

/-- The kept bias after a point of case D. -/
theorem b_D (h0 : t.val % 8 = 0) (h1 : t.val / 8 % 8 ≠ t.val % 8) (h2 : ¬t.val / 8 % 8 = t.val % 8) (h3 : ¬t.val % 8 = 7) :
    (outsAt0 m c t.val t.isLt).2.2.2.2 = (prevA m c t).2.2.2.2 := by
  rw [outsAt0_D m c t h0 h1 h2 h3]
  rfl

end Cert.OnlineAttn
end
-- ==== Proof.Online.CaseE.lean ====
module

public import proofs.«01_k».proof.Proof.Online.Blk
public import proofs.«01_k».proof.Proof.Gen.OnlineIdeal.Frame
public import proofs.«01_k».proof.Proof.Gen.OnlineIdeal.Value
public import Idealize.ShloMosaic.Lib.Pipeline.Value
public import Idealize.ShloMosaic.Lib.Pipeline.ValueKit.Tiles

@[expose] public section

set_option maxRecDepth 16384

noncomputable section

namespace Cert.OnlineAttn

open Idealize.ShloMosaic Idealize.ShloMosaic.TcCoe Idealize.ShloMosaic.Tactic Idealize.SL.Sem
open Cert.OnlineIdeal Cert.OnlineIdeal.Gen

variable (m : (ℓ : Loc nD τ sig) → Buf (Elt Ideal) ℓ)

variable (c : Dev nD) (t : Fin cfg0.N)

/-- The running maxima after a point of case E. -/
theorem m_E (h0 : ¬t.val % 8 = 0) (h1 : ¬t.val / 8 % 8 ≠ t.val % 8) (h2 : t.val / 8 % 8 = t.val % 8) (h3 : ¬t.val % 8 = 7) (h4 : ¬t.val / 8 % 8 = 0) :
    (outsAt0 m c t.val t.isLt).2.1 = diaM m c t (bA (prevA m c t).2.2.2.2) (prevA m c t).2.1 := by
  rw [outsAt0_E m c t h0 h1 h2 h3 h4]
  dsimp only
  unfold sout0_E_0
  rw [View.read_writes_eq_canon]
  rotate_left
  · intro y; apply scover0_E_0
  unfold kernelRun0_E
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (Memref.isWhole_whole _).read_unread, rcB, rc0L, rc1L, rc0A, rc1A, rb0L, rb1L, rb0A, rb1A, canon_tailL, canon_tailA, up7, up8, up9, up32, up33, up34, up39, up10, up11]
  rfl

/-- The sums of weights after a point of case E. -/
theorem l_E (h0 : ¬t.val % 8 = 0) (h1 : ¬t.val / 8 % 8 ≠ t.val % 8) (h2 : t.val / 8 % 8 = t.val % 8) (h3 : ¬t.val % 8 = 7) (h4 : ¬t.val / 8 % 8 = 0) :
    (outsAt0 m c t.val t.isLt).2.2.1 = diaL m c t (bA (prevA m c t).2.2.2.2) (prevA m c t).2.1 (prevA m c t).2.2.1 := by
  rw [outsAt0_E m c t h0 h1 h2 h3 h4]
  dsimp only
  unfold sout0_E_1
  rw [View.read_writes_eq_canon]
  rotate_left
  · intro y; apply scover0_E_1
  unfold kernelRun0_E
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (Memref.isWhole_whole _).read_unread, rcB, rc0L, rc1L, rc0A, rc1A, rb0L, rb1L, rb0A, rb1A, canon_tailL, canon_tailA, up7, up8, up9, up32, up33, up34, up39, up10, up11]
  rfl

/-- The weighted sums of values after a point of case E. -/
theorem s_E (h0 : ¬t.val % 8 = 0) (h1 : ¬t.val / 8 % 8 ≠ t.val % 8) (h2 : t.val / 8 % 8 = t.val % 8) (h3 : ¬t.val % 8 = 7) (h4 : ¬t.val / 8 % 8 = 0) :
    (outsAt0 m c t.val t.isLt).2.2.2.1 = diaS m c t (bA (prevA m c t).2.2.2.2) (prevA m c t).2.1 (prevA m c t).2.2.2.1 := by
  rw [outsAt0_E m c t h0 h1 h2 h3 h4]
  dsimp only
  unfold sout0_E_2
  rw [View.read_writes_eq_canon]
  rotate_left
  · intro y; apply scover0_E_2
  unfold kernelRun0_E
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (Memref.isWhole_whole _).read_unread, rcB, rc0L, rc1L, rc0A, rc1A, rb0L, rb1L, rb0A, rb1A, canon_tailL, canon_tailA, up7, up8, up9, up32, up33, up34, up39, up10, up11]
  rfl

/-- The kept bias after a point of case E. -/
theorem b_E (h0 : ¬t.val % 8 = 0) (h1 : ¬t.val / 8 % 8 ≠ t.val % 8) (h2 : t.val / 8 % 8 = t.val % 8) (h3 : ¬t.val % 8 = 7) (h4 : ¬t.val / 8 % 8 = 0) :
    (outsAt0 m c t.val t.isLt).2.2.2.2 = (prevA m c t).2.2.2.2 := by
  rw [outsAt0_E m c t h0 h1 h2 h3 h4]
  rfl

end Cert.OnlineAttn
end
-- ==== Proof.Online.CaseF.lean ====
module

public import proofs.«01_k».proof.Proof.Online.Blk
public import proofs.«01_k».proof.Proof.Gen.OnlineIdeal.Frame
public import proofs.«01_k».proof.Proof.Gen.OnlineIdeal.Value
public import Idealize.ShloMosaic.Lib.Pipeline.Value
public import Idealize.ShloMosaic.Lib.Pipeline.ValueKit.Tiles

@[expose] public section

set_option maxRecDepth 16384

noncomputable section

namespace Cert.OnlineAttn

open Idealize.ShloMosaic Idealize.ShloMosaic.TcCoe Idealize.ShloMosaic.Tactic Idealize.SL.Sem
open Cert.OnlineIdeal Cert.OnlineIdeal.Gen

variable (m : (ℓ : Loc nD τ sig) → Buf (Elt Ideal) ℓ)

variable (c : Dev nD) (t : Fin cfg0.N)

/-- The running maxima after a point of case F. -/
theorem m_F (h0 : ¬t.val % 8 = 0) (h1 : ¬t.val / 8 % 8 ≠ t.val % 8) (h2 : t.val / 8 % 8 = t.val % 8) (h3 : t.val % 8 = 7) (h4 : ¬t.val / 8 % 8 = 0) :
    (outsAt0 m c t.val t.isLt).2.1 = diaM m c t (bA (prevA m c t).2.2.2.2) (prevA m c t).2.1 := by
  rw [outsAt0_F m c t h0 h1 h2 h3 h4]
  dsimp only
  unfold sout0_F_0
  rw [View.read_writes_eq_canon]
  rotate_left
  · intro y; apply scover0_F_0
  unfold kernelRun0_F
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (Memref.isWhole_whole _).read_unread, rcB, rc0L, rc1L, rc0A, rc1A, rb0L, rb1L, rb0A, rb1A, canon_tailL, canon_tailA, up7, up8, up9, up32, up33, up34, up39, up10, up11]
  rfl

/-- The sums of weights after a point of case F. -/
theorem l_F (h0 : ¬t.val % 8 = 0) (h1 : ¬t.val / 8 % 8 ≠ t.val % 8) (h2 : t.val / 8 % 8 = t.val % 8) (h3 : t.val % 8 = 7) (h4 : ¬t.val / 8 % 8 = 0) :
    (outsAt0 m c t.val t.isLt).2.2.1 = diaL m c t (bA (prevA m c t).2.2.2.2) (prevA m c t).2.1 (prevA m c t).2.2.1 := by
  rw [outsAt0_F m c t h0 h1 h2 h3 h4]
  dsimp only
  unfold sout0_F_1
  rw [View.read_writes_eq_canon]
  rotate_left
  · intro y; apply scover0_F_1
  unfold kernelRun0_F
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (Memref.isWhole_whole _).read_unread, rcB, rc0L, rc1L, rc0A, rc1A, rb0L, rb1L, rb0A, rb1A, canon_tailL, canon_tailA, up7, up8, up9, up32, up33, up34, up39, up10, up11]
  rfl

/-- The weighted sums of values after a point of case F. -/
theorem s_F (h0 : ¬t.val % 8 = 0) (h1 : ¬t.val / 8 % 8 ≠ t.val % 8) (h2 : t.val / 8 % 8 = t.val % 8) (h3 : t.val % 8 = 7) (h4 : ¬t.val / 8 % 8 = 0) :
    (outsAt0 m c t.val t.isLt).2.2.2.1 = diaS m c t (bA (prevA m c t).2.2.2.2) (prevA m c t).2.1 (prevA m c t).2.2.2.1 := by
  rw [outsAt0_F m c t h0 h1 h2 h3 h4]
  dsimp only
  unfold sout0_F_2
  rw [View.read_writes_eq_canon]
  rotate_left
  · intro y; apply scover0_F_2
  unfold kernelRun0_F
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (Memref.isWhole_whole _).read_unread, rcB, rc0L, rc1L, rc0A, rc1A, rb0L, rb1L, rb0A, rb1A, canon_tailL, canon_tailA, up7, up8, up9, up32, up33, up34, up39, up10, up11]
  rfl

/-- The kept bias after a point of case F. -/
theorem b_F (h0 : ¬t.val % 8 = 0) (h1 : ¬t.val / 8 % 8 ≠ t.val % 8) (h2 : t.val / 8 % 8 = t.val % 8) (h3 : t.val % 8 = 7) (h4 : ¬t.val / 8 % 8 = 0) :
    (outsAt0 m c t.val t.isLt).2.2.2.2 = (prevA m c t).2.2.2.2 := by
  rw [outsAt0_F m c t h0 h1 h2 h3 h4]
  rfl

/-- The output block after a point of case F. -/
theorem o_F (h0 : ¬t.val % 8 = 0) (h1 : ¬t.val / 8 % 8 ≠ t.val % 8) (h2 : t.val / 8 % 8 = t.val % 8) (h3 : t.val % 8 = 7) (h4 : ¬t.val / 8 % 8 = 0) :
    (outsAt0 m c t.val t.isLt).1 = difA m c t (diaL m c t (bA (prevA m c t).2.2.2.2) (prevA m c t).2.1 (prevA m c t).2.2.1) (diaS m c t (bA (prevA m c t).2.2.2.2) (prevA m c t).2.1 (prevA m c t).2.2.2.1) := by
  rw [outsAt0_F m c t h0 h1 h2 h3 h4]
  dsimp only
  unfold out0_F_9
  rw [View.read_writes_eq_canon]
  rotate_left
  · intro y; apply cover0_F_9
  unfold kernelRun0_F
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (Memref.isWhole_whole _).read_unread, rcB, rc0L, rc1L, rc0A, rc1A, rb0L, rb1L, rb0A, rb1A, canon_tailL, canon_tailA, up7, up8, up9, up32, up33, up34, up39, up10, up11]
  refine (View.canon_unit_zero (S := S1024x256) hz2 _ _).trans ?_
  rfl

end Cert.OnlineAttn
end
-- ==== Proof.Online.Reads.lean ====
module

public import proofs.«01_k».proof.Proof.Online.Blk
public import proofs.«01_k».proof.Proof.Gen.OnlineIdeal.Frame
public import proofs.«01_k».proof.Proof.Gen.OnlineIdeal.Value
public import Idealize.ShloMosaic.Lib.Pipeline.Value
public import Idealize.ShloMosaic.Lib.Pipeline.ValueKit.Tiles

@[expose] public section

set_option maxRecDepth 16384
set_option maxHeartbeats 2000000

noncomputable section

namespace Cert.OnlineAttn

open Idealize.ShloMosaic Idealize.ShloMosaic.TcCoe Idealize.ShloMosaic.Tactic Idealize.SL.Sem
open Cert.OnlineIdeal Cert.OnlineIdeal.Gen

variable (m : (ℓ : Loc nD τ sig) → Buf (Elt Ideal) ℓ)

variable (c : Dev nD) (t : Fin cfg0.N)

/-! The grid: batch, head, query block, key block. -/

/-- The second coordinate of a step: the head. -/
theorem co1 : ∀ t : Fin cfg0.N, (grid0.coords t 1).val = t.val / 64 % 8 := (by decide +kernel : ∀ t : Fin grid0.N, _)
/-- The third coordinate of a step: the block of queries. -/
theorem co2 : ∀ t : Fin cfg0.N, (grid0.coords t 2).val = t.val / 8 % 8 := (by decide +kernel : ∀ t : Fin grid0.N, _)
/-- The fourth coordinate of a step: the block of keys. -/
theorem co3 : ∀ t : Fin cfg0.N, (grid0.coords t 3).val = t.val % 8 := (by decide +kernel : ∀ t : Fin grid0.N, _)
/-- The block of queries a step reads. -/
theorem ind6 : ∀ t : Fin cfg0.N, win0_6.index t 0 = t.val / 512 * 8 + t.val / 8 % 8 ∧ win0_6.index t 1 = t.val / 64 % 8 := (by decide +kernel : ∀ t : Fin grid0.N, _)
/-- The block of keys a step reads. -/
theorem ind7 : ∀ t : Fin cfg0.N, win0_7.index t 0 = t.val / 512 * 8 + t.val % 8 ∧ win0_7.index t 1 = 8 + t.val / 64 % 8 := (by decide +kernel : ∀ t : Fin grid0.N, _)
/-- The block of values a step reads. -/
theorem ind8 : ∀ t : Fin cfg0.N, win0_8.index t 0 = t.val / 512 * 8 + t.val % 8 ∧ win0_8.index t 1 = t.val / 64 % 8 := (by decide +kernel : ∀ t : Fin grid0.N, _)
/-- The block of the output a step holds. -/
theorem ind9 : ∀ t : Fin cfg0.N, win0_9.index t 0 = t.val / 512 * 8 + t.val / 8 % 8 ∧ win0_9.index t 1 = t.val / 64 % 8 := (by decide +kernel : ∀ t : Fin grid0.N, _)
/-- There are 1024 steps. -/
theorem N_lt : t.val < 1024 := lt_of_lt_of_eq t.isLt N_0

/-- The queries and keys as the call finds them. -/
def X0 : S16384x4096.Idx → EReal := V m c main_arg0
/-- The values as the call finds them. -/
def X1 : S16384x2048.Idx → EReal := V m c main_arg1
/-- The four lambda vectors as the call finds them. -/
def X2 : S4x128.Idx → EReal := V m c main_arg2

/-- The block of queries, from the array. -/
theorem qA_real (r : Fin 1024) (d : Fin 256) :
    qA m c t (ix2 r d) = Qf (X0 m c) (t.val / 512) (t.val / 64 % 8) (t.val / 8 % 8 * 1024 + r.val) d.val := by
  have ht := N_lt t
  have hr := r.isLt
  have hd := d.isLt
  unfold Qf
  rw [← qkR_eq _ _ _ (by omega) (by omega)]
  unfold qA
  rw [View.ld_unit_zero (S := S1024x256) hz2]
  unfold iblk
  rw [View.read_apply]
  show V m c main_arg0 _ = V m c main_arg0 _
  congr 1
  funext a
  apply Fin.ext
  match a with
  | ⟨0, _⟩ => show win0_6.index t 0 * 1024 + 1 * r.val = t.val / 512 * 8192 + (t.val / 8 % 8 * 1024 + r.val); rw [(ind6 t).1]; omega
  | ⟨1, _⟩ => show win0_6.index t 1 * 256 + 1 * d.val = t.val / 64 % 8 * 256 + d.val; rw [(ind6 t).2]; omega

/-- The block of keys, from the array. -/
theorem kA_real (r : Fin 1024) (d : Fin 256) :
    kA m c t (ix2 r d) = Kf (X0 m c) (t.val / 512) (t.val / 64 % 8) (t.val % 8 * 1024 + r.val) d.val := by
  have ht := N_lt t
  have hr := r.isLt
  have hd := d.isLt
  unfold Kf
  rw [← qkR_eq _ _ _ (by omega) (by omega)]
  unfold kA
  rw [View.ld_unit_zero (S := S1024x256) hz2]
  unfold iblk
  rw [View.read_apply]
  show V m c main_arg0 _ = V m c main_arg0 _
  congr 1
  funext a
  apply Fin.ext
  match a with
  | ⟨0, _⟩ => show win0_7.index t 0 * 1024 + 1 * r.val = t.val / 512 * 8192 + (t.val % 8 * 1024 + r.val); rw [(ind7 t).1]; omega
  | ⟨1, _⟩ => show win0_7.index t 1 * 256 + 1 * d.val = 2048 + t.val / 64 % 8 * 256 + d.val; rw [(ind7 t).2]; omega

/-- The block of values, from the array. -/
theorem vA_real (h : AllReal (X1 m c)) (r : Fin 1024) (d : Fin 256) :
    vA m c t (ix2 r d) = ((Vf (X1 m c) (t.val / 512) (t.val / 64 % 8) (t.val % 8 * 1024 + r.val) d.val : ℝ) : EReal) := by
  have ht := N_lt t
  have hr := r.isLt
  have hd := d.isLt
  unfold Vf
  rw [← vR_eq h _ _ (by omega) (by omega)]
  unfold vA
  rw [View.ld_unit_zero (S := S1024x256) hz2]
  unfold iblk
  rw [View.read_apply]
  show V m c main_arg1 _ = V m c main_arg1 _
  congr 1
  funext a
  apply Fin.ext
  match a with
  | ⟨0, _⟩ => show win0_8.index t 0 * 1024 + 1 * r.val = t.val / 512 * 8192 + (t.val % 8 * 1024 + r.val); rw [(ind8 t).1]; omega
  | ⟨1, _⟩ => show win0_8.index t 1 * 256 + 1 * d.val = t.val / 64 % 8 * 256 + d.val; rw [(ind8 t).2]; omega

/-- The slope table holds the slopes. -/
theorem slope_lit (h : Fin 8) : Ideal.ofBits FTy.f32 (lit0 h) = ((slopeR h.val : ℝ) : EReal) := by
  have e : ∀ h : Fin 8, slopeR h.val = ((2 : ℝ) ^ (h.val + 1))⁻¹ := fun h => by
    unfold slopeR
    rw [Real.rpow_neg (by norm_num), ← Real.rpow_natCast]
    push_cast
    rfl
  rw [e]
  fin_cases h <;> (simp [lit0, Ideal.ofBits, Ideal.ieee, -EReal.coe_mul]; try norm_num)

/-- The slope a grid point reads. -/
theorem slA_real : slA m c t = ((slopeR (t.val / 64 % 8) : ℝ) : EReal) := by
  have ht := N_lt t
  refine Eq.trans ?_ (slope_lit ⟨t.val / 64 % 8, by omega⟩)
  unfold slA
  rw [View.ld_apply]
  unfold iblk
  rw [View.read_apply]
  show V m c main_cst _ = _
  rw [V_slopes]
  show Ideal.ofBits .f32 (lit0 _) = _
  congr 2
  apply Fin.ext
  show (S8.rowMajor _).val = t.val / 64 % 8
  have key : ∀ i : S8.Idx, (i 0).val = t.val / 64 % 8 → (S8.rowMajor i).val = t.val / 64 % 8 := fun i hi => by
    rw [← hi]
    exact Shape.rowMajor_val_one i
  apply key
  show 0 * 8 + 1 * ((BitVec.toNat (Scalar.indexCast (BitVec.ofNat 32 (grid0.coords t 1).val))) + 1 * 0) = _
  rw [co1]
  unfold Scalar.indexCast
  simp
  omega

variable (sh : ℝ) (hsh : shN c ix0 = ((sh : ℝ) : EReal))
include hsh in
/-- The score bound a grid point reads. -/
theorem shA_real : shA m c t = ((sh : ℝ) : EReal) := by
  unfold shA
  rw [View.ld_apply]
  unfold iblk
  rw [View.read_apply]
  show V m c main_v68 _ = _
  rw [V_sh]
  refine Eq.trans ?_ (sh_apply (shN c) sh hsh)
  congr 1
  funext a
  apply Fin.ext
  match a with
  | ⟨0, _⟩ => rfl

/-- The table of key offsets, read whole. -/
theorem ka_real (r : Fin 1024) (l : Fin 128) :
    View.ld (iblk m c 5 t) (Rect.unit (s := S1024x128) ![0, 0] ![1024, 128] inb_S1024x128_S1024x128_0_0) (ix2 r l) = ((kaR r.val l.val : ℝ) : EReal) := by
  rw [View.ld_unit_zero (S := S1024x128) hz2]
  unfold iblk
  rw [View.read_apply]
  show V m c main_v39 _ = _
  rw [V_ka]
  refine Eq.trans ?_ (ka_apply r l)
  congr 1
  funext a
  apply Fin.ext
  match a with
  | ⟨0, _⟩ => show 0 * 1024 + 1 * r.val = r.val; omega
  | ⟨1, _⟩ => show 0 * 128 + 1 * l.val = l.val; omega

/-- One of the three query tables, read. -/
theorem qt_read (n : ℕ) (hn : n < 3) (inb) (r : Fin 1024) (l : Fin 128) :
    View.ld (iblk m c 4 t) (Rect.unit (s := S3x1024x128) ![n, 0, 0] ![1, 1024, 128] inb) (ix3 0 r l) = qtTerm (shN c) (ix3 ⟨n, hn⟩ r l) := by
  rw [View.ld_apply]
  unfold iblk
  rw [View.read_apply]
  show V m c main_v64 _ = _
  rw [V_qt]
  congr 1
  funext a
  apply Fin.ext
  match a with
  | ⟨0, _⟩ => show 0 * 3 + 1 * (n + 1 * 0) = n; omega
  | ⟨1, _⟩ => show 0 * 1024 + 1 * (0 + 1 * r.val) = r.val; omega
  | ⟨2, _⟩ => show 0 * 128 + 1 * (0 + 1 * l.val) = l.val; omega

/-- The four lambda vectors, read whole. -/
theorem lam_read : View.ld (iblk m c 2 t) (Rect.unit (s := S4x128) ![0, 0] ![4, 128] inb_S4x128_S4x128_0_0) = X2 m c := by
  rw [View.ld_unit_zero (S := S4x128) hz2]
  funext j
  unfold iblk
  rw [View.read_apply]
  show V m c main_arg2 _ = V m c main_arg2 _
  congr 1
  funext a
  apply Fin.ext
  match a with
  | ⟨0, _⟩ => show 0 * 4 + 1 * (j 0).val = (j 0).val; omega
  | ⟨1, _⟩ => show 0 * 128 + 1 * (j 1).val = (j 1).val; omega

/-- A row of gains laid out as a one-row table. -/
theorem row_cast (x : FVec Ideal S256 .f32) (d : Fin 256) : shapeCast S1x256 x shapeCasts_S256_S1x256 (ix2 0 d) = x (ix1 d) := by
  pointwise []
/-- The gain of the head's norm as the call finds it. -/
def X3 : Fin 256 → EReal := fun d => (m (c, Proc.devRef .tc main_arg3) : S256.Idx → EReal) (ix1 d)
/-- The gain, read whole. -/
theorem g_read (d : Fin 256) : View.ld (iblk m c 3 t) (Rect.unit (s := S1x256) ![0, 0] ![1, 256] inb_S1x256_S1x256_0_0) (ix2 0 d) = X3 m c d := by
  rw [View.ld_unit_zero (S := S1x256) hz2]
  unfold iblk
  rw [View.read_apply]
  show V m c main_v69 _ = _
  rw [V_g]
  refine Eq.trans ?_ (row_cast _ d)
  congr 1
  funext a
  apply Fin.ext
  match a with
  | ⟨0, _⟩ => rfl
  | ⟨1, _⟩ => show 0 * 256 + 1 * d.val = d.val; omega

end Cert.OnlineAttn
end
-- ==== Proof.Online.Step.lean ====
module

public import proofs.«01_k».proof.Proof.Online.Reads
public import proofs.«01_k».proof.Proof.Gen.OnlineIdeal.Frame
public import proofs.«01_k».proof.Proof.Gen.OnlineIdeal.Value
public import Idealize.ShloMosaic.Lib.Pipeline.Value
public import Idealize.ShloMosaic.Lib.Pipeline.ValueKit.Tiles

@[expose] public section

set_option maxRecDepth 16384

noncomputable section

namespace Cert.OnlineAttn

open Idealize.ShloMosaic Idealize.ShloMosaic.TcCoe Idealize.ShloMosaic.Tactic Idealize.SL.Sem
open Cert.OnlineIdeal Cert.OnlineIdeal.Gen

variable (m : (ℓ : Loc nD τ sig) → Buf (Elt Ideal) ℓ)

/-! What is kept after some blocks. -/

/-- The scratch blocks hold both maps' maxima and sums over the first blocks of keys, for the rows of one block of queries. -/
def Sums (E0 E1 : ℕ → ℕ → EReal) (V : ℕ → ℕ → ℝ) (q n : ℕ) (M L : S2x1024x128.Idx → EReal) (A : S2x1024x256.Idx → EReal) : Prop :=
  (∀ r : Fin 1024, Half E0 V (q * 1024 + r.val) n (fun l => M (ix3 0 r l)) (fun l => L (ix3 0 r l)) (fun d => A (ix3 0 r d))) ∧
  (∀ r : Fin 1024, Half E1 V (q * 1024 + r.val) n (fun l => M (ix3 1 r l)) (fun l => L (ix3 1 r l)) (fun d => A (ix3 1 r d)))

/-- The bias block holds the distances within a block, times the slope, less the bound. -/
def Bias (slope sh : ℝ) (B : S1024x1024.Idx → EReal) : Prop :=
  ∀ r s : Fin 1024, B (ix2 r s) = ((-slope * |(r.val : ℝ) - (s.val : ℝ)| - sh : ℝ) : EReal)

/-- The maximum's first value is minus infinity. -/
theorem pay1_at (a : Fin 2) (r : Fin 1024) (l : Fin 128) : k0_pay1 (F := Ideal) (ix3 a r l) = (⊥ : EReal) := by
  rw [← lit_bot]
  pointwise [k0_pay1]

/-- Before the first block the maxima are minus infinity and the sums are zero. -/
theorem sums_zero (E0 E1 : ℕ → ℕ → EReal) (V : ℕ → ℕ → ℝ) (q : ℕ) : Sums E0 E1 V q 0 (k0_pay1 (F := Ideal)) (k0_pay2 (F := Ideal)) (k0_pay3 (F := Ideal)) := by
  have h2 : ∀ (a : Fin 2) (r : Fin 1024) (l : Fin 128), k0_pay2 (F := Ideal) (ix3 a r l) = 0 := fun a r l => by
    pointwise [k0_pay2]
  have h3 : ∀ (a : Fin 2) (r : Fin 1024) (l : Fin 256), k0_pay3 (F := Ideal) (ix3 a r l) = 0 := fun a r l => by
    pointwise [k0_pay3]
  refine ⟨fun r => ⟨fun l => ?_, fun l => ?_, fun d => ?_⟩, fun r => ⟨fun l => ?_, fun l => ?_, fun d => ?_⟩⟩
  · exact (pay1_at _ _ _).trans (by simp [rm])
  · exact (h2 _ _ _).trans (by simp [lT])
  · exact (h3 _ _ _).trans (by simp [aT])
  · exact (pay1_at _ _ _).trans (by simp [rm])
  · exact (h2 _ _ _).trans (by simp [lT])
  · exact (h3 _ _ _).trans (by simp [aT])

variable (c : Dev nD) (t : Fin cfg0.N)
variable (sh : ℝ) (hsh : shN c ix0 = ((sh : ℝ) : EReal)) (H1 : AllReal (X1 m c)) (H2 : AllReal (X2 m c))

/-- The scores of one map at a grid point's batch and head, less the shift. -/
def EE (g : ℕ) : ℕ → ℕ → EReal := ex (Qf (X0 m c) (t.val / 512) (t.val / 64 % 8)) (Kf (X0 m c) (t.val / 512) (t.val / 64 % 8)) (slopeR (t.val / 64 % 8)) sh g
/-- The values at a grid point's batch and head. -/
def VV : ℕ → ℕ → ℝ := Vf (X1 m c) (t.val / 512) (t.val / 64 % 8)

include hsh in
/-- The scores of the first map at an off-diagonal point. -/
theorem e0A_real (hne : t.val / 8 % 8 ≠ t.val % 8) (r s : Fin 1024) :
    e0A m c t (ix2 r s) = EE m c t sh 0 (t.val / 8 % 8 * 1024 + r.val) (t.val % 8 * 1024 + s.val) := by
  unfold e0A
  rw [co2, co3]
  exact pay15_real (Qf (X0 m c) (t.val / 512) (t.val / 64 % 8)) (Kf (X0 m c) (t.val / 512) (t.val / 64 % 8)) (slopeR (t.val / 64 % 8)) sh
    ⟨t.val / 8 % 8, Nat.mod_lt _ (by omega)⟩ ⟨t.val % 8, Nat.mod_lt _ (by omega)⟩ _ _ _ _ _ _ _ (slA_real m c t)
    (fun r l => (qt_read m c t 0 (by omega) _ r l).trans (qt_apply0 _ r l)) (fun r l => (qt_read m c t 1 (by omega) _ r l).trans (qt_apply1 _ r l))
    (fun r l => (qt_read m c t 2 (by omega) _ r l).trans (qt_apply2 _ sh hsh r l)) (fun r l => ka_real m c t r l)
    (fun r d => qA_real m c t r d) (fun r d => kA_real m c t r d) (fun h => hne (congrArg Fin.val h)) r s

include hsh in
/-- The scores of the second map at an off-diagonal point. -/
theorem e1A_real (hne : t.val / 8 % 8 ≠ t.val % 8) (r s : Fin 1024) :
    e1A m c t (ix2 r s) = EE m c t sh 1 (t.val / 8 % 8 * 1024 + r.val) (t.val % 8 * 1024 + s.val) := by
  unfold e1A
  rw [co2, co3]
  exact pay16_real (Qf (X0 m c) (t.val / 512) (t.val / 64 % 8)) (Kf (X0 m c) (t.val / 512) (t.val / 64 % 8)) (slopeR (t.val / 64 % 8)) sh
    ⟨t.val / 8 % 8, Nat.mod_lt _ (by omega)⟩ ⟨t.val % 8, Nat.mod_lt _ (by omega)⟩ _ _ _ _ _ _ _ (slA_real m c t)
    (fun r l => (qt_read m c t 0 (by omega) _ r l).trans (qt_apply0 _ r l)) (fun r l => (qt_read m c t 1 (by omega) _ r l).trans (qt_apply1 _ r l))
    (fun r l => (qt_read m c t 2 (by omega) _ r l).trans (qt_apply2 _ sh hsh r l)) (fun r l => ka_real m c t r l)
    (fun r d => qA_real m c t r d) (fun r d => kA_real m c t r d) (fun h => hne (congrArg Fin.val h)) r s

include hsh H1 in
/-- An off-diagonal point adds its block. -/
theorem step_off (hne : t.val / 8 % 8 ≠ t.val % 8) (M L : S2x1024x128.Idx → EReal) (A : S2x1024x256.Idx → EReal)
    (h : Sums (EE m c t sh 0) (EE m c t sh 1) (VV m c t) (t.val / 8 % 8) (t.val % 8) M L A) :
    Sums (EE m c t sh 0) (EE m c t sh 1) (VV m c t) (t.val / 8 % 8) (t.val % 8 + 1) (offM m c t M) (offL m c t M L) (offS m c t M A) := by
  have hp := e0A_real m c t sh hsh hne
  have he := e1A_real m c t sh hsh hne
  have hv := vA_real m c t H1
  refine ⟨fun r => ?_, fun r => ?_⟩
  · have hr := h.1 r
    simp only [← ld0L_at, ← ld0A_at] at hr
    have key := half_next _ _ _ _ r (e0A m c t) (vA m c t) (ld0L M) (ld0L L) (ld0A A) (hp r) hv hr
    unfold offM offL offS
    simp only [canonL_at0, canonA_at0]
    exact key
  · have hr := h.2 r
    simp only [← ld1L_at, ← ld1A_at] at hr
    have key := half_next _ _ _ _ r (e1A m c t) (vA m c t) (ld1L M) (ld1L L) (ld1A A) (he r) hv hr
    unfold offM offL offS
    simp only [canonL_at1, canonA_at1]
    exact key

include H1 in
/-- A diagonal point adds its block. -/
theorem step_dia (heq : t.val / 8 % 8 = t.val % 8) (β : S1024x1024.Idx → EReal) (hβ : Bias (slopeR (t.val / 64 % 8)) sh β)
    (M L : S2x1024x128.Idx → EReal) (A : S2x1024x256.Idx → EReal)
    (h : Sums (EE m c t sh 0) (EE m c t sh 1) (VV m c t) (t.val / 8 % 8) (t.val % 8) M L A) :
    Sums (EE m c t sh 0) (EE m c t sh 1) (VV m c t) (t.val / 8 % 8) (t.val % 8 + 1) (diaM m c t β M) (diaL m c t β M L) (diaS m c t β M A) := by
  have hk : ∀ (r : Fin 1024) (d : Fin 256), kA m c t (ix2 r d) = Kf (X0 m c) (t.val / 512) (t.val / 64 % 8) (t.val / 8 % 8 * 1024 + r.val) d.val := by
    rw [heq]; exact kA_real m c t
  have hp := pay26_real (Qf (X0 m c) (t.val / 512) (t.val / 64 % 8)) (Kf (X0 m c) (t.val / 512) (t.val / 64 % 8)) (slopeR (t.val / 64 % 8)) sh
    ⟨t.val / 8 % 8, Nat.mod_lt _ (by omega)⟩ β (qA m c t) (kA m c t) hβ (qA_real m c t) hk
  have he := pay27_real (Qf (X0 m c) (t.val / 512) (t.val / 64 % 8)) (Kf (X0 m c) (t.val / 512) (t.val / 64 % 8)) (slopeR (t.val / 64 % 8)) sh
    ⟨t.val / 8 % 8, Nat.mod_lt _ (by omega)⟩ β (qA m c t) (kA m c t) hβ (qA_real m c t) hk
  have hv := vA_real m c t H1
  rw [← heq] at hv h ⊢
  refine ⟨fun r => ?_, fun r => ?_⟩
  · have hr := h.1 r
    simp only [← ld0L_at, ← ld0A_at] at hr
    have key := half_next (EE m c t sh 0) (VV m c t) (t.val / 8 % 8 * 1024 + r.val) (t.val / 8 % 8) r (d0A m c t β) (vA m c t) (ld0L M) (ld0L L) (ld0A A) (hp r) hv hr
    unfold diaM diaL diaS
    simp only [canonL_at0, canonA_at0]
    exact key
  · have hr := h.2 r
    simp only [← ld1L_at, ← ld1A_at] at hr
    have key := half_next (EE m c t sh 1) (VV m c t) (t.val / 8 % 8 * 1024 + r.val) (t.val / 8 % 8) r (d1A m c t β) (vA m c t) (ld1L M) (ld1L L) (ld1A A) (he r) hv hr
    unfold diaM diaL diaS
    simp only [canonL_at1, canonA_at1]
    exact key

include hsh in
/-- The bias the first point of a head leaves. -/
theorem bias_real : Bias (slopeR (t.val / 64 % 8)) sh (biasA m c t) := fun r s =>
  pay25_real (slopeR (t.val / 64 % 8)) sh _ _ (slA_real m c t) (shA_real m c t sh hsh) r s

end Cert.OnlineAttn
end
-- ==== Proof.Online.Out.lean ====
module

public import proofs.«01_k».proof.Proof.Online.Step
public import proofs.«01_k».proof.Proof.Gen.OnlineIdeal.Frame
public import proofs.«01_k».proof.Proof.Gen.OnlineIdeal.Value
public import Idealize.ShloMosaic.Lib.Pipeline.Value
public import Idealize.ShloMosaic.Lib.Pipeline.ValueKit.Tiles

@[expose] public section

set_option maxRecDepth 16384

noncomputable section

namespace Cert.OnlineAttn

open Idealize.ShloMosaic Idealize.ShloMosaic.TcCoe Idealize.ShloMosaic.Tactic Idealize.SL.Sem
open Cert.OnlineIdeal Cert.OnlineIdeal.Gen

variable (m : (ℓ : Loc nD τ sig) → Buf (Elt Ideal) ℓ)

variable (c : Dev nD) (t : Fin cfg0.N)
variable (sh : ℝ) (H2 : AllReal (X2 m c))

/-! The output block, from the two running sums. -/

include H2 in
/-- The difference of the two normalised maps. -/
theorem dif_real (E0 E1 : ℕ → ℕ → EReal) (V : ℕ → ℕ → ℝ) (q : ℕ) (M L : S2x1024x128.Idx → EReal) (A : S2x1024x256.Idx → EReal) (h : Sums E0 E1 V q 8 M L A) (r : Fin 1024) (d : Fin 256) :
    k0_pay41 (F := Ideal) (X2 m c) (ld0L L) (ld1L L) (ld0A A) (ld1A A) (ix2 r d)
      = diffK E0 E1 V (lamR (X2 m c)) (q * 1024 + r.val) d.val := by
  obtain ⟨-, hl0, ha0⟩ := h.1 r
  obtain ⟨-, hl1, ha1⟩ := h.2 r
  have f0 : ∀ x : Fin 128, ld0L L (ix3 0 r x) = ((lT E0 (q * 1024 + r.val) 8 (rm E0 (q * 1024 + r.val) 8) : ℝ) : EReal) := fun x => (ld0L_at L r x).trans (hl0 x)
  have f1 : ∀ x : Fin 128, ld1L L (ix3 0 r x) = ((lT E1 (q * 1024 + r.val) 8 (rm E1 (q * 1024 + r.val) 8) : ℝ) : EReal) := fun x => (ld1L_at L r x).trans (hl1 x)
  have g0 := (ld0A_at A r d).trans (ha0 d)
  have g1 := (ld1A_at A r d).trans (ha1 d)
  have el := lamE_eq H2
  unfold lamE at el
  pointwise [k0_pay41]
  simp only [f0, f1, dite_eq_ite, ite_self]
  rw [el, g0, g1]
  rfl

include H2 in
/-- The output block at a point whose sums are complete. -/
theorem out_real (E0 E1 : ℕ → ℕ → EReal) (V : ℕ → ℕ → ℝ) (q : ℕ) (M L : S2x1024x128.Idx → EReal) (A : S2x1024x256.Idx → EReal) (h : Sums E0 E1 V q 8 M L A) (r : Fin 1024) (d : Fin 256) :
    difA m c t L A (ix2 r d) = outE (fun e => diffK E0 E1 V (lamR (X2 m c)) (q * 1024 + r.val) e.val) (X3 m c d) d := by
  have hd := dif_real m c H2 E0 E1 V q M L A h
  unfold difA
  rw [lam_read]
  have hg := g_read m c t d
  generalize View.ld (iblk m c 3 t) (Rect.unit (s := S1x256) ![0, 0] ![1, 256] inb_S1x256_S1x256_0_0) = g at hg
  have h42 : k0_pay42 (F := Ideal) (X2 m c) (ld0L L) (ld1L L) (ld0A A) (ld1A A) (ix2 r d)
      = Ideal.rsqrt (Ideal.div (∑ x : Fin 256, k0_pay41 (F := Ideal) (X2 m c) (ld0L L) (ld1L L) (ld0A A) (ld1A A) (ix2 r x) * k0_pay41 (F := Ideal) (X2 m c) (ld0L L) (ld1L L) (ld0A A) (ld1A A) (ix2 r x)) (Ideal.ofBits FTy.f32 1132462080#32) + Ideal.ofBits FTy.f32 897988541#32) := by
    pointwise [k0_pay42]
  simp only [hd r] at h42
  have hrd := hd r d
  generalize k0_pay41 (F := Ideal) (X2 m c) (ld0L L) (ld1L L) (ld0A A) (ld1A A) = w41 at hrd ⊢
  generalize k0_pay42 (F := Ideal) (X2 m c) (ld0L L) (ld1L L) (ld0A A) (ld1A A) = w42 at h42 ⊢
  pointwise [k0_pay12]
  rw [hg, hrd, h42]
  rfl

end Cert.OnlineAttn
end
-- ==== Proof.Online.Inv.lean ====
module

public import proofs.«01_k».proof.Proof.Online.CaseA
public import proofs.«01_k».proof.Proof.Online.CaseB
public import proofs.«01_k».proof.Proof.Online.CaseC
public import proofs.«01_k».proof.Proof.Online.CaseD
public import proofs.«01_k».proof.Proof.Online.CaseE
public import proofs.«01_k».proof.Proof.Online.CaseF
public import proofs.«01_k».proof.Proof.Online.Out
public import proofs.«01_k».proof.Proof.Gen.OnlineIdeal.Frame
public import proofs.«01_k».proof.Proof.Gen.OnlineIdeal.Value
public import Idealize.ShloMosaic.Lib.Pipeline.Value
public import Idealize.ShloMosaic.Lib.Pipeline.ValueKit.Tiles

@[expose] public section

set_option maxRecDepth 16384

noncomputable section

namespace Cert.OnlineAttn

open Idealize.ShloMosaic Idealize.ShloMosaic.TcCoe Idealize.ShloMosaic.Tactic Idealize.SL.Sem
open Cert.OnlineIdeal Cert.OnlineIdeal.Gen

variable (m : (ℓ : Loc nD τ sig) → Buf (Elt Ideal) ℓ)

variable (c : Dev nD)
variable (sh : ℝ) (hsh : shN c ix0 = ((sh : ℝ) : EReal)) (H1 : AllReal (X1 m c)) (H2 : AllReal (X2 m c))

/-! What the kept blocks hold after each grid point. -/

/-- The state after a grid point: the maxima and sums over the key blocks so far, and the head's bias. -/
def Holds (t : Fin cfg0.N) (M L : S2x1024x128.Idx → EReal) (A : S2x1024x256.Idx → EReal) (B : S1024x1024.Idx → EReal) : Prop :=
  Sums (EE m c t sh 0) (EE m c t sh 1) (VV m c t) (t.val / 8 % 8) (t.val % 8 + 1) M L A ∧ Bias (slopeR (t.val / 64 % 8)) sh B

/-- The scores depend on the batch and the head only. -/
theorem EE_congr (t u : Fin cfg0.N) (h1 : t.val / 512 = u.val / 512) (h2 : t.val / 64 % 8 = u.val / 64 % 8) (g : ℕ) : EE m c t sh g = EE m c u sh g := by
  unfold EE
  rw [h1, h2]
/-- The values depend on the batch and the head only. -/
theorem VV_congr (t u : Fin cfg0.N) (h1 : t.val / 512 = u.val / 512) (h2 : t.val / 64 % 8 = u.val / 64 % 8) : VV m c t = VV m c u := by
  unfold VV
  rw [h1, h2]

/-- What the point before left, for a point that is not the first of its row of blocks. -/
theorem prev_sums (t u : Fin cfg0.N) (hu : t.val = u.val + 1) (h0 : ¬t.val % 8 = 0) (M L : S2x1024x128.Idx → EReal) (A : S2x1024x256.Idx → EReal) (B : S1024x1024.Idx → EReal)
    (h : Holds m c sh u M L A B) : Sums (EE m c t sh 0) (EE m c t sh 1) (VV m c t) (t.val / 8 % 8) (t.val % 8) M L A := by
  have h1 : t.val / 512 = u.val / 512 := by omega
  have h2 : t.val / 64 % 8 = u.val / 64 % 8 := by omega
  rw [EE_congr m c sh t u h1 h2, EE_congr m c sh t u h1 h2, VV_congr m c t u h1 h2, show t.val / 8 % 8 = u.val / 8 % 8 by omega, show t.val % 8 = u.val % 8 + 1 by omega]
  exact h.1

/-- The bias the point before left, for a point that is not the first of its head. -/
theorem prev_bias (t u : Fin cfg0.N) (hu : t.val = u.val + 1) (h0 : ¬(t.val % 8 = 0 ∧ t.val / 8 % 8 = 0)) (M L : S2x1024x128.Idx → EReal) (A : S2x1024x256.Idx → EReal) (B : S1024x1024.Idx → EReal)
    (h : Holds m c sh u M L A B) : Bias (slopeR (t.val / 64 % 8)) sh B := by
  rw [show t.val / 64 % 8 = u.val / 64 % 8 by omega]
  exact h.2

/-- The state may be read off equal blocks. -/
theorem holds_of (t : Fin cfg0.N) {M M' L L' : S2x1024x128.Idx → EReal} {A A' : S2x1024x256.Idx → EReal} {B B' : S1024x1024.Idx → EReal}
    (hM : M = M') (hL : L = L') (hA : A = A') (hB : B = B') (h : Holds m c sh t M' L' A' B') : Holds m c sh t M L A B := by
  subst hM hL hA hB
  exact h

include hsh H1 in
/-- The state after the first point of a head. -/
theorem holds_first (t : Fin cfg0.N) (h0 : t.val % 8 = 0) (h2 : t.val / 8 % 8 = t.val % 8) (h4 : t.val / 8 % 8 = 0) :
    Holds m c sh t (outsAt0 m c t.val t.isLt).2.1 (outsAt0 m c t.val t.isLt).2.2.1 (outsAt0 m c t.val t.isLt).2.2.2.1 (outsAt0 m c t.val t.isLt).2.2.2.2 := by
  have hz : Sums (EE m c t sh 0) (EE m c t sh 1) (VV m c t) (t.val / 8 % 8) (t.val % 8) (k0_pay1 (F := Ideal)) (k0_pay2 (F := Ideal)) (k0_pay3 (F := Ideal)) := by
    rw [h0]; exact sums_zero _ _ _ _
  have h1 : ¬t.val / 8 % 8 ≠ t.val % 8 := fun h => h h2
  have h3 : ¬t.val % 8 = 7 := by omega
  refine holds_of m c sh _ (m_A m c t h0 h1 h2 h3 h4) (l_A m c t h0 h1 h2 h3 h4) (s_A m c t h0 h1 h2 h3 h4) (b_A m c t h0 h1 h2 h3 h4) ?_
  exact ⟨step_dia m c t sh H1 h2 _ (bias_real m c t sh hsh) _ _ _ hz, bias_real m c t sh hsh⟩

include hsh H1 in
/-- The state after every grid point. -/
theorem holds_all : ∀ (n : ℕ) (hn : n < cfg0.N), Holds m c sh ⟨n, hn⟩ (outsAt0 m c n hn).2.1 (outsAt0 m c n hn).2.2.1 (outsAt0 m c n hn).2.2.2.1 (outsAt0 m c n hn).2.2.2.2 := by
  intro n
  induction n with
  | zero =>
    intro hn
    exact holds_first m c sh hsh H1 ⟨0, hn⟩ (Nat.zero_mod 8) (by simp) (by simp)
  | succ n ih =>
    intro hn
    have hp := ih (Nat.lt_of_succ_lt hn)
    generalize ht : (⟨n + 1, hn⟩ : Fin cfg0.N) = t
    have hv : t.val = n + 1 := by rw [← ht]
    have e : outsAt0 m c (n + 1) hn = outsAt0 m c t.val t.isLt := by subst ht; rfl
    have ep : prevA m c t = outsAt0 m c n (Nat.lt_of_succ_lt hn) := by subst ht; rfl
    rw [e]
    rw [← ep] at hp
    have hS := fun h0 => prev_sums m c sh t ⟨n, Nat.lt_of_succ_lt hn⟩ hv h0 _ _ _ _ hp
    have hB := fun h0 => prev_bias m c sh t ⟨n, Nat.lt_of_succ_lt hn⟩ hv h0 _ _ _ _ hp
    by_cases h0 : t.val % 8 = 0
    · have hz : Sums (EE m c t sh 0) (EE m c t sh 1) (VV m c t) (t.val / 8 % 8) (t.val % 8) (k0_pay1 (F := Ideal)) (k0_pay2 (F := Ideal)) (k0_pay3 (F := Ideal)) := by
        rw [h0]; exact sums_zero _ _ _ _
      by_cases h2 : t.val / 8 % 8 = t.val % 8
      · exact holds_first m c sh hsh H1 t h0 h2 (h2.trans h0)
      · have h3 : ¬t.val % 8 = 7 := by omega
        refine holds_of m c sh _ (m_D m c t h0 h2 h2 h3) (l_D m c t h0 h2 h2 h3) (s_D m c t h0 h2 h2 h3) (b_D m c t h0 h2 h2 h3) ?_
        exact ⟨step_off m c t sh hsh H1 h2 _ _ _ hz, hB (by omega)⟩
    · have hb := hB (by omega)
      have hs := hS h0
      by_cases h2 : t.val / 8 % 8 = t.val % 8
      · have h1 : ¬t.val / 8 % 8 ≠ t.val % 8 := fun h => h h2
        have h4 : ¬t.val / 8 % 8 = 0 := by omega
        by_cases h3 : t.val % 8 = 7
        · refine holds_of m c sh _ (m_F m c t h0 h1 h2 h3 h4) (l_F m c t h0 h1 h2 h3 h4) (s_F m c t h0 h1 h2 h3 h4) (b_F m c t h0 h1 h2 h3 h4) ?_
          rw [bA_eq]
          exact ⟨step_dia m c t sh H1 h2 _ hb _ _ _ hs, hb⟩
        · refine holds_of m c sh _ (m_E m c t h0 h1 h2 h3 h4) (l_E m c t h0 h1 h2 h3 h4) (s_E m c t h0 h1 h2 h3 h4) (b_E m c t h0 h1 h2 h3 h4) ?_
          rw [bA_eq]
          exact ⟨step_dia m c t sh H1 h2 _ hb _ _ _ hs, hb⟩
      · by_cases h3 : t.val % 8 = 7
        · refine holds_of m c sh _ (m_C m c t h0 h2 h2 h3) (l_C m c t h0 h2 h2 h3) (s_C m c t h0 h2 h2 h3) (b_C m c t h0 h2 h2 h3) ?_
          exact ⟨step_off m c t sh hsh H1 h2 _ _ _ hs, hb⟩
        · refine holds_of m c sh _ (m_B m c t h0 h2 h2 h3) (l_B m c t h0 h2 h2 h3) (s_B m c t h0 h2 h2 h3) (b_B m c t h0 h2 h2 h3) ?_
          exact ⟨step_off m c t sh hsh H1 h2 _ _ _ hs, hb⟩

include hsh H1 H2 in
/-- The output block after the last point of a row of blocks. -/
theorem out_all (t : Fin cfg0.N) (h3 : t.val % 8 = 7) (r : Fin 1024) (d : Fin 256) :
    (outsAt0 m c t.val t.isLt).1 (ix2 r d)
      = outE (fun e => diffK (EE m c t sh 0) (EE m c t sh 1) (VV m c t) (lamR (X2 m c)) (t.val / 8 % 8 * 1024 + r.val) e.val) (X3 m c d) d := by
  have hh := (holds_all m c sh hsh H1 t.val t.isLt).1
  have h0 : ¬t.val % 8 = 0 := by omega
  have h8 : t.val % 8 + 1 = 8 := by omega
  change Sums (EE m c t sh 0) (EE m c t sh 1) (VV m c t) (t.val / 8 % 8) (t.val % 8 + 1) _ _ _ at hh
  rw [h8] at hh
  by_cases h2 : t.val / 8 % 8 = t.val % 8
  · have h1 : ¬t.val / 8 % 8 ≠ t.val % 8 := fun h => h h2
    have h4 : ¬t.val / 8 % 8 = 0 := by omega
    rw [o_F m c t h0 h1 h2 h3 h4, ← l_F m c t h0 h1 h2 h3 h4, ← s_F m c t h0 h1 h2 h3 h4]
    exact out_real m c t H2 _ _ _ _ _ _ _ hh r d
  · rw [o_C m c t h0 h2 h2 h3, ← l_C m c t h0 h2 h2 h3, ← s_C m c t h0 h2 h2 h3]
    exact out_real m c t H2 _ _ _ _ _ _ _ hh r d

end Cert.OnlineAttn
end
-- ==== Proof.Online.Final.lean ====
module

public import proofs.«01_k».proof.Proof.Online.Inv
public import proofs.«01_k».proof.Proof.Gen.OnlineIdeal.Frame
public import proofs.«01_k».proof.Proof.Gen.OnlineIdeal.Value
public import Idealize.ShloMosaic.Lib.Pipeline.Value
public import Idealize.ShloMosaic.Lib.Pipeline.ValueKit.Tiles

@[expose] public section

set_option maxRecDepth 16384

noncomputable section

namespace Cert.OnlineAttn

open Idealize.ShloMosaic Idealize.ShloMosaic.TcCoe Idealize.ShloMosaic.Tactic Idealize.SL.Sem
open Cert.OnlineIdeal Cert.OnlineIdeal.Gen

variable (m : (ℓ : Loc nD τ sig) → Buf (Elt Ideal) ℓ)

variable (c : Dev nD)
variable (hsh : shN c ix0 = ((0 : ℝ) : EReal)) (H1 : AllReal (X1 m c)) (H2 : AllReal (X2 m c))

/-- The array the call leaves. -/
def result : Buf (Elt Ideal) ((c : Thread nD τ).loc main_v70) :=
  (fun j : S16384x2048.Idx => resE diffK (X0 m c) (X1 m c) (X2 m c) (X3 m c) (j 0) (j 1) : S16384x2048.Idx → EReal)

/-- The array's entry at a block's place is the block's own output. -/
theorem resE_block (t : Fin cfg0.N) (R : Fin 16384) (C : Fin 2048) (r : Fin 1024) (d : Fin 256)
    (hR : R.val = (t.val / 512 * 8 + t.val / 8 % 8) * 1024 + r.val) (hC : C.val = t.val / 64 % 8 * 256 + d.val) :
    outE (fun e => diffK (EE m c t 0 0) (EE m c t 0 1) (VV m c t) (lamR (X2 m c)) (t.val / 8 % 8 * 1024 + r.val) e.val) (X3 m c d) d
      = resE diffK (X0 m c) (X1 m c) (X2 m c) (X3 m c) R C := by
  have ht := N_lt t
  have hr := r.isLt
  have hd := d.isLt
  unfold resE EE VV
  have e1 : R.val / 8192 = t.val / 512 := by omega
  have e2 : C.val / 256 = t.val / 64 % 8 := by omega
  have e3 : R.val % 8192 = t.val / 8 % 8 * 1024 + r.val := by omega
  have e4 : (⟨C.val % 256, Nat.mod_lt _ (by omega)⟩ : Fin 256) = d := Fin.ext (by show C.val % 256 = d.val; omega)
  rw [e1, e2, e3, e4]

include hsh H1 H2 in
/-- What is written back is the array's block. -/
theorem flushed_eq (t : Fin cfg0.N) (hf : (cfg0.win 9).flush t = true) :
    (dats m 0 c).flushed 9 t = ((cfg0.win 9).blk t).view.read (Elt Ideal) (result m c) := by
  have h3 : t.val % 8 = 7 := (flush0_9 t).mp hf
  rw [Cert.OnlineIdeal.Value.flushed9]
  funext j
  rw [View.read_apply]
  show (outsAt0 m c t.val t.isLt).1 j = result m c _
  have key : ∀ (j : S1024x256.Idx), (outsAt0 m c t.val t.isLt).1 j = outE (fun e => diffK (EE m c t 0 0) (EE m c t 0 1) (VV m c t) (lamR (X2 m c)) (t.val / 8 % 8 * 1024 + (j 0).val) e.val) (X3 m c (j 1)) (j 1) := fun j => by
    idx_vars j
    exact out_all m c 0 hsh H1 H2 t h3 j0 j1
  refine (key j).trans ?_
  unfold result
  apply resE_block
  · show win0_9.index t 0 * 1024 + 1 * (j 0).val = _
    rw [(ind9 t).1]
    omega
  · show win0_9.index t 1 * 256 + 1 * (j 1).val = _
    rw [(ind9 t).2]
    omega

include hsh H1 H2 in
/-- The call's array after the whole grid. -/
theorem final : (dats m 0 c).arrAt 9 cfg0.N = result m c :=
  (dats m 0 c).arrAt_eq_of_cover 9 (result m c) (flushed_eq m c hsh H1 H2) fun i => by
    have hi0 : (i 0 : Nat) < 16384 := (i 0).isLt
    have hi1 : (i 1 : Nat) < 2048 := (i 1).isLt
    have hN : cfg0.N = 1024 := N_0
    let n := (((i 0 : Nat) / 8192 * 8 + (i 1 : Nat) / 256) * 8 + (i 0 : Nat) / 1024 % 8) * 8 + 7
    have hn : n < cfg0.N := by rw [hN]; omega
    refine ⟨⟨n, hn⟩, (flush0_9 _).mpr (show n % 8 = 7 by omega), ?_⟩
    show i ∈ ((View.whole main_v70).slice (win0_9.rect ⟨n, hn⟩)).set
    rw [View.set_slice_whole, Rect.mem_set_unit]
    intro a
    have k0 := (ind9 ⟨n, hn⟩).1
    have k1 := (ind9 ⟨n, hn⟩).2
    match a with
    | ⟨0, _⟩ =>
      show win0_9.index ⟨n, hn⟩ 0 * 1024 ≤ (i 0 : Nat) ∧ (i 0 : Nat) < win0_9.index ⟨n, hn⟩ 0 * 1024 + 1024
      rw [k0]
      show (n / 512 * 8 + n / 8 % 8) * 1024 ≤ (i 0 : Nat) ∧ (i 0 : Nat) < (n / 512 * 8 + n / 8 % 8) * 1024 + 1024
      omega
    | ⟨1, _⟩ =>
      show win0_9.index ⟨n, hn⟩ 1 * 256 ≤ (i 1 : Nat) ∧ (i 1 : Nat) < win0_9.index ⟨n, hn⟩ 1 * 256 + 256
      rw [k1]
      show n / 64 % 8 * 256 ≤ (i 1 : Nat) ∧ (i 1 : Nat) < n / 64 % 8 * 256 + 256
      omega

end Cert.OnlineAttn
end
-- ==== Proof.Online.Row.lean ====
module

public import proofs.«01_k».proof.Proof.Online.Math

@[expose] public section

set_option maxRecDepth 16384

noncomputable section

namespace Cert.OnlineAttn

open Idealize.ShloMosaic Idealize.ShloMosaic.TcCoe Idealize.ShloMosaic.Tactic
open Cert.OnlineIdeal

/-! The two orders of the difference give one normalised row. -/

/-- Zero or infinite. -/
def Flat (x : EReal) : Prop := x = 0 ∨ x = ⊤ ∨ x = ⊥

/-- A sum of numbers that are zero or infinite is zero or infinite. -/
theorem flat_sum {ι : Type} (s : Finset ι) (f : ι → EReal) (h : ∀ i, Flat (f i)) : Flat (∑ i ∈ s, f i) := by
  classical
  induction s using Finset.induction_on with
  | empty => exact Or.inl Finset.sum_empty
  | insert a s ha ih =>
    rw [Finset.sum_insert ha]
    rcases h a with e | e | e <;> rcases ih with k | k | k <;> rw [e, k] <;> simp [Flat]

/-- A product with an infinite factor is zero or infinite. -/
theorem flat_mul (x : EReal) (y : EReal) (h : y = ⊤ ∨ y = ⊥) : Flat (x * y) := by
  rcases lt_trichotomy x 0 with hx | hx | hx
  · rcases h with e | e
    · rw [e]; exact Or.inr (Or.inr (EReal.mul_top_of_neg hx))
    · rw [e]; exact Or.inr (Or.inl (EReal.mul_bot_of_neg hx))
  · rw [hx, zero_mul]; exact Or.inl rfl
  · rcases h with e | e
    · rw [e]; exact Or.inr (Or.inl (EReal.mul_top_of_pos hx))
    · rw [e]; exact Or.inr (Or.inr (EReal.mul_bot_of_pos hx))

/-- The literal of the mean is 256. -/
theorem lit_width : Ideal.ofBits FTy.f32 1132462080#32 = ((256 : ℝ) : EReal) := by
  simp [Ideal.ofBits, Ideal.ieee, -EReal.coe_mul]
  norm_num

/-- The literal added to the mean is a real. -/
theorem lit_eps : ∃ v : ℝ, Ideal.ofBits FTy.f32 897988541#32 = ((v : ℝ) : EReal) := by
  simp [Ideal.ofBits, Ideal.ieee, -EReal.coe_mul]

/-- A sum of squares with an infinite entry is infinite. -/
theorem sq_top (o : Fin 256 → EReal) (h : ∀ e, Flat (o e)) (d : Fin 256) (hd : o d = ⊤ ∨ o d = ⊥) : (∑ x, o x * o x) = ⊤ := by
  have hs : ∀ x, o x * o x = 0 ∨ o x * o x = ⊤ := fun x => by
    rcases h x with e | e | e <;> rw [e] <;> simp
  have h0 : ∀ x, 0 ≤ o x * o x := fun x => by rcases hs x with e | e <;> rw [e]; exact le_top
  have hd' : o d * o d = ⊤ := by rcases hd with e | e <;> rw [e] <;> simp
  refine top_le_iff.1 ?_
  rw [← hd']
  exact Finset.single_le_sum (f := fun x => o x * o x) (fun x _ => h0 x) (Finset.mem_univ d)

/-- A row of zeros and infinities is normalised to zeros. -/
theorem out_flat (o : Fin 256 → EReal) (h : ∀ e, Flat (o e)) (g : EReal) (d : Fin 256) : outE o g d = 0 := by
  unfold outE
  by_cases hd : o d = 0
  · rw [hd]; simp only [zero_mul]
  · rw [sq_top o h d ((h d).resolve_left hd), lit_width, Ideal.div_coe (by norm_num)]
    obtain ⟨v, hv⟩ := lit_eps
    rw [hv, EReal.top_mul_coe_of_pos (by norm_num), EReal.top_add_coe]
    rw [show Ideal.rsqrt ⊤ = 0 from rfl]
    simp only [mul_zero, zero_mul]

section

variable (E E0 E1 : ℕ → ℕ → EReal) (V : ℕ → ℕ → ℝ) (lam : ℝ) (q e : ℕ)

/-- The sum of a row's weights, entry by entry. -/
theorem lsum_fin : lsum E q = ∑ k : Fin 8192, wt (E q k.val) (rm E q 8) :=
  Finset.sum_range (fun k => wt (E q k) (rm E q 8))
/-- The weighted values, entry by entry. -/
theorem asum_fin : asum E V q e = ∑ k : Fin 8192, wt (E q k.val) (rm E q 8) * V k.val e :=
  Finset.sum_range (fun k => wt (E q k) (rm E q 8) * V k e)

/-- A row's weights are not negative. -/
theorem wt_row (k : Fin 8192) : 0 ≤ wt (E q k.val) (rm E q 8) := wt_nonneg (le_rm E q 8 k.val k.isLt)

/-- Where a row's weights add up to zero every one is zero. -/
theorem wt_zero (h : lsum E q = 0) (k : Fin 8192) : wt (E q k.val) (rm E q 8) = 0 := by
  rw [lsum_fin] at h
  exact (Finset.sum_eq_zero_iff_of_nonneg fun k _ => wt_row E q k).1 h k (Finset.mem_univ k)

/-- Where a row's weights add up to zero the weighted values do. -/
theorem asum_zero (h : lsum E q = 0) : asum E V q e = 0 := by
  rw [asum_fin]
  exact Finset.sum_eq_zero fun k _ => by rw [wt_zero E q h, zero_mul]

/-- The sum of a row's weights is not negative. -/
theorem lsum_nonneg : 0 ≤ lsum E q := by
  rw [lsum_fin]
  exact Finset.sum_nonneg fun k _ => wt_row E q k

/-- Zero over zero is minus infinity. -/
theorem div_zero_zero : Ideal.div ((0 : ℝ) : EReal) ((0 : ℝ) : EReal) = ⊥ := by
  simp [Ideal.div]

/-- A number less an infinite multiple, or minus infinity less a number, is infinite. -/
theorem sub_mul_bot (x : ℝ) (h : lam ≠ 0) : ((x : ℝ) : EReal) - (lam : EReal) * ⊥ = ⊤ ∨ ((x : ℝ) : EReal) - (lam : EReal) * ⊥ = ⊥ := by
  rcases lt_or_gt_of_ne h with hl | hl
  · rw [EReal.coe_mul_bot_of_neg hl]
    exact Or.inr (EReal.sub_top _)
  · rw [EReal.coe_mul_bot_of_pos hl]
    exact Or.inl (EReal.coe_sub_bot x)

/-- Both rows of weights have a positive sum: the two orders agree. -/
theorem diff_pos (p0 : 0 < lsum E0 q) (p1 : 0 < lsum E1 q) : diffK E0 E1 V lam q e = diffW E0 E1 V lam q e := by
  unfold diffK diffW
  simp only [div_real _ _ p0, div_real _ _ p1, ← EReal.coe_mul, ← EReal.coe_sub]
  rw [coe_sum]
  congr 1
  rw [asum_fin, asum_fin, Finset.sum_div, Finset.sum_div, Finset.mul_sum, ← Finset.sum_sub_distrib]
  exact Finset.sum_congr rfl fun k _ => by ring

/-- The second map's sum is zero but its factor too: the two orders agree. -/
theorem diff_lam (p0 : 0 < lsum E0 q) : diffK E0 E1 V 0 q e = diffW E0 E1 V 0 q e := by
  unfold diffK diffW
  simp only [div_real _ _ p0, EReal.coe_zero, zero_mul, sub_zero, ← EReal.coe_mul]
  rw [coe_sum]
  congr 1
  rw [asum_fin, Finset.sum_div]
  exact Finset.sum_congr rfl fun k _ => by ring

/-- The two orders give one normalised row. -/
theorem row_same (g : EReal) (d : Fin 256) : outE (fun e => diffK E0 E1 V lam q e.val) g d = outE (fun e => diffW E0 E1 V lam q e.val) g d := by
  rcases (lsum_nonneg E0 q).eq_or_lt' with z0 | p0
  · rw [out_flat, out_flat]
    · refine fun e => flat_sum _ _ fun k => flat_mul _ _ (Or.inr ?_)
      rw [wt_zero E0 q z0, z0, div_zero_zero, EReal.bot_sub]
    · refine fun e => Or.inr (Or.inr ?_)
      unfold diffK
      rw [asum_zero E0 V q _ z0, z0, div_zero_zero, EReal.bot_sub]
  · rcases (lsum_nonneg E1 q).eq_or_lt' with z1 | p1
    · by_cases hl : lam = 0
      · subst hl
        simp only [diff_lam E0 E1 V q _ p0]
      · rw [out_flat, out_flat]
        · refine fun e => flat_sum _ _ fun k => flat_mul _ _ ?_
          rw [wt_zero E1 q z1, z1, div_zero_zero, div_real _ _ p0]
          exact sub_mul_bot lam _ hl
        · refine fun e => Or.inr ?_
          show diffK E0 E1 V lam q e.val = ⊤ ∨ diffK E0 E1 V lam q e.val = ⊥
          unfold diffK
          rw [asum_zero E1 V q _ z1, z1, div_zero_zero, div_real _ _ p0]
          exact sub_mul_bot lam _ hl
    · simp only [diff_pos E0 E1 V lam q _ p0 p1]

end

end Cert.OnlineAttn

end
-- ==== Proof.Online.Ref.lean ====
module

public import proofs.«01_k».proof.Proof.Online.Row
public import proofs.«01_k».proof.Proof.Attn.Ref

@[expose] public section

set_option maxRecDepth 16384

noncomputable section

namespace Cert.OnlineAttn

open Idealize.ShloMosaic Idealize.ShloMosaic.TcCoe Idealize.ShloMosaic.Tactic
open Cert.ReferenceIdeal Cert.ReferenceIdeal.Read

/-! The reference's result, its queries and keys not assumed finite. -/

variable (x0 : S16384x4096.Idx → EReal) (x1 : S16384x2048.Idx → EReal) (x2 : S4x128.Idx → EReal) (x3 : S256.Idx → EReal)
variable (h1 : AllReal x1) (h2 : AllReal x2)

/-- The reference's queries. -/
theorem v2_at (b : Fin 2) (s : Fin 8192) (h : Fin 8) (c : Fin 2) (d : Fin 128) :
    val_main_v2 (F := Ideal) x0 (ix5 b s h c d) = Qf x0 b.val h.val s.val (c.val * 128 + d.val) := by
  pointwise [val_main_v2, val_main_v1, val_main_v0]
  rw [qkR_eq x0]
  unfold Qf
  rw [← Nat.add_assoc]

/-- The reference's keys. -/
theorem v5_at (b : Fin 2) (s : Fin 8192) (h : Fin 8) (c : Fin 2) (d : Fin 128) :
    val_main_v5 (F := Ideal) x0 (ix5 b s h c d) = Kf x0 b.val h.val s.val (c.val * 128 + d.val) := by
  pointwise [val_main_v5, val_main_v4, val_main_v3]
  rw [qkR_eq x0]
  unfold Kf
  simp only [Nat.add_assoc]

/-- The reference's scores. -/
abbrev exR (b h : ℕ) (c : ℕ) : ℕ → ℕ → EReal := ex (Qf x0 b h) (Kf x0 b h) (slopeR h) 0 c

/-- The reference's scores, entry by entry. -/
theorem v51_at (b : Fin 2) (h : Fin 8) (c : Fin 2) (q k : Fin 8192) :
    val_main_v51 (F := Ideal) x0 (ix5 b h c q k) = exR x0 b.val h.val c.val q.val k.val := by
  have e : val_main_v48 (F := Ideal) x0 (ix5 b h c q k) = (∑ x, val_main_v2 (F := Ideal) x0 (ix5 b q h c x) * val_main_v5 (F := Ideal) x0 (ix5 b k h c x) : EReal) := by
    pointwise [val_main_v48]
  pointwise [val_main_v51, val_main_v50, val_main_v49, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28,  val_main_v27, val_main_v26, val_main_v25, val_main_v24, val_main_cst_2, val_main_cst_3, val_main_cst_4, val_main_cst_5]
  rw [Cert.Attn.slope_ref, e,
    show (FloatOps.sitofp (F := Ideal) FTy.f32 (IntOp.absi (IntOp.subi (BitVec.ofNat 32 q.val) (BitVec.ofNat 32 k.val)))) = ((((IntOp.absi (IntOp.subi (BitVec.ofNat 32 q.val) (BitVec.ofNat 32 k.val))).toInt : ℝ)) : EReal) from rfl,
    toInt_absi_row, ← EReal.coe_neg, ← EReal.coe_mul]
  simp only [v2_at, v5_at]
  unfold exR ex
  congr 2
  rw [sub_zero]
  push_cast
  rfl

/-- The largest score of a row, as the reference takes it. -/
theorem v54_at (b : Fin 2) (h : Fin 8) (c : Fin 2) (q : Fin 8192) : val_main_v54 (F := Ideal) x0 (ix4 b h c q) = rm (exR x0 b.val h.val c.val) q.val 8 := by
  have e : val_main_v53 (F := Ideal) (ix4 b h c q) = (⊥ : EReal) := by
    pointwise [val_main_v53, val_main_cst_7]
    rw [lit_bot]
  have e2 : val_main_v54 (F := Ideal) x0 (ix4 b h c q) = (max (val_main_v53 (F := Ideal) (ix4 b h c q)) (val_main_v52 (F := Ideal) x0 (ix4 b h c q)) : EReal) :=
    val_main_v54_apply (F := Ideal) x0 (ix4 b h c q)
  have e3 : val_main_v52 (F := Ideal) x0 (ix4 b h c q) = ((Finset.univ : Finset (Fin 8192)).sup fun k => exR x0 b.val h.val c.val q.val k.val : EReal) := by
    refine (Cert.Attn.v52_fold x0 b h c q).trans ?_
    rw [lit_bot]
    simp only [v51_at]
    rfl
  rw [e, e3] at e2
  refine e2.trans ((max_eq_right bot_le).trans ?_)
  apply le_antisymm
  · exact Finset.sup_le fun k _ => le_rm _ _ 8 k.val k.isLt
  · refine Finset.sup_le fun s hs => ?_
    exact Finset.le_sup (f := fun k : Fin 8192 => exR x0 b.val h.val c.val q.val k.val) (Finset.mem_univ (⟨s, Finset.mem_range.1 hs⟩ : Fin 8192))

/-- The reference's weights of a row. -/
theorem v58_at (b : Fin 2) (h : Fin 8) (c : Fin 2) (q k : Fin 8192) :
    val_main_v58 (F := Ideal) x0 (ix5 b h c q k) = ((wt (exR x0 b.val h.val c.val q.val k.val) (rm (exR x0 b.val h.val c.val) q.val 8) : ℝ) : EReal) := by
  pointwise [val_main_v58, val_main_v57, val_main_v56, val_main_v55]
  rw [v54_at, v51_at]
  exact wt_coe (le_rm _ _ 8 k.val k.isLt)

/-- The softmax of a row. -/
theorem v62_at (b : Fin 2) (h : Fin 8) (c : Fin 2) (q k : Fin 8192) :
    val_main_v62 (F := Ideal) x0 (ix5 b h c q k)
      = Ideal.div ((wt (exR x0 b.val h.val c.val q.val k.val) (rm (exR x0 b.val h.val c.val) q.val 8) : ℝ) : EReal) ((lsum (exR x0 b.val h.val c.val) q.val : ℝ) : EReal) := by
  have e : val_main_v59 (F := Ideal) x0 (ix4 b h c q) = ((lsum (exR x0 b.val h.val c.val) q.val : ℝ) : EReal) := by
    pointwise [val_main_v59, val_main_cst_8]
    rw [show (∑ x : Fin 8192, val_main_v58 (F := Ideal) x0 (ix5 b h c q x) : EReal) = ∑ x : Fin 8192, ((wt (exR x0 b.val h.val c.val q.val x.val) (rm (exR x0 b.val h.val c.val) q.val 8) : ℝ) : EReal) from Finset.sum_congr rfl fun x _ => v58_at x0 b h c q x, coe_sum, lsum_fin]
  pointwise [val_main_v62, val_main_v61, val_main_v60]
  rw [v58_at, e]

include h2 in
/-- The difference of the two weights. -/
theorem v69_at (b : Fin 2) (h : Fin 8) (s k : Fin 8192) : val_main_v69 (F := Ideal) x0 x2 (ix4 b h s k)
    = (Ideal.div ((wt (exR x0 b.val h.val 0 s.val k.val) (rm (exR x0 b.val h.val 0) s.val 8) : ℝ) : EReal) ((lsum (exR x0 b.val h.val 0) s.val : ℝ) : EReal)
      - (lamR x2 : EReal) * Ideal.div ((wt (exR x0 b.val h.val 1 s.val k.val) (rm (exR x0 b.val h.val 1) s.val 8) : ℝ) : EReal) ((lsum (exR x0 b.val h.val 1) s.val : ℝ) : EReal)) := by
  have e0 := v62_at x0 b h 0 s k
  have e1 := v62_at x0 b h 1 s k
  rw [Fin.val_zero] at e0
  rw [Fin.val_one] at e1
  have el : Cert.Attn.lamE x2 = ((lamR x2 : ℝ) : EReal) := lamE_eq h2
  rw [Cert.Attn.v69_open, e0, e1, el]

include h1 h2 in
/-- The reference's product with the values. -/
theorem v71_at (b : Fin 2) (s : Fin 8192) (h : Fin 8) (e : Fin 256) :
    val_main_v71 (F := Ideal) x0 x1 x2 (ix4 b s h e)
      = diffW (exR x0 b.val h.val 0) (exR x0 b.val h.val 1) (Vf x1 b.val h.val) (lamR x2) s.val e.val := by
  refine (Cert.Attn.v71_open x0 x1 x2 b s h e).trans ?_
  exact Finset.sum_congr rfl fun k _ => congrArg₂ (fun a b : EReal => a * b) (Cert.Attn.v7_real x1 h1 b k h e) (v69_at x0 x2 h2 b h s k)

include h1 h2 in
/-- The reference's result is the layer's result. -/
theorem ref_value (R : Fin 16384) (C : Fin 2048) :
    val_main_v88 (F := Ideal) x0 x1 x2 x3 (ix2 R C) = resE diffW x0 x1 x2 (fun e => x3 (ix1 e)) R C := by
  pointwise [val_main_v88, val_main_v87, val_main_v86, val_main_v85, val_main_v84, val_main_v83, val_main_v82, val_main_v81, val_main_v80, val_main_v79, val_main_v78, val_main_v77, val_main_v76, val_main_v75, val_main_v74, val_main_v73, val_main_v72, val_main_cst_9, val_main_cst_10, val_main_cst_11, val_main_cst_12]
  simp only [v71_at x0 x1 x2 h1 h2]
  rfl

/-- The two orders of the difference give one result. -/
theorem res_same (R : Fin 16384) (C : Fin 2048) : resE diffK x0 x1 x2 (fun e => x3 (ix1 e)) R C = resE diffW x0 x1 x2 (fun e => x3 (ix1 e)) R C := by
  unfold resE
  exact row_same _ _ _ _ _ _ _

end Cert.OnlineAttn

end
-- ==== Proof.Online.Pre.lean ====
module

public import proofs.«01_k».proof.Proof.Online.Final
public import proofs.«01_k».proof.Proof.Online.Ref
public import proofs.«01_k».proof.Defs
public import proofs.«01_k».proof.Proof.Gen.Pre_finite_online
public import proofs.«01_k».proof.Proof.Gen.Online.Frame
public import proofs.«01_k».proof.Proof.Gen.ReferenceIdeal.Run
public import Idealize.ShloMosaic.Lib.ReduceAll

@[expose] public section

set_option maxRecDepth 16384

noncomputable section

namespace Cert.OnlineAttn

open Idealize.ShloMosaic Idealize.ShloMosaic.TcCoe Idealize.ShloMosaic.Tactic Idealize.SL.Sem
open Cert.OnlineIdeal (S16384x4096 S16384x2048 S4x128 S256)

/-- The literal the predicate compares with is infinity. -/
theorem lit_top : Ideal.ofBits FTy.f32 2139095040#32 = ⊤ := by
  simp [Ideal.ofBits, Ideal.ieee]

/-- An entry whose magnitude compares below infinity is a real. -/
theorem real_of_below (x : EReal) (h : Ideal.cmp .olt (max x (-x)) (Ideal.ofBits FTy.f32 2139095040#32) = 1#1) : ∃ v : ℝ, x = (v : EReal) := by
  rw [lit_top] at h
  have hlt : max x (-x) < ⊤ := by
    by_contra hc
    have : Ideal.cmp .olt (max x (-x)) ⊤ = 0#1 := by
      simp only [Ideal.cmp, hc, decide_false]
      rfl
    rw [this] at h
    exact absurd h (by decide)
  have h1 : x ≠ ⊤ := fun e => by rw [e] at hlt; exact absurd (lt_of_le_of_lt (le_max_left _ _) hlt) (lt_irrefl _)
  have h2 : x ≠ ⊥ := fun e => by
    rw [e] at hlt
    exact absurd (lt_of_le_of_lt (le_max_right (⊥ : EReal) (-⊥)) hlt) (by simp)
  exact ⟨x.toReal, (EReal.coe_toReal h1 h2).symm⟩

/-- An array all of whose magnitudes compare below infinity has real entries. -/
theorem real_of_all {s : Shape} {φ : FTy} (x : FVec Ideal s .f32) (hb : Cert.Pre_finite_online.S_.BroadcastsInDim s (![] : Fin 0 → Fin s.rank))
    (axes : List (Fin s.rank)) (hr : s.ReducesTo axes Cert.Pre_finite_online.S_) (hu : 0 < Cert.Pre_finite_online.S_.numel)
    (h : Host.reduce IntOp.andi (cmpf .olt (Host.absf x) (broadcastInDim s ![] hb (constant (F := Ideal) Cert.Pre_finite_online.S_ .f32 0x7F800000#32))) (constantI Cert.Pre_finite_online.S_ 1 1#1) hr hu ix0 = 1#1) :
    AllReal (s := s) x := fun i =>
  real_of_below (x i) (Host.reduce_andi_all _ _ _ _ _ h i)

/-- What the predicate says: the values and the lambda vectors have real entries. -/
theorem pre_real (x0 : FVec Ideal Cert.Pre_finite_online.S16384x4096 .bf16) (x1 : FVec Ideal Cert.Pre_finite_online.S16384x2048 .bf16) (x2 : FVec Ideal Cert.Pre_finite_online.S4x128 .f32)
    (x3 : FVec Ideal Cert.Pre_finite_online.S256 .f32) (x4 : FVec Ideal Cert.Pre_finite_online.S1 .f32)
    (h : Cert.Pre_finite_online.fn (F := Ideal) x0 x1 x2 x3 x4 ix0 = 1#1) :
    AllReal (s := Cert.Pre_finite_online.S16384x2048) x1 ∧ AllReal (s := Cert.Pre_finite_online.S4x128) x2 := by
  unfold Cert.Pre_finite_online.fn at h
  obtain ⟨h1, h2⟩ := IntOp.andi_eq_one.1 h
  exact ⟨real_of_all (φ := .f32) x1 _ _ _ _ h1, real_of_all (φ := .f32) x2 _ _ _ _ h2⟩

section
open Cert.OnlineIdeal Cert.OnlineIdeal.Gen

variable (m : (ℓ : Loc nD τ sig) → Buf (Elt Ideal) ℓ) (c : Dev nD)

/-- Under the predicate the kernel's call leaves the layer's result. -/
theorem final_of_pre (h : Cert.Pre_OnlineIdeal_finite_online m) :
    ((dats m 0 c).arrAt 9 cfg0.N = result m c) ∧ AllReal (X1 m c) ∧ AllReal (X2 m c) := by
  obtain ⟨a1, a2⟩ := pre_real _ _ _ _ _ (congrFun (h c) ix0)
  have e1 : X1 m c = m ((c.tc : Thread nD τ).loc main_arg1) := V_main_arg1 m c
  have e2 : X2 m c = m ((c.tc : Thread nD τ).loc main_arg2) := V_main_arg2 m c
  have b1 : AllReal (X1 m c) := fun i => by rw [e1]; exact a1 i
  have b2 : AllReal (X2 m c) := fun i => by rw [e2]; exact a2 i
  exact ⟨final m c (sh_zero c) b1 b2, b1, b2⟩

end

/-- The kernel's result and the reference's are one array where the arguments agree and are finite. -/
theorem result_eq (m : (ℓ : Loc Cert.OnlineIdeal.nD Cert.OnlineIdeal.τ Cert.OnlineIdeal.sig) → Buf (Elt Ideal) ℓ) (c : Dev Cert.OnlineIdeal.nD)
    (x0 : S16384x4096.Idx → EReal) (x1 : S16384x2048.Idx → EReal) (x2 : S4x128.Idx → EReal) (x3 : S256.Idx → EReal)
    (h1 : AllReal x1) (h2 : AllReal x2)
    (e0 : x0 = X0 m c) (e1 : x1 = X1 m c) (e2 : x2 = X2 m c) (e3 : (fun e => x3 (ix1 e)) = X3 m c) :
    (Cert.ReferenceIdeal.Read.val_main_v88 (F := Ideal) x0 x1 x2 x3 : S16384x2048.Idx → EReal) = result m c := by
  have k : ∀ (R : Fin 16384) (C : Fin 2048), Cert.ReferenceIdeal.Read.val_main_v88 (F := Ideal) x0 x1 x2 x3 (ix2 R C) = resE diffK (X0 m c) (X1 m c) (X2 m c) (X3 m c) R C := fun R C => by
    rw [← e0, ← e1, ← e2, ← e3]
    exact (ref_value x0 x1 x2 x3 h1 h2 R C).trans (res_same x0 x1 x2 x3 R C).symm
  funext j
  idx_vars j
  exact k j0 j1

end Cert.OnlineAttn

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.KernelIdeal.Value
public import proofs.«01_k».proof.Proof.Gen.Pre_finite
public import proofs.«01_k».proof.Proof.Gen.Online
public import proofs.«01_k».proof.Proof.Gen.Online.Frame
public import proofs.«01_k».proof.Proof.Gen.OnlineIdeal
public import proofs.«01_k».proof.Proof.Gen.OnlineIdeal.Frame
public import proofs.«01_k».proof.Proof.Gen.OnlineIdeal.Value
public import proofs.«01_k».proof.Proof.Gen.Pre_finite_online
public import proofs.«01_k».proof.Proof.Gen.Norm
public import proofs.«01_k».proof.Proof.Gen.Norm.Frame
public import proofs.«01_k».proof.Proof.Gen.NormIdeal
public import proofs.«01_k».proof.Proof.Gen.NormIdeal.Frame
public import proofs.«01_k».proof.Proof.Gen.NormIdeal.Value
public import proofs.«01_k».proof.Proof.Gen.NormRefIdeal
public import proofs.«01_k».proof.Proof.Gen.NormRefIdeal.Run
public import proofs.«01_k».proof.Proof.Gen.NormRefIdeal.Read
public import proofs.«01_k».proof.Proof.Gen.Qk
public import proofs.«01_k».proof.Proof.Gen.Qk.Skeleton
public import proofs.«01_k».proof.Proof.Gen.Qk.Launch
public import proofs.«01_k».proof.Proof.Gen.Qk.Points
public import proofs.«01_k».proof.Proof.Gen.Qk.Frame
public import proofs.«01_k».proof.Proof.Gen.QkIdeal
public import proofs.«01_k».proof.Proof.Gen.QkIdeal.Skeleton
public import proofs.«01_k».proof.Proof.Gen.QkIdeal.Launch
public import proofs.«01_k».proof.Proof.Gen.QkIdeal.Points
public import proofs.«01_k».proof.Proof.Gen.QkIdeal.Frame
public import proofs.«01_k».proof.Proof.Gen.QkIdeal.Value
public import proofs.«01_k».proof.Proof.Gen.QkRefIdeal
public import proofs.«01_k».proof.Proof.Gen.QkRefIdeal.Run
public import proofs.«01_k».proof.Proof.Gen.QkRefIdeal.Read
public import proofs.«01_k».proof.Proof.Gen.Gates
public import proofs.«01_k».proof.Proof.Gen.Gates.Skeleton
public import proofs.«01_k».proof.Proof.Gen.Gates.Launch
public import proofs.«01_k».proof.Proof.Gen.Gates.Points
public import proofs.«01_k».proof.Proof.Gen.Gates.Frame
public import proofs.«01_k».proof.Proof.Gen.GatesIdeal
public import proofs.«01_k».proof.Proof.Gen.GatesIdeal.Skeleton
public import proofs.«01_k».proof.Proof.Gen.GatesIdeal.Launch
public import proofs.«01_k».proof.Proof.Gen.GatesIdeal.Points
public import proofs.«01_k».proof.Proof.Gen.GatesIdeal.Frame
public import proofs.«01_k».proof.Proof.Gen.GatesIdeal.Value
public import proofs.«01_k».proof.Proof.Gen.GatesRefIdeal
public import proofs.«01_k».proof.Proof.Gen.GatesRefIdeal.Run
public import proofs.«01_k».proof.Proof.Gen.GatesRefIdeal.Read
public import proofs.«01_k».proof.Proof.Gen.Values
public import proofs.«01_k».proof.Proof.Gen.Values.Skeleton
public import proofs.«01_k».proof.Proof.Gen.Values.Launch
public import proofs.«01_k».proof.Proof.Gen.Values.Points
public import proofs.«01_k».proof.Proof.Gen.Values.Frame
public import proofs.«01_k».proof.Proof.Gen.ValuesIdeal
public import proofs.«01_k».proof.Proof.Gen.ValuesIdeal.Skeleton
public import proofs.«01_k».proof.Proof.Gen.ValuesIdeal.Launch
public import proofs.«01_k».proof.Proof.Gen.ValuesIdeal.Points
public import proofs.«01_k».proof.Proof.Gen.ValuesIdeal.Frame
public import proofs.«01_k».proof.Proof.Gen.ValuesIdeal.Value
public import proofs.«01_k».proof.Proof.Gen.ValuesRefIdeal
public import proofs.«01_k».proof.Proof.Gen.ValuesRefIdeal.Run
public import proofs.«01_k».proof.Proof.Gen.ValuesRefIdeal.Read
public import proofs.«01_k».proof.Proof.Gen.Channels
public import proofs.«01_k».proof.Proof.Gen.Channels.Skeleton
public import proofs.«01_k».proof.Proof.Gen.Channels.Launch
public import proofs.«01_k».proof.Proof.Gen.Channels.Points
public import proofs.«01_k».proof.Proof.Gen.Channels.Frame
public import proofs.«01_k».proof.Proof.Gen.ChannelsIdeal
public import proofs.«01_k».proof.Proof.Gen.ChannelsIdeal.Skeleton
public import proofs.«01_k».proof.Proof.Gen.ChannelsIdeal.Launch
public import proofs.«01_k».proof.Proof.Gen.ChannelsIdeal.Points
public import proofs.«01_k».proof.Proof.Gen.ChannelsIdeal.Frame
public import proofs.«01_k».proof.Proof.Gen.ChannelsIdeal.Value
public import proofs.«01_k».proof.Proof.Gen.ChannelsRefIdeal
public import proofs.«01_k».proof.Proof.Gen.ChannelsRefIdeal.Run
public import proofs.«01_k».proof.Proof.Gen.ChannelsRefIdeal.Read
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeIdeal.Value
public import proofs.«01_k».proof.Proof.Gen.MergeRefIdeal
public import proofs.«01_k».proof.Proof.Gen.MergeRefIdeal.Run
public import proofs.«01_k».proof.Proof.Gen.MergeRefIdeal.Read
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutIdeal.Value
public import proofs.«01_k».proof.Proof.Gen.OutRefIdeal
public import proofs.«01_k».proof.Proof.Gen.OutRefIdeal.Run
public import proofs.«01_k».proof.Proof.Gen.OutRefIdeal.Read
public import proofs.«01_k».proof.Proof.Attn.Pre
public import proofs.«01_k».proof.Proof.Calls.Norm
public import proofs.«01_k».proof.Proof.Online.Pre
public import Idealize.ShloMosaic.Adequacy
public import Idealize.ShloMosaic.Init

@[expose] public section

noncomputable section

namespace Cert.Proof

open Idealize.ShloMosaic Idealize.SL.Sem

/-- The kernel runs at the bits, leaves its arguments and ends quiescent. -/
theorem frame_kernel : Cert.quiescent_Kernel := fun m ρ _ => Cert.Kernel.Gen.frame m ρ

/-- The idealization runs, leaves its arguments and ends quiescent. -/
theorem frame_ideal : Cert.quiescent_KernelIdeal := fun m ρ _ => Cert.KernelIdeal.Gen.frame m ρ

/-- The idealization's frame, of finite arguments. -/
theorem frame_ideal_finite : Cert.quiescent_KernelIdeal_pre_finite := fun m ρ _ => Cert.KernelIdeal.Gen.frame m ρ

/-- The reference runs, leaves its arguments and ends quiescent. -/
theorem frame_ref : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The reference's frame, of finite arguments. -/
theorem frame_ref_finite : Cert.quiescent_ReferenceIdeal_pre_finite := fun m ρ _ => frame_ref m ρ trivial

/-- The pass rewrote nothing. -/
theorem preserved : Cert.preserves_Kernel_KernelIdeal := trivial

/-- Of finite arguments the kernel's call and the plain differential attention leave one array. -/
theorem algebra : Cert.algebraic_KernelIdeal_ReferenceIdeal_pre_finite := by
  intro m ρ m' ρ' hpre hagree
  refine ⟨fun c => Cert.Attn.result m c, ?_, ?_⟩
  · refine (θ_run Cert.KernelIdeal.defs _ _).mono (fun r h c => ⟨(h c).1.trans (Cert.Attn.final_of_pre m c hpre).1, (h c).2⟩)
      (Cert.KernelIdeal.Value.run_blocks m ρ)
  · refine (θ_run Cert.ReferenceIdeal.defs _ _).mono (fun r h c => ⟨(h c).1.trans ?_, (h c).2⟩) (Cert.ReferenceIdeal.Value.run (F := Ideal) m' ρ')
    obtain ⟨e0, e1, e2, e3, e4⟩ := hagree c
    obtain ⟨-, b0, b1, b2⟩ := Cert.Attn.final_of_pre m c hpre
    have f0 : m' ((c.tc : Thread Cert.ReferenceIdeal.nD Cert.ReferenceIdeal.τ).loc Cert.ReferenceIdeal.main_arg0) = Cert.Attn.X0 m c := e0.trans (Cert.KernelIdeal.Gen.V_main_arg0 m c).symm
    have f1 : m' ((c.tc : Thread Cert.ReferenceIdeal.nD Cert.ReferenceIdeal.τ).loc Cert.ReferenceIdeal.main_arg1) = Cert.Attn.X1 m c := e1.trans (Cert.KernelIdeal.Gen.V_main_arg1 m c).symm
    have f2 : m' ((c.tc : Thread Cert.ReferenceIdeal.nD Cert.ReferenceIdeal.τ).loc Cert.ReferenceIdeal.main_arg2) = Cert.Attn.X2 m c := e2.trans (Cert.KernelIdeal.Gen.V_main_arg2 m c).symm
    refine (Cert.ReferenceIdeal.Read.val_main_v88_eq m' c).trans ?_
    exact Cert.Attn.result_eq m c _ _ _ _ (fun i => by rw [f0]; exact b0 i) (fun i => by rw [f1]; exact b1 i) (fun i => by rw [f2]; exact b2 i) f0 f1 f2
      (funext fun d => congrFun e3 (ix1 d))

/-! ## The attention that keeps its own running maximum -/

/-- The kernel with its own running maximum runs at the bits, leaves its arguments and ends quiescent. -/
theorem frame_Online : Cert.quiescent_Online := fun m ρ _ => Cert.Online.Gen.frame m ρ

/-- Its idealization runs, leaves its arguments and ends quiescent. -/
theorem frame_OnlineIdeal : Cert.quiescent_OnlineIdeal := fun m ρ _ => Cert.OnlineIdeal.Gen.frame m ρ

/-- Its idealization's frame, of finite arguments. -/
theorem frame_OnlineIdeal_finite : Cert.quiescent_OnlineIdeal_pre_finite_online := fun m ρ _ => Cert.OnlineIdeal.Gen.frame m ρ

/-- The reference's frame, of finite arguments. -/
theorem frame_ref_finite_online : Cert.quiescent_ReferenceIdeal_pre_finite_online := fun m ρ _ => frame_ref m ρ trivial

/-- The pass rewrote nothing in it. -/
theorem preserved_Online : Cert.preserves_Online_OnlineIdeal := trivial

/-- Of finite values and lambda vectors, and whatever queries and keys, the call that keeps its own running maximum and the plain differential attention leave one array. -/
theorem algebra_Online : Cert.algebraic_OnlineIdeal_ReferenceIdeal_pre_finite_online := by
  intro m ρ m' ρ' hpre hagree
  refine ⟨fun c => Cert.OnlineAttn.result m c, ?_, ?_⟩
  · refine (θ_run Cert.OnlineIdeal.defs _ _).mono (fun r h c => ⟨(h c).1.trans (Cert.OnlineAttn.final_of_pre m c hpre).1, (h c).2⟩)
      (Cert.OnlineIdeal.Value.run_blocks m ρ)
  · refine (θ_run Cert.ReferenceIdeal.defs _ _).mono (fun r h c => ⟨(h c).1.trans ?_, (h c).2⟩) (Cert.ReferenceIdeal.Value.run (F := Ideal) m' ρ')
    obtain ⟨e0, e1, e2, e3, e4⟩ := hagree c
    obtain ⟨-, b1, b2⟩ := Cert.OnlineAttn.final_of_pre m c hpre
    have f0 : m' ((c.tc : Thread Cert.ReferenceIdeal.nD Cert.ReferenceIdeal.τ).loc Cert.ReferenceIdeal.main_arg0) = Cert.OnlineAttn.X0 m c := e0.trans (Cert.OnlineIdeal.Gen.V_main_arg0 m c).symm
    have f1 : m' ((c.tc : Thread Cert.ReferenceIdeal.nD Cert.ReferenceIdeal.τ).loc Cert.ReferenceIdeal.main_arg1) = Cert.OnlineAttn.X1 m c := e1.trans (Cert.OnlineIdeal.Gen.V_main_arg1 m c).symm
    have f2 : m' ((c.tc : Thread Cert.ReferenceIdeal.nD Cert.ReferenceIdeal.τ).loc Cert.ReferenceIdeal.main_arg2) = Cert.OnlineAttn.X2 m c := e2.trans (Cert.OnlineIdeal.Gen.V_main_arg2 m c).symm
    refine (Cert.ReferenceIdeal.Read.val_main_v88_eq m' c).trans ?_
    exact Cert.OnlineAttn.result_eq m c _ _ _ _ (fun i => by rw [f1]; exact b1 i) (fun i => by rw [f2]; exact b2 i) f0 f1 f2
      (funext fun d => congrFun e3 (ix1 d))

/-! ## The further calls -/

/-- The kernel of the projection with the norm of its heads runs at the bits, leaves its arguments and ends quiescent. -/
theorem frame_Qk : Cert.quiescent_Qk := fun m ρ _ => Cert.Qk.Gen.frame m ρ

/-- The idealization of the projection with the norm of its heads runs, leaves its arguments and ends quiescent. -/
theorem frame_QkIdeal : Cert.quiescent_QkIdeal := fun m ρ _ => Cert.QkIdeal.Gen.frame m ρ

/-- The reference of the projection with the norm of its heads runs, leaves its arguments and ends quiescent. -/
theorem frame_QkRef : Cert.quiescent_QkRefIdeal := fun m ρ _ =>
  (θ_run Cert.QkRefIdeal.defs _ _).mono (fun r h => ⟨fun c => (h c).2, Idealize.ShloMosaic.sem_eq_zero_of_no_sems (by decide) r.2⟩)
    (Cert.QkRefIdeal.Value.run (F := Ideal) m ρ)

/-- The pass rewrote nothing in the projection with the norm of its heads. -/
theorem preserved_Qk : Cert.preserves_Qk_QkIdeal := trivial

/-- The reference's array, of the projection with the norm of its heads, is the one the call leaves. -/
theorem ref_Qk (m : (ℓ : Loc Cert.QkIdeal.nD Cert.QkIdeal.τ Cert.QkIdeal.sig) → Buf (Elt Ideal) ℓ) (c : Dev Cert.QkIdeal.nD)
    (x0 : Cert.QkIdeal.S16384x2048.Idx → EReal) (x1 : Cert.QkIdeal.S2048x11264.Idx → EReal) (x2 : Cert.QkIdeal.S1x4096.Idx → EReal)
    (h0 : x0 = Cert.QkIdeal.Gen.V m c Cert.QkIdeal.main_arg0) (h1 : x1 = Cert.QkIdeal.Gen.V m c Cert.QkIdeal.main_arg1) (h2 : x2 = Cert.QkIdeal.Gen.V m c Cert.QkIdeal.main_arg2) :
    Cert.QkRefIdeal.Read.val_main_v19 (F := Ideal) x0 x1 x2 = Cert.CallQk.result m c := by
  subst h0 h1 h2
  funext j
  idx_vars j
  exact Cert.CallQk.ref_eq _ _ _ j0 j1

/-- Of the projection with the norm of its heads, the call and the plain reference leave the same array. -/
theorem algebra_Qk : Cert.algebraic_QkIdeal_QkRefIdeal := by
  intro m ρ m' ρ' hpre hagree
  refine ⟨fun c => Cert.CallQk.result m c, ?_, ?_⟩
  · exact (θ_run Cert.QkIdeal.defs _ _).mono (fun r h c => ⟨(h c).1.trans (Cert.CallQk.final m c), (h c).2⟩) (Cert.QkIdeal.Value.run_blocks m ρ)
  · refine (θ_run Cert.QkRefIdeal.defs _ _).mono (fun r h c => ?_) (Cert.QkRefIdeal.Value.run (F := Ideal) m' ρ')
    obtain ⟨e0, e1, e2⟩ := hagree c
    have f0 : m' ((c.tc : Thread Cert.QkRefIdeal.nD Cert.QkRefIdeal.τ).loc Cert.QkRefIdeal.main_arg0) = Cert.QkIdeal.Gen.V m c Cert.QkIdeal.main_arg0 := e0.trans (Cert.QkIdeal.Gen.V_main_arg0 m c).symm
    have f1 : m' ((c.tc : Thread Cert.QkRefIdeal.nD Cert.QkRefIdeal.τ).loc Cert.QkRefIdeal.main_arg1) = Cert.QkIdeal.Gen.V m c Cert.QkIdeal.main_arg1 := e1.trans (Cert.QkIdeal.Gen.V_main_arg1 m c).symm
    have f2 : m' ((c.tc : Thread Cert.QkRefIdeal.nD Cert.QkRefIdeal.τ).loc Cert.QkRefIdeal.main_arg2) = Cert.QkIdeal.Gen.V m c Cert.QkIdeal.main_arg2 := e2.trans (Cert.QkIdeal.Gen.V_main_arg2 m c).symm
    exact ⟨(h c).1.trans ((Cert.QkRefIdeal.Read.val_main_v19_eq (F := Ideal) (m' ((c.tc : Thread Cert.QkRefIdeal.nD Cert.QkRefIdeal.τ).loc Cert.QkRefIdeal.main_arg0)) (m' ((c.tc : Thread Cert.QkRefIdeal.nD Cert.QkRefIdeal.τ).loc Cert.QkRefIdeal.main_arg1)) (m' ((c.tc : Thread Cert.QkRefIdeal.nD Cert.QkRefIdeal.τ).loc Cert.QkRefIdeal.main_arg2))).trans (ref_Qk m c _ _ _ f0 f1 f2)), (h c).2⟩

/-- The kernel of the projection with the logistic runs at the bits, leaves its arguments and ends quiescent. -/
theorem frame_Gates : Cert.quiescent_Gates := fun m ρ _ => Cert.Gates.Gen.frame m ρ

/-- The idealization of the projection with the logistic runs, leaves its arguments and ends quiescent. -/
theorem frame_GatesIdeal : Cert.quiescent_GatesIdeal := fun m ρ _ => Cert.GatesIdeal.Gen.frame m ρ

/-- The reference of the projection with the logistic runs, leaves its arguments and ends quiescent. -/
theorem frame_GatesRef : Cert.quiescent_GatesRefIdeal := fun m ρ _ =>
  (θ_run Cert.GatesRefIdeal.defs _ _).mono (fun r h => ⟨fun c => (h c).2, Idealize.ShloMosaic.sem_eq_zero_of_no_sems (by decide) r.2⟩)
    (Cert.GatesRefIdeal.Value.run (F := Ideal) m ρ)

/-- The pass rewrote nothing in the projection with the logistic. -/
theorem preserved_Gates : Cert.preserves_Gates_GatesIdeal := trivial

/-- The reference's array, of the projection with the logistic, is the one the call leaves. -/
theorem ref_Gates (m : (ℓ : Loc Cert.GatesIdeal.nD Cert.GatesIdeal.τ Cert.GatesIdeal.sig) → Buf (Elt Ideal) ℓ) (c : Dev Cert.GatesIdeal.nD)
    (x0 : Cert.GatesIdeal.S16384x2048.Idx → EReal) (x1 : Cert.GatesIdeal.S2048x11264.Idx → EReal)
    (h0 : x0 = Cert.GatesIdeal.Gen.V m c Cert.GatesIdeal.main_arg0) (h1 : x1 = Cert.GatesIdeal.Gen.V m c Cert.GatesIdeal.main_arg1) :
    Cert.GatesRefIdeal.Read.val_main_v9 (F := Ideal) x0 x1 = Cert.CallGates.result m c := by
  subst h0 h1
  funext j
  idx_vars j
  exact Cert.CallGates.ref_eq _ _ j0 j1

/-- Of the projection with the logistic, the call and the plain reference leave the same array. -/
theorem algebra_Gates : Cert.algebraic_GatesIdeal_GatesRefIdeal := by
  intro m ρ m' ρ' hpre hagree
  refine ⟨fun c => Cert.CallGates.result m c, ?_, ?_⟩
  · exact (θ_run Cert.GatesIdeal.defs _ _).mono (fun r h c => ⟨(h c).1.trans (Cert.CallGates.final m c), (h c).2⟩) (Cert.GatesIdeal.Value.run_blocks m ρ)
  · refine (θ_run Cert.GatesRefIdeal.defs _ _).mono (fun r h c => ?_) (Cert.GatesRefIdeal.Value.run (F := Ideal) m' ρ')
    obtain ⟨e0, e1⟩ := hagree c
    have f0 : m' ((c.tc : Thread Cert.GatesRefIdeal.nD Cert.GatesRefIdeal.τ).loc Cert.GatesRefIdeal.main_arg0) = Cert.GatesIdeal.Gen.V m c Cert.GatesIdeal.main_arg0 := e0.trans (Cert.GatesIdeal.Gen.V_main_arg0 m c).symm
    have f1 : m' ((c.tc : Thread Cert.GatesRefIdeal.nD Cert.GatesRefIdeal.τ).loc Cert.GatesRefIdeal.main_arg1) = Cert.GatesIdeal.Gen.V m c Cert.GatesIdeal.main_arg1 := e1.trans (Cert.GatesIdeal.Gen.V_main_arg1 m c).symm
    exact ⟨(h c).1.trans ((Cert.GatesRefIdeal.Read.val_main_v9_eq (F := Ideal) (m' ((c.tc : Thread Cert.GatesRefIdeal.nD Cert.GatesRefIdeal.τ).loc Cert.GatesRefIdeal.main_arg0)) (m' ((c.tc : Thread Cert.GatesRefIdeal.nD Cert.GatesRefIdeal.τ).loc Cert.GatesRefIdeal.main_arg1))).trans (ref_Gates m c _ _ f0 f1)), (h c).2⟩

/-- The kernel of the projection of the values runs at the bits, leaves its arguments and ends quiescent. -/
theorem frame_Values : Cert.quiescent_Values := fun m ρ _ => Cert.Values.Gen.frame m ρ

/-- The idealization of the projection of the values runs, leaves its arguments and ends quiescent. -/
theorem frame_ValuesIdeal : Cert.quiescent_ValuesIdeal := fun m ρ _ => Cert.ValuesIdeal.Gen.frame m ρ

/-- The reference of the projection of the values runs, leaves its arguments and ends quiescent. -/
theorem frame_ValuesRef : Cert.quiescent_ValuesRefIdeal := fun m ρ _ =>
  (θ_run Cert.ValuesRefIdeal.defs _ _).mono (fun r h => ⟨fun c => (h c).2, Idealize.ShloMosaic.sem_eq_zero_of_no_sems (by decide) r.2⟩)
    (Cert.ValuesRefIdeal.Value.run (F := Ideal) m ρ)

/-- The pass rewrote nothing in the projection of the values. -/
theorem preserved_Values : Cert.preserves_Values_ValuesIdeal := trivial

/-- The reference's array, of the projection of the values, is the one the call leaves. -/
theorem ref_Values (m : (ℓ : Loc Cert.ValuesIdeal.nD Cert.ValuesIdeal.τ Cert.ValuesIdeal.sig) → Buf (Elt Ideal) ℓ) (c : Dev Cert.ValuesIdeal.nD)
    (x0 : Cert.ValuesIdeal.S16384x2048.Idx → EReal) (x1 : Cert.ValuesIdeal.S2048x11264.Idx → EReal)
    (h0 : x0 = Cert.ValuesIdeal.Gen.V m c Cert.ValuesIdeal.main_arg0) (h1 : x1 = Cert.ValuesIdeal.Gen.V m c Cert.ValuesIdeal.main_arg1) :
    Cert.ValuesRefIdeal.Read.val_main_v3 (F := Ideal) x0 x1 = Cert.CallValues.result m c := by
  subst h0 h1
  funext j
  idx_vars j
  exact Cert.CallValues.ref_eq _ _ j0 j1

/-- Of the projection of the values, the call and the plain reference leave the same array. -/
theorem algebra_Values : Cert.algebraic_ValuesIdeal_ValuesRefIdeal := by
  intro m ρ m' ρ' hpre hagree
  refine ⟨fun c => Cert.CallValues.result m c, ?_, ?_⟩
  · exact (θ_run Cert.ValuesIdeal.defs _ _).mono (fun r h c => ⟨(h c).1.trans (Cert.CallValues.final m c), (h c).2⟩) (Cert.ValuesIdeal.Value.run_blocks m ρ)
  · refine (θ_run Cert.ValuesRefIdeal.defs _ _).mono (fun r h c => ?_) (Cert.ValuesRefIdeal.Value.run (F := Ideal) m' ρ')
    obtain ⟨e0, e1⟩ := hagree c
    have f0 : m' ((c.tc : Thread Cert.ValuesRefIdeal.nD Cert.ValuesRefIdeal.τ).loc Cert.ValuesRefIdeal.main_arg0) = Cert.ValuesIdeal.Gen.V m c Cert.ValuesIdeal.main_arg0 := e0.trans (Cert.ValuesIdeal.Gen.V_main_arg0 m c).symm
    have f1 : m' ((c.tc : Thread Cert.ValuesRefIdeal.nD Cert.ValuesRefIdeal.τ).loc Cert.ValuesRefIdeal.main_arg1) = Cert.ValuesIdeal.Gen.V m c Cert.ValuesIdeal.main_arg1 := e1.trans (Cert.ValuesIdeal.Gen.V_main_arg1 m c).symm
    exact ⟨(h c).1.trans ((Cert.ValuesRefIdeal.Read.val_main_v3_eq (F := Ideal) (m' ((c.tc : Thread Cert.ValuesRefIdeal.nD Cert.ValuesRefIdeal.τ).loc Cert.ValuesRefIdeal.main_arg0)) (m' ((c.tc : Thread Cert.ValuesRefIdeal.nD Cert.ValuesRefIdeal.τ).loc Cert.ValuesRefIdeal.main_arg1))).trans (ref_Values m c _ _ f0 f1)), (h c).2⟩

/-- The kernel of the projection of the channels runs at the bits, leaves its arguments and ends quiescent. -/
theorem frame_Channels : Cert.quiescent_Channels := fun m ρ _ => Cert.Channels.Gen.frame m ρ

/-- The idealization of the projection of the channels runs, leaves its arguments and ends quiescent. -/
theorem frame_ChannelsIdeal : Cert.quiescent_ChannelsIdeal := fun m ρ _ => Cert.ChannelsIdeal.Gen.frame m ρ

/-- The reference of the projection of the channels runs, leaves its arguments and ends quiescent. -/
theorem frame_ChannelsRef : Cert.quiescent_ChannelsRefIdeal := fun m ρ _ =>
  (θ_run Cert.ChannelsRefIdeal.defs _ _).mono (fun r h => ⟨fun c => (h c).2, Idealize.ShloMosaic.sem_eq_zero_of_no_sems (by decide) r.2⟩)
    (Cert.ChannelsRefIdeal.Value.run (F := Ideal) m ρ)

/-- The pass rewrote nothing in the projection of the channels. -/
theorem preserved_Channels : Cert.preserves_Channels_ChannelsIdeal := trivial

/-- The reference's array, of the projection of the channels, is the one the call leaves. -/
theorem ref_Channels (m : (ℓ : Loc Cert.ChannelsIdeal.nD Cert.ChannelsIdeal.τ Cert.ChannelsIdeal.sig) → Buf (Elt Ideal) ℓ) (c : Dev Cert.ChannelsIdeal.nD)
    (x0 : Cert.ChannelsIdeal.S16384x2048.Idx → EReal) (x1 : Cert.ChannelsIdeal.S2048x11264.Idx → EReal)
    (h0 : x0 = Cert.ChannelsIdeal.Gen.V m c Cert.ChannelsIdeal.main_arg0) (h1 : x1 = Cert.ChannelsIdeal.Gen.V m c Cert.ChannelsIdeal.main_arg1) :
    Cert.ChannelsRefIdeal.Read.val_main_v2 (F := Ideal) x0 x1 = Cert.CallChannels.result m c := by
  subst h0 h1
  funext j
  idx_vars j
  exact Cert.CallChannels.ref_eq _ _ j0 j1

/-- Of the projection of the channels, the call and the plain reference leave the same array. -/
theorem algebra_Channels : Cert.algebraic_ChannelsIdeal_ChannelsRefIdeal := by
  intro m ρ m' ρ' hpre hagree
  refine ⟨fun c => Cert.CallChannels.result m c, ?_, ?_⟩
  · exact (θ_run Cert.ChannelsIdeal.defs _ _).mono (fun r h c => ⟨(h c).1.trans (Cert.CallChannels.final m c), (h c).2⟩) (Cert.ChannelsIdeal.Value.run_blocks m ρ)
  · refine (θ_run Cert.ChannelsRefIdeal.defs _ _).mono (fun r h c => ?_) (Cert.ChannelsRefIdeal.Value.run (F := Ideal) m' ρ')
    obtain ⟨e0, e1⟩ := hagree c
    have f0 : m' ((c.tc : Thread Cert.ChannelsRefIdeal.nD Cert.ChannelsRefIdeal.τ).loc Cert.ChannelsRefIdeal.main_arg0) = Cert.ChannelsIdeal.Gen.V m c Cert.ChannelsIdeal.main_arg0 := e0.trans (Cert.ChannelsIdeal.Gen.V_main_arg0 m c).symm
    have f1 : m' ((c.tc : Thread Cert.ChannelsRefIdeal.nD Cert.ChannelsRefIdeal.τ).loc Cert.ChannelsRefIdeal.main_arg1) = Cert.ChannelsIdeal.Gen.V m c Cert.ChannelsIdeal.main_arg1 := e1.trans (Cert.ChannelsIdeal.Gen.V_main_arg1 m c).symm
    exact ⟨(h c).1.trans ((Cert.ChannelsRefIdeal.Read.val_main_v2_eq (F := Ideal) (m' ((c.tc : Thread Cert.ChannelsRefIdeal.nD Cert.ChannelsRefIdeal.τ).loc Cert.ChannelsRefIdeal.main_arg0)) (m' ((c.tc : Thread Cert.ChannelsRefIdeal.nD Cert.ChannelsRefIdeal.τ).loc Cert.ChannelsRefIdeal.main_arg1))).trans (ref_Channels m c _ _ f0 f1)), (h c).2⟩

/-- The kernel of the merge runs at the bits, leaves its arguments and ends quiescent. -/
theorem frame_Merge : Cert.quiescent_Merge := fun m ρ _ => Cert.Merge.Gen.frame m ρ

/-- The idealization of the merge runs, leaves its arguments and ends quiescent. -/
theorem frame_MergeIdeal : Cert.quiescent_MergeIdeal := fun m ρ _ => Cert.MergeIdeal.Gen.frame m ρ

/-- The reference of the merge runs, leaves its arguments and ends quiescent. -/
theorem frame_MergeRef : Cert.quiescent_MergeRefIdeal := fun m ρ _ =>
  (θ_run Cert.MergeRefIdeal.defs _ _).mono (fun r h => ⟨fun c => (h c).2, Idealize.ShloMosaic.sem_eq_zero_of_no_sems (by decide) r.2⟩)
    (Cert.MergeRefIdeal.Value.run (F := Ideal) m ρ)

/-- The pass rewrote nothing in the merge. -/
theorem preserved_Merge : Cert.preserves_Merge_MergeIdeal := trivial

/-- The reference's array, of the merge, is the one the call leaves. -/
theorem ref_Merge (m : (ℓ : Loc Cert.MergeIdeal.nD Cert.MergeIdeal.τ Cert.MergeIdeal.sig) → Buf (Elt Ideal) ℓ) (c : Dev Cert.MergeIdeal.nD)
    (x0 : Cert.MergeIdeal.S16384x1024.Idx → EReal) (x1 : Cert.MergeIdeal.S16384x2048.Idx → EReal) (x2 : Cert.MergeIdeal.S16384x4096.Idx → EReal) (x3 : Cert.MergeIdeal.S1024x2048.Idx → EReal) (x4 : Cert.MergeIdeal.S2048x2048.Idx → EReal)
    (h0 : x0 = Cert.MergeIdeal.Gen.V m c Cert.MergeIdeal.main_arg0) (h1 : x1 = Cert.MergeIdeal.Gen.V m c Cert.MergeIdeal.main_arg1) (h2 : x2 = Cert.MergeIdeal.Gen.V m c Cert.MergeIdeal.main_arg2) (h3 : x3 = Cert.MergeIdeal.Gen.V m c Cert.MergeIdeal.main_arg3) (h4 : x4 = Cert.MergeIdeal.Gen.V m c Cert.MergeIdeal.main_arg4) :
    Cert.MergeRefIdeal.Read.val_main_v11 (F := Ideal) x0 x1 x2 x3 x4 = Cert.CallMerge.result m c := by
  subst h0 h1 h2 h3 h4
  funext j
  idx_vars j
  exact Cert.CallMerge.ref_eq _ _ _ _ _ j0 j1

/-- Of the merge, the call and the plain reference leave the same array. -/
theorem algebra_Merge : Cert.algebraic_MergeIdeal_MergeRefIdeal := by
  intro m ρ m' ρ' hpre hagree
  refine ⟨fun c => Cert.CallMerge.result m c, ?_, ?_⟩
  · exact (θ_run Cert.MergeIdeal.defs _ _).mono (fun r h c => ⟨(h c).1.trans (Cert.CallMerge.final m c), (h c).2⟩) (Cert.MergeIdeal.Value.run_blocks m ρ)
  · refine (θ_run Cert.MergeRefIdeal.defs _ _).mono (fun r h c => ?_) (Cert.MergeRefIdeal.Value.run (F := Ideal) m' ρ')
    obtain ⟨e0, e1, e2, e3, e4⟩ := hagree c
    have f0 : m' ((c.tc : Thread Cert.MergeRefIdeal.nD Cert.MergeRefIdeal.τ).loc Cert.MergeRefIdeal.main_arg0) = Cert.MergeIdeal.Gen.V m c Cert.MergeIdeal.main_arg0 := e0.trans (Cert.MergeIdeal.Gen.V_main_arg0 m c).symm
    have f1 : m' ((c.tc : Thread Cert.MergeRefIdeal.nD Cert.MergeRefIdeal.τ).loc Cert.MergeRefIdeal.main_arg1) = Cert.MergeIdeal.Gen.V m c Cert.MergeIdeal.main_arg1 := e1.trans (Cert.MergeIdeal.Gen.V_main_arg1 m c).symm
    have f2 : m' ((c.tc : Thread Cert.MergeRefIdeal.nD Cert.MergeRefIdeal.τ).loc Cert.MergeRefIdeal.main_arg2) = Cert.MergeIdeal.Gen.V m c Cert.MergeIdeal.main_arg2 := e2.trans (Cert.MergeIdeal.Gen.V_main_arg2 m c).symm
    have f3 : m' ((c.tc : Thread Cert.MergeRefIdeal.nD Cert.MergeRefIdeal.τ).loc Cert.MergeRefIdeal.main_arg3) = Cert.MergeIdeal.Gen.V m c Cert.MergeIdeal.main_arg3 := e3.trans (Cert.MergeIdeal.Gen.V_main_arg3 m c).symm
    have f4 : m' ((c.tc : Thread Cert.MergeRefIdeal.nD Cert.MergeRefIdeal.τ).loc Cert.MergeRefIdeal.main_arg4) = Cert.MergeIdeal.Gen.V m c Cert.MergeIdeal.main_arg4 := e4.trans (Cert.MergeIdeal.Gen.V_main_arg4 m c).symm
    exact ⟨(h c).1.trans ((Cert.MergeRefIdeal.Read.val_main_v11_eq (F := Ideal) (m' ((c.tc : Thread Cert.MergeRefIdeal.nD Cert.MergeRefIdeal.τ).loc Cert.MergeRefIdeal.main_arg0)) (m' ((c.tc : Thread Cert.MergeRefIdeal.nD Cert.MergeRefIdeal.τ).loc Cert.MergeRefIdeal.main_arg1)) (m' ((c.tc : Thread Cert.MergeRefIdeal.nD Cert.MergeRefIdeal.τ).loc Cert.MergeRefIdeal.main_arg2)) (m' ((c.tc : Thread Cert.MergeRefIdeal.nD Cert.MergeRefIdeal.τ).loc Cert.MergeRefIdeal.main_arg3)) (m' ((c.tc : Thread Cert.MergeRefIdeal.nD Cert.MergeRefIdeal.τ).loc Cert.MergeRefIdeal.main_arg4))).trans (ref_Merge m c _ _ _ _ _ f0 f1 f2 f3 f4)), (h c).2⟩

/-- The kernel of the output projection runs at the bits, leaves its arguments and ends quiescent. -/
theorem frame_Out : Cert.quiescent_Out := fun m ρ _ => Cert.Out.Gen.frame m ρ

/-- The idealization of the output projection runs, leaves its arguments and ends quiescent. -/
theorem frame_OutIdeal : Cert.quiescent_OutIdeal := fun m ρ _ => Cert.OutIdeal.Gen.frame m ρ

/-- The reference of the output projection runs, leaves its arguments and ends quiescent. -/
theorem frame_OutRef : Cert.quiescent_OutRefIdeal := fun m ρ _ =>
  (θ_run Cert.OutRefIdeal.defs _ _).mono (fun r h => ⟨fun c => (h c).2.2.2, Idealize.ShloMosaic.sem_eq_zero_of_no_sems (by decide) r.2⟩)
    (Cert.OutRefIdeal.Value.run (F := Ideal) m ρ)

/-- The pass rewrote nothing in the output projection. -/
theorem preserved_Out : Cert.preserves_Out_OutIdeal := trivial

/-- The reference's array, of the output projection, is the one the call leaves. -/
theorem ref_Out0 (m : (ℓ : Loc Cert.OutIdeal.nD Cert.OutIdeal.τ Cert.OutIdeal.sig) → Buf (Elt Ideal) ℓ) (c : Dev Cert.OutIdeal.nD)
    (x0 : Cert.OutIdeal.S16384x2048.Idx → EReal) (x1 : Cert.OutIdeal.S16384x2048.Idx → EReal) (x2 : Cert.OutIdeal.S2048x2048.Idx → EReal)
    (h0 : x0 = Cert.OutIdeal.Gen.V m c Cert.OutIdeal.main_arg0) (h1 : x1 = Cert.OutIdeal.Gen.V m c Cert.OutIdeal.main_arg1) (h2 : x2 = Cert.OutIdeal.Gen.V m c Cert.OutIdeal.main_arg2) :
    Cert.OutRefIdeal.Read.val_main_v3 (F := Ideal) x0 x1 x2 = Cert.CallOut.result0 m c := by
  subst h0 h1 h2
  funext j
  idx_vars j
  exact Cert.CallOut.ref0_eq _ _ _ j0 j1

/-- The reference's array, of the output projection, is the one the call leaves. -/
theorem ref_Out1 (m : (ℓ : Loc Cert.OutIdeal.nD Cert.OutIdeal.τ Cert.OutIdeal.sig) → Buf (Elt Ideal) ℓ) (c : Dev Cert.OutIdeal.nD)
    (x0 : Cert.OutIdeal.S16384x2048.Idx → EReal) (x1 : Cert.OutIdeal.S16384x2048.Idx → EReal) (x2 : Cert.OutIdeal.S2048x2048.Idx → EReal) (x3 : Cert.OutIdeal.S2048.Idx → EReal)
    (h0 : x0 = Cert.OutIdeal.Gen.V m c Cert.OutIdeal.main_arg0) (h1 : x1 = Cert.OutIdeal.Gen.V m c Cert.OutIdeal.main_arg1) (h2 : x2 = Cert.OutIdeal.Gen.V m c Cert.OutIdeal.main_arg2) (h3 : x3 = Cert.OutIdeal.Gen.V m c Cert.OutIdeal.main_arg3) :
    Cert.OutRefIdeal.Read.val_main_v17 (F := Ideal) x0 x1 x2 x3 = Cert.CallOut.result1 m c := by
  subst h0 h1 h2 h3
  funext j
  idx_vars j
  exact Cert.CallOut.ref1_eq _ _ _ _ j0 j1

/-- The reference's array, of the output projection, is the one the call leaves. -/
theorem ref_Out2 (m : (ℓ : Loc Cert.OutIdeal.nD Cert.OutIdeal.τ Cert.OutIdeal.sig) → Buf (Elt Ideal) ℓ) (c : Dev Cert.OutIdeal.nD)
    (x0 : Cert.OutIdeal.S16384x2048.Idx → EReal) (x1 : Cert.OutIdeal.S16384x2048.Idx → EReal) (x2 : Cert.OutIdeal.S2048x2048.Idx → EReal) (x3 : Cert.OutIdeal.S2048.Idx → EReal)
    (h0 : x0 = Cert.OutIdeal.Gen.V m c Cert.OutIdeal.main_arg0) (h1 : x1 = Cert.OutIdeal.Gen.V m c Cert.OutIdeal.main_arg1) (h2 : x2 = Cert.OutIdeal.Gen.V m c Cert.OutIdeal.main_arg2) (h3 : x3 = Cert.OutIdeal.Gen.V m c Cert.OutIdeal.main_arg3) :
    Cert.OutRefIdeal.Read.val_main_v18 (F := Ideal) x0 x1 x2 x3 = Cert.CallOut.result2 m c := by
  subst h0 h1 h2 h3
  funext j
  idx_vars j
  exact Cert.CallOut.ref2_eq _ _ _ _ j1 j0

/-- Of the output projection, the call and the plain reference leave the same arrays. -/
theorem algebra_Out : Cert.algebraic_OutIdeal_OutRefIdeal := by
  intro m ρ m' ρ' hpre hagree
  refine ⟨fun c => Cert.CallOut.result0 m c, fun c => Cert.CallOut.result1 m c, fun c => Cert.CallOut.result2 m c, ?_, ?_⟩
  · exact (θ_run Cert.OutIdeal.defs _ _).mono (fun r h c => ⟨(h c).1.trans (Cert.CallOut.final0 m c), (h c).2.1.trans (Cert.CallOut.final1 m c), (h c).2.2.1.trans (Cert.CallOut.final2 m c), (h c).2.2.2⟩) (Cert.OutIdeal.Value.run_blocks m ρ)
  · refine (θ_run Cert.OutRefIdeal.defs _ _).mono (fun r h c => ?_) (Cert.OutRefIdeal.Value.run (F := Ideal) m' ρ')
    obtain ⟨e0, e1, e2, e3⟩ := hagree c
    have f0 : m' ((c.tc : Thread Cert.OutRefIdeal.nD Cert.OutRefIdeal.τ).loc Cert.OutRefIdeal.main_arg0) = Cert.OutIdeal.Gen.V m c Cert.OutIdeal.main_arg0 := e0.trans (Cert.OutIdeal.Gen.V_main_arg0 m c).symm
    have f1 : m' ((c.tc : Thread Cert.OutRefIdeal.nD Cert.OutRefIdeal.τ).loc Cert.OutRefIdeal.main_arg1) = Cert.OutIdeal.Gen.V m c Cert.OutIdeal.main_arg1 := e1.trans (Cert.OutIdeal.Gen.V_main_arg1 m c).symm
    have f2 : m' ((c.tc : Thread Cert.OutRefIdeal.nD Cert.OutRefIdeal.τ).loc Cert.OutRefIdeal.main_arg2) = Cert.OutIdeal.Gen.V m c Cert.OutIdeal.main_arg2 := e2.trans (Cert.OutIdeal.Gen.V_main_arg2 m c).symm
    have f3 : m' ((c.tc : Thread Cert.OutRefIdeal.nD Cert.OutRefIdeal.τ).loc Cert.OutRefIdeal.main_arg3) = Cert.OutIdeal.Gen.V m c Cert.OutIdeal.main_arg3 := e3.trans (Cert.OutIdeal.Gen.V_main_arg3 m c).symm
    exact ⟨(h c).1.trans ((Cert.OutRefIdeal.Read.val_main_v3_eq (F := Ideal) (m' ((c.tc : Thread Cert.OutRefIdeal.nD Cert.OutRefIdeal.τ).loc Cert.OutRefIdeal.main_arg0)) (m' ((c.tc : Thread Cert.OutRefIdeal.nD Cert.OutRefIdeal.τ).loc Cert.OutRefIdeal.main_arg1)) (m' ((c.tc : Thread Cert.OutRefIdeal.nD Cert.OutRefIdeal.τ).loc Cert.OutRefIdeal.main_arg2))).trans (ref_Out0 m c _ _ _ f0 f1 f2)), (h c).2.1.trans ((Cert.OutRefIdeal.Read.val_main_v17_eq (F := Ideal) (m' ((c.tc : Thread Cert.OutRefIdeal.nD Cert.OutRefIdeal.τ).loc Cert.OutRefIdeal.main_arg0)) (m' ((c.tc : Thread Cert.OutRefIdeal.nD Cert.OutRefIdeal.τ).loc Cert.OutRefIdeal.main_arg1)) (m' ((c.tc : Thread Cert.OutRefIdeal.nD Cert.OutRefIdeal.τ).loc Cert.OutRefIdeal.main_arg2)) (m' ((c.tc : Thread Cert.OutRefIdeal.nD Cert.OutRefIdeal.τ).loc Cert.OutRefIdeal.main_arg3))).trans (ref_Out1 m c _ _ _ _ f0 f1 f2 f3)), (h c).2.2.1.trans ((Cert.OutRefIdeal.Read.val_main_v18_eq (F := Ideal) (m' ((c.tc : Thread Cert.OutRefIdeal.nD Cert.OutRefIdeal.τ).loc Cert.OutRefIdeal.main_arg0)) (m' ((c.tc : Thread Cert.OutRefIdeal.nD Cert.OutRefIdeal.τ).loc Cert.OutRefIdeal.main_arg1)) (m' ((c.tc : Thread Cert.OutRefIdeal.nD Cert.OutRefIdeal.τ).loc Cert.OutRefIdeal.main_arg2)) (m' ((c.tc : Thread Cert.OutRefIdeal.nD Cert.OutRefIdeal.τ).loc Cert.OutRefIdeal.main_arg3))).trans (ref_Out2 m c _ _ _ _ f0 f1 f2 f3)), (h c).2.2.2⟩

/-- The kernel of the first norm runs at the bits, leaves its arguments and ends quiescent. -/
theorem frame_Norm : Cert.quiescent_Norm := fun m ρ _ => Cert.Norm.Gen.frame m ρ

/-- The idealization of the first norm runs, leaves its arguments and ends quiescent. -/
theorem frame_NormIdeal : Cert.quiescent_NormIdeal := fun m ρ _ => Cert.NormIdeal.Gen.frame m ρ

/-- The reference of the first norm runs, leaves its arguments and ends quiescent. -/
theorem frame_NormRef : Cert.quiescent_NormRefIdeal := fun m ρ _ =>
  (θ_run Cert.NormRefIdeal.defs _ _).mono (fun r h => ⟨fun c => (h c).2, Idealize.ShloMosaic.sem_eq_zero_of_no_sems (by decide) r.2⟩)
    (Cert.NormRefIdeal.Value.run (F := Ideal) m ρ)

/-- The pass rewrote nothing in the first norm. -/
theorem preserved_Norm : Cert.preserves_Norm_NormIdeal := trivial

/-- The reference's array, of the first norm, is the one the call leaves. -/
theorem ref_Norm (m : (ℓ : Loc Cert.NormIdeal.nD Cert.NormIdeal.τ Cert.NormIdeal.sig) → Buf (Elt Ideal) ℓ) (c : Dev Cert.NormIdeal.nD)
    (x0 : Cert.NormIdeal.S16384x2048.Idx → EReal) (x1 : Cert.NormIdeal.S2048.Idx → EReal)
    (h0 : x0 = Cert.NormIdeal.Gen.V m c Cert.NormIdeal.main_arg0) (h1 : x1 = Cert.NormIdeal.Gen.V m c Cert.NormIdeal.main_arg1) :
    Cert.NormRefIdeal.Read.val_main_v13 (F := Ideal) x0 x1 = Cert.CallNorm.result m c := by
  subst h0 h1
  funext j
  idx_vars j
  exact Cert.CallNorm.ref_eq _ _ j0 j1

/-- Of the first norm, the call and the plain reference leave the same array. -/
theorem algebra_Norm : Cert.algebraic_NormIdeal_NormRefIdeal := by
  intro m ρ m' ρ' hpre hagree
  refine ⟨fun c => Cert.CallNorm.result m c, ?_, ?_⟩
  · exact (θ_run Cert.NormIdeal.defs _ _).mono (fun r h c => ⟨(h c).1.trans (Cert.CallNorm.final m c), (h c).2⟩) (Cert.NormIdeal.Value.run_blocks m ρ)
  · refine (θ_run Cert.NormRefIdeal.defs _ _).mono (fun r h c => ?_) (Cert.NormRefIdeal.Value.run (F := Ideal) m' ρ')
    obtain ⟨e0, e1⟩ := hagree c
    have f0 : m' ((c.tc : Thread Cert.NormRefIdeal.nD Cert.NormRefIdeal.τ).loc Cert.NormRefIdeal.main_arg0) = Cert.NormIdeal.Gen.V m c Cert.NormIdeal.main_arg0 := e0.trans (Cert.NormIdeal.Gen.V_main_arg0 m c).symm
    have f1 : m' ((c.tc : Thread Cert.NormRefIdeal.nD Cert.NormRefIdeal.τ).loc Cert.NormRefIdeal.main_arg1) = Cert.NormIdeal.Gen.V m c Cert.NormIdeal.main_arg1 := e1.trans (Cert.NormIdeal.Gen.V_main_arg1 m c).symm
    exact ⟨(h c).1.trans ((Cert.NormRefIdeal.Read.val_main_v13_eq (F := Ideal) (m' ((c.tc : Thread Cert.NormRefIdeal.nD Cert.NormRefIdeal.τ).loc Cert.NormRefIdeal.main_arg0)) (m' ((c.tc : Thread Cert.NormRefIdeal.nD Cert.NormRefIdeal.τ).loc Cert.NormRefIdeal.main_arg1))).trans (ref_Norm m c _ _ f0 f1)), (h c).2⟩

/-- Every claim. -/
theorem claim : Cert.Claim := ⟨Cert.Kernel.Gen.facts, Cert.KernelIdeal.Gen.facts, Cert.ReferenceIdeal.Gen.facts, Cert.Qk.Gen.facts, Cert.QkIdeal.Gen.facts, Cert.QkRefIdeal.Gen.facts, Cert.Gates.Gen.facts, Cert.GatesIdeal.Gen.facts, Cert.GatesRefIdeal.Gen.facts, Cert.Values.Gen.facts, Cert.ValuesIdeal.Gen.facts, Cert.ValuesRefIdeal.Gen.facts, Cert.Channels.Gen.facts, Cert.ChannelsIdeal.Gen.facts, Cert.ChannelsRefIdeal.Gen.facts, Cert.Merge.Gen.facts, Cert.MergeIdeal.Gen.facts, Cert.MergeRefIdeal.Gen.facts, Cert.Out.Gen.facts, Cert.OutIdeal.Gen.facts, Cert.OutRefIdeal.Gen.facts, Cert.Norm.Gen.facts, Cert.NormIdeal.Gen.facts, Cert.NormRefIdeal.Gen.facts, Cert.Online.Gen.facts, Cert.OnlineIdeal.Gen.facts, Cert.Pre_finite.Gen.facts, Cert.Pre_finite_online.Gen.facts,
  frame_kernel, frame_ideal, frame_ideal_finite, frame_ref, frame_ref_finite, frame_ref_finite_online,
  frame_Qk, frame_QkIdeal, frame_QkRef, frame_Gates, frame_GatesIdeal, frame_GatesRef, frame_Values, frame_ValuesIdeal, frame_ValuesRef, frame_Channels, frame_ChannelsIdeal, frame_ChannelsRef, frame_Merge, frame_MergeIdeal, frame_MergeRef, frame_Out, frame_OutIdeal, frame_OutRef, frame_Norm, frame_NormIdeal, frame_NormRef, frame_Online, frame_OnlineIdeal, frame_OnlineIdeal_finite,
  preserved, algebra, preserved_Qk, algebra_Qk, preserved_Gates, algebra_Gates, preserved_Values, algebra_Values, preserved_Channels, algebra_Channels, preserved_Merge, algebra_Merge, preserved_Out, algebra_Out, preserved_Norm, algebra_Norm, preserved_Online, algebra_Online⟩

end Cert.Proof

end
